-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_arg0)) (v1 : (c : Dev Cert.KernelIdeal.nD) → Buf (Elt Ideal) ((c.tc : Thread Cert.KernelIdeal.nD Cert.KernelIdeal.τ).loc Cert.KernelIdeal.main_arg1)) (v2 : (c : Dev Cert.KernelIdeal.nD) → Buf (Elt Ideal) ((c.tc : Thread Cert.KernelIdeal.nD Cert.KernelIdeal.τ).loc Cert.KernelIdeal.main_v8)) (v3 : (c : Dev Cert.KernelIdeal.nD) → Buf (Elt Ideal) ((c.tc : Thread Cert.KernelIdeal.nD Cert.KernelIdeal.τ).loc Cert.KernelIdeal.main_v10)) (v4 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_arg0) = v0 c
          ∧ r.2.mem ((c.tc : Thread Cert.KernelIdeal.nD Cert.KernelIdeal.τ).loc Cert.KernelIdeal.main_arg1) = v1 c
          ∧ r.2.mem ((c.tc : Thread Cert.KernelIdeal.nD Cert.KernelIdeal.τ).loc Cert.KernelIdeal.main_v8) = v2 c
          ∧ r.2.mem ((c.tc : Thread Cert.KernelIdeal.nD Cert.KernelIdeal.τ).loc Cert.KernelIdeal.main_v10) = v3 c
          ∧ r.2.mem ((c.tc : Thread Cert.KernelIdeal.nD Cert.KernelIdeal.τ).loc Cert.KernelIdeal.main_v14) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_arg0) = v0 c
          ∧ r.2.mem ((c.tc : Thread Cert.ReferenceIdeal.nD Cert.ReferenceIdeal.τ).loc Cert.ReferenceIdeal.main_arg1) = v1 c
          ∧ r.2.mem ((c.tc : Thread Cert.ReferenceIdeal.nD Cert.ReferenceIdeal.τ).loc Cert.ReferenceIdeal.main_v11) = v2 c
          ∧ r.2.mem ((c.tc : Thread Cert.ReferenceIdeal.nD Cert.ReferenceIdeal.τ).loc Cert.ReferenceIdeal.main_v22) = v3 c
          ∧ r.2.mem ((c.tc : Thread Cert.ReferenceIdeal.nD Cert.ReferenceIdeal.τ).loc Cert.ReferenceIdeal.main_v64) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x5000x4 : Shape := ⟨3, ![4, 5000, 4]⟩
abbrev S4x5000x2 : Shape := ⟨3, ![4, 5000, 2]⟩
abbrev S4x5000x21 : Shape := ⟨3, ![4, 5000, 21]⟩
abbrev S_ : Shape := ⟨0, ![]⟩
abbrev S4x5120x4 : Shape := ⟨3, ![4, 5120, 4]⟩
abbrev S4x4x5120 : Shape := ⟨3, ![4, 4, 5120]⟩
abbrev S4x5120x21 : Shape := ⟨3, ![4, 5120, 21]⟩
abbrev S4x21x5120 : Shape := ⟨3, ![4, 21, 5120]⟩
abbrev S4x1x5120 : Shape := ⟨3, ![4, 1, 5120]⟩
abbrev S1x4x5120 : Shape := ⟨3, ![1, 4, 5120]⟩
abbrev S1x21x5120 : Shape := ⟨3, ![1, 21, 5120]⟩
abbrev S1x1x5120 : Shape := ⟨3, ![1, 1, 5120]⟩
abbrev S320x5120 : Shape := ⟨2, ![320, 5120]⟩
abbrev S8x5120 : Shape := ⟨2, ![8, 5120]⟩
abbrev S320x1 : Shape := ⟨2, ![320, 1]⟩
abbrev S1x5120 : Shape := ⟨2, ![1, 5120]⟩
abbrev S4x5120 : Shape := ⟨2, ![4, 5120]⟩
abbrev S2x5120 : Shape := ⟨2, ![2, 5120]⟩
abbrev S21x5120 : Shape := ⟨2, ![21, 5120]⟩
abbrev S5120 : Shape := ⟨1, ![5120]⟩
abbrev S8x128 : Shape := ⟨2, ![8, 128]⟩
abbrev S1x1x128 : Shape := ⟨3, ![1, 1, 128]⟩
abbrev S1x128 : Shape := ⟨2, ![1, 128]⟩
abbrev S128x1 : Shape := ⟨2, ![128, 1]⟩
abbrev S128x128 : Shape := ⟨2, ![128, 128]⟩
abbrev S1 : Shape := ⟨1, ![1]⟩
abbrev S1x1x1 : Shape := ⟨3, ![1, 1, 1]⟩
abbrev S8x1 : Shape := ⟨2, ![8, 1]⟩
abbrev S1x512 : Shape := ⟨2, ![1, 512]⟩
abbrev S32x512 : Shape := ⟨2, ![32, 512]⟩
abbrev S32x1 : Shape := ⟨2, ![32, 1]⟩
abbrev S512 : Shape := ⟨1, ![512]⟩
abbrev S4x1x5000 : Shape := ⟨3, ![4, 1, 5000]⟩
abbrev S4x5000 : Shape := ⟨2, ![4, 5000]⟩

abbrev nBuf : Space → Nat
  | .hbm => 28
  | .vmem => 17
  | .smem => 0
  | _ => 0

abbrev bufTy : (tb : Table) → Fin (tcTables nBuf tb) → BufTy
  | .hbm, ⟨0, _⟩ => ⟨S4x5000x4, .f32⟩
  | .hbm, ⟨1, _⟩ => ⟨S4x5000x2, .f32⟩
  | .hbm, ⟨2, _⟩ => ⟨S4x5000x4, .f32⟩
  | .hbm, ⟨3, _⟩ => ⟨S4x5000x21, .f32⟩
  | .hbm, ⟨4, _⟩ => ⟨S_, .i32⟩
  | .hbm, ⟨5, _⟩ => ⟨S_, .f32⟩
  | .hbm, ⟨6, _⟩ => ⟨S4x5120x4, .f32⟩
  | .hbm, ⟨7, _⟩ => ⟨S4x4x5120, .f32⟩
  | .hbm, ⟨8, _⟩ => ⟨S_, .i32⟩
  | .hbm, ⟨9, _⟩ => ⟨S_, .f32⟩
  | .hbm, ⟨10, _⟩ => ⟨S4x5120x4, .f32⟩
  | .hbm, ⟨11, _⟩ => ⟨S4x4x5120, .f32⟩
  | .hbm, ⟨12, _⟩ => ⟨S_, .i32⟩
  | .hbm, ⟨13, _⟩ => ⟨S_, .f32⟩
  | .hbm, ⟨14, _⟩ => ⟨S4x5120x21, .f32⟩
  | .hbm, ⟨15, _⟩ => ⟨S4x21x5120, .f32⟩
  | .hbm, ⟨16, _⟩ => ⟨S4x4x5120, .f32⟩
  | .hbm, ⟨17, _⟩ => ⟨S4x21x5120, .f32⟩
  | .hbm, ⟨18, _⟩ => ⟨S4x1x5120, .f32⟩
  | .hbm, ⟨19, _⟩ => ⟨S4x5120x4, .f32⟩
  | .hbm, ⟨20, _⟩ => ⟨S4x5000x4, .f32⟩
  | .hbm, ⟨21, _⟩ => ⟨S4x5120x21, .f32⟩
  | .hbm, ⟨22, _⟩ => ⟨S4x5000x21, .f32⟩
  | .hbm, ⟨23, _⟩ => ⟨S4x1x5000, .f32⟩
  | .hbm, ⟨24, _⟩ => ⟨S4x5000, .f32⟩
  | .hbm, ⟨25, _⟩ => ⟨S_, .f32⟩
  | .hbm, ⟨26, _⟩ => ⟨S4x5000, .f32⟩
  | .hbm, ⟨27, _⟩ => ⟨S4x5000, .i1⟩
  | .local _ .vmem, ⟨0, _⟩ => ⟨S1x4x5120, .f32⟩
  | .local _ .vmem, ⟨1, _⟩ => ⟨S1x4x5120, .f32⟩
  | .local _ .vmem, ⟨2, _⟩ => ⟨S1x4x5120, .f32⟩
  | .local _ .vmem, ⟨3, _⟩ => ⟨S1x4x5120, .f32⟩
  | .local _ .vmem, ⟨4, _⟩ => ⟨S1x21x5120, .f32⟩
  | .local _ .vmem, ⟨5, _⟩ => ⟨S1x21x5120, .f32⟩
  | .local _ .vmem, ⟨6, _⟩ => ⟨S1x4x5120, .f32⟩
  | .local _ .vmem, ⟨7, _⟩ => ⟨S1x4x5120, .f32⟩
  | .local _ .vmem, ⟨8, _⟩ => ⟨S1x21x5120, .f32⟩
  | .local _ .vmem, ⟨9, _⟩ => ⟨S1x21x5120, .f32⟩
  | .local _ .vmem, ⟨10, _⟩ => ⟨S1x1x5120, .f32⟩
  | .local _ .vmem, ⟨11, _⟩ => ⟨S1x1x5120, .f32⟩
  | .local _ .vmem, ⟨12, _⟩ => ⟨S320x5120, .i32⟩
  | .local _ .vmem, ⟨13, _⟩ => ⟨S8x5120, .f32⟩
  | .local _ .vmem, ⟨14, _⟩ => ⟨S320x1, .i32⟩
  | .local _ .vmem, ⟨15, _⟩ => ⟨S1x5120, .f32⟩
  | .local _ .vmem, ⟨16, _⟩ => ⟨S1x5120, .f32⟩
  | _, _ => ⟨S4x5000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_call1_v0 : Ref sig .tc := ⟨.hbm, 9, rfl⟩
abbrev main_v2 : Ref sig .tc := ⟨.hbm, 10, rfl⟩
abbrev main_v3 : Ref sig .tc := ⟨.hbm, 11, rfl⟩
abbrev main_c_1 : Ref sig .tc := ⟨.hbm, 12, rfl⟩
abbrev main_call2_v0 : Ref sig .tc := ⟨.hbm, 13, rfl⟩
abbrev main_v4 : Ref sig .tc := ⟨.hbm, 14, rfl⟩
abbrev main_v5 : Ref sig .tc := ⟨.hbm, 15, rfl⟩
abbrev main_v6_0 : Ref sig .tc := ⟨.hbm, 16, rfl⟩
abbrev main_v6_1 : Ref sig .tc := ⟨.hbm, 17, rfl⟩
abbrev main_v6_2 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst : Ref sig .tc := ⟨.hbm, 25, rfl⟩
abbrev main_v13 : Ref sig .tc := ⟨.hbm, 26, rfl⟩
abbrev main_v14 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32 : BitVec 32 := 0#32
  let c40_i32 : BitVec 32 := 40#32
  let v92 : BitVec 32 := Scalar.addi c0_i32 c40_i32
  let c1_i32_32 : BitVec 32 := 1#32
  ⟨c0_i32, v92, c1_i32_32⟩
def k0_off1 (k0_t1 : Fin k0_t1_loop.trips) : Fin 3 → Nat :=
  let c0_41 : Index := 0#32
  let c0_42 : Index := 0#32
  let c0_i32 : BitVec 32 := 0#32
  let c1_i32_32 : BitVec 32 := 1#32
  let arg12 : BitVec 32 := Scf.iv c0_i32 c1_i32_32 k0_t1
  let c128_i32 : BitVec 32 := 128#32
  let v99 : BitVec 32 := Scalar.muli arg12 c128_i32
  let v100 : Index := Scalar.indexCast v99
  ![0, 0, v100.toNat]
def k0_off2 (k0_t1 : Fin k0_t1_loop.trips) : Fin 3 → Nat :=
  let c0_43 : Index := 0#32
  let c1_44 : Index := 1#32
  let c0_i32 : BitVec 32 := 0#32
  let c1_i32_32 : BitVec 32 := 1#32
  let arg12 : BitVec 32 := Scf.iv c0_i32 c1_i32_32 k0_t1
  let c128_i32 : BitVec 32 := 128#32
  let v99 : BitVec 32 := Scalar.muli arg12 c128_i32
  let v104 : Index := Scalar.indexCast v99
  ![0, 1, v104.toNat]
def k0_off3 (k0_t1 : Fin k0_t1_loop.trips) : Fin 3 → Nat :=
  let c0_45 : Index := 0#32
  let c2_46 : Index := 2#32
  let c0_i32 : BitVec 32 := 0#32
  let c1_i32_32 : BitVec 32 := 1#32
  let arg12 : BitVec 32 := Scf.iv c0_i32 c1_i32_32 k0_t1
  let c128_i32 : BitVec 32 := 128#32
  let v99 : BitVec 32 := Scalar.muli arg12 c128_i32
  let v108 : Index := Scalar.indexCast v99
  ![0, 2, v108.toNat]
def k0_off4 (k0_t1 : Fin k0_t1_loop.trips) : Fin 3 → Nat :=
  let c0_47 : Index := 0#32
  let c3_48 : Index := 3#32
  let c0_i32 : BitVec 32 := 0#32
  let c1_i32_32 : BitVec 32 := 1#32
  let arg12 : BitVec 32 := Scf.iv c0_i32 c1_i32_32 k0_t1
  let c128_i32 : BitVec 32 := 128#32
  let v99 : BitVec 32 := Scalar.muli arg12 c128_i32
  let v112 : Index := Scalar.indexCast v99
  ![0, 3, v112.toNat]
def k0_off5 (k0_t1 : Fin k0_t1_loop.trips) : Fin 2 → Nat :=
  let c0_49 : Index := 0#32
  let c0_i32 : BitVec 32 := 0#32
  let c1_i32_32 : BitVec 32 := 1#32
  let arg12 : BitVec 32 := Scf.iv c0_i32 c1_i32_32 k0_t1
  let c128_i32 : BitVec 32 := 128#32
  let v99 : BitVec 32 := Scalar.muli arg12 c128_i32
  let v116 : Index := Scalar.indexCast v99
  ![0, v116.toNat]
def k0_off6 (k0_t1 : Fin k0_t1_loop.trips) : Fin 2 → Nat :=
  let c1_50 : Index := 1#32
  let c0_i32 : BitVec 32 := 0#32
  let c1_i32_32 : BitVec 32 := 1#32
  let arg12 : BitVec 32 := Scf.iv c0_i32 c1_i32_32 k0_t1
  let c128_i32 : BitVec 32 := 128#32
  let v99 : BitVec 32 := Scalar.muli arg12 c128_i32
  let v119 : Index := Scalar.indexCast v99
  ![1, v119.toNat]
def k0_off7 (k0_t1 : Fin k0_t1_loop.trips) : Fin 2 → Nat :=
  let c2_51 : Index := 2#32
  let c0_i32 : BitVec 32 := 0#32
  let c1_i32_32 : BitVec 32 := 1#32
  let arg12 : BitVec 32 := Scf.iv c0_i32 c1_i32_32 k0_t1
  let c128_i32 : BitVec 32 := 128#32
  let v99 : BitVec 32 := Scalar.muli arg12 c128_i32
  let v122 : Index := Scalar.indexCast v99
  ![2, v122.toNat]
@[reducible] def k0_t2_loop : Scf.Loop 32 :=
  let c0_i32_52 : BitVec 32 := 0#32
  let c20_i32 : BitVec 32 := 20#32
  let v128 : BitVec 32 := Scalar.addi c0_i32_52 c20_i32
  let c1_i32_53 : BitVec 32 := 1#32
  ⟨c0_i32_52, v128, c1_i32_53⟩
def k0_off8 (k0_t2 : Fin k0_t2_loop.trips) : Fin 3 → Nat :=
  let c0_55 : Index := 0#32
  let c0_56 : Index := 0#32
  let c0_i32_52 : BitVec 32 := 0#32
  let c1_i32_53 : BitVec 32 := 1#32
  let arg13 : BitVec 32 := Scf.iv c0_i32_52 c1_i32_53 k0_t2
  let c256_i32 : BitVec 32 := 256#32
  let v129 : BitVec 32 := Scalar.muli arg13 c256_i32
  let v130 : Index := Scalar.indexCast v129
  ![0, 0, v130.toNat]
def k0_off9 (k0_t2 : Fin k0_t2_loop.trips) : Fin 3 → Nat :=
  let c0_57 : Index := 0#32
  let c1_58 : Index := 1#32
  let c0_i32_52 : BitVec 32 := 0#32
  let c1_i32_53 : BitVec 32 := 1#32
  let arg13 : BitVec 32 := Scf.iv c0_i32_52 c1_i32_53 k0_t2
  let c256_i32 : BitVec 32 := 256#32
  let v129 : BitVec 32 := Scalar.muli arg13 c256_i32
  let v133 : Index := Scalar.indexCast v129
  ![0, 1, v133.toNat]
def k0_off10 (k0_t2 : Fin k0_t2_loop.trips) : Fin 3 → Nat :=
  let c0_59 : Index := 0#32
  let c2_60 : Index := 2#32
  let c0_i32_52 : BitVec 32 := 0#32
  let c1_i32_53 : BitVec 32 := 1#32
  let arg13 : BitVec 32 := Scf.iv c0_i32_52 c1_i32_53 k0_t2
  let c256_i32 : BitVec 32 := 256#32
  let v129 : BitVec 32 := Scalar.muli arg13 c256_i32
  let v136 : Index := Scalar.indexCast v129
  ![0, 2, v136.toNat]
def k0_off11 (k0_t2 : Fin k0_t2_loop.trips) : Fin 3 → Nat :=
  let c0_61 : Index := 0#32
  let c3_62 : Index := 3#32
  let c0_i32_52 : BitVec 32 := 0#32
  let c1_i32_53 : BitVec 32 := 1#32
  let arg13 : BitVec 32 := Scf.iv c0_i32_52 c1_i32_53 k0_t2
  let c256_i32 : BitVec 32 := 256#32
  let v129 : BitVec 32 := Scalar.muli arg13 c256_i32
  let v139 : Index := Scalar.indexCast v129
  ![0, 3, v139.toNat]
def k0_off12 (k0_t2 : Fin k0_t2_loop.trips) : Fin 2 → Nat :=
  let c0_63 : Index := 0#32
  let c0_i32_52 : BitVec 32 := 0#32
  let c1_i32_53 : BitVec 32 := 1#32
  let arg13 : BitVec 32 := Scf.iv c0_i32_52 c1_i32_53 k0_t2
  let c256_i32 : BitVec 32 := 256#32
  let v129 : BitVec 32 := Scalar.muli arg13 c256_i32
  let v142 : Index := Scalar.indexCast v129
  ![0, v142.toNat]
def k0_off13 (k0_t2 : Fin k0_t2_loop.trips) : Fin 2 → Nat :=
  let c1_64 : Index := 1#32
  let c0_i32_52 : BitVec 32 := 0#32
  let c1_i32_53 : BitVec 32 := 1#32
  let arg13 : BitVec 32 := Scf.iv c0_i32_52 c1_i32_53 k0_t2
  let c256_i32 : BitVec 32 := 256#32
  let v129 : BitVec 32 := Scalar.muli arg13 c256_i32
  let v144 : Index := Scalar.indexCast v129
  ![1, v144.toNat]
def k0_off14 (k0_t2 : Fin k0_t2_loop.trips) : Fin 2 → Nat :=
  let c2_65 : Index := 2#32
  let c0_i32_52 : BitVec 32 := 0#32
  let c1_i32_53 : BitVec 32 := 1#32
  let arg13 : BitVec 32 := Scf.iv c0_i32_52 c1_i32_53 k0_t2
  let c256_i32 : BitVec 32 := 256#32
  let v129 : BitVec 32 := Scalar.muli arg13 c256_i32
  let v146 : Index := Scalar.indexCast v129
  ![2, v146.toNat]
def k0_off15 (k0_t1 : Fin k0_t1_loop.trips) (k0_t2 : Fin k0_t2_loop.trips) : Fin 2 → Nat :=
  let c0_i32 : BitVec 32 := 0#32
  let c1_i32_32 : BitVec 32 := 1#32
  let arg12 : BitVec 32 := Scf.iv c0_i32 c1_i32_32 k0_t1
  let c8_i32 : BitVec 32 := 8#32
  let v201 : BitVec 32 := Scalar.muli arg12 c8_i32
  let v202 : Index := Scalar.indexCast v201
  let c0_i32_52 : BitVec 32 := 0#32
  let c1_i32_53 : BitVec 32 := 1#32
  let arg13 : BitVec 32 := Scf.iv c0_i32_52 c1_i32_53 k0_t2
  let c256_i32 : BitVec 32 := 256#32
  let v129 : BitVec 32 := Scalar.muli arg13 c256_i32
  let v203 : Index := Scalar.indexCast v129
  ![v202.toNat, v203.toNat]
def k0_off16 (k0_t2 : Fin k0_t2_loop.trips) : Fin 3 → Nat :=
  let c0_75 : Index := 0#32
  let c0_76 : Index := 0#32
  let c0_i32_52 : BitVec 32 := 0#32
  let c1_i32_53 : BitVec 32 := 1#32
  let arg13 : BitVec 32 := Scf.iv c0_i32_52 c1_i32_53 k0_t2
  let c256_i32_73 : BitVec 32 := 256#32
  let v207 : BitVec 32 := Scalar.muli arg13 c256_i32_73
  let c128_i32_74 : BitVec 32 := 128#32
  let v208 : BitVec 32 := Scalar.addi v207 c128_i32_74
  let v209 : Index := Scalar.indexCast v208
  ![0, 0, v209.toNat]
def k0_off17 (k0_t2 : Fin k0_t2_loop.trips) : Fin 3 → Nat :=
  let c0_77 : Index := 0#32
  let c1_78 : Index := 1#32
  let c0_i32_52 : BitVec 32 := 0#32
  let c1_i32_53 : BitVec 32 := 1#32
  let arg13 : BitVec 32 := Scf.iv c0_i32_52 c1_i32_53 k0_t2
  let c256_i32_73 : BitVec 32 := 256#32
  let v207 : BitVec 32 := Scalar.muli arg13 c256_i32_73
  let c128_i32_74 : BitVec 32 := 128#32
  let v208 : BitVec 32 := Scalar.addi v207 c128_i32_74
  let v212 : Index := Scalar.indexCast v208
  ![0, 1, v212.toNat]
def k0_off18 (k0_t2 : Fin k0_t2_loop.trips) : Fin 3 → Nat :=
  let c0_79 : Index := 0#32
  let c2_80 : Index := 2#32
  let c0_i32_52 : BitVec 32 := 0#32
  let c1_i32_53 : BitVec 32 := 1#32
  let arg13 : BitVec 32 := Scf.iv c0_i32_52 c1_i32_53 k0_t2
  let c256_i32_73 : BitVec 32 := 256#32
  let v207 : BitVec 32 := Scalar.muli arg13 c256_i32_73
  let c128_i32_74 : BitVec 32 := 128#32
  let v208 : BitVec 32 := Scalar.addi v207 c128_i32_74
  let v215 : Index := Scalar.indexCast v208
  ![0, 2, v215.toNat]
def k0_off19 (k0_t2 : Fin k0_t2_loop.trips) : Fin 3 → Nat :=
  let c0_81 : Index := 0#32
  let c3_82 : Index := 3#32
  let c0_i32_52 : BitVec 32 := 0#32
  let c1_i32_53 : BitVec 32 := 1#32
  let arg13 : BitVec 32 := Scf.iv c0_i32_52 c1_i32_53 k0_t2
  let c256_i32_73 : BitVec 32 := 256#32
  let v207 : BitVec 32 := Scalar.muli arg13 c256_i32_73
  let c128_i32_74 : BitVec 32 := 128#32
  let v208 : BitVec 32 := Scalar.addi v207 c128_i32_74
  let v218 : Index := Scalar.indexCast v208
  ![0, 3, v218.toNat]
def k0_off20 (k0_t2 : Fin k0_t2_loop.trips) : Fin 2 → Nat :=
  let c0_83 : Index := 0#32
  let c0_i32_52 : BitVec 32 := 0#32
  let c1_i32_53 : BitVec 32 := 1#32
  let arg13 : BitVec 32 := Scf.iv c0_i32_52 c1_i32_53 k0_t2
  let c256_i32_73 : BitVec 32 := 256#32
  let v207 : BitVec 32 := Scalar.muli arg13 c256_i32_73
  let c128_i32_74 : BitVec 32 := 128#32
  let v208 : BitVec 32 := Scalar.addi v207 c128_i32_74
  let v221 : Index := Scalar.indexCast v208
  ![0, v221.toNat]
def k0_off21 (k0_t2 : Fin k0_t2_loop.trips) : Fin 2 → Nat :=
  let c1_84 : Index := 1#32
  let c0_i32_52 : BitVec 32 := 0#32
  let c1_i32_53 : BitVec 32 := 1#32
  let arg13 : BitVec 32 := Scf.iv c0_i32_52 c1_i32_53 k0_t2
  let c256_i32_73 : BitVec 32 := 256#32
  let v207 : BitVec 32 := Scalar.muli arg13 c256_i32_73
  let c128_i32_74 : BitVec 32 := 128#32
  let v208 : BitVec 32 := Scalar.addi v207 c128_i32_74
  let v223 : Index := Scalar.indexCast v208
  ![1, v223.toNat]
def k0_off22 (k0_t2 : Fin k0_t2_loop.trips) : Fin 2 → Nat :=
  let c2_85 : Index := 2#32
  let c0_i32_52 : BitVec 32 := 0#32
  let c1_i32_53 : BitVec 32 := 1#32
  let arg13 : BitVec 32 := Scf.iv c0_i32_52 c1_i32_53 k0_t2
  let c256_i32_73 : BitVec 32 := 256#32
  let v207 : BitVec 32 := Scalar.muli arg13 c256_i32_73
  let c128_i32_74 : BitVec 32 := 128#32
  let v208 : BitVec 32 := Scalar.addi v207 c128_i32_74
  let v225 : Index := Scalar.indexCast v208
  ![2, v225.toNat]
def k0_off23 (k0_t1 : Fin k0_t1_loop.trips) (k0_t2 : Fin k0_t2_loop.trips) : Fin 2 → Nat :=
  let c0_i32 : BitVec 32 := 0#32
  let c1_i32_32 : BitVec 32 := 1#32
  let arg12 : BitVec 32 := Scf.iv c0_i32 c1_i32_32 k0_t1
  let c8_i32_93 : BitVec 32 := 8#32
  let v280 : BitVec 32 := Scalar.muli arg12 c8_i32_93
  let v281 : Index := Scalar.indexCast v280
  let c0_i32_52 : BitVec 32 := 0#32
  let c1_i32_53 : BitVec 32 := 1#32
  let arg13 : BitVec 32 := Scf.iv c0_i32_52 c1_i32_53 k0_t2
  let c256_i32_73 : BitVec 32 := 256#32
  let v207 : BitVec 32 := Scalar.muli arg13 c256_i32_73
  let c128_i32_74 : BitVec 32 := 128#32
  let v208 : BitVec 32 := Scalar.addi v207 c128_i32_74
  let v282 : Index := Scalar.indexCast v208
  ![v281.toNat, v282.toNat]
@[reducible] def k0_t3_loop : Scf.Loop 32 :=
  let c0_i32_44 : BitVec 32 := 0#32
  let c40_i32_45 : BitVec 32 := 40#32
  let v102 : BitVec 32 := Scalar.addi c0_i32_44 c40_i32_45
  let c1_i32_46 : BitVec 32 := 1#32
  ⟨c0_i32_44, v102, c1_i32_46⟩
def k0_off24 (k0_t3 : Fin k0_t3_loop.trips) : Fin 2 → Nat :=
  let c0_72 : Index := 0#32
  let c0_i32_44 : BitVec 32 := 0#32
  let c1_i32_46 : BitVec 32 := 1#32
  let arg15 : BitVec 32 := Scf.iv c0_i32_44 c1_i32_46 k0_t3
  let c128_i32 : BitVec 32 := 128#32
  let v126 : BitVec 32 := Scalar.muli arg15 c128_i32
  let v127 : Index := Scalar.indexCast v126
  ![0, v127.toNat]
def k0_off25 (k0_t3 : Fin k0_t3_loop.trips) : Fin 2 → Nat :=
  let c0_i32_44 : BitVec 32 := 0#32
  let c1_i32_46 : BitVec 32 := 1#32
  let arg15 : BitVec 32 := Scf.iv c0_i32_44 c1_i32_46 k0_t3
  let c8_i32 : BitVec 32 := 8#32
  let v133 : BitVec 32 := Scalar.muli arg15 c8_i32
  let v134 : Index := Scalar.indexCast v133
  let c0_74 : Index := 0#32
  ![v134.toNat, 0]
@[reducible] def k0_t4_loop : Scf.Loop 32 :=
  let c0_i32_49 : BitVec 32 := 0#32
  let c10_i32 : BitVec 32 := 10#32
  let v104 : BitVec 32 := Scalar.addi c0_i32_49 c10_i32
  let c1_i32_50 : BitVec 32 := 1#32
  ⟨c0_i32_49, v104, c1_i32_50⟩
@[reducible] def k0_t5_loop : Scf.Loop 32 :=
  let c0_i32_73 : BitVec 32 := 0#32
  let c10_i32_74 : BitVec 32 := 10#32
  let v128 : BitVec 32 := Scalar.addi c0_i32_73 c10_i32_74
  let c1_i32_75 : BitVec 32 := 1#32
  ⟨c0_i32_73, v128, c1_i32_75⟩
def k0_off26 (k0_t4 : Fin k0_t4_loop.trips) (k0_t5 : Fin k0_t5_loop.trips) : Fin 2 → Nat :=
  let c0_i32_73 : BitVec 32 := 0#32
  let c1_i32_75 : BitVec 32 := 1#32
  let arg17 : BitVec 32 := Scf.iv c0_i32_73 c1_i32_75 k0_t5
  let c32_i32 : BitVec 32 := 32#32
  let v138 : BitVec 32 := Scalar.muli arg17 c32_i32
  let v139 : Index := Scalar.indexCast v138
  let c0_i32_49 : BitVec 32 := 0#32
  let c1_i32_50 : BitVec 32 := 1#32
  let arg15 : BitVec 32 := Scf.iv c0_i32_49 c1_i32_50 k0_t4
  let c512_i32 : BitVec 32 := 512#32
  let v126 : BitVec 32 := Scalar.muli arg15 c512_i32
  let v140 : Index := Scalar.indexCast v126
  ![v139.toNat, v140.toNat]
def k0_off27 (k0_t5 : Fin k0_t5_loop.trips) : Fin 2 → Nat :=
  let c0_i32_73 : BitVec 32 := 0#32
  let c1_i32_75 : BitVec 32 := 1#32
  let arg17 : BitVec 32 := Scf.iv c0_i32_73 c1_i32_75 k0_t5
  let c32_i32_80 : BitVec 32 := 32#32
  let v142 : BitVec 32 := Scalar.muli arg17 c32_i32_80
  let v143 : Index := Scalar.indexCast v142
  let c0_81 : Index := 0#32
  ![v143.toNat, 0]
def k0_off28 (k0_t4 : Fin k0_t4_loop.trips) : Fin 2 → Nat :=
  let c0_78 : Index := 0#32
  let c0_i32_49 : BitVec 32 := 0#32
  let c1_i32_50 : BitVec 32 := 1#32
  let arg15 : BitVec 32 := Scf.iv c0_i32_49 c1_i32_50 k0_t4
  let c512_i32 : BitVec 32 := 512#32
  let v126 : BitVec 32 := Scalar.muli arg15 c512_i32
  let v134 : Index := Scalar.indexCast v126
  ![0, v134.toNat]
@[reducible] def k0_t6_loop : Scf.Loop 32 :=
  let c0_i32_58 : BitVec 32 := 0#32
  let c40_i32_59 : BitVec 32 := 40#32
  let v113 : BitVec 32 := Scalar.addi c0_i32_58 c40_i32_59
  let c1_i32_60 : BitVec 32 := 1#32
  ⟨c0_i32_58, v113, c1_i32_60⟩
def k0_off29 (k0_t6 : Fin k0_t6_loop.trips) : Fin 2 → Nat :=
  let c0_72 : Index := 0#32
  let c0_i32_58 : BitVec 32 := 0#32
  let c1_i32_60 : BitVec 32 := 1#32
  let arg15 : BitVec 32 := Scf.iv c0_i32_58 c1_i32_60 k0_t6
  let c128_i32 : BitVec 32 := 128#32
  let v126 : BitVec 32 := Scalar.muli arg15 c128_i32
  let v127 : Index := Scalar.indexCast v126
  ![0, v127.toNat]
def k0_off30 (k0_t6 : Fin k0_t6_loop.trips) : Fin 2 → Nat :=
  let c0_i32_58 : BitVec 32 := 0#32
  let c1_i32_60 : BitVec 32 := 1#32
  let arg15 : BitVec 32 := Scf.iv c0_i32_58 c1_i32_60 k0_t6
  let c8_i32 : BitVec 32 := 8#32
  let v133 : BitVec 32 := Scalar.muli arg15 c8_i32
  let v134 : Index := Scalar.indexCast v133
  let c0_74 : Index := 0#32
  ![v134.toNat, 0]
@[reducible] def k0_t7_loop : Scf.Loop 32 :=
  let c0_i32_63 : BitVec 32 := 0#32
  let c10_i32_64 : BitVec 32 := 10#32
  let v115 : BitVec 32 := Scalar.addi c0_i32_63 c10_i32_64
  let c1_i32_65 : BitVec 32 := 1#32
  ⟨c0_i32_63, v115, c1_i32_65⟩
@[reducible] def k0_t8_loop : Scf.Loop 32 :=
  let c0_i32_73 : BitVec 32 := 0#32
  let c10_i32_74 : BitVec 32 := 10#32
  let v128 : BitVec 32 := Scalar.addi c0_i32_73 c10_i32_74
  let c1_i32_75 : BitVec 32 := 1#32
  ⟨c0_i32_73, v128, c1_i32_75⟩
def k0_off31 (k0_t7 : Fin k0_t7_loop.trips) (k0_t8 : Fin k0_t8_loop.trips) : Fin 2 → Nat :=
  let c0_i32_73 : BitVec 32 := 0#32
  let c1_i32_75 : BitVec 32 := 1#32
  let arg17 : BitVec 32 := Scf.iv c0_i32_73 c1_i32_75 k0_t8
  let c32_i32 : BitVec 32 := 32#32
  let v138 : BitVec 32 := Scalar.muli arg17 c32_i32
  let v139 : Index := Scalar.indexCast v138
  let c0_i32_63 : BitVec 32 := 0#32
  let c1_i32_65 : BitVec 32 := 1#32
  let arg15 : BitVec 32 := Scf.iv c0_i32_63 c1_i32_65 k0_t7
  let c512_i32 : BitVec 32 := 512#32
  let v126 : BitVec 32 := Scalar.muli arg15 c512_i32
  let v140 : Index := Scalar.indexCast v126
  ![v139.toNat, v140.toNat]
def k0_off32 (k0_t8 : Fin k0_t8_loop.trips) : Fin 2 → Nat :=
  let c0_i32_73 : BitVec 32 := 0#32
  let c1_i32_75 : BitVec 32 := 1#32
  let arg17 : BitVec 32 := Scf.iv c0_i32_73 c1_i32_75 k0_t8
  let c32_i32_80 : BitVec 32 := 32#32
  let v142 : BitVec 32 := Scalar.muli arg17 c32_i32_80
  let v143 : Index := Scalar.indexCast v142
  let c0_81 : Index := 0#32
  ![v143.toNat, 0]
def k0_off33 (k0_t7 : Fin k0_t7_loop.trips) : Fin 2 → Nat :=
  let c0_78 : Index := 0#32
  let c0_i32_63 : BitVec 32 := 0#32
  let c1_i32_65 : BitVec 32 := 1#32
  let arg15 : BitVec 32 := Scf.iv c0_i32_63 c1_i32_65 k0_t7
  let c512_i32 : BitVec 32 := 512#32
  let v126 : BitVec 32 := Scalar.muli arg15 c512_i32
  let v134 : Index := Scalar.indexCast v126
  ![0, v134.toNat]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4x5120 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4x5120 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x21x5120 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x4x5120 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x21x5120 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x5120 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S4x5000x4 : Shape := ⟨3, ![4, 5000, 4]⟩
abbrev S4x5000x2 : Shape := ⟨3, ![4, 5000, 2]⟩
abbrev S4x5000x21 : Shape := ⟨3, ![4, 5000, 21]⟩
abbrev S_ : Shape := ⟨0, ![]⟩
abbrev S4x5000 : Shape := ⟨2, ![4, 5000]⟩
abbrev S4x5000x1 : Shape := ⟨3, ![4, 5000, 1]⟩
abbrev S4x20x5000 : Shape := ⟨3, ![4, 20, 5000]⟩
abbrev S4x21x5000 : Shape := ⟨3, ![4, 21, 5000]⟩
abbrev S4x20x1 : Shape := ⟨3, ![4, 20, 1]⟩
abbrev S4x20x1x5000 : Shape := ⟨4, ![4, 20, 1, 5000]⟩
abbrev S1x1x5000x1 : Shape := ⟨4, ![1, 1, 5000, 1]⟩
abbrev S4x20x5000x5000 : Shape := ⟨4, ![4, 20, 5000, 5000]⟩

abbrev nBuf : Space → Nat
  | .hbm => 202
  | .vmem => 0
  | .smem => 0
  | _ => 0

abbrev hbmTy0_0 (i : Nat) : BufTy := match i % 128 with
  | 0 => ⟨S4x5000x4, .f32⟩
  | 1 => ⟨S4x5000x2, .f32⟩
  | 2 => ⟨S4x5000x4, .f32⟩
  | 3 => ⟨S4x5000x21, .f32⟩
  | 4 => ⟨S4x5000x2, .f32⟩
  | 5 => ⟨S_, .f32⟩
  | 6 => ⟨S4x5000x2, .f32⟩
  | 7 => ⟨S4x5000x2, .f32⟩
  | 8 => ⟨S4x5000x2, .f32⟩
  | 9 => ⟨S4x5000x2, .f32⟩
  | 10 => ⟨S_, .f32⟩
  | 11 => ⟨S4x5000x2, .f32⟩
  | 12 => ⟨S4x5000x2, .f32⟩
  | 13 => ⟨S4x5000x2, .f32⟩
  | 14 => ⟨S4x5000x4, .f32⟩
  | 15 => ⟨S_, .f32⟩
  | 16 => ⟨S4x5000x4, .f32⟩
  | 17 => ⟨S4x5000x4, .f32⟩
  | 18 => ⟨S4x5000x4, .f32⟩
  | 19 => ⟨S_, .f32⟩
  | 20 => ⟨S4x5000, .f32⟩
  | 21 => ⟨S_, .f32⟩
  | 22 => ⟨S4x5000, .f32⟩
  | 23 => ⟨S4x5000, .f32⟩
  | 24 => ⟨S4x5000x1, .f32⟩
  | 25 => ⟨S4x5000x21, .f32⟩
  | 26 => ⟨S4x5000x21, .f32⟩
  | 27 => ⟨S4x5000x21, .f32⟩
  | 28 => ⟨S_, .f32⟩
  | 29 => ⟨S4x5000, .f32⟩
  | 30 => ⟨S4x5000x1, .f32⟩
  | 31 => ⟨S4x5000x21, .f32⟩
  | 32 => ⟨S4x5000x21, .f32⟩
  | 33 => ⟨S4x5000x21, .i32⟩
  | 34 => ⟨S_, .f32⟩
  | 35 => ⟨S_, .i32⟩
  | 36 => ⟨S4x5000, .f32⟩
  | 37 => ⟨S4x5000, .i32⟩
  | 38 => ⟨S4x20x5000, .i32⟩
  | 39 => ⟨S_, .i32⟩
  | 40 => ⟨S4x20x5000, .i32⟩
  | 41 => ⟨S4x20x5000, .i32⟩
  | 42 => ⟨S4x20x5000, .i32⟩
  | 43 => ⟨S_, .i32⟩
  | 44 => ⟨S4x20x5000, .i32⟩
  | 45 => ⟨S4x20x5000, .i1⟩
  | 46 => ⟨S4x20x5000, .i1⟩
  | 47 => ⟨S4x20x5000, .i1⟩
  | 48 => ⟨S4x21x5000, .f32⟩
  | 49 => ⟨S4x20x5000, .f32⟩
  | 50 => ⟨S4x5000x1, .f32⟩
  | 51 => ⟨S4x5000, .f32⟩
  | 52 => ⟨S4x20x5000, .f32⟩
  | 53 => ⟨S4x5000x1, .f32⟩
  | 54 => ⟨S4x5000, .f32⟩
  | 55 => ⟨S4x20x5000, .f32⟩
  | 56 => ⟨S4x5000x1, .f32⟩
  | 57 => ⟨S4x5000, .f32⟩
  | 58 => ⟨S4x20x5000, .f32⟩
  | 59 => ⟨S4x5000x1, .f32⟩
  | 60 => ⟨S4x5000, .f32⟩
  | 61 => ⟨S4x20x5000, .f32⟩
  | 62 => ⟨S4x20x5000, .i32⟩
  | 63 => ⟨S_, .f32⟩
  | 64 => ⟨S4x20x5000, .f32⟩
  | 65 => ⟨S4x20x5000, .f32⟩
  | 66 => ⟨S4x20x5000, .f32⟩
  | 67 => ⟨S4x20x5000, .f32⟩
  | 68 => ⟨S4x20x5000, .i32⟩
  | 69 => ⟨S4x20x5000, .f32⟩
  | 70 => ⟨S4x20x5000, .f32⟩
  | 71 => ⟨S4x20x5000, .f32⟩
  | 72 => ⟨S4x20x5000, .f32⟩
  | 73 => ⟨S4x20x5000, .i1⟩
  | 74 => ⟨S4x20x5000, .i1⟩
  | 75 => ⟨S_, .i32⟩
  | 76 => ⟨S_, .i32⟩
  | 77 => ⟨S4x20x5000, .f32⟩
  | 78 => ⟨S4x20x5000, .f32⟩
  | 79 => ⟨S4x20x5000, .f32⟩
  | 80 => ⟨S4x20x5000, .f32⟩
  | 81 => ⟨S4x20x5000, .i32⟩
  | 82 => ⟨S_, .i32⟩
  | 83 => ⟨S_, .i32⟩
  | 84 => ⟨S4x20x5000, .i1⟩
  | 85 => ⟨S_, .i32⟩
  | 86 => ⟨S_, .i1⟩
  | 87 => ⟨S_, .i32⟩
  | 88 => ⟨S_, .i32⟩
  | 89 => ⟨S_, .i32⟩
  | 90 => ⟨S_, .i1⟩
  | 91 => ⟨S_, .i32⟩
  | 92 => ⟨S_, .i32⟩
  | 93 => ⟨S_, .i32⟩
  | 94 => ⟨S_, .i32⟩
  | 95 => ⟨S_, .i32⟩
  | 96 => ⟨S_, .i32⟩
  | 97 => ⟨S4x20x1, .f32⟩
  | 98 => ⟨S_, .i32⟩
  | 99 => ⟨S_, .i1⟩
  | 100 => ⟨S_, .i32⟩
  | 101 => ⟨S_, .i32⟩
  | 102 => ⟨S_, .i32⟩
  | 103 => ⟨S_, .i32⟩
  | 104 => ⟨S_, .i32⟩
  | 105 => ⟨S_, .i32⟩
  | 106 => ⟨S4x20x1, .f32⟩
  | 107 => ⟨S_, .i32⟩
  | 108 => ⟨S_, .i1⟩
  | 109 => ⟨S_, .i32⟩
  | 110 => ⟨S_, .i32⟩
  | 111 => ⟨S_, .i32⟩
  | 112 => ⟨S_, .i32⟩
  | 113 => ⟨S_, .i32⟩
  | 114 => ⟨S_, .i32⟩
  | 115 => ⟨S4x20x1, .f32⟩
  | 116 => ⟨S_, .i32⟩
  | 117 => ⟨S_, .i1⟩
  | 118 => ⟨S_, .i32⟩
  | 119 => ⟨S_, .i32⟩
  | 120 => ⟨S_, .i32⟩
  | 121 => ⟨S_, .i32⟩
  | 122 => ⟨S_, .i32⟩
  | 123 => ⟨S_, .i32⟩
  | 124 => ⟨S4x20x1, .f32⟩
  | 125 => ⟨S4x20x1, .f32⟩
  | 126 => ⟨S_, .f32⟩
  | 127 => ⟨S4x20x1, .f32⟩
  | _ => ⟨S4x5000x4, .f32⟩

abbrev hbmTy0_1 (i : Nat) : BufTy := match i % 128 with
  | 0 => ⟨S4x20x1, .f32⟩
  | 1 => ⟨S4x20x1, .f32⟩
  | 2 => ⟨S_, .f32⟩
  | 3 => ⟨S4x20x1, .f32⟩
  | 4 => ⟨S4x20x1, .f32⟩
  | 5 => ⟨S4x20x1, .f32⟩
  | 6 => ⟨S4x20x5000, .f32⟩
  | 7 => ⟨S_, .f32⟩
  | 8 => ⟨S4x20x5000, .f32⟩
  | 9 => ⟨S4x20x5000, .f32⟩
  | 10 => ⟨S4x20x5000, .f32⟩
  | 11 => ⟨S_, .f32⟩
  | 12 => ⟨S4x20x5000, .f32⟩
  | 13 => ⟨S4x20x5000, .f32⟩
  | 14 => ⟨S4x20x5000, .f32⟩
  | 15 => ⟨S4x20x5000, .f32⟩
  | 16 => ⟨S4x20x5000, .f32⟩
  | 17 => ⟨S4x20x5000, .f32⟩
  | 18 => ⟨S4x20x5000, .f32⟩
  | 19 => ⟨S4x20x5000, .f32⟩
  | 20 => ⟨S4x20x5000, .f32⟩
  | 21 => ⟨S4x20x5000, .f32⟩
  | 22 => ⟨S4x20x5000, .f32⟩
  | 23 => ⟨S4x20x5000, .f32⟩
  | 24 => ⟨S_, .f32⟩
  | 25 => ⟨S4x20x5000, .f32⟩
  | 26 => ⟨S4x20x5000, .f32⟩
  | 27 => ⟨S4x20x5000, .f32⟩
  | 28 => ⟨S_, .f32⟩
  | 29 => ⟨S4x20x5000, .f32⟩
  | 30 => ⟨S4x20x5000, .f32⟩
  | 31 => ⟨S4x20x5000, .f32⟩
  | 32 => ⟨S4x20x5000, .f32⟩
  | 33 => ⟨S4x20x5000, .f32⟩
  | 34 => ⟨S4x20x5000, .f32⟩
  | 35 => ⟨S_, .f32⟩
  | 36 => ⟨S4x20x5000, .f32⟩
  | 37 => ⟨S4x20x5000, .f32⟩
  | 38 => ⟨S4x20x5000, .f32⟩
  | 39 => ⟨S_, .f32⟩
  | 40 => ⟨S4x20x5000, .f32⟩
  | 41 => ⟨S4x20x5000, .i1⟩
  | 42 => ⟨S_, .i32⟩
  | 43 => ⟨S4x20x5000, .i32⟩
  | 44 => ⟨S4x20x5000, .i1⟩
  | 45 => ⟨S4x20x5000, .i1⟩
  | 46 => ⟨S4x20x5000, .i1⟩
  | 47 => ⟨S_, .i32⟩
  | 48 => ⟨S_, .i1⟩
  | 49 => ⟨S_, .i32⟩
  | 50 => ⟨S_, .i32⟩
  | 51 => ⟨S_, .i32⟩
  | 52 => ⟨S_, .i32⟩
  | 53 => ⟨S_, .i32⟩
  | 54 => ⟨S_, .i32⟩
  | 55 => ⟨S4x20x1, .i1⟩
  | 56 => ⟨S4x20x5000, .i1⟩
  | 57 => ⟨S4x20x5000, .i1⟩
  | 58 => ⟨S_, .i32⟩
  | 59 => ⟨S_, .i32⟩
  | 60 => ⟨S4x20x5000, .i1⟩
  | 61 => ⟨S4x20x5000, .i1⟩
  | 62 => ⟨S4x20x1x5000, .i32⟩
  | 63 => ⟨S1x1x5000x1, .i32⟩
  | 64 => ⟨S4x20x5000x5000, .i32⟩
  | 65 => ⟨S4x20x5000x5000, .i32⟩
  | 66 => ⟨S4x20x5000x5000, .i1⟩
  | 67 => ⟨S4x20x1x5000, .i1⟩
  | 68 => ⟨S4x20x5000x5000, .i1⟩
  | 69 => ⟨S4x20x5000x5000, .i1⟩
  | 70 => ⟨S_, .i1⟩
  | 71 => ⟨S4x20x5000, .i1⟩
  | 72 => ⟨S_, .i1⟩
  | 73 => ⟨S4x5000, .i1⟩
  | _ => ⟨S4x5000x4, .f32⟩

abbrev hbmTy (i : Nat) : BufTy := match i / 128 with
  | 0 => hbmTy0_0 i
  | 1 => hbmTy0_1 i
  | _ => ⟨S4x5000x4, .f32⟩

abbrev bufTy : (tb : Table) → Fin (tcTables nBuf tb) → BufTy
  | .hbm, ⟨i, _⟩ => hbmTy i
  | _, _ => ⟨S4x5000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_call0_v0 : Ref sig .tc := ⟨.hbm, 33, rfl⟩
abbrev main_call0_cst : Ref sig .tc := ⟨.hbm, 34, rfl⟩
abbrev main_call0_c : Ref sig .tc := ⟨.hbm, 35, rfl⟩
abbrev main_call0_v1_0 : Ref sig .tc := ⟨.hbm, 36, rfl⟩
abbrev main_v23 : Ref sig .tc := ⟨.hbm, 37, rfl⟩
abbrev main_v24 : Ref sig .tc := ⟨.hbm, 38, rfl⟩
abbrev main_c : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_c_5 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_cst_6 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50_0 : Ref sig .tc := ⟨.hbm, 67, rfl⟩
abbrev main_v50_1 : Ref sig .tc := ⟨.hbm, 68, rfl⟩
abbrev main_v50_2 : Ref sig .tc := ⟨.hbm, 69, rfl⟩
abbrev main_v50_3 : Ref sig .tc := ⟨.hbm, 70, rfl⟩
abbrev main_v50_4 : Ref sig .tc := ⟨.hbm, 71, rfl⟩
abbrev main_v50_5 : Ref sig .tc := ⟨.hbm, 72, rfl⟩
abbrev main_v50_6 : Ref sig .tc := ⟨.hbm, 73, rfl⟩
abbrev main_v51 : Ref sig .tc := ⟨.hbm, 74, rfl⟩
abbrev main_c_7 : Ref sig .tc := ⟨.hbm, 75, rfl⟩
abbrev main_c_8 : Ref sig .tc := ⟨.hbm, 76, rfl⟩
abbrev main_v52_0 : Ref sig .tc := ⟨.hbm, 77, rfl⟩
abbrev main_v52_1 : Ref sig .tc := ⟨.hbm, 78, rfl⟩
abbrev main_v52_2 : Ref sig .tc := ⟨.hbm, 79, rfl⟩
abbrev main_v52_3 : Ref sig .tc := ⟨.hbm, 80, rfl⟩
abbrev main_v52_4 : Ref sig .tc := ⟨.hbm, 81, rfl⟩
abbrev main_v52_5 : Ref sig .tc := ⟨.hbm, 82, rfl⟩
abbrev main_v52_6 : Ref sig .tc := ⟨.hbm, 83, rfl⟩
abbrev main_v52_7 : Ref sig .tc := ⟨.hbm, 84, rfl⟩
abbrev main_while0c_c_18 : Ref sig .tc := ⟨.hbm, 85, rfl⟩
abbrev main_while0c_v65 : Ref sig .tc := ⟨.hbm, 86, rfl⟩
abbrev main_while0b_c_18 : Ref sig .tc := ⟨.hbm, 87, rfl⟩
abbrev main_while0b_v65 : Ref sig .tc := ⟨.hbm, 88, rfl⟩
abbrev main_while0b_c_19 : Ref sig .tc := ⟨.hbm, 89, rfl⟩
abbrev main_while0b_v66 : Ref sig .tc := ⟨.hbm, 90, rfl⟩
abbrev main_while0b_v67 : Ref sig .tc := ⟨.hbm, 91, rfl⟩
abbrev main_while0b_c_20 : Ref sig .tc := ⟨.hbm, 92, rfl⟩
abbrev main_while0b_v68 : Ref sig .tc := ⟨.hbm, 93, rfl⟩
abbrev main_while0b_v69 : Ref sig .tc := ⟨.hbm, 94, rfl⟩
abbrev main_while0b_c_21 : Ref sig .tc := ⟨.hbm, 95, rfl⟩
abbrev main_while0b_c_22 : Ref sig .tc := ⟨.hbm, 96, rfl⟩
abbrev main_while0b_v70 : Ref sig .tc := ⟨.hbm, 97, rfl⟩
abbrev main_while0b_c_23 : Ref sig .tc := ⟨.hbm, 98, rfl⟩
abbrev main_while0b_v71 : Ref sig .tc := ⟨.hbm, 99, rfl⟩
abbrev main_while0b_v72 : Ref sig .tc := ⟨.hbm, 100, rfl⟩
abbrev main_while0b_c_24 : Ref sig .tc := ⟨.hbm, 101, rfl⟩
abbrev main_while0b_v73 : Ref sig .tc := ⟨.hbm, 102, rfl⟩
abbrev main_while0b_v74 : Ref sig .tc := ⟨.hbm, 103, rfl⟩
abbrev main_while0b_c_25 : Ref sig .tc := ⟨.hbm, 104, rfl⟩
abbrev main_while0b_c_26 : Ref sig .tc := ⟨.hbm, 105, rfl⟩
abbrev main_while0b_v75 : Ref sig .tc := ⟨.hbm, 106, rfl⟩
abbrev main_while0b_c_27 : Ref sig .tc := ⟨.hbm, 107, rfl⟩
abbrev main_while0b_v76 : Ref sig .tc := ⟨.hbm, 108, rfl⟩
abbrev main_while0b_v77 : Ref sig .tc := ⟨.hbm, 109, rfl⟩
abbrev main_while0b_c_28 : Ref sig .tc := ⟨.hbm, 110, rfl⟩
abbrev main_while0b_v78 : Ref sig .tc := ⟨.hbm, 111, rfl⟩
abbrev main_while0b_v79 : Ref sig .tc := ⟨.hbm, 112, rfl⟩
abbrev main_while0b_c_29 : Ref sig .tc := ⟨.hbm, 113, rfl⟩
abbrev main_while0b_c_30 : Ref sig .tc := ⟨.hbm, 114, rfl⟩
abbrev main_while0b_v80 : Ref sig .tc := ⟨.hbm, 115, rfl⟩
abbrev main_while0b_c_31 : Ref sig .tc := ⟨.hbm, 116, rfl⟩
abbrev main_while0b_v81 : Ref sig .tc := ⟨.hbm, 117, rfl⟩
abbrev main_while0b_v82 : Ref sig .tc := ⟨.hbm, 118, rfl⟩
abbrev main_while0b_c_32 : Ref sig .tc := ⟨.hbm, 119, rfl⟩
abbrev main_while0b_v83 : Ref sig .tc := ⟨.hbm, 120, rfl⟩
abbrev main_while0b_v84 : Ref sig .tc := ⟨.hbm, 121, rfl⟩
abbrev main_while0b_c_33 : Ref sig .tc := ⟨.hbm, 122, rfl⟩
abbrev main_while0b_c_34 : Ref sig .tc := ⟨.hbm, 123, rfl⟩
abbrev main_while0b_v85 : Ref sig .tc := ⟨.hbm, 124, rfl⟩
abbrev main_while0b_v86 : Ref sig .tc := ⟨.hbm, 125, rfl⟩
abbrev main_while0b_cst_35 : Ref sig .tc := ⟨.hbm, 126, rfl⟩
abbrev main_while0b_v87 : Ref sig .tc := ⟨.hbm, 127, rfl⟩
abbrev main_while0b_v88 : Ref sig .tc := ⟨.hbm, 128, rfl⟩
abbrev main_while0b_v89 : Ref sig .tc := ⟨.hbm, 129, rfl⟩
abbrev main_while0b_cst_36 : Ref sig .tc := ⟨.hbm, 130, rfl⟩
abbrev main_while0b_v90 : Ref sig .tc := ⟨.hbm, 131, rfl⟩
abbrev main_while0b_v91 : Ref sig .tc := ⟨.hbm, 132, rfl⟩
abbrev main_while0b_v92 : Ref sig .tc := ⟨.hbm, 133, rfl⟩
abbrev main_while0b_v93 : Ref sig .tc := ⟨.hbm, 134, rfl⟩
abbrev main_while0b_cst_37 : Ref sig .tc := ⟨.hbm, 135, rfl⟩
abbrev main_while0b_v94 : Ref sig .tc := ⟨.hbm, 136, rfl⟩
abbrev main_while0b_v95 : Ref sig .tc := ⟨.hbm, 137, rfl⟩
abbrev main_while0b_v96 : Ref sig .tc := ⟨.hbm, 138, rfl⟩
abbrev main_while0b_cst_38 : Ref sig .tc := ⟨.hbm, 139, rfl⟩
abbrev main_while0b_v97 : Ref sig .tc := ⟨.hbm, 140, rfl⟩
abbrev main_while0b_v98 : Ref sig .tc := ⟨.hbm, 141, rfl⟩
abbrev main_while0b_v99 : Ref sig .tc := ⟨.hbm, 142, rfl⟩
abbrev main_while0b_v100 : Ref sig .tc := ⟨.hbm, 143, rfl⟩
abbrev main_while0b_v101 : Ref sig .tc := ⟨.hbm, 144, rfl⟩
abbrev main_while0b_v102 : Ref sig .tc := ⟨.hbm, 145, rfl⟩
abbrev main_while0b_v103 : Ref sig .tc := ⟨.hbm, 146, rfl⟩
abbrev main_while0b_v104 : Ref sig .tc := ⟨.hbm, 147, rfl⟩
abbrev main_while0b_v105 : Ref sig .tc := ⟨.hbm, 148, rfl⟩
abbrev main_while0b_v106 : Ref sig .tc := ⟨.hbm, 149, rfl⟩
abbrev main_while0b_v107 : Ref sig .tc := ⟨.hbm, 150, rfl⟩
abbrev main_while0b_v108 : Ref sig .tc := ⟨.hbm, 151, rfl⟩
abbrev main_while0b_cst_39 : Ref sig .tc := ⟨.hbm, 152, rfl⟩
abbrev main_while0b_v109 : Ref sig .tc := ⟨.hbm, 153, rfl⟩
abbrev main_while0b_v110 : Ref sig .tc := ⟨.hbm, 154, rfl⟩
abbrev main_while0b_v111 : Ref sig .tc := ⟨.hbm, 155, rfl⟩
abbrev main_while0b_cst_40 : Ref sig .tc := ⟨.hbm, 156, rfl⟩
abbrev main_while0b_v112 : Ref sig .tc := ⟨.hbm, 157, rfl⟩
abbrev main_while0b_v113 : Ref sig .tc := ⟨.hbm, 158, rfl⟩
abbrev main_while0b_v114 : Ref sig .tc := ⟨.hbm, 159, rfl⟩
abbrev main_while0b_v115 : Ref sig .tc := ⟨.hbm, 160, rfl⟩
abbrev main_while0b_v116 : Ref sig .tc := ⟨.hbm, 161, rfl⟩
abbrev main_while0b_v117 : Ref sig .tc := ⟨.hbm, 162, rfl⟩
abbrev main_while0b_cst_41 : Ref sig .tc := ⟨.hbm, 163, rfl⟩
abbrev main_while0b_v118 : Ref sig .tc := ⟨.hbm, 164, rfl⟩
abbrev main_while0b_v119 : Ref sig .tc := ⟨.hbm, 165, rfl⟩
abbrev main_while0b_v120 : Ref sig .tc := ⟨.hbm, 166, rfl⟩
abbrev main_while0b_cst_42 : Ref sig .tc := ⟨.hbm, 167, rfl⟩
abbrev main_while0b_v121 : Ref sig .tc := ⟨.hbm, 168, rfl⟩
abbrev main_while0b_v122 : Ref sig .tc := ⟨.hbm, 169, rfl⟩
abbrev main_while0b_v123 : Ref sig .tc := ⟨.hbm, 170, rfl⟩
abbrev main_while0b_v124 : Ref sig .tc := ⟨.hbm, 171, rfl⟩
abbrev main_while0b_v125 : Ref sig .tc := ⟨.hbm, 172, rfl⟩
abbrev main_while0b_v126 : Ref sig .tc := ⟨.hbm, 173, rfl⟩
abbrev main_while0b_v127 : Ref sig .tc := ⟨.hbm, 174, rfl⟩
abbrev main_while0b_c_43 : Ref sig .tc := ⟨.hbm, 175, rfl⟩
abbrev main_while0b_v128 : Ref sig .tc := ⟨.hbm, 176, rfl⟩
abbrev main_while0b_v129 : Ref sig .tc := ⟨.hbm, 177, rfl⟩
abbrev main_while0b_c_44 : Ref sig .tc := ⟨.hbm, 178, rfl⟩
abbrev main_while0b_v130 : Ref sig .tc := ⟨.hbm, 179, rfl⟩
abbrev main_while0b_v131 : Ref sig .tc := ⟨.hbm, 180, rfl⟩
abbrev main_while0b_c_45 : Ref sig .tc := ⟨.hbm, 181, rfl⟩
abbrev main_while0b_c_46 : Ref sig .tc := ⟨.hbm, 182, rfl⟩
abbrev main_while0b_v132 : Ref sig .tc := ⟨.hbm, 183, rfl⟩
abbrev main_while0b_v133 : Ref sig .tc := ⟨.hbm, 184, rfl⟩
abbrev main_while0b_v134 : Ref sig .tc := ⟨.hbm, 185, rfl⟩
abbrev main_while0b_c_47 : Ref sig .tc := ⟨.hbm, 186, rfl⟩
abbrev main_while0b_v135 : Ref sig .tc := ⟨.hbm, 187, rfl⟩
abbrev main_v53 : Ref sig .tc := ⟨.hbm, 188, rfl⟩
abbrev main_v54 : Ref sig .tc := ⟨.hbm, 189, rfl⟩
abbrev main_v55 : Ref sig .tc := ⟨.hbm, 190, rfl⟩
abbrev main_v56 : Ref sig .tc := ⟨.hbm, 191, rfl⟩
abbrev main_v57 : Ref sig .tc := ⟨.hbm, 192, rfl⟩
abbrev main_v58 : Ref sig .tc := ⟨.hbm, 193, rfl⟩
abbrev main_v59 : Ref sig .tc := ⟨.hbm, 194, rfl⟩
abbrev main_v60 : Ref sig .tc := ⟨.hbm, 195, rfl⟩
abbrev main_v61 : Ref sig .tc := ⟨.hbm, 196, rfl⟩
abbrev main_v62 : Ref sig .tc := ⟨.hbm, 197, rfl⟩
abbrev main_c_9 : Ref sig .tc := ⟨.hbm, 198, rfl⟩
abbrev main_v63 : Ref sig .tc := ⟨.hbm, 199, rfl⟩
abbrev main_c_10 : Ref sig .tc := ⟨.hbm, 200, rfl⟩
abbrev main_v64 : Ref sig .tc := ⟨.hbm, 201, rfl⟩

abbrev nD : Nat := 1
abbrev τ : Topo := Topo.v7x

variable {F : FTy → Type} [FloatOps F]

abbrev main_while0_count : Scf.Loop 32 := ⟨0#32, 5000#32, 1#32⟩
-- ==== Proof.KI.Fns.lean ====
module

public import proofs.«01_k».proof.Proof.Gen.KernelIdeal.Skeleton
public import Idealize.ShloMosaic.Lib.Exec
public import Idealize.ShloMosaic.Lib.Tactic
public import Idealize.ShloMosaic.Lib.VecWindow
public import Idealize.ShloMosaic.Lib.Pointwise
public import Idealize.ShloMosaic.Lib.Pipeline.Kit

@[expose] public section

set_option maxRecDepth 16384

noncomputable section

namespace Cert.Proof.KI

open Cert.KernelIdeal Cert.KernelIdeal.Gen
open Idealize.ShloMosaic Idealize.ShloMosaic.TcCoe
open Idealize.SL.Sem

variable {F : FTy → Type} [FloatOps F]

/-- Columns `128 b … 128 b + 127` of a row of 5120. -/
def vblk {α : Type} (R : S1x5120.Idx → α) (b : ℕ) : S1x128.Idx → α :=
  fun z => R (ix2 0 ⟨(128 * b + (z 1).val) % 5120, Nat.mod_lt _ (by decide)⟩)

/-- Columns `128 b … 128 b + 127` of row `r` of the four box coordinates. -/
def bblk {α : Type} (B : S1x4x5120.Idx → α) (r : Fin 4) (b : ℕ) : S1x1x128.Idx → α :=
  fun z => B (ix3 0 r ⟨(128 * b + (z 2).val) % 5120, Nat.mod_lt _ (by decide)⟩)

/-- Rows `32 r …`, columns `512 c …` of the packed suppression matrix. -/
def tblk {α : Type} (T : S320x5120.Idx → α) (r c : ℕ) : S32x512.Idx → α :=
  fun z => T (ix2 ⟨(32 * r + (z 0).val) % 320, Nat.mod_lt _ (by decide)⟩
    ⟨(512 * c + (z 1).val) % 5120, Nat.mod_lt _ (by decide)⟩)

/-- Rows `32 r …` of the packed vector. -/
def pblk {α : Type} (P : S320x1.Idx → α) (r : ℕ) : S32x1.Idx → α :=
  fun z => P (ix2 ⟨(32 * r + (z 0).val) % 320, Nat.mod_lt _ (by decide)⟩ 0)

/-- The packed form of a row of 5120 zeros and ones: word `w` holds the sixteen entries from `16 w`. -/
def packE (v91 : FVec F S8x128 .bf16) (V : FVec F S1x5120 .f32) : S320x1.Idx → BitVec 32 :=
  fun y => k0_pay34 v91 (vblk V ((y 0).val / 8)) (ix2 ⟨(y 0).val % 8, Nat.mod_lt _ (by decide)⟩ 0)

/-- The running maximum over the first `n` row groups of matrix words masked by the packed vector. -/
def hitAcc (T : S320x5120.Idx → BitVec 32) (P : S320x1.Idx → BitVec 32) (c : ℕ) : ℕ → IVec S1x512 32
  | 0 => k0_pay35
  | n + 1 => k0_pay36 (F := F) (hitAcc T P c n) (tblk T n c) (pblk P n)

/-- The row that is one where the packed vector meets the column of the matrix. -/
def hitE (T : S320x5120.Idx → BitVec 32) (P : S320x1.Idx → BitVec 32) : FVec F S1x5120 .f32 :=
  fun y => k0_pay37 (F := F) (hitAcc (F := F) T P ((y 1).val / 512) 10)
    (ix2 0 ⟨(y 1).val % 512, Nat.mod_lt _ (by decide)⟩)

/-- Boxes hit by an active box: the first matrix product of a round. -/
def hit1 (T : S320x5120.Idx → BitVec 32) (v91 : FVec F S8x128 .bf16) (act : FVec F S1x5120 .f32) : FVec F S1x5120 .f32 :=
  hitE T (packE v91 (k0_pay33 act))

/-- Boxes hit by a box kept in this round: the second matrix product. -/
def hit2 (T : S320x5120.Idx → BitVec 32) (v91 : FVec F S8x128 .bf16) (act : FVec F S1x5120 .f32) : FVec F S1x5120 .f32 :=
  hitE T (packE v91 (k0_pay39 act (hit1 T v91 act)))

/-- The kept row after a round. -/
def stepKept (T : S320x5120.Idx → BitVec 32) (v91 : FVec F S8x128 .bf16) (act kept : FVec F S1x5120 .f32) : FVec F S1x5120 .f32 :=
  k0_pay44 act kept (hit1 T v91 act)

/-- The active row after a round. -/
def stepAct (T : S320x5120.Idx → BitVec 32) (v91 : FVec F S8x128 .bf16) (act : FVec F S1x5120 .f32) : FVec F S1x5120 .f32 :=
  k0_pay45 act (hit1 T v91 act) (hit2 T v91 act)

/-- Whether another round runs. -/
def goOn (r : BitVec 32) (act : FVec F S1x5120 .f32) : BitVec 1 :=
  Scalar.andi (Scalar.cmpf .ogt (k0_pay14 act) (Scalar.ofBits .f32 0x00000000#32)) (Scalar.cmpi .slt r 5120#32)

/-- The kept row at the end, with fuel for the number of rounds. -/
def rounds (T : S320x5120.Idx → BitVec 32) (v91 : FVec F S8x128 .bf16) :
    ℕ → BitVec 32 → FVec F S1x5120 .f32 → FVec F S1x5120 .f32 → FVec F S1x5120 .f32
  | 0, _, _, kept => kept
  | n + 1, r, act, kept =>
    if goOn r act = 1#1 then rounds T v91 n (Scalar.addi r 1#32) (stepAct T v91 act) (stepKept T v91 act kept) else kept

/-- The block of the suppression matrix stored first in a trip: column block `2 t2`. -/
def Tt1 (B : FVec F S1x4x5120 .f32) (sc ky ar : FVec F S1x5120 .f32) (t1 : Fin k0_t1_loop.trips) (t2 : Fin k0_t2_loop.trips) : IVec S8x128 32 :=
  k0_pay18 k0_pay2 (k0_pay7 (vblk sc t1)) (k0_pay8 (vblk ky t1)) (k0_pay10 t1) (vblk sc (2 * t2)) (vblk ky (2 * t2))
    (k0_pay15 0#32 1#32 t2)
    (k0_pay16 (k0_pay3 (bblk B 0 t1)) (k0_pay4 (bblk B 1 t1)) (k0_pay5 (bblk B 2 t1)) (k0_pay6 (bblk B 3 t1))
      (bblk B 0 (2 * t2)) (bblk B 1 (2 * t2)) (bblk B 2 (2 * t2)) (bblk B 3 (2 * t2)))
    (k0_pay17 (k0_pay3 (bblk B 0 t1)) (k0_pay4 (bblk B 1 t1)) (k0_pay5 (bblk B 2 t1)) (k0_pay6 (bblk B 3 t1)) (k0_pay9 (vblk ar t1))
      (bblk B 0 (2 * t2)) (bblk B 1 (2 * t2)) (bblk B 2 (2 * t2)) (bblk B 3 (2 * t2)) (vblk ar (2 * t2)))

/-- The block stored second: column block `2 t2 + 1`. -/
def Tt2 (B : FVec F S1x4x5120 .f32) (sc ky ar : FVec F S1x5120 .f32) (t1 : Fin k0_t1_loop.trips) (t2 : Fin k0_t2_loop.trips) : IVec S8x128 32 :=
  k0_pay11 (vblk ky t1) (vblk ky (2 * t2 + 1))
    (k0_pay22 (k0_pay3 (bblk B 0 t1)) (k0_pay4 (bblk B 1 t1)) (k0_pay5 (bblk B 2 t1)) (k0_pay6 (bblk B 3 t1)) (k0_pay7 (vblk sc t1))
      (k0_pay9 (vblk ar t1)) (k0_pay10 t1) (Scalar.addi (Scalar.muli (Scf.iv 0#32 1#32 t2) 256#32) 128#32)
      (k0_pay19 (bblk B 0 (2 * t2 + 1))) (k0_pay20 (bblk B 1 (2 * t2 + 1))) (k0_pay21 (bblk B 2 (2 * t2 + 1)))
      (bblk B 3 (2 * t2 + 1)) (vblk sc (2 * t2 + 1)) (vblk ar (2 * t2 + 1)))

theorem trips1 : k0_t1_loop.trips = 40 := by decide +kernel
theorem trips2 : k0_t2_loop.trips = 20 := by decide +kernel
theorem trips3 : k0_t3_loop.trips = 40 := by decide +kernel
theorem trips4 : k0_t4_loop.trips = 10 := by decide +kernel
theorem trips5 : k0_t5_loop.trips = 10 := by decide +kernel
theorem trips6 : k0_t6_loop.trips = 40 := by decide +kernel
theorem trips7 : k0_t7_loop.trips = 10 := by decide +kernel
theorem trips8 : k0_t8_loop.trips = 10 := by decide +kernel

/-- The packed suppression matrix: word `(w, i)` holds for sixteen boxes from `16 w` whether they suppress box `i`. -/
def TM (B : FVec F S1x4x5120 .f32) (sc ky ar : FVec F S1x5120 .f32) : S320x5120.Idx → BitVec 32 :=
  fun y =>
    let t1 : Fin k0_t1_loop.trips := ⟨(y 0).val / 8, by rw [trips1]; have := (y 0).isLt; change (y 0).val < 320 at this; omega⟩
    let t2 : Fin k0_t2_loop.trips := ⟨(y 1).val / 256, by rw [trips2]; have := (y 1).isLt; change (y 1).val < 5120 at this; omega⟩
    let z : S8x128.Idx := ix2 ⟨(y 0).val % 8, Nat.mod_lt _ (by decide)⟩ ⟨(y 1).val % 128, Nat.mod_lt _ (by decide)⟩
    if (y 1).val % 256 < 128 then Tt1 B sc ky ar t1 t2 z else Tt2 B sc ky ar t1 t2 z

/-- The iota over the classes that the argmax selects from. -/
def io21 : IVec S21x5120 32 := iota .tc S21x5120 32 [0] iota_S21x5120_d0_w32

/-- The foreground row: one where the argmax class is not the background. -/
def fgRow (x3 : FVec F S1x21x5120 .f32) : FVec F S1x5120 .f32 :=
  k0_pay1 (k0_pay29 (k0_pay25 x3) (k0_pay27 x3) io21)

/-- The score row. -/
def scRow (x3 : FVec F S1x21x5120 .f32) : FVec F S1x5120 .f32 := k0_pay30 (k0_pay27 x3)

/-- The key row: the class, or a number of its own for a background box. -/
def kyRow (x3 : FVec F S1x21x5120 .f32) : FVec F S1x5120 .f32 :=
  k0_pay31 (k0_pay25 x3) (k0_pay27 x3) io21

/-- The area row. -/
def arRow (x1 x2 : FVec F S1x4x5120 .f32) : FVec F S1x5120 .f32 := k0_pay32 (k0_pay23 x1 x2)

/-- What the kernel stores into its third result: the kept row. -/
def K6 (x1 x2 : FVec F S1x4x5120 .f32) (x3 : FVec F S1x21x5120 .f32) : FVec F S1x1x5120 .f32 :=
  k0_pay13 (rounds (TM (k0_pay24 x1 x2) (scRow x3) (kyRow x3) (arRow x1 x2)) k0_pay2 5121 0#32 (fgRow x3) k0_pay12)

end Cert.Proof.KI
end
-- ==== Proof.KI.Trips.lean ====
module

public import proofs.«01_k».proof.Proof.KI.Fns

@[expose] public section

set_option maxRecDepth 16384

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

section reads
variable {Val : EltTy → Type} {κ : Kind} {sp : Space} {e : EltTy}

theorem readAt_vblk (v : View sig κ sp S1x5120 e) (f : v.ty.Contents Val) (b : ℕ) {off : Fin 2 → ℕ}
    (inb : ∀ a, off a + S1x128.size a ≤ S1x5120.size a) (h : off = ![0, 128 * b]) :
    v.readAt Val (Rect.unit (s := S1x5120) off S1x128.size inb).toLoadRect f = vblk (v.read Val f) b := by
  subst h; rw [View.readAt_unit v f inb rfl inb]
  funext z
  have hb := inb 1
  change 128 * b + 128 ≤ 5120 at hb
  have hz : (z 1).val < 128 := (z 1).isLt
  have hz0 : (z 0).val < 1 := (z 0).isLt
  refine congrArg (v.read Val f) (funext fun a => Fin.ext ?_)
  match a with
  | 0 => change 0 + 1 * (z 0).val = 0; omega
  | 1 => change 128 * b + 1 * (z 1).val = (128 * b + (z 1).val) % 5120; omega

theorem readAt_row8 (v : View sig κ sp S8x5120 e) (f : v.ty.Contents Val) (r : Fin 8) (b : ℕ) {off : Fin 2 → ℕ}
    (inb : ∀ a, off a + S1x128.size a ≤ S8x5120.size a) (h : off = ![r.val, 128 * b]) (R : S1x5120.Idx → Val e)
    (hR : ∀ j : Fin 5120, v.read Val f (ix2 r j) = R (ix2 0 j)) :
    v.readAt Val (Rect.unit (s := S8x5120) off S1x128.size inb).toLoadRect f = vblk R b := by
  subst h; rw [View.readAt_unit v f inb rfl inb]
  funext z
  have hb := inb 1
  change 128 * b + 128 ≤ 5120 at hb
  have hz : (z 1).val < 128 := (z 1).isLt
  have hz0 : (z 0).val < 1 := (z 0).isLt
  refine Eq.trans (congrArg (v.read Val f) (funext fun a => Fin.ext ?_)) (hR _)
  match a with
  | 0 => change r.val + 1 * (z 0).val = r.val; omega
  | 1 => change 128 * b + 1 * (z 1).val = (128 * b + (z 1).val) % 5120; omega

theorem readAt_bblk (v : View sig κ sp S1x4x5120 e) (f : v.ty.Contents Val) (r : Fin 4) (b : ℕ) {off : Fin 3 → ℕ}
    (inb : ∀ a, off a + S1x1x128.size a ≤ S1x4x5120.size a) (h : off = ![0, r.val, 128 * b]) :
    v.readAt Val (Rect.unit (s := S1x4x5120) off S1x1x128.size inb).toLoadRect f = bblk (v.read Val f) r b := by
  subst h; rw [View.readAt_unit v f inb rfl inb]
  funext z
  have hb := inb 2
  change 128 * b + 128 ≤ 5120 at hb
  have hz : (z 2).val < 128 := (z 2).isLt
  have hz0 : (z 0).val < 1 := (z 0).isLt
  have hz1 : (z 1).val < 1 := (z 1).isLt
  refine congrArg (v.read Val f) (funext fun a => Fin.ext ?_)
  match a with
  | 0 => change 0 + 1 * (z 0).val = 0; omega
  | 1 => change r.val + 1 * (z 1).val = r.val; omega
  | 2 => change 128 * b + 1 * (z 2).val = (128 * b + (z 2).val) % 5120; omega

theorem readAt_tblk (v : View sig κ sp S320x5120 e) (f : v.ty.Contents Val) (r c : ℕ) {off : Fin 2 → ℕ}
    (inb : ∀ a, off a + S32x512.size a ≤ S320x5120.size a) (h : off = ![32 * r, 512 * c]) :
    v.readAt Val (Rect.unit (s := S320x5120) off S32x512.size inb).toLoadRect f = tblk (v.read Val f) r c := by
  subst h; rw [View.readAt_unit v f inb rfl inb]
  funext z
  have hb := inb 1
  have hb0 := inb 0
  change 512 * c + 512 ≤ 5120 at hb
  change 32 * r + 32 ≤ 320 at hb0
  have hz : (z 1).val < 512 := (z 1).isLt
  have hz0 : (z 0).val < 32 := (z 0).isLt
  refine congrArg (v.read Val f) (funext fun a => Fin.ext ?_)
  match a with
  | 0 => change 32 * r + 1 * (z 0).val = (32 * r + (z 0).val) % 320; omega
  | 1 => change 512 * c + 1 * (z 1).val = (512 * c + (z 1).val) % 5120; omega

theorem readAt_pblk (v : View sig κ sp S320x1 e) (f : v.ty.Contents Val) (r : ℕ) {off : Fin 2 → ℕ}
    (inb : ∀ a, off a + S32x1.size a ≤ S320x1.size a) (h : off = ![32 * r, 0]) :
    v.readAt Val (Rect.unit (s := S320x1) off S32x1.size inb).toLoadRect f = pblk (v.read Val f) r := by
  subst h; rw [View.readAt_unit v f inb rfl inb]
  funext z
  have hb0 := inb 0
  change 32 * r + 32 ≤ 320 at hb0
  have hz : (z 1).val < 1 := (z 1).isLt
  have hz0 : (z 0).val < 32 := (z 0).isLt
  refine congrArg (v.read Val f) (funext fun a => Fin.ext ?_)
  match a with
  | 0 => change 32 * r + 1 * (z 0).val = (32 * r + (z 0).val) % 320; omega
  | 1 => change 0 + 1 * (z 1).val = 0; omega

/-- Storing an `8 × 1` block at rows `8 k …` extends what is known of the first `8 k` rows to `8 (k + 1)`. -/
theorem grow_pack (v : View sig κ sp S320x1 e) (f : v.ty.Contents Val) (k : ℕ) {off : Fin 2 → ℕ}
    (inb : ∀ a, off a + S8x1.size a ≤ S320x1.size a) (h : off = ![8 * k, 0]) (w : S8x1.Idx → Val e) (G : S320x1.Idx → Val e)
    (hf : ∀ y : S320x1.Idx, (y 0).val < 8 * k → v.read Val f y = G y)
    (hw : ∀ y : S320x1.Idx, (y 0).val / 8 = k → w (ix2 ⟨(y 0).val % 8, Nat.mod_lt _ (by decide)⟩ 0) = G y) :
    ∀ y : S320x1.Idx, (y 0).val < 8 * (k + 1) →
      v.read Val (v.writes Val f [⟨Rect.unit off S8x1.size inb, w⟩]) y = G y := by
  intro y hy
  have hy1 : (y 1).val < 1 := (y 1).isLt
  by_cases hc : (y 0).val < 8 * k
  · rw [View.read_writes_cons_unit_of_not_mem v f inb w [] y h 0 (Or.inl hc)]
    exact hf y hc
  · rw [← hw y (by omega)]
    refine View.read_writes_cons_unit_of_mem v f inb w [] y _ h fun a => ?_
    match a with
    | 0 => change (y 0).val = 8 * k + (y 0).val % 8; omega
    | 1 => change (y 1).val = 0 + 0; omega

/-- Storing a `1 × 512` block at columns `512 k …` extends what is known of the first `512 k` columns. -/
theorem grow_hit (v : View sig κ sp S1x5120 e) (f : v.ty.Contents Val) (k : ℕ) {off : Fin 2 → ℕ}
    (inb : ∀ a, off a + S1x512.size a ≤ S1x5120.size a) (h : off = ![0, 512 * k]) (w : S1x512.Idx → Val e) (G : S1x5120.Idx → Val e)
    (hf : ∀ y : S1x5120.Idx, (y 1).val < 512 * k → v.read Val f y = G y)
    (hw : ∀ y : S1x5120.Idx, (y 1).val / 512 = k → w (ix2 0 ⟨(y 1).val % 512, Nat.mod_lt _ (by decide)⟩) = G y) :
    ∀ y : S1x5120.Idx, (y 1).val < 512 * (k + 1) →
      v.read Val (v.writes Val f [⟨Rect.unit off S1x512.size inb, w⟩]) y = G y := by
  intro y hy
  have hy0 : (y 0).val < 1 := (y 0).isLt
  by_cases hc : (y 1).val < 512 * k
  · rw [View.read_writes_cons_unit_of_not_mem v f inb w [] y h 1 (Or.inl hc)]
    exact hf y hc
  · rw [← hw y (by omega)]
    refine View.read_writes_cons_unit_of_mem v f inb w [] y _ h fun a => ?_
    match a with
    | 0 => change (y 0).val = 0 + 0; omega
    | 1 => change (y 1).val = 512 * k + (y 1).val % 512; omega

end reads

section
variable (bd : Option Variants.nat.V) (c : Dev nD) (i : grid0.Coords) (arg11 : Memref sig .tc .vmem S1x5120 .f32) (harg11 : arg11.IsWhole)
  (v91 : FVec F S8x128 .bf16) (arg9 : Memref sig .tc .vmem S320x1 .i32) (harg9 : arg9.IsWhole) (arg7 : Memref sig .tc .vmem S320x5120 .i32)
  (harg7 : arg7.IsWhole) (arg10 : Memref sig .tc .vmem S1x5120 .f32) (harg10 : arg10.IsWhole) (arg12 : BitVec 32)
  (arg13 : FVec F S1x5120 .f32) (arg14 : FVec F S1x5120 .f32)

/-- The packing loop: before trip `k` the first `8 k` words hold the packed row. -/
@[instance_reducible] def packInv1 (X : BufTy.Contents (Elt F) arg11.view.ty) :
    LoopInv (M := 𝕄G) frame (wpE (defs₀ (F := F)) Variants.nat (c : Thread nD τ) bd) Set.univ
      k0_t3_loop.lb k0_t3_loop.ub k0_t3_loop.st k0_t3_ok 0#32
      (k0_t3_body (F := F) i arg11 harg11 v91 arg9 harg9 arg7 harg7 arg10 harg10 arg12 arg13 arg14) where
  inv k _ := iprop((arg11.view.loc (c : Thread nD τ) ↦[arg11.view.set]{fullShare} X)
    ∗ ∃ f, ⌜∀ y : S320x1.Idx, (y 0).val < 8 * k → arg9.view.read (Elt F) f y = packE v91 (arg11.view.read (Elt F) X) y⌝
      ∗ (arg9.view.loc (c : Thread nD τ) ↦[arg9.view.set]{fullShare} f))
  step k acc := by
    have hk : k.val < 40 := Nat.lt_of_lt_of_le k.isLt k0_t3_abs.2.1
    unfold k0_t3_body
    iintro ⟨HX, ⟨%f, %hf, HW⟩⟩
    sl_exec
    sl_step
    isplitl [HX]; · iexact HX
    iexists _
    isplitl []
    swap; · iexact HW
    ipureintro
    refine grow_pack arg9.view f k.val _ (k0_off25_eq k) _ _ hf fun y hy => ?_
    rw [readAt_vblk arg11.view X k.val _ (k0_off24_eq k)]
    unfold packE
    rw [hy]

/-- The loop over row groups: the carried row is the running maximum. -/
@[instance_reducible] def accInv1 (Tc : BufTy.Contents (Elt F) arg7.view.ty) (P : BufTy.Contents (Elt F) arg9.view.ty) (k4 : Fin k0_t4_loop.trips) :
    LoopInv (M := 𝕄G) frame (wpE (defs₀ (F := F)) Variants.nat (c : Thread nD τ) bd) Set.univ
      k0_t5_loop.lb k0_t5_loop.ub k0_t5_loop.st k0_t5_ok k0_pay35
      (k0_t5_body (F := F) i arg11 harg11 v91 arg9 harg9 arg7 harg7 arg10 harg10 arg12 arg13 arg14 k4) where
  inv k acc := iprop((arg7.view.loc (c : Thread nD τ) ↦[arg7.view.set]{fullShare} Tc)
    ∗ (arg9.view.loc (c : Thread nD τ) ↦[arg9.view.set]{fullShare} P)
    ∗ ⌜acc = hitAcc (F := F) (arg7.view.read (Elt F) Tc) (arg9.view.read (Elt F) P) k4.val k⌝)
  step k acc := by
    have hk : k.val < 10 := Nat.lt_of_lt_of_le k.isLt k0_t5_abs.2.1
    have hk4 : k4.val < 10 := Nat.lt_of_lt_of_le k4.isLt k0_t4_abs.2.1
    unfold k0_t5_body
    iintro ⟨HT, HP, %hacc⟩
    sl_exec
    sl_step
    isplitl [HT]; · iexact HT
    isplitl [HP]; · iexact HP
    ipureintro
    rw [readAt_tblk arg7.view Tc k.val k4.val _ (k0_off26_eq k4 k), readAt_pblk arg9.view P k.val _ (k0_off27_eq k), hacc]
    rfl

/-- The loop over row groups at the head of a program: it goes on with the maximum over all ten groups. -/
theorem acc_loop1 (Tc : BufTy.Contents (Elt F) arg7.view.ty) (P : BufTy.Contents (Elt F) arg9.view.ty) (k4 : Fin k0_t4_loop.trips)
    {β : Type} {kk : IVec S1x512 32 → Prog (TpuEff nD τ sig (Elt F) (Λ₀ F) .tc) β} {Q : β → sProp 𝕄G} :
    iprop((arg7.view.loc (c : Thread nD τ) ↦[arg7.view.set]{fullShare} Tc) ∗ (arg9.view.loc (c : Thread nD τ) ↦[arg9.view.set]{fullShare} P)) ⊢ iprop((∀ acc, ((arg7.view.loc (c : Thread nD τ) ↦[arg7.view.set]{fullShare} Tc) ∗ (arg9.view.loc (c : Thread nD τ) ↦[arg9.view.set]{fullShare} P)
        ∗ ⌜acc = hitAcc (F := F) (arg7.view.read (Elt F) Tc) (arg9.view.read (Elt F) P) k4.val 10⌝)
        -∗ wp frame (wpE (defs₀ (F := F)) Variants.nat (c : Thread nD τ) bd) Set.univ (kk acc) Q)
      -∗ wp frame (wpE (defs₀ (F := F)) Variants.nat (c : Thread nD τ) bd) Set.univ
          (Scf.Loop.for k0_t5_loop k0_t5_ok k0_pay35 (k0_t5_body (F := F) i arg11 harg11 v91 arg9 harg9 arg7 harg7 arg10 harg10 arg12 arg13 arg14 k4) >>= kk) Q) := by
  have h := exec_loop _ _ _ _ _ _ _ _ _ (accInv1 (F := F) bd c i arg11 harg11 v91 arg9 harg9 arg7 harg7 arg10 harg10 arg12 arg13 arg14 Tc P k4) (kk := kk) (Q := Q)
  rw [show Scf.trips k0_t5_loop.lb k0_t5_loop.ub k0_t5_loop.st = 10 from trips5] at h
  dsimp only [LoopInv.inv, accInv1] at h
  refine BI.BIBase.Entails.trans ?_ h
  iintro ⟨HT, HP⟩
  isplitl [HT]; · iexact HT
  isplitl [HP]; · iexact HP
  ipureintro; rfl

/-- The loop over column groups: before trip `k` the first `512 k` columns hold the hit row. -/
@[instance_reducible] def hitInv1 (Tc : BufTy.Contents (Elt F) arg7.view.ty) (P : BufTy.Contents (Elt F) arg9.view.ty) :
    LoopInv (M := 𝕄G) frame (wpE (defs₀ (F := F)) Variants.nat (c : Thread nD τ) bd) Set.univ
      k0_t4_loop.lb k0_t4_loop.ub k0_t4_loop.st k0_t4_ok 0#32
      (k0_t4_body (F := F) i arg11 harg11 v91 arg9 harg9 arg7 harg7 arg10 harg10 arg12 arg13 arg14) where
  inv k _ := iprop((arg7.view.loc (c : Thread nD τ) ↦[arg7.view.set]{fullShare} Tc)
    ∗ (arg9.view.loc (c : Thread nD τ) ↦[arg9.view.set]{fullShare} P)
    ∗ ∃ f, ⌜∀ y : S1x5120.Idx, (y 1).val < 512 * k → arg10.view.read (Elt F) f y = hitE (arg7.view.read (Elt F) Tc) (arg9.view.read (Elt F) P) y⌝
      ∗ (arg10.view.loc (c : Thread nD τ) ↦[arg10.view.set]{fullShare} f))
  step k acc := by
    have hk4 : k.val < 10 := Nat.lt_of_lt_of_le k.isLt k0_t4_abs.2.1
    unfold k0_t4_body
    iintro ⟨HT, HP, ⟨%f, %hf, HW⟩⟩
    iapply (acc_loop1 (F := F) bd c i arg11 harg11 v91 arg9 harg9 arg7 harg7 arg10 harg10 arg12 arg13 arg14 Tc P k) $$ [HT HP]
    · isplitl [HT] <;> iassumption
    iintro %a ⟨HT, HP, %ha⟩
    sl_exec
    sl_step
    isplitl [HT]; · iexact HT
    isplitl [HP]; · iexact HP
    iexists _
    isplitl []
    swap; · iexact HW
    ipureintro
    refine grow_hit arg10.view f k.val _ (k0_off28_eq k) _ _ hf fun y hy => ?_
    unfold hitE
    rw [hy, ha]
/-- The packing loop: before trip `k` the first `8 k` words hold the packed row. -/
@[instance_reducible] def packInv2 (X : BufTy.Contents (Elt F) arg11.view.ty) :
    LoopInv (M := 𝕄G) frame (wpE (defs₀ (F := F)) Variants.nat (c : Thread nD τ) bd) Set.univ
      k0_t6_loop.lb k0_t6_loop.ub k0_t6_loop.st k0_t6_ok 0#32
      (k0_t6_body (F := F) i arg11 harg11 v91 arg9 harg9 arg7 harg7 arg10 harg10 arg12 arg13 arg14) where
  inv k _ := iprop((arg11.view.loc (c : Thread nD τ) ↦[arg11.view.set]{fullShare} X)
    ∗ ∃ f, ⌜∀ y : S320x1.Idx, (y 0).val < 8 * k → arg9.view.read (Elt F) f y = packE v91 (arg11.view.read (Elt F) X) y⌝
      ∗ (arg9.view.loc (c : Thread nD τ) ↦[arg9.view.set]{fullShare} f))
  step k acc := by
    have hk : k.val < 40 := Nat.lt_of_lt_of_le k.isLt k0_t6_abs.2.1
    unfold k0_t6_body
    iintro ⟨HX, ⟨%f, %hf, HW⟩⟩
    sl_exec
    sl_step
    isplitl [HX]; · iexact HX
    iexists _
    isplitl []
    swap; · iexact HW
    ipureintro
    refine grow_pack arg9.view f k.val _ (k0_off30_eq k) _ _ hf fun y hy => ?_
    rw [readAt_vblk arg11.view X k.val _ (k0_off29_eq k)]
    unfold packE
    rw [hy]
    rfl

/-- The loop over row groups: the carried row is the running maximum. -/
@[instance_reducible] def accInv2 (Tc : BufTy.Contents (Elt F) arg7.view.ty) (P : BufTy.Contents (Elt F) arg9.view.ty) (k4 : Fin k0_t7_loop.trips) :
    LoopInv (M := 𝕄G) frame (wpE (defs₀ (F := F)) Variants.nat (c : Thread nD τ) bd) Set.univ
      k0_t8_loop.lb k0_t8_loop.ub k0_t8_loop.st k0_t8_ok k0_pay41
      (k0_t8_body (F := F) i arg11 harg11 v91 arg9 harg9 arg7 harg7 arg10 harg10 arg12 arg13 arg14 k4) where
  inv k acc := iprop((arg7.view.loc (c : Thread nD τ) ↦[arg7.view.set]{fullShare} Tc)
    ∗ (arg9.view.loc (c : Thread nD τ) ↦[arg9.view.set]{fullShare} P)
    ∗ ⌜acc = hitAcc (F := F) (arg7.view.read (Elt F) Tc) (arg9.view.read (Elt F) P) k4.val k⌝)
  step k acc := by
    have hk : k.val < 10 := Nat.lt_of_lt_of_le k.isLt k0_t8_abs.2.1
    have hk4 : k4.val < 10 := Nat.lt_of_lt_of_le k4.isLt k0_t7_abs.2.1
    unfold k0_t8_body
    iintro ⟨HT, HP, %hacc⟩
    sl_exec
    sl_step
    isplitl [HT]; · iexact HT
    isplitl [HP]; · iexact HP
    ipureintro
    rw [readAt_tblk arg7.view Tc k.val k4.val _ (k0_off31_eq k4 k), readAt_pblk arg9.view P k.val _ (k0_off32_eq k), hacc]
    rfl

/-- The loop over row groups at the head of a program: it goes on with the maximum over all ten groups. -/
theorem acc_loop2 (Tc : BufTy.Contents (Elt F) arg7.view.ty) (P : BufTy.Contents (Elt F) arg9.view.ty) (k4 : Fin k0_t7_loop.trips)
    {β : Type} {kk : IVec S1x512 32 → Prog (TpuEff nD τ sig (Elt F) (Λ₀ F) .tc) β} {Q : β → sProp 𝕄G} :
    iprop((arg7.view.loc (c : Thread nD τ) ↦[arg7.view.set]{fullShare} Tc) ∗ (arg9.view.loc (c : Thread nD τ) ↦[arg9.view.set]{fullShare} P)) ⊢ iprop((∀ acc, ((arg7.view.loc (c : Thread nD τ) ↦[arg7.view.set]{fullShare} Tc) ∗ (arg9.view.loc (c : Thread nD τ) ↦[arg9.view.set]{fullShare} P)
        ∗ ⌜acc = hitAcc (F := F) (arg7.view.read (Elt F) Tc) (arg9.view.read (Elt F) P) k4.val 10⌝)
        -∗ wp frame (wpE (defs₀ (F := F)) Variants.nat (c : Thread nD τ) bd) Set.univ (kk acc) Q)
      -∗ wp frame (wpE (defs₀ (F := F)) Variants.nat (c : Thread nD τ) bd) Set.univ
          (Scf.Loop.for k0_t8_loop k0_t8_ok k0_pay41 (k0_t8_body (F := F) i arg11 harg11 v91 arg9 harg9 arg7 harg7 arg10 harg10 arg12 arg13 arg14 k4) >>= kk) Q) := by
  have h := exec_loop _ _ _ _ _ _ _ _ _ (accInv2 (F := F) bd c i arg11 harg11 v91 arg9 harg9 arg7 harg7 arg10 harg10 arg12 arg13 arg14 Tc P k4) (kk := kk) (Q := Q)
  rw [show Scf.trips k0_t8_loop.lb k0_t8_loop.ub k0_t8_loop.st = 10 from trips8] at h
  dsimp only [LoopInv.inv, accInv2] at h
  refine BI.BIBase.Entails.trans ?_ h
  iintro ⟨HT, HP⟩
  isplitl [HT]; · iexact HT
  isplitl [HP]; · iexact HP
  ipureintro; rfl

/-- The loop over column groups: before trip `k` the first `512 k` columns hold the hit row. -/
@[instance_reducible] def hitInv2 (Tc : BufTy.Contents (Elt F) arg7.view.ty) (P : BufTy.Contents (Elt F) arg9.view.ty) :
    LoopInv (M := 𝕄G) frame (wpE (defs₀ (F := F)) Variants.nat (c : Thread nD τ) bd) Set.univ
      k0_t7_loop.lb k0_t7_loop.ub k0_t7_loop.st k0_t7_ok 0#32
      (k0_t7_body (F := F) i arg11 harg11 v91 arg9 harg9 arg7 harg7 arg10 harg10 arg12 arg13 arg14) where
  inv k _ := iprop((arg7.view.loc (c : Thread nD τ) ↦[arg7.view.set]{fullShare} Tc)
    ∗ (arg9.view.loc (c : Thread nD τ) ↦[arg9.view.set]{fullShare} P)
    ∗ ∃ f, ⌜∀ y : S1x5120.Idx, (y 1).val < 512 * k → arg10.view.read (Elt F) f y = hitE (arg7.view.read (Elt F) Tc) (arg9.view.read (Elt F) P) y⌝
      ∗ (arg10.view.loc (c : Thread nD τ) ↦[arg10.view.set]{fullShare} f))
  step k acc := by
    have hk4 : k.val < 10 := Nat.lt_of_lt_of_le k.isLt k0_t7_abs.2.1
    unfold k0_t7_body
    iintro ⟨HT, HP, ⟨%f, %hf, HW⟩⟩
    iapply (acc_loop2 (F := F) bd c i arg11 harg11 v91 arg9 harg9 arg7 harg7 arg10 harg10 arg12 arg13 arg14 Tc P k) $$ [HT HP]
    · isplitl [HT] <;> iassumption
    iintro %a ⟨HT, HP, %ha⟩
    sl_exec
    sl_step
    isplitl [HT]; · iexact HT
    isplitl [HP]; · iexact HP
    iexists _
    isplitl []
    swap; · iexact HW
    ipureintro
    refine grow_hit arg10.view f k.val _ (k0_off33_eq k) _ _ hf fun y hy => ?_
    unfold hitE
    rw [hy, ha]
    rfl

/-- The packing loop at the head of a program: it goes on with the packed row. -/
theorem pack_loop1 (X : BufTy.Contents (Elt F) arg11.view.ty) (f : BufTy.Contents (Elt F) arg9.view.ty)
    {β : Type} {kk : BitVec 32 → Prog (TpuEff nD τ sig (Elt F) (Λ₀ F) .tc) β} {Q : β → sProp 𝕄G} :
    iprop((arg11.view.loc (c : Thread nD τ) ↦[arg11.view.set]{fullShare} X) ∗ (arg9.view.loc (c : Thread nD τ) ↦[arg9.view.set]{fullShare} f)) ⊢ iprop((∀ acc, ((arg11.view.loc (c : Thread nD τ) ↦[arg11.view.set]{fullShare} X)
        ∗ ∃ f, ⌜arg9.view.read (Elt F) f = packE v91 (arg11.view.read (Elt F) X)⌝ ∗ (arg9.view.loc (c : Thread nD τ) ↦[arg9.view.set]{fullShare} f))
        -∗ wp frame (wpE (defs₀ (F := F)) Variants.nat (c : Thread nD τ) bd) Set.univ (kk acc) Q)
      -∗ wp frame (wpE (defs₀ (F := F)) Variants.nat (c : Thread nD τ) bd) Set.univ
          (Scf.Loop.for k0_t3_loop k0_t3_ok 0#32 (k0_t3_body (F := F) i arg11 harg11 v91 arg9 harg9 arg7 harg7 arg10 harg10 arg12 arg13 arg14) >>= kk) Q) := by
  have h := exec_loop _ _ _ _ _ _ _ _ _ (packInv1 (F := F) bd c i arg11 harg11 v91 arg9 harg9 arg7 harg7 arg10 harg10 arg12 arg13 arg14 X) (kk := kk) (Q := Q)
  rw [show Scf.trips k0_t3_loop.lb k0_t3_loop.ub k0_t3_loop.st = 40 from trips3] at h
  dsimp only [LoopInv.inv, packInv1] at h
  iintro ⟨HX, HW⟩ HK
  iapply h $$ [HX HW]
  · isplitl [HX]; · iexact HX
    iexists f
    isplitl []; · ipureintro; intro y hy; omega
    iexact HW
  iintro %a ⟨HX, ⟨%g, %hg, HW⟩⟩
  iapply HK
  isplitl [HX]; · iexact HX
  iexists g
  isplitl []
  · ipureintro; funext y; exact hg y (y 0).isLt
  iexact HW

/-- The packing loop at the head of a program: it goes on with the packed row. -/
theorem pack_loop2 (X : BufTy.Contents (Elt F) arg11.view.ty) (f : BufTy.Contents (Elt F) arg9.view.ty)
    {β : Type} {kk : BitVec 32 → Prog (TpuEff nD τ sig (Elt F) (Λ₀ F) .tc) β} {Q : β → sProp 𝕄G} :
    iprop((arg11.view.loc (c : Thread nD τ) ↦[arg11.view.set]{fullShare} X) ∗ (arg9.view.loc (c : Thread nD τ) ↦[arg9.view.set]{fullShare} f)) ⊢ iprop((∀ acc, ((arg11.view.loc (c : Thread nD τ) ↦[arg11.view.set]{fullShare} X)
        ∗ ∃ f, ⌜arg9.view.read (Elt F) f = packE v91 (arg11.view.read (Elt F) X)⌝ ∗ (arg9.view.loc (c : Thread nD τ) ↦[arg9.view.set]{fullShare} f))
        -∗ wp frame (wpE (defs₀ (F := F)) Variants.nat (c : Thread nD τ) bd) Set.univ (kk acc) Q)
      -∗ wp frame (wpE (defs₀ (F := F)) Variants.nat (c : Thread nD τ) bd) Set.univ
          (Scf.Loop.for k0_t6_loop k0_t6_ok 0#32 (k0_t6_body (F := F) i arg11 harg11 v91 arg9 harg9 arg7 harg7 arg10 harg10 arg12 arg13 arg14) >>= kk) Q) := by
  have h := exec_loop _ _ _ _ _ _ _ _ _ (packInv2 (F := F) bd c i arg11 harg11 v91 arg9 harg9 arg7 harg7 arg10 harg10 arg12 arg13 arg14 X) (kk := kk) (Q := Q)
  rw [show Scf.trips k0_t6_loop.lb k0_t6_loop.ub k0_t6_loop.st = 40 from trips6] at h
  dsimp only [LoopInv.inv, packInv2] at h
  iintro ⟨HX, HW⟩ HK
  iapply h $$ [HX HW]
  · isplitl [HX]; · iexact HX
    iexists f
    isplitl []; · ipureintro; intro y hy; omega
    iexact HW
  iintro %a ⟨HX, ⟨%g, %hg, HW⟩⟩
  iapply HK
  isplitl [HX]; · iexact HX
  iexists g
  isplitl []
  · ipureintro; funext y; exact hg y (y 0).isLt
  iexact HW

/-- The loop over column groups at the head of a program: it goes on with the hit row. -/
theorem hit_loop1 (Tc : BufTy.Contents (Elt F) arg7.view.ty) (P : BufTy.Contents (Elt F) arg9.view.ty) (f : BufTy.Contents (Elt F) arg10.view.ty)
    {β : Type} {kk : BitVec 32 → Prog (TpuEff nD τ sig (Elt F) (Λ₀ F) .tc) β} {Q : β → sProp 𝕄G} :
    iprop((arg7.view.loc (c : Thread nD τ) ↦[arg7.view.set]{fullShare} Tc) ∗ (arg9.view.loc (c : Thread nD τ) ↦[arg9.view.set]{fullShare} P) ∗ (arg10.view.loc (c : Thread nD τ) ↦[arg10.view.set]{fullShare} f)) ⊢ iprop((∀ acc, ((arg7.view.loc (c : Thread nD τ) ↦[arg7.view.set]{fullShare} Tc) ∗ (arg9.view.loc (c : Thread nD τ) ↦[arg9.view.set]{fullShare} P)
        ∗ ∃ f, ⌜arg10.view.read (Elt F) f = hitE (arg7.view.read (Elt F) Tc) (arg9.view.read (Elt F) P)⌝ ∗ (arg10.view.loc (c : Thread nD τ) ↦[arg10.view.set]{fullShare} f))
        -∗ wp frame (wpE (defs₀ (F := F)) Variants.nat (c : Thread nD τ) bd) Set.univ (kk acc) Q)
      -∗ wp frame (wpE (defs₀ (F := F)) Variants.nat (c : Thread nD τ) bd) Set.univ
          (Scf.Loop.for k0_t4_loop k0_t4_ok 0#32 (k0_t4_body (F := F) i arg11 harg11 v91 arg9 harg9 arg7 harg7 arg10 harg10 arg12 arg13 arg14) >>= kk) Q) := by
  have h := exec_loop _ _ _ _ _ _ _ _ _ (hitInv1 (F := F) bd c i arg11 harg11 v91 arg9 harg9 arg7 harg7 arg10 harg10 arg12 arg13 arg14 Tc P) (kk := kk) (Q := Q)
  rw [show Scf.trips k0_t4_loop.lb k0_t4_loop.ub k0_t4_loop.st = 10 from trips4] at h
  dsimp only [LoopInv.inv, hitInv1] at h
  iintro ⟨HT, HP, HW⟩ HK
  iapply h $$ [HT HP HW]
  · isplitl [HT]; · iexact HT
    isplitl [HP]; · iexact HP
    iexists f
    isplitl []; · ipureintro; intro y hy; omega
    iexact HW
  iintro %a ⟨HT, HP, ⟨%g, %hg, HW⟩⟩
  iapply HK
  isplitl [HT]; · iexact HT
  isplitl [HP]; · iexact HP
  iexists g
  isplitl []
  · ipureintro; funext y; exact hg y (y 1).isLt
  iexact HW

/-- The loop over column groups at the head of a program: it goes on with the hit row. -/
theorem hit_loop2 (Tc : BufTy.Contents (Elt F) arg7.view.ty) (P : BufTy.Contents (Elt F) arg9.view.ty) (f : BufTy.Contents (Elt F) arg10.view.ty)
    {β : Type} {kk : BitVec 32 → Prog (TpuEff nD τ sig (Elt F) (Λ₀ F) .tc) β} {Q : β → sProp 𝕄G} :
    iprop((arg7.view.loc (c : Thread nD τ) ↦[arg7.view.set]{fullShare} Tc) ∗ (arg9.view.loc (c : Thread nD τ) ↦[arg9.view.set]{fullShare} P) ∗ (arg10.view.loc (c : Thread nD τ) ↦[arg10.view.set]{fullShare} f)) ⊢ iprop((∀ acc, ((arg7.view.loc (c : Thread nD τ) ↦[arg7.view.set]{fullShare} Tc) ∗ (arg9.view.loc (c : Thread nD τ) ↦[arg9.view.set]{fullShare} P)
        ∗ ∃ f, ⌜arg10.view.read (Elt F) f = hitE (arg7.view.read (Elt F) Tc) (arg9.view.read (Elt F) P)⌝ ∗ (arg10.view.loc (c : Thread nD τ) ↦[arg10.view.set]{fullShare} f))
        -∗ wp frame (wpE (defs₀ (F := F)) Variants.nat (c : Thread nD τ) bd) Set.univ (kk acc) Q)
      -∗ wp frame (wpE (defs₀ (F := F)) Variants.nat (c : Thread nD τ) bd) Set.univ
          (Scf.Loop.for k0_t7_loop k0_t7_ok 0#32 (k0_t7_body (F := F) i arg11 harg11 v91 arg9 harg9 arg7 harg7 arg10 harg10 arg12 arg13 arg14) >>= kk) Q) := by
  have h := exec_loop _ _ _ _ _ _ _ _ _ (hitInv2 (F := F) bd c i arg11 harg11 v91 arg9 harg9 arg7 harg7 arg10 harg10 arg12 arg13 arg14 Tc P) (kk := kk) (Q := Q)
  rw [show Scf.trips k0_t7_loop.lb k0_t7_loop.ub k0_t7_loop.st = 10 from trips7] at h
  dsimp only [LoopInv.inv, hitInv2] at h
  iintro ⟨HT, HP, HW⟩ HK
  iapply h $$ [HT HP HW]
  · isplitl [HT]; · iexact HT
    isplitl [HP]; · iexact HP
    iexists f
    isplitl []; · ipureintro; intro y hy; omega
    iexact HW
  iintro %a ⟨HT, HP, ⟨%g, %hg, HW⟩⟩
  iapply HK
  isplitl [HT]; · iexact HT
  isplitl [HP]; · iexact HP
  iexists g
  isplitl []
  · ipureintro; funext y; exact hg y (y 1).isLt
  iexact HW

end
end Cert.Proof.KI
end
-- ==== Proof.KI.Round.lean ====
module

public import proofs.«01_k».proof.Proof.KI.Trips

@[expose] public section

set_option maxRecDepth 16384

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

section
variable (bd : Option Variants.nat.V) (c : Dev nD) (i : grid0.Coords) (arg11 : Memref sig .tc .vmem S1x5120 .f32) (harg11 : arg11.IsWhole)
  (v91 : FVec F S8x128 .bf16) (arg9 : Memref sig .tc .vmem S320x1 .i32) (harg9 : arg9.IsWhole) (arg7 : Memref sig .tc .vmem S320x5120 .i32)
  (harg7 : arg7.IsWhole) (arg10 : Memref sig .tc .vmem S1x5120 .f32) (harg10 : arg10.IsWhole) (arg12 : BitVec 32)
  (arg13 : FVec F S1x5120 .f32) (arg14 : FVec F S1x5120 .f32)

/-- What a round holds: the matrix at known contents, the three working rows at any. -/
def roundR (Tc : BufTy.Contents (Elt F) arg7.view.ty) : sProp 𝕄G :=
  iprop((arg7.view.loc (c : Thread nD τ) ↦[arg7.view.set]{fullShare} Tc)
    ∗ (∃ f, (arg9.view.loc (c : Thread nD τ) ↦[arg9.view.set]{fullShare} f))
    ∗ (∃ f, (arg10.view.loc (c : Thread nD τ) ↦[arg10.view.set]{fullShare} f))
    ∗ (∃ f, (arg11.view.loc (c : Thread nD τ) ↦[arg11.view.set]{fullShare} f)))

/-- One round: it yields the new kept row and the new active row. -/
theorem part6_round (Tc : BufTy.Contents (Elt F) arg7.view.ty) :
    roundR (F := F) c arg11 arg9 arg7 arg10 Tc ⊢
      wp frame (wpE (defs₀ (F := F)) Variants.nat (c : Thread nD τ) bd) Set.univ
        (k0_part6 (F := F) i arg11 harg11 v91 arg9 harg9 arg7 harg7 arg10 harg10 arg12 arg13 arg14)
        (fun r => iprop(⌜r = ⟨stepKept (arg7.view.read (Elt F) Tc) v91 arg13 arg14, stepAct (arg7.view.read (Elt F) Tc) v91 arg13, 1#32⟩⌝
          ∗ roundR (F := F) c arg11 arg9 arg7 arg10 Tc)) := by
  rw [k0_part6_eq_skeleton]; unfold k0_part6_skel roundR
  iintro ⟨HT, ⟨%f9, H9⟩, ⟨%f10, H10⟩, ⟨%f11, H11⟩⟩
  sl_exec
  iapply (pack_loop1 (F := F) bd c i arg11 harg11 v91 arg9 harg9 arg7 harg7 arg10 harg10 arg12 arg13 arg14 _ f9) $$ [H11 H9]
  · isplitl [H11] <;> iassumption
  iintro %a ⟨H11, ⟨%g9, %hg9, H9⟩⟩
  iapply (hit_loop1 (F := F) bd c i arg11 harg11 v91 arg9 harg9 arg7 harg7 arg10 harg10 arg12 arg13 arg14 Tc g9 f10) $$ [HT H9 H10]
  · isplitl [HT]; · iexact HT
    isplitl [H9] <;> iassumption
  iintro %a ⟨HT, H9, ⟨%g10, %hg10, H10⟩⟩
  sl_exec
  iapply (pack_loop2 (F := F) bd c i arg11 harg11 v91 arg9 harg9 arg7 harg7 arg10 harg10 arg12 arg13 arg14 _ g9) $$ [H11 H9]
  · isplitl [H11] <;> iassumption
  iintro %b ⟨H11, ⟨%h9, %hh9, H9⟩⟩
  iapply (hit_loop2 (F := F) bd c i arg11 harg11 v91 arg9 harg9 arg7 harg7 arg10 harg10 arg12 arg13 arg14 Tc h9 g10) $$ [HT H9 H10]
  · isplitl [HT]; · iexact HT
    isplitl [H9] <;> iassumption
  iintro %b ⟨HT, H9, ⟨%h10, %hh10, H10⟩⟩
  sl_exec
  sl_step
  isplitl []
  · ipureintro
    have e1 : View.read (Elt F) arg11.view (arg11.view.writes (Elt F) arg11.view.junk (part6_round.sl.H11_1 arg13)) = k0_pay33 arg13 :=
      View.read_writes_full arg11.view _ _ _ _
    rw [e1] at hg9
    rw [hg9] at hg10
    rw [View.readAt_full arg10.view g10, hg10, View.read_writes_full] at hh9
    rw [hh9] at hh10
    rw [View.readAt_full, View.readAt_full, hh10, hg10]
    rfl
  isplitl [HT]; · iexact HT
  isplitl [H9]; · iexists _; iexact H9
  isplitl [H10]; · iexists _; iexact H10
  iexists _; iexact H11

/-- What the rounds from here on do. -/
def roundsW (Tc : BufTy.Contents (Elt F) arg7.view.ty) (n : ℕ) :
    sWPT 𝕄G (BitVec 32 × FVec F S1x5120 .f32 × FVec F S1x5120 .f32) := do
  sWPT.consume (roundR (F := F) c arg11 arg9 arg7 arg10 Tc)
  let r ← sWPT.arbitrary
  sWPT.assume (r.2.2 = rounds (arg7.view.read (Elt F) Tc) v91 n arg12 arg13 arg14)
  sWPT.produce (roundR (F := F) c arg11 arg9 arg7 arg10 Tc)
  pure r

theorem roundsW_apply (Tc : BufTy.Contents (Elt F) arg7.view.ty) (n : ℕ)
    (K : BitVec 32 × FVec F S1x5120 .f32 × FVec F S1x5120 .f32 → sProp 𝕄G) :
    roundsW (F := F) c arg11 v91 arg9 arg7 arg10 arg12 arg13 arg14 Tc n K
      = iprop(roundR (F := F) c arg11 arg9 arg7 arg10 Tc
          ∗ ∀ r, ⌜r.2.2 = rounds (arg7.view.read (Elt F) Tc) v91 n arg12 arg13 arg14⌝
            -∗ (roundR (F := F) c arg11 arg9 arg7 arg10 Tc -∗ K r)) := rfl

end

/-- The counter one up. -/
theorem toNat_up (r : BitVec 32) (n : ℕ) (hr : r.toNat + (n + 1) = 5120) : (Scalar.addi r 1#32).toNat + n = 5120 := by
  show (r + 1#32).toNat + n = 5120
  rw [BitVec.toNat_add]
  show (r.toNat + 1) % 4294967296 + n = 5120
  omega

/-- At the last value of the counter no further round runs. -/
theorem goOn_last (r : BitVec 32) (act : FVec F S1x5120 .f32) (hr : r.toNat = 5120) : ¬ goOn r act = 1#1 := by
  have e : r = 5120#32 := BitVec.eq_of_toNat_eq (by rw [hr]; rfl)
  subst e
  unfold goOn
  rw [show Scalar.cmpi .slt (5120#32 : BitVec 32) 5120#32 = 0#1 from by decide]
  generalize Scalar.cmpf .ogt (k0_pay14 act) _ = b
  revert b; decide

/-- The rounds, by induction on how far the counter is from its bound. -/
theorem rounds_le (c : Dev nD) (i : grid0.Coords) (arg11 : Memref sig .tc .vmem S1x5120 .f32) (harg11 : arg11.IsWhole)
    (v91 : FVec F S8x128 .bf16) (arg9 : Memref sig .tc .vmem S320x1 .i32) (harg9 : arg9.IsWhole) (arg7 : Memref sig .tc .vmem S320x5120 .i32)
    (harg7 : arg7.IsWhole) (arg10 : Memref sig .tc .vmem S1x5120 .f32) (harg10 : arg10.IsWhole)
    (Tc : BufTy.Contents (Elt F) arg7.view.ty) :
    ∀ (n : ℕ) (arg12 : BitVec 32) (arg13 arg14 : FVec F S1x5120 .f32) (K : BitVec 32 × FVec F S1x5120 .f32 × FVec F S1x5120 .f32 → sProp 𝕄G),
      arg12.toNat + n = 5120 →
      roundsW (F := F) c arg11 v91 arg9 arg7 arg10 arg12 arg13 arg14 Tc (n + 1) K ⊢
        wp frame (wpE (defs₀ (F := F)) Variants.nat (c : Thread nD τ) (some n)) Set.univ
          (defs₀ (F := F) .tc 1 ⟨i, arg11, harg11, v91, arg9, harg9, arg7, harg7, arg10, harg10, arg12, arg13, arg14⟩) K
  | n, arg12, arg13, arg14, K, hn => by
    rw [roundsW_apply]
    show _ ⊢ wp frame (wpE (defs₀ (F := F)) Variants.nat (c : Thread nD τ) (some n)) Set.univ
      (cc0_while1 (F := F) i arg11 harg11 v91 arg9 harg9 arg7 harg7 arg10 harg10 arg12 arg13 arg14) K
    rw [cc0_while1_eq_skeleton]; unfold cc0_while1_skel
    by_cases hgo : goOn arg12 arg13 = 1#1
    · match n, hn with
      | 0, hn => exact absurd hgo (goOn_last _ _ (by omega))
      | n + 1, hn =>
        simp only [goOn] at hgo
        simp only [if_pos hgo]
        iintro ⟨HR, HK⟩
        rw [wp_bind]
        iapply (wp_wand_r frame (wpE (defs₀ (F := F)) Variants.nat (c : Thread nD τ) (some (n + 1))) Set.univ)
        isplitl [HR]
        · iapply (part6_round (F := F) (some (n + 1)) c i arg11 harg11 v91 arg9 harg9 arg7 harg7 arg10 harg10 arg12 arg13 arg14 Tc)
          iexact HR
        iintro %r ⟨%hr, HR⟩
        subst hr
        iapply (wp_call_spec Variants.nat (c : Thread nD τ) (some (n + 1)) Set.univ
          (roundsW (F := F) c arg11 v91 arg9 arg7 arg10 (Scalar.addi arg12 1#32) (stepAct (arg7.view.read (Elt F) Tc) v91 arg13)
            (stepKept (arg7.view.read (Elt F) Tc) v91 arg13 arg14) Tc (n + 1)) n
          (fun u hu => by cases hu; exact Nat.lt_succ_self n)
          (fun K => rounds_le c i arg11 harg11 v91 arg9 harg9 arg7 harg7 arg10 harg10 Tc n _ _ _ K (toNat_up arg12 n hn)))
        rw [roundsW_apply]
        isplitl [HR]; · iexact HR
        iintro %r %hr HR
        rw [wp_ret]; imodintro
        iapply HK $$ %r %?_ HR
        rw [hr]
        conv_rhs => rw [rounds, if_pos (show goOn arg12 arg13 = 1#1 from hgo)]
    · simp only [goOn] at hgo
      simp only [if_neg hgo]
      iintro ⟨HR, HK⟩
      sl_step
      iapply HK $$ %(arg12, arg13, arg14) %?_ HR
      rw [rounds, if_neg (show ¬ goOn arg12 arg13 = 1#1 from hgo)]

end Cert.Proof.KI
end
-- ==== Proof.KI.Matrix.lean ====
module

public import proofs.«01_k».proof.Proof.KI.Trips

@[expose] public section

set_option maxRecDepth 16384

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

section
variable (bd : Option Variants.nat.V) (c : Dev nD) (i : grid0.Coords)
  (arg1 : Memref sig .tc .vmem S1x4x5120 .f32) (harg1 : arg1.IsWhole) (arg2 : Memref sig .tc .vmem S1x4x5120 .f32) (harg2 : arg2.IsWhole)
  (arg3 : Memref sig .tc .vmem S1x21x5120 .f32) (harg3 : arg3.IsWhole) (arg4 : Memref sig .tc .vmem S1x4x5120 .f32) (harg4 : arg4.IsWhole)
  (arg5 : Memref sig .tc .vmem S1x21x5120 .f32) (harg5 : arg5.IsWhole) (arg6 : Memref sig .tc .vmem S1x1x5120 .f32) (harg6 : arg6.IsWhole)
  (arg7 : Memref sig .tc .vmem S320x5120 .i32) (harg7 : arg7.IsWhole) (arg8 : Memref sig .tc .vmem S8x5120 .f32) (harg8 : arg8.IsWhole)
  (arg9 : Memref sig .tc .vmem S320x1 .i32) (harg9 : arg9.IsWhole) (arg10 : Memref sig .tc .vmem S1x5120 .f32) (harg10 : arg10.IsWhole)
  (arg11 : Memref sig .tc .vmem S1x5120 .f32) (harg11 : arg11.IsWhole)
  (B : BufTy.Contents (Elt F) arg4.view.ty) (A : BufTy.Contents (Elt F) arg8.view.ty) (sc ky ar : FVec F S1x5120 .f32)
  (hsc : ∀ j : Fin 5120, arg8.view.read (Elt F) A (ix2 0 j) = sc (ix2 0 j))
  (hky : ∀ j : Fin 5120, arg8.view.read (Elt F) A (ix2 1 j) = ky (ix2 0 j))
  (har : ∀ j : Fin 5120, arg8.view.read (Elt F) A (ix2 2 j) = ar (ix2 0 j))

/-- What is known of the matrix words: the row groups before `t1`, and of row group `t1` the first `256 k` columns. -/
def Known (G : S320x5120.Idx → BitVec 32) (t1 k : ℕ) (x : S320x5120.Idx → BitVec 32) : Prop :=
  ∀ y : S320x5120.Idx, (y 0).val < 8 * t1 ∨ ((y 0).val / 8 = t1 ∧ (y 1).val < 256 * k) → x y = G y

/-- Two stores side by side extend what is known by 256 columns. -/
theorem Known.grow {κ : Kind} {sp : Space} (v : View sig κ sp S320x5120 .i32) (f : v.ty.Contents (Elt F)) (G : S320x5120.Idx → BitVec 32)
    (t1 k : ℕ) (hk : k < 20) {off off' : Fin 2 → ℕ}
    (inb : ∀ a, off a + S8x128.size a ≤ S320x5120.size a) (inb' : ∀ a, off' a + S8x128.size a ≤ S320x5120.size a)
    (h : off = ![8 * t1, 256 * k]) (h' : off' = ![8 * t1, 256 * k + 128]) (w w' : S8x128.Idx → BitVec 32)
    (hf : Known G t1 k (v.read (Elt F) f))
    (hw : ∀ y : S320x5120.Idx, (y 0).val / 8 = t1 → (y 1).val / 256 = k → (y 1).val % 256 < 128 →
      w (ix2 ⟨(y 0).val % 8, Nat.mod_lt _ (by decide)⟩ ⟨(y 1).val % 128, Nat.mod_lt _ (by decide)⟩) = G y)
    (hw' : ∀ y : S320x5120.Idx, (y 0).val / 8 = t1 → (y 1).val / 256 = k → ¬ (y 1).val % 256 < 128 →
      w' (ix2 ⟨(y 0).val % 8, Nat.mod_lt _ (by decide)⟩ ⟨(y 1).val % 128, Nat.mod_lt _ (by decide)⟩) = G y) :
    Known G t1 (k + 1) (v.read (Elt F) (v.writes (Elt F) f [⟨Rect.unit (s := S320x5120) off' S8x128.size inb', w'⟩, ⟨Rect.unit (s := S320x5120) off S8x128.size inb, w⟩])) := by
  intro y hy
  by_cases hc : (y 0).val < 8 * t1 ∨ ((y 0).val / 8 = t1 ∧ (y 1).val < 256 * k)
  · have o' : v.read (Elt F) (v.writes (Elt F) f [⟨Rect.unit (s := S320x5120) off' S8x128.size inb', w'⟩, ⟨Rect.unit (s := S320x5120) off S8x128.size inb, w⟩]) y
        = v.read (Elt F) (v.writes (Elt F) f [⟨Rect.unit (s := S320x5120) off S8x128.size inb, w⟩]) y := by
      rcases hc with hc | hc
      · exact View.read_writes_cons_unit_of_not_mem v f inb' w' _ y h' 0 (Or.inl hc)
      · exact View.read_writes_cons_unit_of_not_mem v f inb' w' _ y h' 1 (Or.inl (show (y 1).val < 256 * k + 128 by omega))
    have o : v.read (Elt F) (v.writes (Elt F) f [⟨Rect.unit (s := S320x5120) off S8x128.size inb, w⟩]) y = v.read (Elt F) f y := by
      rcases hc with hc | hc
      · exact View.read_writes_cons_unit_of_not_mem v f inb w [] y h 0 (Or.inl hc)
      · exact View.read_writes_cons_unit_of_not_mem v f inb w [] y h 1 (Or.inl hc.2)
    rw [o', o]; exact hf y hc
  · have h0 : (y 0).val / 8 = t1 := by omega
    have h1 : (y 1).val / 256 = k := by omega
    by_cases h2 : (y 1).val % 256 < 128
    · rw [View.read_writes_cons_unit_of_not_mem v f inb' w' _ y h' 1 (Or.inl (show (y 1).val < 256 * k + 128 by omega)), ← hw y h0 h1 h2]
      refine View.read_writes_cons_unit_of_mem v f inb w [] y _ h fun a => ?_
      match a with
      | 0 => change (y 0).val = 8 * t1 + (y 0).val % 8; omega
      | 1 => change (y 1).val = 256 * k + (y 1).val % 128; omega
    · rw [← hw' y h0 h1 h2]
      refine View.read_writes_cons_unit_of_mem v f inb' w' _ y _ h' fun a => ?_
      match a with
      | 0 => change (y 0).val = 8 * t1 + (y 0).val % 8; omega
      | 1 => change (y 1).val = 256 * k + 128 + (y 1).val % 128; omega

include hsc hky har in
/-- One inner trip of the matrix loop. -/
theorem t2_trip (t1 : Fin k0_t1_loop.trips) (t2 : Fin k0_t2_loop.trips) (a12 : BitVec 32) (acc : Unit)
    (f : BufTy.Contents (Elt F) arg7.view.ty)
    (hf : Known (TM (arg4.view.read (Elt F) B) sc ky ar) t1 t2 (arg7.view.read (Elt F) f)) :
    iprop((arg4.view.loc (c : Thread nD τ) ↦[arg4.view.set]{fullShare} B)
      ∗ (arg8.view.loc (c : Thread nD τ) ↦[arg8.view.set]{fullShare} A)
      ∗ (arg7.view.loc (c : Thread nD τ) ↦[arg7.view.set]{fullShare} f)) ⊢
      (wp frame (wpE (defs₀ (F := F)) Variants.nat (c : Thread nD τ) bd) Set.univ
        (k0_t2_body (F := F) i arg1 harg1 arg2 harg2 arg3 harg3 arg4 harg4 arg5 harg5 arg6 harg6 arg7 harg7 arg8 harg8 arg9 harg9 arg10 harg10 arg11 harg11
          t1 a12 (bblk (arg4.view.read (Elt F) B) 0 t1) (bblk (arg4.view.read (Elt F) B) 1 t1) (bblk (arg4.view.read (Elt F) B) 2 t1)
          (bblk (arg4.view.read (Elt F) B) 3 t1) (vblk sc t1) (vblk ky t1) (vblk ar t1) t2 acc)
        (fun _ => iprop((arg4.view.loc (c : Thread nD τ) ↦[arg4.view.set]{fullShare} B)
          ∗ (arg8.view.loc (c : Thread nD τ) ↦[arg8.view.set]{fullShare} A)
          ∗ (∃ f, ⌜Known (TM (arg4.view.read (Elt F) B) sc ky ar) t1 (t2 + 1) (arg7.view.read (Elt F) f)⌝
              ∗ (arg7.view.loc (c : Thread nD τ) ↦[arg7.view.set]{fullShare} f)))) : sProp 𝕄G) := by
  have h1 : t1.val < 40 := Nat.lt_of_lt_of_le t1.isLt k0_t1_abs.2.1
  have h2 : t2.val < 20 := Nat.lt_of_lt_of_le t2.isLt k0_t2_abs.2.1
  unfold k0_t2_body
  simp only [k0_part1_eq_skeleton, k0_part2_eq_skeleton, k0_part3_eq_skeleton]
  unfold k0_part1_skel k0_part2_skel k0_part3_skel
  iintro ⟨HB, HA, HW⟩
  sl_exec
  sl_step
  isplitl [HB]; · iexact HB
  isplitl [HA]; · iexact HA
  iexists _
  isplitl []
  swap; · iexact HW
  ipureintro
  have e8 := readAt_bblk arg4.view B 0 (2 * t2.val) (k0_off8_inb t2) (by rw [k0_off8_eq, show 128 * (2 * t2.val) = 256 * t2.val from by omega]; rfl)
  have e9 := readAt_bblk arg4.view B 1 (2 * t2.val) (k0_off9_inb t2) (by rw [k0_off9_eq, show 128 * (2 * t2.val) = 256 * t2.val from by omega]; rfl)
  have e10 := readAt_bblk arg4.view B 2 (2 * t2.val) (k0_off10_inb t2) (by rw [k0_off10_eq, show 128 * (2 * t2.val) = 256 * t2.val from by omega]; rfl)
  have e11 := readAt_bblk arg4.view B 3 (2 * t2.val) (k0_off11_inb t2) (by rw [k0_off11_eq, show 128 * (2 * t2.val) = 256 * t2.val from by omega]; rfl)
  have e16 := readAt_bblk arg4.view B 0 (2 * t2.val + 1) (k0_off16_inb t2) (by rw [k0_off16_eq, show 128 * (2 * t2.val + 1) = 256 * t2.val + 128 from by omega]; rfl)
  have e17 := readAt_bblk arg4.view B 1 (2 * t2.val + 1) (k0_off17_inb t2) (by rw [k0_off17_eq, show 128 * (2 * t2.val + 1) = 256 * t2.val + 128 from by omega]; rfl)
  have e18 := readAt_bblk arg4.view B 2 (2 * t2.val + 1) (k0_off18_inb t2) (by rw [k0_off18_eq, show 128 * (2 * t2.val + 1) = 256 * t2.val + 128 from by omega]; rfl)
  have e19 := readAt_bblk arg4.view B 3 (2 * t2.val + 1) (k0_off19_inb t2) (by rw [k0_off19_eq, show 128 * (2 * t2.val + 1) = 256 * t2.val + 128 from by omega]; rfl)
  have e12 := readAt_row8 arg8.view A 0 (2 * t2.val) (k0_off12_inb t2) (by rw [k0_off12_eq, show 128 * (2 * t2.val) = 256 * t2.val from by omega]; rfl) sc hsc
  have e13 := readAt_row8 arg8.view A 1 (2 * t2.val) (k0_off13_inb t2) (by rw [k0_off13_eq, show 128 * (2 * t2.val) = 256 * t2.val from by omega]; rfl) ky hky
  have e14 := readAt_row8 arg8.view A 2 (2 * t2.val) (k0_off14_inb t2) (by rw [k0_off14_eq, show 128 * (2 * t2.val) = 256 * t2.val from by omega]; rfl) ar har
  have e20 := readAt_row8 arg8.view A 0 (2 * t2.val + 1) (k0_off20_inb t2) (by rw [k0_off20_eq, show 128 * (2 * t2.val + 1) = 256 * t2.val + 128 from by omega]; rfl) sc hsc
  have e21 := readAt_row8 arg8.view A 1 (2 * t2.val + 1) (k0_off21_inb t2) (by rw [k0_off21_eq, show 128 * (2 * t2.val + 1) = 256 * t2.val + 128 from by omega]; rfl) ky hky
  have e22 := readAt_row8 arg8.view A 2 (2 * t2.val + 1) (k0_off22_inb t2) (by rw [k0_off22_eq, show 128 * (2 * t2.val + 1) = 256 * t2.val + 128 from by omega]; rfl) ar har
  refine Known.grow arg7.view f _ t1.val t2.val h2 _ _ (k0_off15_eq t1 t2) (k0_off23_eq t1 t2) _ _ hf (fun y y0 y1 y2 => ?_) (fun y y0 y1 y2 => ?_)
  · dsimp only
    simp only [e8, e9, e10, e11, e16, e17, e18, e19, e12, e13, e14, e20, e21, e22]
    unfold TM
    simp only [y0, y1, if_pos y2]
    rfl
  · dsimp only
    simp only [e8, e9, e10, e11, e16, e17, e18, e19, e12, e13, e14, e20, e21, e22]
    unfold TM
    simp only [y0, y1, if_neg y2]
    rfl

include hsc hky har in
/-- The matrix loop: before outer trip `k` the first `8 k` word rows hold the packed matrix. -/
@[instance_reducible] def matInv :
    LoopInv (M := 𝕄G) frame (wpE (defs₀ (F := F)) Variants.nat (c : Thread nD τ) bd) Set.univ
      k0_t1_loop.lb k0_t1_loop.ub k0_t1_loop.st k0_t1_ok ()
      (k0_t1_body (F := F) i arg1 harg1 arg2 harg2 arg3 harg3 arg4 harg4 arg5 harg5 arg6 harg6 arg7 harg7 arg8 harg8 arg9 harg9 arg10 harg10 arg11 harg11) where
  inv k _ := iprop((arg4.view.loc (c : Thread nD τ) ↦[arg4.view.set]{fullShare} B)
      ∗ (arg8.view.loc (c : Thread nD τ) ↦[arg8.view.set]{fullShare} A)
      ∗ (∃ f, ⌜Known (TM (arg4.view.read (Elt F) B) sc ky ar) k 0 (arg7.view.read (Elt F) f)⌝
              ∗ (arg7.view.loc (c : Thread nD τ) ↦[arg7.view.set]{fullShare} f)))
  step t1 acc := by
    have h1 : t1.val < 40 := Nat.lt_of_lt_of_le t1.isLt k0_t1_abs.2.1
    unfold k0_t1_body
    iintro ⟨HB, HA, ⟨%f, %hf, HW⟩⟩
    sl_exec
    rw [readAt_bblk arg4.view B 0 t1.val (k0_off1_inb t1) (k0_off1_eq t1), readAt_bblk arg4.view B 1 t1.val (k0_off2_inb t1) (k0_off2_eq t1),
      readAt_bblk arg4.view B 2 t1.val (k0_off3_inb t1) (k0_off3_eq t1), readAt_bblk arg4.view B 3 t1.val (k0_off4_inb t1) (k0_off4_eq t1),
      readAt_row8 arg8.view A 0 t1.val (k0_off5_inb t1) (k0_off5_eq t1) sc hsc, readAt_row8 arg8.view A 1 t1.val (k0_off6_inb t1) (k0_off6_eq t1) ky hky,
      readAt_row8 arg8.view A 2 t1.val (k0_off7_inb t1) (k0_off7_eq t1) ar har]
    iapply (Scf.wp_for_bind frame (wpE (defs₀ (F := F)) Variants.nat (c : Thread nD τ) bd) Set.univ _ _ _ _ _ _
      (fun k _ => iprop((arg4.view.loc (c : Thread nD τ) ↦[arg4.view.set]{fullShare} B)
        ∗ (arg8.view.loc (c : Thread nD τ) ↦[arg8.view.set]{fullShare} A)
        ∗ (∃ f, ⌜Known (TM (arg4.view.read (Elt F) B) sc ky ar) t1 k (arg7.view.read (Elt F) f)⌝
                ∗ (arg7.view.loc (c : Thread nD τ) ↦[arg7.view.set]{fullShare} f)))) ?_) $$ [HB HA HW]
    · intro t2 acc
      iintro ⟨HB, HA, ⟨%g, %hg, HW⟩⟩
      iapply (t2_trip (F := F) bd c i arg1 harg1 arg2 harg2 arg3 harg3 arg4 harg4 arg5 harg5 arg6 harg6 arg7 harg7 arg8 harg8 arg9 harg9 arg10 harg10 arg11 harg11
        B A sc ky ar hsc hky har t1 t2 _ acc g hg)
      isplitl [HB]; · iexact HB
      isplitl [HA]; · iexact HA
      iexact HW
    · isplitl [HB]; · iexact HB
      isplitl [HA]; · iexact HA
      iexists f
      isplitl []; · ipureintro; exact hf
      iexact HW
    iintro %a ⟨HB, HA, ⟨%g, %hg, HW⟩⟩
    sl_step
    isplitl [HB]; · iexact HB
    isplitl [HA]; · iexact HA
    iexists g
    isplitl []
    · ipureintro
      intro y hy
      have hy1 : (y 1).val < 5120 := (y 1).isLt
      refine hg y ?_
      rw [show Scf.trips k0_t2_loop.lb k0_t2_loop.ub k0_t2_loop.st = 20 from trips2]
      omega
    iexact HW

include hsc hky har in
/-- The matrix loop at the head of a program: it goes on with the packed matrix. -/
theorem mat_loop (f : BufTy.Contents (Elt F) arg7.view.ty)
    {β : Type} {kk : Unit → Prog (TpuEff nD τ sig (Elt F) (Λ₀ F) .tc) β} {Q : β → sProp 𝕄G} :
    iprop((arg4.view.loc (c : Thread nD τ) ↦[arg4.view.set]{fullShare} B)
      ∗ (arg8.view.loc (c : Thread nD τ) ↦[arg8.view.set]{fullShare} A)
      ∗ (arg7.view.loc (c : Thread nD τ) ↦[arg7.view.set]{fullShare} f)) ⊢
      iprop((∀ acc, ((arg4.view.loc (c : Thread nD τ) ↦[arg4.view.set]{fullShare} B)
        ∗ (arg8.view.loc (c : Thread nD τ) ↦[arg8.view.set]{fullShare} A)
        ∗ ∃ f, ⌜arg7.view.read (Elt F) f = TM (arg4.view.read (Elt F) B) sc ky ar⌝
              ∗ (arg7.view.loc (c : Thread nD τ) ↦[arg7.view.set]{fullShare} f))
        -∗ wp frame (wpE (defs₀ (F := F)) Variants.nat (c : Thread nD τ) bd) Set.univ (kk acc) Q)
      -∗ wp frame (wpE (defs₀ (F := F)) Variants.nat (c : Thread nD τ) bd) Set.univ
          (Scf.Loop.for k0_t1_loop k0_t1_ok ⟨⟩ (k0_t1_body (F := F) i arg1 harg1 arg2 harg2 arg3 harg3 arg4 harg4 arg5 harg5 arg6 harg6 arg7 harg7 arg8 harg8 arg9 harg9 arg10 harg10 arg11 harg11) >>= kk) Q) := by
  have h := exec_loop _ _ _ _ _ _ _ _ _ (matInv (F := F) bd c i arg1 harg1 arg2 harg2 arg3 harg3 arg4 harg4 arg5 harg5 arg6 harg6 arg7 harg7 arg8 harg8 arg9 harg9 arg10 harg10 arg11 harg11 B A sc ky ar hsc hky har) (kk := kk) (Q := Q)
  rw [show Scf.trips k0_t1_loop.lb k0_t1_loop.ub k0_t1_loop.st = 40 from trips1] at h
  dsimp only [LoopInv.inv, matInv] at h
  iintro ⟨HB, HA, HW⟩ HK
  iapply h $$ [HB HA HW]
  · isplitl [HB]; · iexact HB
    isplitl [HA]; · iexact HA
    iexists f
    isplitl []; · ipureintro; intro y hy; omega
    iexact HW
  iintro %a ⟨HB, HA, ⟨%g, %hg, HW⟩⟩
  iapply HK
  isplitl [HB]; · iexact HB
  isplitl [HA]; · iexact HA
  iexists g
  isplitl []
  · ipureintro; funext y; exact hg y (Or.inl (y 0).isLt)
  iexact HW

end
end Cert.Proof.KI
end
-- ==== Proof.KI.Body.lean ====
module

public import proofs.«01_k».proof.Proof.KI.Round
public import proofs.«01_k».proof.Proof.KI.Matrix

@[expose] public section

set_option maxRecDepth 16384

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

section
variable {Val : EltTy → Type} {κ : Kind} {sp : Space} {e : EltTy}

/-- Reading row 3 after the four rows were stored. -/
theorem read_row3 (v : View sig κ sp S8x5120 e) (f : v.ty.Contents Val) (w3 : S1x5120.Idx → Val e) (L : List (View.Piece Val S8x5120 e)) (j : Fin 5120) :
    v.read Val (v.writes Val f (⟨Rect.unit (s := S8x5120) ![3, 0] S1x5120.size inb_S8x5120_S1x5120_3_0, w3⟩ :: L)) (ix2 3 j) = w3 (ix2 0 j) := by
  refine View.read_writes_cons_unit_of_mem v f _ w3 L _ _ rfl fun a => ?_
  match a with
  | 0 => rfl
  | 1 => change j.val = 0 + j.val; omega

/-- Reading another row skips the store of row 3. -/
theorem skip_row3 (v : View sig κ sp S8x5120 e) (f : v.ty.Contents Val) (w3 : S1x5120.Idx → Val e) (L : List (View.Piece Val S8x5120 e)) (r : Fin 8) (j : Fin 5120)
    (hr : r.val < 3) :
    v.read Val (v.writes Val f (⟨Rect.unit (s := S8x5120) ![3, 0] S1x5120.size inb_S8x5120_S1x5120_3_0, w3⟩ :: L)) (ix2 r j)
      = v.read Val (v.writes Val f L) (ix2 r j) :=
  View.read_writes_cons_unit_of_not_mem v f _ w3 L _ rfl 0 (Or.inl hr)

theorem read_row2 (v : View sig κ sp S8x5120 e) (f : v.ty.Contents Val) (w3 : S1x5120.Idx → Val e) (L : List (View.Piece Val S8x5120 e)) (j : Fin 5120) :
    v.read Val (v.writes Val f (⟨Rect.unit (s := S8x5120) ![2, 0] S1x5120.size inb_S8x5120_S1x5120_2_0, w3⟩ :: L)) (ix2 2 j) = w3 (ix2 0 j) := by
  refine View.read_writes_cons_unit_of_mem v f _ w3 L _ _ rfl fun a => ?_
  match a with
  | 0 => rfl
  | 1 => change j.val = 0 + j.val; omega

theorem skip_row2 (v : View sig κ sp S8x5120 e) (f : v.ty.Contents Val) (w3 : S1x5120.Idx → Val e) (L : List (View.Piece Val S8x5120 e)) (r : Fin 8) (j : Fin 5120)
    (hr : r.val < 2) :
    v.read Val (v.writes Val f (⟨Rect.unit (s := S8x5120) ![2, 0] S1x5120.size inb_S8x5120_S1x5120_2_0, w3⟩ :: L)) (ix2 r j)
      = v.read Val (v.writes Val f L) (ix2 r j) :=
  View.read_writes_cons_unit_of_not_mem v f _ w3 L _ rfl 0 (Or.inl hr)

theorem read_row1 (v : View sig κ sp S8x5120 e) (f : v.ty.Contents Val) (w3 : S1x5120.Idx → Val e) (L : List (View.Piece Val S8x5120 e)) (j : Fin 5120) :
    v.read Val (v.writes Val f (⟨Rect.unit (s := S8x5120) ![1, 0] S1x5120.size inb_S8x5120_S1x5120_1_0, w3⟩ :: L)) (ix2 1 j) = w3 (ix2 0 j) := by
  refine View.read_writes_cons_unit_of_mem v f _ w3 L _ _ rfl fun a => ?_
  match a with
  | 0 => rfl
  | 1 => change j.val = 0 + j.val; omega

theorem skip_row1 (v : View sig κ sp S8x5120 e) (f : v.ty.Contents Val) (w3 : S1x5120.Idx → Val e) (L : List (View.Piece Val S8x5120 e)) (r : Fin 8) (j : Fin 5120)
    (hr : r.val < 1) :
    v.read Val (v.writes Val f (⟨Rect.unit (s := S8x5120) ![1, 0] S1x5120.size inb_S8x5120_S1x5120_1_0, w3⟩ :: L)) (ix2 r j)
      = v.read Val (v.writes Val f L) (ix2 r j) :=
  View.read_writes_cons_unit_of_not_mem v f _ w3 L _ rfl 0 (Or.inl hr)

theorem read_row0 (v : View sig κ sp S8x5120 e) (f : v.ty.Contents Val) (w3 : S1x5120.Idx → Val e) (L : List (View.Piece Val S8x5120 e)) (j : Fin 5120) :
    v.read Val (v.writes Val f (⟨Rect.unit (s := S8x5120) ![0, 0] S1x5120.size inb_S8x5120_S1x5120_0_0, w3⟩ :: L)) (ix2 0 j) = w3 (ix2 0 j) := by
  refine View.read_writes_cons_unit_of_mem v f _ w3 L _ _ rfl fun a => ?_
  match a with
  | 0 => rfl
  | 1 => change j.val = 0 + j.val; omega

/-- A load of row 3. -/
theorem readAt_row3 (v : View sig κ sp S8x5120 e) (f : v.ty.Contents Val) (R : S1x5120.Idx → Val e)
    (hR : ∀ j : Fin 5120, v.read Val f (ix2 3 j) = R (ix2 0 j)) :
    v.readAt Val (Rect.unit (s := S8x5120) ![3, 0] S1x5120.size inb_S8x5120_S1x5120_3_0).toLoadRect f = R := by
  funext z
  have hz0 : (z 0).val < 1 := (z 0).isLt
  have ez : z = ix2 0 (z 1) := by
    funext a
    match a with
    | 0 => exact Fin.ext (by change (z 0).val = 0; omega)
    | 1 => rfl
  rw [ez]
  refine Eq.trans (congrArg (v.read Val f) (funext fun a => Fin.ext ?_)) (hR _)
  match a with
  | 0 => rfl
  | 1 => change 0 + 1 * (z 1).val = (z 1).val; omega

end

section
variable (c : Dev nD) (i : grid0.Coords)
  (arg1 : Memref sig .tc .vmem S1x4x5120 .f32) (harg1 : arg1.IsWhole) (arg2 : Memref sig .tc .vmem S1x4x5120 .f32) (harg2 : arg2.IsWhole)
  (arg3 : Memref sig .tc .vmem S1x21x5120 .f32) (harg3 : arg3.IsWhole) (arg4 : Memref sig .tc .vmem S1x4x5120 .f32) (harg4 : arg4.IsWhole)
  (arg5 : Memref sig .tc .vmem S1x21x5120 .f32) (harg5 : arg5.IsWhole) (arg6 : Memref sig .tc .vmem S1x1x5120 .f32) (harg6 : arg6.IsWhole)
  (arg7 : Memref sig .tc .vmem S320x5120 .i32) (harg7 : arg7.IsWhole) (arg8 : Memref sig .tc .vmem S8x5120 .f32) (harg8 : arg8.IsWhole)
  (arg9 : Memref sig .tc .vmem S320x1 .i32) (harg9 : arg9.IsWhole) (arg10 : Memref sig .tc .vmem S1x5120 .f32) (harg10 : arg10.IsWhole)
  (arg11 : Memref sig .tc .vmem S1x5120 .f32) (harg11 : arg11.IsWhole)

/-- The body at one grid point, from its three input blocks: what it leaves in the three output blocks. -/
theorem body_wp (f1 : BufTy.Contents (Elt F) arg1.view.ty) (f2 : BufTy.Contents (Elt F) arg2.view.ty) (f3 : BufTy.Contents (Elt F) arg3.view.ty)
    (f4 : BufTy.Contents (Elt F) arg4.view.ty) (f5 : BufTy.Contents (Elt F) arg5.view.ty) (f6 : BufTy.Contents (Elt F) arg6.view.ty)
    (f7 : BufTy.Contents (Elt F) arg7.view.ty) (f8 : BufTy.Contents (Elt F) arg8.view.ty) (f9 : BufTy.Contents (Elt F) arg9.view.ty)
    (f10 : BufTy.Contents (Elt F) arg10.view.ty) (f11 : BufTy.Contents (Elt F) arg11.view.ty) :
    iprop((arg1.view.loc (c : Thread nD τ) ↦[arg1.view.set]{fullShare} f1)
      ∗ (arg2.view.loc (c : Thread nD τ) ↦[arg2.view.set]{fullShare} f2)
      ∗ (arg3.view.loc (c : Thread nD τ) ↦[arg3.view.set]{fullShare} f3)
      ∗ (arg4.view.loc (c : Thread nD τ) ↦[arg4.view.set]{fullShare} f4)
      ∗ (arg5.view.loc (c : Thread nD τ) ↦[arg5.view.set]{fullShare} f5)
      ∗ (arg6.view.loc (c : Thread nD τ) ↦[arg6.view.set]{fullShare} f6)
      ∗ (arg7.view.loc (c : Thread nD τ) ↦[arg7.view.set]{fullShare} f7)
      ∗ (arg8.view.loc (c : Thread nD τ) ↦[arg8.view.set]{fullShare} f8)
      ∗ (arg9.view.loc (c : Thread nD τ) ↦[arg9.view.set]{fullShare} f9)
      ∗ (arg10.view.loc (c : Thread nD τ) ↦[arg10.view.set]{fullShare} f10)
      ∗ (arg11.view.loc (c : Thread nD τ) ↦[arg11.view.set]{fullShare} f11)) ⊢
      (wp frame (wpE (defs₀ (F := F)) Variants.nat (c : Thread nD τ) none) Set.univ
        (cc0__body (F := F) i arg1 harg1 arg2 harg2 arg3 harg3 arg4 harg4 arg5 harg5 arg6 harg6 arg7 harg7 arg8 harg8 arg9 harg9 arg10 harg10 arg11 harg11)
        (fun _ => iprop((arg1.view.loc (c : Thread nD τ) ↦[arg1.view.set]{fullShare} f1)
          ∗ (arg2.view.loc (c : Thread nD τ) ↦[arg2.view.set]{fullShare} f2)
          ∗ (arg3.view.loc (c : Thread nD τ) ↦[arg3.view.set]{fullShare} f3)
          ∗ (∃ f, ⌜arg4.view.read (Elt F) f = k0_pay24 (arg1.view.read (Elt F) f1) (arg2.view.read (Elt F) f2)⌝
              ∗ (arg4.view.loc (c : Thread nD τ) ↦[arg4.view.set]{fullShare} f))
          ∗ (∃ f, ⌜arg5.view.read (Elt F) f = k0_pay26 (arg3.view.read (Elt F) f3)⌝
              ∗ (arg5.view.loc (c : Thread nD τ) ↦[arg5.view.set]{fullShare} f))
          ∗ (∃ f, ⌜arg6.view.read (Elt F) f = K6 (arg1.view.read (Elt F) f1) (arg2.view.read (Elt F) f2) (arg3.view.read (Elt F) f3)⌝
              ∗ (arg6.view.loc (c : Thread nD τ) ↦[arg6.view.set]{fullShare} f))
          ∗ (∃ f, (arg7.view.loc (c : Thread nD τ) ↦[arg7.view.set]{fullShare} f))
          ∗ (∃ f, (arg8.view.loc (c : Thread nD τ) ↦[arg8.view.set]{fullShare} f))
          ∗ (∃ f, (arg9.view.loc (c : Thread nD τ) ↦[arg9.view.set]{fullShare} f))
          ∗ (∃ f, (arg10.view.loc (c : Thread nD τ) ↦[arg10.view.set]{fullShare} f))
          ∗ (∃ f, (arg11.view.loc (c : Thread nD τ) ↦[arg11.view.set]{fullShare} f)))) : sProp 𝕄G) := by
  rw [cc0__body_eq_skeleton]; unfold cc0__body_skel
  simp only [k0_part4_eq_skeleton, k0_part5_eq_skeleton]
  unfold k0_part4_skel k0_part5_skel
  iintro ⟨H1, H2, H3, H4, H5, H6, H7, H8, H9, H10, H11⟩
  sl_exec
  ihave H8' : iprop(∃ g, ⌜(∀ j : Fin 5120, arg8.view.read (Elt F) g (ix2 0 j) = scRow (arg3.view.read (Elt F) f3) (ix2 0 j))
      ∧ (∀ j : Fin 5120, arg8.view.read (Elt F) g (ix2 1 j) = kyRow (arg3.view.read (Elt F) f3) (ix2 0 j))
      ∧ (∀ j : Fin 5120, arg8.view.read (Elt F) g (ix2 2 j) = arRow (arg1.view.read (Elt F) f1) (arg2.view.read (Elt F) f2) (ix2 0 j))
      ∧ (∀ j : Fin 5120, arg8.view.read (Elt F) g (ix2 3 j) = fgRow (arg3.view.read (Elt F) f3) (ix2 0 j))⌝
      ∗ (arg8.view.loc (c : Thread nD τ) ↦[arg8.view.set]{fullShare} g)) $$ [H8]
  · iexists _
    isplitl []
    swap; · iexact H8
    ipureintro
    refine ⟨fun j => ?_, fun j => ?_, fun j => ?_, fun j => ?_⟩
    · refine (skip_row3 arg8.view _ _ _ 0 j (by decide)).trans ((skip_row2 arg8.view _ _ _ 0 j (by decide)).trans
        ((skip_row1 arg8.view _ _ _ 0 j (by decide)).trans ((read_row0 arg8.view _ _ _ j).trans ?_)))
      dsimp only
      rw [View.readAt_full]
      rfl
    · refine (skip_row3 arg8.view _ _ _ 1 j (by decide)).trans ((skip_row2 arg8.view _ _ _ 1 j (by decide)).trans
        ((read_row1 arg8.view _ _ _ j).trans ?_))
      dsimp only
      rw [View.readAt_full]
      rfl
    · refine (skip_row3 arg8.view _ _ _ 2 j (by decide)).trans ((read_row2 arg8.view _ _ _ j).trans ?_)
      dsimp only
      rw [View.readAt_full, View.readAt_full]
      rfl
    · refine (read_row3 arg8.view _ _ _ j).trans ?_
      dsimp only
      rw [View.readAt_full]
      rfl
  icases H8' with ⟨%g8, %h8, H8⟩
  ihave H4' : iprop(∃ g, ⌜arg4.view.read (Elt F) g = k0_pay24 (arg1.view.read (Elt F) f1) (arg2.view.read (Elt F) f2)⌝
      ∗ (arg4.view.loc (c : Thread nD τ) ↦[arg4.view.set]{fullShare} g)) $$ [H4]
  · iexists _
    isplitl []
    swap; · iexact H4
    ipureintro
    refine (View.read_writes_full arg4.view _ _ _ _).trans ?_
    rw [View.readAt_full, View.readAt_full]
  icases H4' with ⟨%g4, %h4, H4⟩
  ihave H5' : iprop(∃ g, ⌜arg5.view.read (Elt F) g = k0_pay26 (arg3.view.read (Elt F) f3)⌝
      ∗ (arg5.view.loc (c : Thread nD τ) ↦[arg5.view.set]{fullShare} g)) $$ [H5]
  · iexists _
    isplitl []
    swap; · iexact H5
    ipureintro
    refine (View.read_writes_full arg5.view _ _ _ _).trans ?_
    rw [View.readAt_full]
  icases H5' with ⟨%g5, %h5, H5⟩
  obtain ⟨hsc, hky, har, hfg⟩ := h8
  iapply (mat_loop (F := F) none c i arg1 harg1 arg2 harg2 arg3 harg3 arg4 harg4 arg5 harg5 arg6 harg6 arg7 harg7 arg8 harg8 arg9 harg9 arg10 harg10 arg11 harg11
    g4 g8 _ _ _ hsc hky har f7) $$ [H4 H8 H7]
  · isplitl [H4]; · iexact H4
    isplitl [H8]; · iexact H8
    iexact H7
  iintro %a ⟨H4, H8, ⟨%g7, %h7, H7⟩⟩
  sl_exec
  iapply (wp_call_spec Variants.nat (c : Thread nD τ) none Set.univ
    (roundsW (F := F) c arg11 k0_pay2 arg9 arg7 arg10 0#32 _ k0_pay12 g7 5121) 5120 (fun u hu => nomatch hu)
    (fun K => rounds_le c i arg11 harg11 k0_pay2 arg9 harg9 arg7 harg7 arg10 harg10 g7 5120 0#32 _ k0_pay12 K rfl))
  rw [roundsW_apply]
  isplitl [H7 H9 H10 H11]
  · unfold roundR
    isplitl [H7]; · iexact H7
    isplitl [H9]; · iexists _; iexact H9
    isplitl [H10]; · iexists _; iexact H10
    iexists _; iexact H11
  iintro %r %hr HR
  unfold roundR
  icases HR with ⟨H7, ⟨%q9, H9⟩, ⟨%q10, H10⟩, ⟨%q11, H11⟩⟩
  sl_exec
  sl_step
  isplitl [H1]; · iexact H1
  isplitl [H2]; · iexact H2
  isplitl [H3]; · iexact H3
  isplitl [H4]
  · iexists g4; isplitl []; · ipureintro; exact h4
    iexact H4
  isplitl [H5]
  · iexists g5; isplitl []; · ipureintro; exact h5
    iexact H5
  isplitl [H6]
  · iexists _; isplitl []
    swap; · iexact H6
    ipureintro
    refine (View.read_writes_full arg6.view _ _ _ _).trans ?_
    rw [hr, h7, h4]
    unfold K6
    rw [readAt_row3 arg8.view g8 (fgRow (arg3.view.read (Elt F) f3)) hfg]
  isplitl [H7]; · iexists _; iexact H7
  isplitl [H8]; · iexists _; iexact H8
  isplitl [H9]; · iexists _; iexact H9
  isplitl [H10]; · iexists _; iexact H10
  iexists _; iexact H11

end
end Cert.Proof.KI
end
-- ==== Proof.KI.Run.lean ====
/- The launch of the kernel: its proof data, the body obligation at every grid point, and the run of @main. -/
module

public import proofs.«01_k».proof.Proof.KI.Body
public import proofs.«01_k».proof.Proof.Gen.KernelIdeal.Launch
public import proofs.«01_k».proof.Proof.Gen.KernelIdeal.Points
public import Idealize.ShloMosaic.Lib.Pipeline.FrameSuffix

@[expose] public section

set_option maxRecDepth 16384

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose)

variable {F : FTy → Type} [FloatOps F]

local notation "𝕄G" => MT nD τ sig Unit (Elt F) ℕ (UR sig nD τ) ℕ

/-- The host lines before the region, stretch by stretch. -/
abbrev preOps : List (List (HloOp τ sig (Elt F))) :=
  [hostOps0, hostOps0_1, hostOps0_2, hostOps0_3, hostOps0_4, hostOps0_5, hostOps0_6]

variable (m : (ℓ : Loc nD τ sig) → Buf (Elt F) ℓ) (ρ : Dev nD → PrngReg)

/-- What every buffer of device `c` holds when the region is entered. -/
def V0 (c : Dev nD) : Valuation τ sig (Elt F) := fun b =>
  StableHlo.after (preOps (F := F)).flatten (fun b => m (c, b)) b

/-- The block of boxes at grid point `t`. -/
def X0 (c : Dev nD) (t : Fin (cfg0 (F := F)).N) : S1x4x5120.Idx → Elt F (.f32) :=
  (((cfg0 (F := F)).win 0).blk t).view.read (Elt F) (V0 m c (Proc.devRef .tc (Pipeline.arrRef spec0 0)))
/-- The block of box adjustments at grid point `t`. -/
def X1 (c : Dev nD) (t : Fin (cfg0 (F := F)).N) : S1x4x5120.Idx → Elt F (.f32) :=
  (((cfg0 (F := F)).win 1).blk t).view.read (Elt F) (V0 m c (Proc.devRef .tc (Pipeline.arrRef spec0 1)))
/-- The block of class logits at grid point `t`. -/
def X2 (c : Dev nD) (t : Fin (cfg0 (F := F)).N) : S1x21x5120.Idx → Elt F (.f32) :=
  (((cfg0 (F := F)).win 2).blk t).view.read (Elt F) (V0 m c (Proc.devRef .tc (Pipeline.arrRef spec0 2)))

/-- The proof data of the one pipeline on core `c`: the input blocks as fetched, the three results as the body computes
    them from the point's blocks, the scratch buffers at anything. -/
def dats (_ : Fin 1) (c : Dev nD) : Dat τ (Elt F) Unit ℕ (UR sig nD τ) ℕ (cfg0 (F := F)) c where
  A w := V0 m c (Proc.devRef .tc (Pipeline.arrRef spec0 w))
  after w t := match w with
    | ⟨0, _⟩ => X0 m c t
    | ⟨1, _⟩ => X1 m c t
    | ⟨2, _⟩ => X2 m c t
    | ⟨3, _⟩ => k0_pay24 (X0 m c t) (X1 m c t)
    | ⟨4, _⟩ => k0_pay26 (X2 m c t)
    | ⟨5, _⟩ => K6 (X0 m c t) (X1 m c t) (X2 m c t)
  Φ _ := Pipeline.ΦA spec0 c
  q _ := fullShare
  owed _ := 0

theorem before_0 (c : Dev nD) (t : Fin (cfg0 (F := F)).N) (d) : (dats m 0 c).before (0 : Fin 6) t d = X0 m c t := by
  exact (if_pos (fetch0_0 t)).trans rfl
theorem before_1 (c : Dev nD) (t : Fin (cfg0 (F := F)).N) (d) : (dats m 0 c).before (1 : Fin 6) t d = X1 m c t := by
  exact (if_pos (fetch0_1 t)).trans rfl
theorem before_2 (c : Dev nD) (t : Fin (cfg0 (F := F)).N) (d) : (dats m 0 c).before (2 : Fin 6) t d = X2 m c t := by
  exact (if_pos (fetch0_2 t)).trans rfl

theorem K6_congr {a a' : S1x4x5120.Idx → Elt F .f32} {b b' : S1x4x5120.Idx → Elt F .f32} {d d' : S1x21x5120.Idx → Elt F .f32}
    (h : a = a') (h' : b = b') (h'' : d = d') : K6 a b d = K6 a' b' d' := by rw [h, h', h'']

/-- The body at every grid point takes the fetched blocks to the computed ones. -/
theorem body_obligation (c : Dev nD) : BodyObligation (dats m 0 c) (defs₀ (F := F)) Variants.nat () Set.univ := fun t => by
  rw [show ∀ Φ : Fin (cfg0 (F := F)).W → sProp 𝕄G, bigSep Finset.univ Φ = iprop(Φ (0 : Fin 6) ∗ Φ (1 : Fin 6) ∗ Φ (2 : Fin 6) ∗ Φ (3 : Fin 6) ∗ Φ (4 : Fin 6) ∗ Φ (5 : Fin 6)) from fun Φ => bigSep_W0 Φ]
  rw [show ∀ Φ : Fin (cfg0 (F := F)).W → sProp 𝕄G, bigSep Finset.univ Φ = iprop(Φ (0 : Fin 6) ∗ Φ (1 : Fin 6) ∗ Φ (2 : Fin 6) ∗ Φ (3 : Fin 6) ∗ Φ (4 : Fin 6) ∗ Φ (5 : Fin 6)) from fun Φ => bigSep_W0 Φ]
  change _ ⊢ wp frame (wpE (defs₀ (F := F)) Variants.nat (c : Thread nD τ) none) Set.univ (bodyAt0 t) _
  dsimp only
  rw [show (dats m 0 c).Φ t.castSucc = Pipeline.ΦA spec0 c from rfl, show (dats m 0 c).Φ t.succ = Pipeline.ΦA spec0 c from rfl]
  unfold Pipeline.ΦA
  rw [scopedRest0_eq]
  unfold owns
  iintro ⟨⟨⟨⟨%g7, G7⟩, ⟨%g8, G8⟩, ⟨%g9, G9⟩, ⟨%g10, G10⟩, ⟨%g11, G11⟩⟩, HR⟩, HO, ⟨%d0, %f1, %e1, H1⟩, ⟨%d1, %f2, %e2, H2⟩, ⟨%d2, %f3, %e3, H3⟩, ⟨%d3, %f4, %e4, H4⟩, ⟨%d4, %f5, %e5, H5⟩, ⟨%d5, %f6, %e6, H6⟩⟩
  have e1' := e1.trans (before_0 m c t d0)
  have e2' := e2.trans (before_1 m c t d1)
  have e3' := e3.trans (before_2 m c t d2)
  iapply wp_wand_r
  isplitl [H1 H2 H3 H4 H5 H6 G7 G8 G9 G10 G11]
  · iapply (body_wp (F := F) c (grid0.coords t) (st0_0 t) _ (st0_1 t) _ (st0_2 t) _ (st0_3 t) _ (st0_4 t) _ (st0_5 t) _
      (Memref.whole cc0_scratch0) (Memref.isWhole_whole _) (Memref.whole cc0_scratch1) (Memref.isWhole_whole _) (Memref.whole cc0_scratch2) (Memref.isWhole_whole _)
      (Memref.whole cc0_scratch3) (Memref.isWhole_whole _) (Memref.whole cc0_scratch4) (Memref.isWhole_whole _)
      f1 f2 f3 f4 f5 f6 g7 g8 g9 g10 g11)
    simp only [show ∀ b : Ref sig .tc, (Memref.whole b).view.set = Finset.univ from fun b => View.set_whole b]
    isplitl [H1]; · iexact H1
    isplitl [H2]; · iexact H2
    isplitl [H3]; · iexact H3
    isplitl [H4]; · iexact H4
    isplitl [H5]; · iexact H5
    isplitl [H6]; · iexact H6
    isplitl [G7]; · iexact G7
    isplitl [G8]; · iexact G8
    isplitl [G9]; · iexact G9
    isplitl [G10]; · iexact G10
    iexact G11
  · iintro %_ ⟨H1, H2, H3, ⟨%f4', %e4', H4⟩, ⟨%f5', %e5', H5⟩, ⟨%f6', %e6', H6⟩, ⟨%g7', G7⟩, ⟨%g8', G8⟩, ⟨%g9', G9⟩, ⟨%g10', G10⟩, ⟨%g11', G11⟩⟩
    simp only [show ∀ b : Ref sig .tc, (Memref.whole b).view.set = Finset.univ from fun b => View.set_whole b]
    isplitl [G7 G8 G9 G10 G11 HR]
    · isplitr [HR]
      · isplitl [G7]; · iexists g7'; iexact G7
        isplitl [G8]; · iexists g8'; iexact G8
        isplitl [G9]; · iexists g9'; iexact G9
        isplitl [G10]; · iexists g10'; iexact G10
        iexists g11'; iexact G11
      · iexact HR
    isplitl [HO]; · iexact HO
    isplitl [H1]; · (iexists f1; isplitr; · ipureintro; exact e1'); iexact H1
    isplitl [H2]; · (iexists f2; isplitr; · ipureintro; exact e2'); iexact H2
    isplitl [H3]; · (iexists f3; isplitr; · ipureintro; exact e3'); iexact H3
    isplitl [H4]; · (iexists f4'; isplitr; · ipureintro; exact e4'.trans (congrArg₂ k0_pay24 e1' e2')); iexact H4
    isplitl [H5]; · (iexists f5'; isplitr; · ipureintro; exact e5'.trans (congrArg k0_pay26 e3')); iexact H5
    iexists f6'
    isplitr
    · ipureintro; exact e6'.trans (K6_congr e1' e2' e3')
    iexact H6

/-- The run of @main: every array of the pipeline at what the library computes, every other buffer at what the lines after
    the region leave, and every semaphore counter at zero. -/
theorem run_main : θ_run (defs (F := F)) (onTc (τ := τ) (main (F := F))) ⟨m, fun _ => 0, ρ⟩
    (fun r => Pipeline.FramePost cfgs (dats m) 0 (Pipeline.afterTail₀ cfgs (dats m) 0 (V0 m) [hostOps1]) r ∧ r.2.sem = fun _ => 0) :=
  Pipeline.θ_run_frame_around (cfgs (F := F)) (dats m) 0 launch0 (defs₀ (F := F)) Variants.nat m ρ main
    (fun c => (body_obligation m c).loose)
    (fun c => (dats m 0 c).share_full fun _ => rfl) (fun _ _ => rfl)
    (V0 m) [hostOps1]
    (by
      intro ops h op hop
      rw [List.mem_singleton.mp h] at hop
      exact Pipeline.sub_tailRefs Pipeline.Prefetch.none spec0 op (List.forall_iff_forall_mem.mp hostOps1_sub op hop) fun k => k.elim0)
    (by
      intro ops h op hop
      rw [List.mem_singleton.mp h] at hop
      simp only [List.mem_cons, List.not_mem_nil, _root_.or_false] at hop
      rcases hop with rfl | rfl | rfl | rfl | rfl | rfl | rfl | rfl | rfl <;> rfl)
    (by
      intro ops h op hop w
      rw [List.mem_singleton.mp h] at hop
      simp only [List.mem_cons, List.not_mem_nil, _root_.or_false] at hop
      rcases hop with rfl | rfl | rfl | rfl | rfl | rfl | rfl | rfl | rfl <;> simp <;>
        (obtain ⟨w', hw⟩ : ∃ w' : Fin 6, w' = w := ⟨w, rfl⟩
         subst hw
         change ¬ (spec0 w').arr.view.buf = _
         revert w'
         decide))
    (Pipeline.hmain_around (cfgs (F := F)) 0 (defs₀ (F := F)) Variants.nat m main preOps [hostOps1]
      ⟨hostOps0_sub, hostOps0_1_sub, hostOps0_2_sub, hostOps0_3_sub, hostOps0_4_sub, hostOps0_5_sub, hostOps0_6_sub⟩
      (by refine ⟨?_, ?_, ?_, ?_, ?_, ?_, ?_⟩ <;> (try refine ⟨?_, ?_⟩) <;> rfl) (fun c => main_chain c))
    (fun _ _ => rfl) (fun _ _ => rfl) _ (fun _ h => h)

end Cert.Proof.KI

end
-- ==== Proof.KI.Res.lean ====
/- The results of the run: what @main's buffers hold at its end. -/
module

public import proofs.«01_k».proof.Proof.KI.Run
public import Idealize.ShloMosaic.Lib.Claim
public import Idealize.ShloMosaic.Lib.Pipeline.ValueKit
public import proofs.«01_k».proof.Proof.Gen.KernelIdeal.Launch
public import proofs.«01_k».proof.Proof.Gen.KernelIdeal.Points
public import Idealize.ShloMosaic.Lib.Pipeline.FrameSuffix

@[expose] public section

set_option maxRecDepth 16384

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose)

variable {F : FTy → Type} [FloatOps F]

local notation "𝕄G" => MT nD τ sig Unit (Elt F) ℕ (UR sig nD τ) ℕ

variable (m : (ℓ : Loc nD τ sig) → Buf (Elt F) ℓ) (ρ : Dev nD → PrngReg)

theorem mem_rest (b : Ref sig .tc) (h : b ∈ Pipeline.restRefs sig spec0) : b ∈ Pipeline.restRefs sig (cfgs (F := F) 0).spec := h

/-- What the lines after the region find. -/
abbrev W1 (c : Dev nD) : Valuation τ sig (Elt F) :=
  Pipeline.withArrays (cfgs (F := F) 0).spec c (V0 m c) fun w => (dats m 0 c).arrAt w (cfg0 (F := F)).N

theorem W1_arr (c : Dev nD) (w : Fin 6) : W1 m c (Proc.devRef .tc (Pipeline.arrRef spec0 w)) = (dats m 0 c).arrAt w (cfg0 (F := F)).N :=
  Pipeline.withArrays_arr spec0 winFacts0.arr_inj c (V0 m c) _ w

theorem W1_ne (c : Dev nD) (b : Ref sig .tc) (h : ∀ w : Fin 6, Pipeline.arrRef spec0 w ≠ b) : W1 m c (Proc.devRef .tc b) = V0 m c (Proc.devRef .tc b) :=
  Pipeline.withArrays_of_ne spec0 c (V0 m c) _ b h

theorem V0_arg0 (c : Dev nD) : V0 m c (Proc.devRef .tc main_arg0) = m ((c.tc : Thread nD τ).loc main_arg0) := by
  unfold V0 preOps
  simp only [List.flatten_cons, List.flatten_nil, List.append_nil, List.cons_append, List.nil_append]
  after_results

theorem V0_arg1 (c : Dev nD) : V0 m c (Proc.devRef .tc main_arg1) = m ((c.tc : Thread nD τ).loc main_arg1) := by
  unfold V0 preOps
  simp only [List.flatten_cons, List.flatten_nil, List.append_nil, List.cons_append, List.nil_append]
  after_results

theorem V0_arg2 (c : Dev nD) : V0 m c (Proc.devRef .tc main_arg2) = m ((c.tc : Thread nD τ).loc main_arg2) := by
  unfold V0 preOps
  simp only [List.flatten_cons, List.flatten_nil, List.append_nil, List.cons_append, List.nil_append]
  after_results

theorem V0_arg3 (c : Dev nD) : V0 m c (Proc.devRef .tc main_arg3) = m ((c.tc : Thread nD τ).loc main_arg3) := by
  unfold V0 preOps
  simp only [List.flatten_cons, List.flatten_nil, List.append_nil, List.cons_append, List.nil_append]
  after_results

theorem V0_v1 (c : Dev nD) : V0 m c (Proc.devRef .tc main_v1) = transpose S4x4x5120 [0, 2, 1]
    (pad S4x5120x4 ![0, 0, 0] ![0, 120, 0] ![0, 0, 0] (m ((c.tc : Thread nD τ).loc main_arg0)) (sitofp .f32 (constantI S_ 32 0#32)) pads_S4x5000x4_S4x5120x4_000_01200_000 h_S_) transposes_S4x5120x4_S4x4x5120_0_2_1 := by
  unfold V0 preOps
  simp only [List.flatten_cons, List.flatten_nil, List.append_nil, List.cons_append, List.nil_append]
  after_results
  rfl

theorem V0_v3 (c : Dev nD) : V0 m c (Proc.devRef .tc main_v3) = transpose S4x4x5120 [0, 2, 1]
    (pad S4x5120x4 ![0, 0, 0] ![0, 120, 0] ![0, 0, 0] (m ((c.tc : Thread nD τ).loc main_arg2)) (sitofp .f32 (constantI S_ 32 0#32)) pads_S4x5000x4_S4x5120x4_000_01200_000 h_S_) transposes_S4x5120x4_S4x4x5120_0_2_1 := by
  unfold V0 preOps
  simp only [List.flatten_cons, List.flatten_nil, List.append_nil, List.cons_append, List.nil_append]
  after_results
  rfl

theorem V0_v5 (c : Dev nD) : V0 m c (Proc.devRef .tc main_v5) = transpose S4x21x5120 [0, 2, 1]
    (pad S4x5120x21 ![0, 0, 0] ![0, 120, 0] ![0, 0, 0] (m ((c.tc : Thread nD τ).loc main_arg3)) (sitofp .f32 (constantI S_ 32 0#32)) pads_S4x5000x21_S4x5120x21_000_01200_000 h_S_) transposes_S4x5120x21_S4x21x5120_0_2_1 := by
  unfold V0 preOps
  simp only [List.flatten_cons, List.flatten_nil, List.append_nil, List.cons_append, List.nil_append]
  after_results
  rfl

/-- The grid point of batch entry `b`. -/
def tOf (b : Fin 4) : Fin (cfg0 (F := F)).N := ⟨b.val, by change b.val < grid0.N; rw [N_0]; exact b.isLt⟩

/-- The boxes' array after the run. -/
def G3 (c : Dev nD) : S4x4x5120.Idx → Elt F .f32 := fun i => k0_pay24 (X0 m c (tOf (i 0))) (X1 m c (tOf (i 0))) (ix3 0 (i 1) (i 2))
/-- The class probabilities' array after the run. -/
def G4 (c : Dev nD) : S4x21x5120.Idx → Elt F .f32 := fun i => k0_pay26 (X2 m c (tOf (i 0))) (ix3 0 (i 1) (i 2))
/-- The kept flags' array after the run. -/
def G5 (c : Dev nD) : S4x1x5120.Idx → Elt F .f32 := fun i => K6 (X0 m c (tOf (i 0))) (X1 m c (tOf (i 0))) (X2 m c (tOf (i 0))) (ix3 0 (i 1) (i 2))

theorem tr_coord (t : Fin grid0.N) : (BitVec.ofNat 32 ((grid0.coords t) 0).val).toNat = t.val := by
  rcases fin_N0 t with rfl | rfl | rfl | rfl <;> decide +kernel

theorem ix3_eta {b d : Nat} (y : Shape.Idx ⟨3, ![1, b, d]⟩) : y = ix3 (0 : Fin 1) (y 1) (y 2) := by
  funext k
  match k with
  | 0 => exact Subsingleton.elim (α := Fin 1) _ _
  | 1 => rfl
  | 2 => rfl

/-- The batch entry of a grid point. -/
def bOf (t : Fin (cfg0 (F := F)).N) : Fin 4 := ⟨t.val, by have h := t.isLt; change t.val < grid0.N at h; rw [N_0] at h; exact h⟩

theorem tOf_bOf (t : Fin (cfg0 (F := F)).N) : tOf (F := F) (bOf t) = t := rfl
theorem bOf_tOf (b : Fin 4) : bOf (F := F) (tOf b) = b := rfl

theorem emb0 (t : Fin (cfg0 (F := F)).N) (y : S1x4x5120.Idx) :
    (((((cfg0 (F := F)).win 0).blk t).view.emb y : S4x4x5120.Idx)) = (ix3 (bOf (F := F) t) (y 1) (y 2) : S4x4x5120.Idx) := by
  have h0 := tr_coord t
  have h1 : (y 0).val = 0 := by have := (y 0).isLt; change (y 0).val < 1 at this; omega
  refine funext fun (k : Fin 3) => Fin.ext ?_
  match k with
  | 0 =>
    change (BitVec.ofNat 32 ((grid0.coords t) 0).val).toNat * 1 + 1 * (y 0).val = t.val
    omega
  | 1 =>
    change 0 * _ + 1 * (y 1).val = (y 1).val
    omega
  | 2 =>
    change 0 * _ + 1 * (y 2).val = (y 2).val
    omega

theorem emb1 (t : Fin (cfg0 (F := F)).N) (y : S1x4x5120.Idx) :
    (((((cfg0 (F := F)).win 1).blk t).view.emb y : S4x4x5120.Idx)) = (ix3 (bOf (F := F) t) (y 1) (y 2) : S4x4x5120.Idx) := by
  have h0 := tr_coord t
  have h1 : (y 0).val = 0 := by have := (y 0).isLt; change (y 0).val < 1 at this; omega
  refine funext fun (k : Fin 3) => Fin.ext ?_
  match k with
  | 0 =>
    change (BitVec.ofNat 32 ((grid0.coords t) 0).val).toNat * 1 + 1 * (y 0).val = t.val
    omega
  | 1 =>
    change 0 * _ + 1 * (y 1).val = (y 1).val
    omega
  | 2 =>
    change 0 * _ + 1 * (y 2).val = (y 2).val
    omega

theorem emb2 (t : Fin (cfg0 (F := F)).N) (y : S1x21x5120.Idx) :
    (((((cfg0 (F := F)).win 2).blk t).view.emb y : S4x21x5120.Idx)) = (ix3 (bOf (F := F) t) (y 1) (y 2) : S4x21x5120.Idx) := by
  have h0 := tr_coord t
  have h1 : (y 0).val = 0 := by have := (y 0).isLt; change (y 0).val < 1 at this; omega
  refine funext fun (k : Fin 3) => Fin.ext ?_
  match k with
  | 0 =>
    change (BitVec.ofNat 32 ((grid0.coords t) 0).val).toNat * 1 + 1 * (y 0).val = t.val
    omega
  | 1 =>
    change 0 * _ + 1 * (y 1).val = (y 1).val
    omega
  | 2 =>
    change 0 * _ + 1 * (y 2).val = (y 2).val
    omega

theorem emb3 (t : Fin (cfg0 (F := F)).N) (y : S1x4x5120.Idx) :
    (((((cfg0 (F := F)).win 3).blk t).view.emb y : S4x4x5120.Idx)) = (ix3 (bOf (F := F) t) (y 1) (y 2) : S4x4x5120.Idx) := by
  have h0 := tr_coord t
  have h1 : (y 0).val = 0 := by have := (y 0).isLt; change (y 0).val < 1 at this; omega
  refine funext fun (k : Fin 3) => Fin.ext ?_
  match k with
  | 0 =>
    change (BitVec.ofNat 32 ((grid0.coords t) 0).val).toNat * 1 + 1 * (y 0).val = t.val
    omega
  | 1 =>
    change 0 * _ + 1 * (y 1).val = (y 1).val
    omega
  | 2 =>
    change 0 * _ + 1 * (y 2).val = (y 2).val
    omega

theorem emb4 (t : Fin (cfg0 (F := F)).N) (y : S1x21x5120.Idx) :
    (((((cfg0 (F := F)).win 4).blk t).view.emb y : S4x21x5120.Idx)) = (ix3 (bOf (F := F) t) (y 1) (y 2) : S4x21x5120.Idx) := by
  have h0 := tr_coord t
  have h1 : (y 0).val = 0 := by have := (y 0).isLt; change (y 0).val < 1 at this; omega
  refine funext fun (k : Fin 3) => Fin.ext ?_
  match k with
  | 0 =>
    change (BitVec.ofNat 32 ((grid0.coords t) 0).val).toNat * 1 + 1 * (y 0).val = t.val
    omega
  | 1 =>
    change 0 * _ + 1 * (y 1).val = (y 1).val
    omega
  | 2 =>
    change 0 * _ + 1 * (y 2).val = (y 2).val
    omega

theorem emb5 (t : Fin (cfg0 (F := F)).N) (y : S1x1x5120.Idx) :
    (((((cfg0 (F := F)).win 5).blk t).view.emb y : S4x1x5120.Idx)) = (ix3 (bOf (F := F) t) (y 1) (y 2) : S4x1x5120.Idx) := by
  have h0 := tr_coord t
  have h1 : (y 0).val = 0 := by have := (y 0).isLt; change (y 0).val < 1 at this; omega
  refine funext fun (k : Fin 3) => Fin.ext ?_
  match k with
  | 0 =>
    change (BitVec.ofNat 32 ((grid0.coords t) 0).val).toNat * 1 + 1 * (y 0).val = t.val
    omega
  | 1 =>
    change 0 * _ + 1 * (y 1).val = (y 1).val
    omega
  | 2 =>
    change 0 * _ + 1 * (y 2).val = (y 2).val
    omega

theorem X0_apply (c : Dev nD) (t : Fin (cfg0 (F := F)).N) (y : S1x4x5120.Idx) :
    X0 m c t y = (V0 m c (Proc.devRef .tc main_v1) : S4x4x5120.Idx → Elt F .f32) (ix3 (bOf (F := F) t) (y 1) (y 2)) :=
  congrArg (V0 m c (Proc.devRef .tc main_v1) : S4x4x5120.Idx → Elt F .f32) (emb0 (F := F) t y)

theorem X1_apply (c : Dev nD) (t : Fin (cfg0 (F := F)).N) (y : S1x4x5120.Idx) :
    X1 m c t y = (V0 m c (Proc.devRef .tc main_v3) : S4x4x5120.Idx → Elt F .f32) (ix3 (bOf (F := F) t) (y 1) (y 2)) :=
  congrArg (V0 m c (Proc.devRef .tc main_v3) : S4x4x5120.Idx → Elt F .f32) (emb1 (F := F) t y)

theorem X2_apply (c : Dev nD) (t : Fin (cfg0 (F := F)).N) (y : S1x21x5120.Idx) :
    X2 m c t y = (V0 m c (Proc.devRef .tc main_v5) : S4x21x5120.Idx → Elt F .f32) (ix3 (bOf (F := F) t) (y 1) (y 2)) :=
  congrArg (V0 m c (Proc.devRef .tc main_v5) : S4x21x5120.Idx → Elt F .f32) (emb2 (F := F) t y)

theorem cov3 : (win0 (3 : Fin 6)).Covers := by decide +kernel

theorem arr3 (c : Dev nD) : (dats m 0 c).arrAt (3 : Fin 6) (cfg0 (F := F)).N = G3 m c :=
  (dats m 0 c).arrAt_eq_of_covers (3 : Fin 6) (G3 m c) cov3 (fun t _ y => by
    change k0_pay24 (X0 m c t) (X1 m c t) y = G3 m c (((((cfg0 (F := F)).win 3).blk t).view.emb y))
    refine Eq.trans ?_ (congrArg (G3 m c) (emb3 (F := F) t y)).symm
    exact congrArg (k0_pay24 (X0 m c t) (X1 m c t)) (ix3_eta y))

theorem cov4 : (win0 (4 : Fin 6)).Covers := by decide +kernel

theorem arr4 (c : Dev nD) : (dats m 0 c).arrAt (4 : Fin 6) (cfg0 (F := F)).N = G4 m c :=
  (dats m 0 c).arrAt_eq_of_covers (4 : Fin 6) (G4 m c) cov4 (fun t _ y => by
    change k0_pay26 (X2 m c t) y = G4 m c (((((cfg0 (F := F)).win 4).blk t).view.emb y))
    refine Eq.trans ?_ (congrArg (G4 m c) (emb4 (F := F) t y)).symm
    exact congrArg (k0_pay26 (X2 m c t)) (ix3_eta y))

theorem cov5 : (win0 (5 : Fin 6)).Covers := by decide +kernel

theorem arr5 (c : Dev nD) : (dats m 0 c).arrAt (5 : Fin 6) (cfg0 (F := F)).N = G5 m c :=
  (dats m 0 c).arrAt_eq_of_covers (5 : Fin 6) (G5 m c) cov5 (fun t _ y => by
    change K6 (X0 m c t) (X1 m c t) (X2 m c t) y = G5 m c (((((cfg0 (F := F)).win 5).blk t).view.emb y))
    refine Eq.trans ?_ (congrArg (G5 m c) (emb5 (F := F) t y)).symm
    exact congrArg (K6 (X0 m c t) (X1 m c t) (X2 m c t)) (ix3_eta y))

theorem Post_v8 {r} (h : Pipeline.FramePost (cfgs (F := F)) (dats m) 0 (Pipeline.afterTail₀ cfgs (dats m) 0 (V0 m) [hostOps1]) r) (c : Dev nD) :
    r.2.mem ((c.tc : Thread nD τ).loc main_v8) = extractStridedSlice S4x5000x4 ![0, 0, 0] (transpose S4x5120x4 [0, 2, 1] ((dats m 0 c).arrAt (3 : Fin 6) (cfg0 (F := F)).N) transposes_S4x4x5120_S4x5120x4_0_2_1) slices_S4x5120x4_S4x5000x4_0_0_0 := by
  rw [(h c).2 main_v8 (mem_rest _ (by decide))]
  change StableHlo.after hostOps1 (W1 m c) _ = _
  after_results
  rw [← W1_arr]
  try rfl

theorem Post_v10 {r} (h : Pipeline.FramePost (cfgs (F := F)) (dats m) 0 (Pipeline.afterTail₀ cfgs (dats m) 0 (V0 m) [hostOps1]) r) (c : Dev nD) :
    r.2.mem ((c.tc : Thread nD τ).loc main_v10) = extractStridedSlice S4x5000x21 ![0, 0, 0] (transpose S4x5120x21 [0, 2, 1] ((dats m 0 c).arrAt (4 : Fin 6) (cfg0 (F := F)).N) transposes_S4x21x5120_S4x5120x21_0_2_1) slices_S4x5120x21_S4x5000x21_0_0_0 := by
  rw [(h c).2 main_v10 (mem_rest _ (by decide))]
  change StableHlo.after hostOps1 (W1 m c) _ = _
  after_results
  rw [← W1_arr]
  try rfl

theorem Post_v14 {r} (h : Pipeline.FramePost (cfgs (F := F)) (dats m) 0 (Pipeline.afterTail₀ cfgs (dats m) 0 (V0 m) [hostOps1]) r) (c : Dev nD) :
    r.2.mem ((c.tc : Thread nD τ).loc main_v14) = cmpf .ogt (shapeCast S4x5000 (extractStridedSlice S4x1x5000 ![0, 0, 0] ((dats m 0 c).arrAt (5 : Fin 6) (cfg0 (F := F)).N) slices_S4x1x5120_S4x1x5000_0_0_0) shapeCasts_S4x1x5000_S4x5000) (broadcastInDim S4x5000 ![] bcast_S_S4x5000 (constant S_ .f32 0x3F000000#32)) := by
  rw [(h c).2 main_v14 (mem_rest _ (by decide))]
  change StableHlo.after hostOps1 (W1 m c) _ = _
  after_results
  rw [← W1_arr]
  try rfl

/-- The adjusted boxes, as @main returns them. -/
def R8 (c : Dev nD) : S4x5000x4.Idx → Elt F .f32 :=
  extractStridedSlice S4x5000x4 ![0, 0, 0] (transpose S4x5120x4 [0, 2, 1] (G3 m c) transposes_S4x4x5120_S4x5120x4_0_2_1) slices_S4x5120x4_S4x5000x4_0_0_0
/-- The class probabilities, as @main returns them. -/
def R10 (c : Dev nD) : S4x5000x21.Idx → Elt F .f32 :=
  extractStridedSlice S4x5000x21 ![0, 0, 0] (transpose S4x5120x21 [0, 2, 1] (G4 m c) transposes_S4x21x5120_S4x5120x21_0_2_1) slices_S4x5120x21_S4x5000x21_0_0_0
/-- The kept flags, as @main returns them. -/
def R14 (c : Dev nD) : S4x5000.Idx → Elt F .i1 :=
  cmpf .ogt (shapeCast S4x5000 (extractStridedSlice S4x1x5000 ![0, 0, 0] (G5 m c) slices_S4x1x5120_S4x1x5000_0_0_0) shapeCasts_S4x1x5000_S4x5000) (broadcastInDim S4x5000 ![] bcast_S_S4x5000 (constant S_ .f32 0x3F000000#32))

theorem arg_rest (b : Ref sig .tc) (hb : b ∈ Pipeline.restRefs sig spec0) (hw : ∀ V : Valuation τ sig (Elt F), StableHlo.after hostOps1 V (Proc.devRef .tc b) = V (Proc.devRef .tc b))
    (hn : ∀ w : Fin 6, Pipeline.arrRef spec0 w ≠ b) (c : Dev nD) (hV : V0 m c (Proc.devRef .tc b) = m ((c.tc : Thread nD τ).loc b))
    {r} (h : Pipeline.FramePost (cfgs (F := F)) (dats m) 0 (Pipeline.afterTail₀ cfgs (dats m) 0 (V0 m) [hostOps1]) r) :
    r.2.mem ((c.tc : Thread nD τ).loc b) = m ((c.tc : Thread nD τ).loc b) := by
  rw [(h c).2 b (mem_rest _ hb)]
  change StableHlo.after hostOps1 (W1 m c) _ = _
  rw [hw, W1_ne m c b hn, hV]

/-- The run of @main with its five results and its arguments named, every semaphore counter ending at zero. -/
theorem run_res : θ_run (defs (F := F)) (onTc (τ := τ) (main (F := F))) ⟨m, fun _ => 0, ρ⟩
    (fun r => (∀ c : Dev nD, r.2.mem ((c.tc : Thread nD τ).loc main_v8) = R8 m c ∧ r.2.mem ((c.tc : Thread nD τ).loc main_v10) = R10 m c
      ∧ r.2.mem ((c.tc : Thread nD τ).loc main_v14) = R14 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run _ _ _).mono (fun r h => ⟨fun c => ⟨
    (Post_v8 m h.1 c).trans (by rw [arr3]; rfl), (Post_v10 m h.1 c).trans (by rw [arr4]; rfl), (Post_v14 m h.1 c).trans (by rw [arr5]; rfl),
    arg_rest m main_arg0 (by decide) (fun V => by after_results) (by decide) c (V0_arg0 m c) h.1,
    arg_rest m main_arg1 (by decide) (fun V => by after_results) (by decide) c (V0_arg1 m c) h.1,
    arg_rest m main_arg2 (by decide) (fun V => by after_results) (by decide) c (V0_arg2 m c) h.1,
    arg_rest m main_arg3 (by decide) (fun V => by after_results) (by decide) c (V0_arg3 m c) h.1⟩, h.2⟩) (run_main m ρ)

end Cert.Proof.KI

end
-- ==== Proof.RI.Ops.lean ====
/-
  The reference program's host operations, cut into short stretches, and the equations saying that its
  entry function and the body of its one host loop are those stretches in order.
-/
module

public import proofs.«01_k».proof.Proof.Gen.ReferenceIdeal
public import Idealize.ShloMosaic.Lib.StableHlo.RunLoop
public import Idealize.ShloMosaic.Lib.Claim
public import Idealize.ShloMosaic.Lib.Scf.ExitTest

@[expose] public section

set_option maxRecDepth 16384

noncomputable section

namespace Cert.Proof.RI

open Cert.ReferenceIdeal Cert.ReferenceIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- Stretch 0 before the loop. -/
abbrev pre0 : List (HloOp τ sig (Elt F)) :=
  [ StableHlo.unary main_arg0 main_v0 ((extractStridedSlice S4x5000x2 ![0, 0, 0] · slices_S4x5000x4_S4x5000x2_0_0_0) : (⟨S4x5000x4, .f32⟩ : BufTy).Contents (Elt F) → (⟨S4x5000x2, .f32⟩ : BufTy).Contents (Elt F)),
    StableHlo.nullary main_cst (constant S_ .f32 0x41800000#32),
    StableHlo.unary main_cst main_v1 (broadcastInDim S4x5000x2 ![] bcast_S_S4x5000x2 : (⟨S_, .f32⟩ : BufTy).Contents (Elt F) → (⟨S4x5000x2, .f32⟩ : BufTy).Contents (Elt F)),
    StableHlo.binary main_v0 main_v1 main_v2 (mulf : (⟨S4x5000x2, .f32⟩ : BufTy).Contents (Elt F) → (⟨S4x5000x2, .f32⟩ : BufTy).Contents (Elt F) → (⟨S4x5000x2, .f32⟩ : BufTy).Contents (Elt F)),
    StableHlo.unary main_v2 main_v3 (Host.floor : (⟨S4x5000x2, .f32⟩ : BufTy).Contents (Elt F) → (⟨S4x5000x2, .f32⟩ : BufTy).Contents (Elt F)),
    StableHlo.unary main_arg0 main_v4 ((extractStridedSlice S4x5000x2 ![0, 0, 2] · slices_S4x5000x4_S4x5000x2_0_0_2) : (⟨S4x5000x4, .f32⟩ : BufTy).Contents (Elt F) → (⟨S4x5000x2, .f32⟩ : BufTy).Contents (Elt F)),
    StableHlo.nullary main_cst_0 (constant S_ .f32 0x41800000#32),
    StableHlo.unary main_cst_0 main_v5 (broadcastInDim S4x5000x2 ![] bcast_S_S4x5000x2 : (⟨S_, .f32⟩ : BufTy).Contents (Elt F) → (⟨S4x5000x2, .f32⟩ : BufTy).Contents (Elt F)),
    StableHlo.binary main_v4 main_v5 main_v6 (mulf : (⟨S4x5000x2, .f32⟩ : BufTy).Contents (Elt F) → (⟨S4x5000x2, .f32⟩ : BufTy).Contents (Elt F) → (⟨S4x5000x2, .f32⟩ : BufTy).Contents (Elt F)),
    StableHlo.unary main_v6 main_v7 (Host.ceil : (⟨S4x5000x2, .f32⟩ : BufTy).Contents (Elt F) → (⟨S4x5000x2, .f32⟩ : BufTy).Contents (Elt F)),
    StableHlo.binary main_v3 main_v7 main_v8 ((fun a b => concatenate S4x5000x4 2 [⟨S4x5000x2, a⟩, ⟨S4x5000x2, b⟩] concatenates_S4x5000x2_S4x5000x2_S4x5000x4_d2) : (⟨S4x5000x2, .f32⟩ : BufTy).Contents (Elt F) → (⟨S4x5000x2, .f32⟩ : BufTy).Contents (Elt F) → (⟨S4x5000x4, .f32⟩ : BufTy).Contents (Elt F)),
    StableHlo.nullary main_cst_1 (constant S_ .f32 0x41800000#32),
    StableHlo.unary main_cst_1 main_v9 (broadcastInDim S4x5000x4 ![] bcast_S_S4x5000x4 : (⟨S_, .f32⟩ : BufTy).Contents (Elt F) → (⟨S4x5000x4, .f32⟩ : BufTy).Contents (Elt F)),
    StableHlo.binary main_v8 main_v9 main_v10 (Host.divf : (⟨S4x5000x4, .f32⟩ : BufTy).Contents (Elt F) → (⟨S4x5000x4, .f32⟩ : BufTy).Contents (Elt F) → (⟨S4x5000x4, .f32⟩ : BufTy).Contents (Elt F)),
    StableHlo.binary main_arg2 main_v10 main_v11 (addf : (⟨S4x5000x4, .f32⟩ : BufTy).Contents (Elt F) → (⟨S4x5000x4, .f32⟩ : BufTy).Contents (Elt F) → (⟨S4x5000x4, .f32⟩ : BufTy).Contents (Elt F)) ]
/-- Each operation of `pre0` touches tensor buffers of the entry function only. -/
theorem pre0_sub : (pre0 : List (HloOp τ sig (Elt F))).Forall fun op => op.bufs ⊆ StableHlo.tcRefs τ sig :=
  ⟨StableHlo.unary_bufs_sub .., StableHlo.nullary_bufs_sub .., StableHlo.unary_bufs_sub .., StableHlo.binary_bufs_sub .., StableHlo.unary_bufs_sub .., StableHlo.unary_bufs_sub .., StableHlo.nullary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub ..⟩

/-- Stretch 1 before the loop. -/
abbrev pre1 : List (HloOp τ sig (Elt F)) :=
  [ StableHlo.nullary main_cst_2 (constant S_ .f32 0xFF800000#32),
    StableHlo.binary main_arg3 main_cst_2 main_v12 ((fun x v => Host.reduce FloatOps.maximumf x v reducesTo_S4x5000x21_S4x5000_d2 h_S_) : (⟨S4x5000x21, .f32⟩ : BufTy).Contents (Elt F) → (⟨S_, .f32⟩ : BufTy).Contents (Elt F) → (⟨S4x5000, .f32⟩ : BufTy).Contents (Elt F)),
    StableHlo.nullary main_cst_3 (constant S_ .f32 0xFF800000#32),
    StableHlo.unary main_cst_3 main_v13 (broadcastInDim S4x5000 ![] bcast_S_S4x5000 : (⟨S_, .f32⟩ : BufTy).Contents (Elt F) → (⟨S4x5000, .f32⟩ : BufTy).Contents (Elt F)),
    StableHlo.binary main_v13 main_v12 main_v14 (maximumf : (⟨S4x5000, .f32⟩ : BufTy).Contents (Elt F) → (⟨S4x5000, .f32⟩ : BufTy).Contents (Elt F) → (⟨S4x5000, .f32⟩ : BufTy).Contents (Elt F)),
    StableHlo.unary main_v14 main_v15 (broadcastInDim S4x5000x1 ![0, 1] bcast_S4x5000_S4x5000x1_0_1 : (⟨S4x5000, .f32⟩ : BufTy).Contents (Elt F) → (⟨S4x5000x1, .f32⟩ : BufTy).Contents (Elt F)),
    StableHlo.unary main_v15 main_v16 (broadcastInDim S4x5000x21 ![0, 1, 2] bcast_S4x5000x1_S4x5000x21_0_1_2 : (⟨S4x5000x1, .f32⟩ : BufTy).Contents (Elt F) → (⟨S4x5000x21, .f32⟩ : BufTy).Contents (Elt F)),
    StableHlo.binary main_arg3 main_v16 main_v17 (subf : (⟨S4x5000x21, .f32⟩ : BufTy).Contents (Elt F) → (⟨S4x5000x21, .f32⟩ : BufTy).Contents (Elt F) → (⟨S4x5000x21, .f32⟩ : BufTy).Contents (Elt F)),
    StableHlo.unary main_v17 main_v18 (Host.exp : (⟨S4x5000x21, .f32⟩ : BufTy).Contents (Elt F) → (⟨S4x5000x21, .f32⟩ : BufTy).Contents (Elt F)),
    StableHlo.nullary main_cst_4 (constant S_ .f32 0x00000000#32),
    StableHlo.binary main_v18 main_cst_4 main_v19 ((fun x v => Host.reduceAdd x v reducesTo_S4x5000x21_S4x5000_d2 h_S_) : (⟨S4x5000x21, .f32⟩ : BufTy).Contents (Elt F) → (⟨S_, .f32⟩ : BufTy).Contents (Elt F) → (⟨S4x5000, .f32⟩ : BufTy).Contents (Elt F)),
    StableHlo.unary main_v19 main_v20 (broadcastInDim S4x5000x1 ![0, 1] bcast_S4x5000_S4x5000x1_0_1 : (⟨S4x5000, .f32⟩ : BufTy).Contents (Elt F) → (⟨S4x5000x1, .f32⟩ : BufTy).Contents (Elt F)),
    StableHlo.unary main_v20 main_v21 (broadcastInDim S4x5000x21 ![0, 1, 2] bcast_S4x5000x1_S4x5000x21_0_1_2 : (⟨S4x5000x1, .f32⟩ : BufTy).Contents (Elt F) → (⟨S4x5000x21, .f32⟩ : BufTy).Contents (Elt F)),
    StableHlo.binary main_v18 main_v21 main_v22 (Host.divf : (⟨S4x5000x21, .f32⟩ : BufTy).Contents (Elt F) → (⟨S4x5000x21, .f32⟩ : BufTy).Contents (Elt F) → (⟨S4x5000x21, .f32⟩ : BufTy).Contents (Elt F)) ]
/-- Each operation of `pre1` touches tensor buffers of the entry function only. -/
theorem pre1_sub : (pre1 : List (HloOp τ sig (Elt F))).Forall fun op => op.bufs ⊆ StableHlo.tcRefs τ sig :=
  ⟨StableHlo.nullary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.nullary_bufs_sub .., StableHlo.binary_bufs_sub .., StableHlo.unary_bufs_sub .., StableHlo.unary_bufs_sub .., StableHlo.binary_bufs_sub ..⟩

/-- Stretch 2 before the loop. -/
abbrev pre2 : List (HloOp τ sig (Elt F)) :=
  [ StableHlo.TRef.nullary (.of main_call0_v0 : StableHlo.TRef sig ⟨S4x5000x21, .i32⟩) (iotaInDim S4x5000x21 32 2),
    StableHlo.TRef.nullary (.of main_call0_cst : StableHlo.TRef sig ⟨S_, .f32⟩) (constant S_ .f32 0xFF800000#32),
    StableHlo.TRef.nullary (.of main_call0_c : StableHlo.TRef sig ⟨S_, .i32⟩) (constantI S_ 32 0#32),
    StableHlo.TRef.quaternary (.of main_v22 : StableHlo.TRef sig ⟨S4x5000x21, .f32⟩) (.of main_call0_v0 : StableHlo.TRef sig ⟨S4x5000x21, .i32⟩) (.of main_call0_cst : StableHlo.TRef sig ⟨S_, .f32⟩) (.of main_call0_c : StableHlo.TRef sig ⟨S_, .i32⟩) (.of main_call0_v1_0 : StableHlo.TRef sig ⟨S4x5000, .f32⟩) (fun x y u v j => (Host.argReduce reducer_argmax_f32_i32 x y u v reducesTo_S4x5000x21_S4x5000_d2 h_S_ j).1),
    StableHlo.TRef.quaternary (.of main_v22 : StableHlo.TRef sig ⟨S4x5000x21, .f32⟩) (.of main_call0_v0 : StableHlo.TRef sig ⟨S4x5000x21, .i32⟩) (.of main_call0_cst : StableHlo.TRef sig ⟨S_, .f32⟩) (.of main_call0_c : StableHlo.TRef sig ⟨S_, .i32⟩) (.of main_v23 : StableHlo.TRef sig ⟨S4x5000, .i32⟩) (fun x y u v j => (Host.argReduce reducer_argmax_f32_i32 x y u v reducesTo_S4x5000x21_S4x5000_d2 h_S_ j).2) ]
/-- Each operation of `pre2` touches tensor buffers of the entry function only. -/
theorem pre2_sub : (pre2 : List (HloOp τ sig (Elt F))).Forall fun op => op.bufs ⊆ StableHlo.tcRefs τ sig :=
  ⟨StableHlo.nullary_bufs_sub .., StableHlo.nullary_bufs_sub .., StableHlo.nullary_bufs_sub .., StableHlo.quaternary_bufs_sub .., StableHlo.quaternary_bufs_sub ..⟩

/-- Stretch 3 before the loop. -/
abbrev pre3 : List (HloOp τ sig (Elt F)) :=
  [ StableHlo.nullary main_v24 (iotaInDim S4x20x5000 32 1),
    StableHlo.nullary main_c (constantI S_ 32 1#32),
    StableHlo.unary main_c main_v25 (broadcastInDim S4x20x5000 ![] bcast_S_S4x20x5000 : (⟨S_, .i32⟩ : BufTy).Contents (Elt F) → (⟨S4x20x5000, .i32⟩ : BufTy).Contents (Elt F)),
    StableHlo.binary main_v24 main_v25 main_v26 (addi : (⟨S4x20x5000, .i32⟩ : BufTy).Contents (Elt F) → (⟨S4x20x5000, .i32⟩ : BufTy).Contents (Elt F) → (⟨S4x20x5000, .i32⟩ : BufTy).Contents (Elt F)),
    StableHlo.unary main_v23 main_v27 (broadcastInDim S4x20x5000 ![0, 2] bcast_S4x5000_S4x20x5000_0_2 : (⟨S4x5000, .i32⟩ : BufTy).Contents (Elt F) → (⟨S4x20x5000, .i32⟩ : BufTy).Contents (Elt F)),
    StableHlo.nullary main_c_5 (constantI S_ 32 0#32),
    StableHlo.unary main_c_5 main_v28 (broadcastInDim S4x20x5000 ![] bcast_S_S4x20x5000 : (⟨S_, .i32⟩ : BufTy).Contents (Elt F) → (⟨S4x20x5000, .i32⟩ : BufTy).Contents (Elt F)),
    StableHlo.binary main_v27 main_v28 main_v29 (cmpi .ne : (⟨S4x20x5000, .i32⟩ : BufTy).Contents (Elt F) → (⟨S4x20x5000, .i32⟩ : BufTy).Contents (Elt F) → (⟨S4x20x5000, .i1⟩ : BufTy).Contents (Elt F)),
    StableHlo.binary main_v27 main_v26 main_v30 (cmpi .eq : (⟨S4x20x5000, .i32⟩ : BufTy).Contents (Elt F) → (⟨S4x20x5000, .i32⟩ : BufTy).Contents (Elt F) → (⟨S4x20x5000, .i1⟩ : BufTy).Contents (Elt F)),
    StableHlo.binary main_v29 main_v30 main_v31 (andi : (⟨S4x20x5000, .i1⟩ : BufTy).Contents (Elt F) → (⟨S4x20x5000, .i1⟩ : BufTy).Contents (Elt F) → (⟨S4x20x5000, .i1⟩ : BufTy).Contents (Elt F)),
    StableHlo.unary main_v22 main_v32 ((transpose S4x21x5000 [0, 2, 1] · transposes_S4x5000x21_S4x21x5000_0_2_1) : (⟨S4x5000x21, .f32⟩ : BufTy).Contents (Elt F) → (⟨S4x21x5000, .f32⟩ : BufTy).Contents (Elt F)),
    StableHlo.unary main_v32 main_v33 ((extractStridedSlice S4x20x5000 ![0, 1, 0] · slices_S4x21x5000_S4x20x5000_0_1_0) : (⟨S4x21x5000, .f32⟩ : BufTy).Contents (Elt F) → (⟨S4x20x5000, .f32⟩ : BufTy).Contents (Elt F)) ]
/-- Each operation of `pre3` touches tensor buffers of the entry function only. -/
theorem pre3_sub : (pre3 : List (HloOp τ sig (Elt F))).Forall fun op => op.bufs ⊆ StableHlo.tcRefs τ sig :=
  ⟨StableHlo.nullary_bufs_sub .., StableHlo.nullary_bufs_sub .., StableHlo.unary_bufs_sub .., StableHlo.binary_bufs_sub .., StableHlo.unary_bufs_sub .., StableHlo.nullary_bufs_sub .., StableHlo.unary_bufs_sub .., StableHlo.binary_bufs_sub .., StableHlo.binary_bufs_sub .., StableHlo.binary_bufs_sub .., StableHlo.unary_bufs_sub .., StableHlo.unary_bufs_sub ..⟩

/-- Stretch 4 before the loop. -/
abbrev pre4 : List (HloOp τ sig (Elt F)) :=
  [ StableHlo.unary main_v11 main_v34 ((extractStridedSlice S4x5000x1 ![0, 0, 0] · slices_S4x5000x4_S4x5000x1_0_0_0) : (⟨S4x5000x4, .f32⟩ : BufTy).Contents (Elt F) → (⟨S4x5000x1, .f32⟩ : BufTy).Contents (Elt F)),
    StableHlo.reshape main_v34 main_v35 (rfl : (.f32 : EltTy) = .f32) shapeCasts_S4x5000x1_S4x5000,
    StableHlo.unary main_v35 main_v36 (broadcastInDim S4x20x5000 ![0, 2] bcast_S4x5000_S4x20x5000_0_2 : (⟨S4x5000, .f32⟩ : BufTy).Contents (Elt F) → (⟨S4x20x5000, .f32⟩ : BufTy).Contents (Elt F)) ]
/-- Each operation of `pre4` touches tensor buffers of the entry function only. -/
theorem pre4_sub : (pre4 : List (HloOp τ sig (Elt F))).Forall fun op => op.bufs ⊆ StableHlo.tcRefs τ sig :=
  ⟨StableHlo.unary_bufs_sub .., StableHlo.reshape_bufs_sub .., StableHlo.unary_bufs_sub ..⟩

/-- Stretch 5 before the loop. -/
abbrev pre5 : List (HloOp τ sig (Elt F)) :=
  [ StableHlo.unary main_v11 main_v37 ((extractStridedSlice S4x5000x1 ![0, 0, 1] · slices_S4x5000x4_S4x5000x1_0_0_1) : (⟨S4x5000x4, .f32⟩ : BufTy).Contents (Elt F) → (⟨S4x5000x1, .f32⟩ : BufTy).Contents (Elt F)),
    StableHlo.reshape main_v37 main_v38 (rfl : (.f32 : EltTy) = .f32) shapeCasts_S4x5000x1_S4x5000,
    StableHlo.unary main_v38 main_v39 (broadcastInDim S4x20x5000 ![0, 2] bcast_S4x5000_S4x20x5000_0_2 : (⟨S4x5000, .f32⟩ : BufTy).Contents (Elt F) → (⟨S4x20x5000, .f32⟩ : BufTy).Contents (Elt F)) ]
/-- Each operation of `pre5` touches tensor buffers of the entry function only. -/
theorem pre5_sub : (pre5 : List (HloOp τ sig (Elt F))).Forall fun op => op.bufs ⊆ StableHlo.tcRefs τ sig :=
  ⟨StableHlo.unary_bufs_sub .., StableHlo.reshape_bufs_sub .., StableHlo.unary_bufs_sub ..⟩

/-- Stretch 6 before the loop. -/
abbrev pre6 : List (HloOp τ sig (Elt F)) :=
  [ StableHlo.unary main_v11 main_v40 ((extractStridedSlice S4x5000x1 ![0, 0, 2] · slices_S4x5000x4_S4x5000x1_0_0_2) : (⟨S4x5000x4, .f32⟩ : BufTy).Contents (Elt F) → (⟨S4x5000x1, .f32⟩ : BufTy).Contents (Elt F)),
    StableHlo.reshape main_v40 main_v41 (rfl : (.f32 : EltTy) = .f32) shapeCasts_S4x5000x1_S4x5000,
    StableHlo.unary main_v41 main_v42 (broadcastInDim S4x20x5000 ![0, 2] bcast_S4x5000_S4x20x5000_0_2 : (⟨S4x5000, .f32⟩ : BufTy).Contents (Elt F) → (⟨S4x20x5000, .f32⟩ : BufTy).Contents (Elt F)) ]
/-- Each operation of `pre6` touches tensor buffers of the entry function only. -/
theorem pre6_sub : (pre6 : List (HloOp τ sig (Elt F))).Forall fun op => op.bufs ⊆ StableHlo.tcRefs τ sig :=
  ⟨StableHlo.unary_bufs_sub .., StableHlo.reshape_bufs_sub .., StableHlo.unary_bufs_sub ..⟩

/-- Stretch 7 before the loop. -/
abbrev pre7 : List (HloOp τ sig (Elt F)) :=
  [ StableHlo.unary main_v11 main_v43 ((extractStridedSlice S4x5000x1 ![0, 0, 3] · slices_S4x5000x4_S4x5000x1_0_0_3) : (⟨S4x5000x4, .f32⟩ : BufTy).Contents (Elt F) → (⟨S4x5000x1, .f32⟩ : BufTy).Contents (Elt F)),
    StableHlo.reshape main_v43 main_v44 (rfl : (.f32 : EltTy) = .f32) shapeCasts_S4x5000x1_S4x5000,
    StableHlo.unary main_v44 main_v45 (broadcastInDim S4x20x5000 ![0, 2] bcast_S4x5000_S4x20x5000_0_2 : (⟨S4x5000, .f32⟩ : BufTy).Contents (Elt F) → (⟨S4x20x5000, .f32⟩ : BufTy).Contents (Elt F)) ]
/-- Each operation of `pre7` touches tensor buffers of the entry function only. -/
theorem pre7_sub : (pre7 : List (HloOp τ sig (Elt F))).Forall fun op => op.bufs ⊆ StableHlo.tcRefs τ sig :=
  ⟨StableHlo.unary_bufs_sub .., StableHlo.reshape_bufs_sub .., StableHlo.unary_bufs_sub ..⟩

/-- Stretch 8 before the loop. -/
abbrev pre8 : List (HloOp τ sig (Elt F)) :=
  [ StableHlo.nullary main_v46 (iotaInDim S4x20x5000 32 2),
    StableHlo.nullary main_cst_6 (constant S_ .f32 0xFF800000#32),
    StableHlo.unary main_cst_6 main_v47 (broadcastInDim S4x20x5000 ![] bcast_S_S4x20x5000 : (⟨S_, .f32⟩ : BufTy).Contents (Elt F) → (⟨S4x20x5000, .f32⟩ : BufTy).Contents (Elt F)),
    StableHlo.ternary main_v31 main_v33 main_v47 main_v48 (select : (⟨S4x20x5000, .i1⟩ : BufTy).Contents (Elt F) → (⟨S4x20x5000, .f32⟩ : BufTy).Contents (Elt F) → (⟨S4x20x5000, .f32⟩ : BufTy).Contents (Elt F) → (⟨S4x20x5000, .f32⟩ : BufTy).Contents (Elt F)),
    StableHlo.unary main_v48 main_v49 (Host.negf : (⟨S4x20x5000, .f32⟩ : BufTy).Contents (Elt F) → (⟨S4x20x5000, .f32⟩ : BufTy).Contents (Elt F)) ]
/-- Each operation of `pre8` touches tensor buffers of the entry function only. -/
theorem pre8_sub : (pre8 : List (HloOp τ sig (Elt F))).Forall fun op => op.bufs ⊆ StableHlo.tcRefs τ sig :=
  ⟨StableHlo.nullary_bufs_sub .., StableHlo.nullary_bufs_sub .., StableHlo.unary_bufs_sub .., StableHlo.ternary_bufs_sub .., StableHlo.unary_bufs_sub ..⟩

/-- Stretch 9 before the loop. -/
abbrev pre9 : List (HloOp τ sig (Elt F)) :=
  [ StableHlo.nary ![main_v49, main_v46, main_v36, main_v39, main_v42, main_v45, main_v31] main_v50_0 (fun u => (Host.sortBy S4x20x5000 2 comparator_f32_i32_f32_f32_f32_f32_i1_d2 (fun j => ((u 0 : (⟨S4x20x5000, .f32⟩ : BufTy).Contents (Elt F)) j, (u 1 : (⟨S4x20x5000, .i32⟩ : BufTy).Contents (Elt F)) j, (u 2 : (⟨S4x20x5000, .f32⟩ : BufTy).Contents (Elt F)) j, (u 3 : (⟨S4x20x5000, .f32⟩ : BufTy).Contents (Elt F)) j, (u 4 : (⟨S4x20x5000, .f32⟩ : BufTy).Contents (Elt F)) j, (u 5 : (⟨S4x20x5000, .f32⟩ : BufTy).Contents (Elt F)) j, (u 6 : (⟨S4x20x5000, .i1⟩ : BufTy).Contents (Elt F)) j)) (u 0 : (⟨S4x20x5000, .f32⟩ : BufTy).Contents (Elt F)) : (⟨S4x20x5000, .f32⟩ : BufTy).Contents (Elt F))),
    StableHlo.nary ![main_v49, main_v46, main_v36, main_v39, main_v42, main_v45, main_v31] main_v50_1 (fun u => (Host.sortBy S4x20x5000 2 comparator_f32_i32_f32_f32_f32_f32_i1_d2 (fun j => ((u 0 : (⟨S4x20x5000, .f32⟩ : BufTy).Contents (Elt F)) j, (u 1 : (⟨S4x20x5000, .i32⟩ : BufTy).Contents (Elt F)) j, (u 2 : (⟨S4x20x5000, .f32⟩ : BufTy).Contents (Elt F)) j, (u 3 : (⟨S4x20x5000, .f32⟩ : BufTy).Contents (Elt F)) j, (u 4 : (⟨S4x20x5000, .f32⟩ : BufTy).Contents (Elt F)) j, (u 5 : (⟨S4x20x5000, .f32⟩ : BufTy).Contents (Elt F)) j, (u 6 : (⟨S4x20x5000, .i1⟩ : BufTy).Contents (Elt F)) j)) (u 1 : (⟨S4x20x5000, .i32⟩ : BufTy).Contents (Elt F)) : (⟨S4x20x5000, .i32⟩ : BufTy).Contents (Elt F))),
    StableHlo.nary ![main_v49, main_v46, main_v36, main_v39, main_v42, main_v45, main_v31] main_v50_2 (fun u => (Host.sortBy S4x20x5000 2 comparator_f32_i32_f32_f32_f32_f32_i1_d2 (fun j => ((u 0 : (⟨S4x20x5000, .f32⟩ : BufTy).Contents (Elt F)) j, (u 1 : (⟨S4x20x5000, .i32⟩ : BufTy).Contents (Elt F)) j, (u 2 : (⟨S4x20x5000, .f32⟩ : BufTy).Contents (Elt F)) j, (u 3 : (⟨S4x20x5000, .f32⟩ : BufTy).Contents (Elt F)) j, (u 4 : (⟨S4x20x5000, .f32⟩ : BufTy).Contents (Elt F)) j, (u 5 : (⟨S4x20x5000, .f32⟩ : BufTy).Contents (Elt F)) j, (u 6 : (⟨S4x20x5000, .i1⟩ : BufTy).Contents (Elt F)) j)) (u 2 : (⟨S4x20x5000, .f32⟩ : BufTy).Contents (Elt F)) : (⟨S4x20x5000, .f32⟩ : BufTy).Contents (Elt F))),
    StableHlo.nary ![main_v49, main_v46, main_v36, main_v39, main_v42, main_v45, main_v31] main_v50_3 (fun u => (Host.sortBy S4x20x5000 2 comparator_f32_i32_f32_f32_f32_f32_i1_d2 (fun j => ((u 0 : (⟨S4x20x5000, .f32⟩ : BufTy).Contents (Elt F)) j, (u 1 : (⟨S4x20x5000, .i32⟩ : BufTy).Contents (Elt F)) j, (u 2 : (⟨S4x20x5000, .f32⟩ : BufTy).Contents (Elt F)) j, (u 3 : (⟨S4x20x5000, .f32⟩ : BufTy).Contents (Elt F)) j, (u 4 : (⟨S4x20x5000, .f32⟩ : BufTy).Contents (Elt F)) j, (u 5 : (⟨S4x20x5000, .f32⟩ : BufTy).Contents (Elt F)) j, (u 6 : (⟨S4x20x5000, .i1⟩ : BufTy).Contents (Elt F)) j)) (u 3 : (⟨S4x20x5000, .f32⟩ : BufTy).Contents (Elt F)) : (⟨S4x20x5000, .f32⟩ : BufTy).Contents (Elt F))),
    StableHlo.nary ![main_v49, main_v46, main_v36, main_v39, main_v42, main_v45, main_v31] main_v50_4 (fun u => (Host.sortBy S4x20x5000 2 comparator_f32_i32_f32_f32_f32_f32_i1_d2 (fun j => ((u 0 : (⟨S4x20x5000, .f32⟩ : BufTy).Contents (Elt F)) j, (u 1 : (⟨S4x20x5000, .i32⟩ : BufTy).Contents (Elt F)) j, (u 2 : (⟨S4x20x5000, .f32⟩ : BufTy).Contents (Elt F)) j, (u 3 : (⟨S4x20x5000, .f32⟩ : BufTy).Contents (Elt F)) j, (u 4 : (⟨S4x20x5000, .f32⟩ : BufTy).Contents (Elt F)) j, (u 5 : (⟨S4x20x5000, .f32⟩ : BufTy).Contents (Elt F)) j, (u 6 : (⟨S4x20x5000, .i1⟩ : BufTy).Contents (Elt F)) j)) (u 4 : (⟨S4x20x5000, .f32⟩ : BufTy).Contents (Elt F)) : (⟨S4x20x5000, .f32⟩ : BufTy).Contents (Elt F))),
    StableHlo.nary ![main_v49, main_v46, main_v36, main_v39, main_v42, main_v45, main_v31] main_v50_5 (fun u => (Host.sortBy S4x20x5000 2 comparator_f32_i32_f32_f32_f32_f32_i1_d2 (fun j => ((u 0 : (⟨S4x20x5000, .f32⟩ : BufTy).Contents (Elt F)) j, (u 1 : (⟨S4x20x5000, .i32⟩ : BufTy).Contents (Elt F)) j, (u 2 : (⟨S4x20x5000, .f32⟩ : BufTy).Contents (Elt F)) j, (u 3 : (⟨S4x20x5000, .f32⟩ : BufTy).Contents (Elt F)) j, (u 4 : (⟨S4x20x5000, .f32⟩ : BufTy).Contents (Elt F)) j, (u 5 : (⟨S4x20x5000, .f32⟩ : BufTy).Contents (Elt F)) j, (u 6 : (⟨S4x20x5000, .i1⟩ : BufTy).Contents (Elt F)) j)) (u 5 : (⟨S4x20x5000, .f32⟩ : BufTy).Contents (Elt F)) : (⟨S4x20x5000, .f32⟩ : BufTy).Contents (Elt F))),
    StableHlo.nary ![main_v49, main_v46, main_v36, main_v39, main_v42, main_v45, main_v31] main_v50_6 (fun u => (Host.sortBy S4x20x5000 2 comparator_f32_i32_f32_f32_f32_f32_i1_d2 (fun j => ((u 0 : (⟨S4x20x5000, .f32⟩ : BufTy).Contents (Elt F)) j, (u 1 : (⟨S4x20x5000, .i32⟩ : BufTy).Contents (Elt F)) j, (u 2 : (⟨S4x20x5000, .f32⟩ : BufTy).Contents (Elt F)) j, (u 3 : (⟨S4x20x5000, .f32⟩ : BufTy).Contents (Elt F)) j, (u 4 : (⟨S4x20x5000, .f32⟩ : BufTy).Contents (Elt F)) j, (u 5 : (⟨S4x20x5000, .f32⟩ : BufTy).Contents (Elt F)) j, (u 6 : (⟨S4x20x5000, .i1⟩ : BufTy).Contents (Elt F)) j)) (u 6 : (⟨S4x20x5000, .i1⟩ : BufTy).Contents (Elt F)) : (⟨S4x20x5000, .i1⟩ : BufTy).Contents (Elt F))) ]
/-- Each operation of `pre9` touches tensor buffers of the entry function only. -/
theorem pre9_sub : (pre9 : List (HloOp τ sig (Elt F))).Forall fun op => op.bufs ⊆ StableHlo.tcRefs τ sig :=
  ⟨StableHlo.nary_bufs_sub .., StableHlo.nary_bufs_sub .., StableHlo.nary_bufs_sub .., StableHlo.nary_bufs_sub .., StableHlo.nary_bufs_sub .., StableHlo.nary_bufs_sub .., StableHlo.nary_bufs_sub ..⟩

/-- Stretch 10 before the loop. -/
abbrev pre10 : List (HloOp τ sig (Elt F)) :=
  [ StableHlo.unary main_v50_6 main_v51 (noti : (⟨S4x20x5000, .i1⟩ : BufTy).Contents (Elt F) → (⟨S4x20x5000, .i1⟩ : BufTy).Contents (Elt F)),
    StableHlo.nullary main_c_7 (constantI S_ 32 0#32),
    StableHlo.nullary main_c_8 (constantI S_ 32 0#32),
    StableHlo.unary main_v50_2 main_v52_0 id,
    StableHlo.unary main_v50_3 main_v52_1 id,
    StableHlo.unary main_v50_4 main_v52_2 id,
    StableHlo.unary main_v50_5 main_v52_3 id,
    StableHlo.unary main_v46 main_v52_4 id,
    StableHlo.unary main_c_8 main_v52_5 id,
    StableHlo.unary main_c_7 main_v52_6 id,
    StableHlo.unary main_v51 main_v52_7 id ]
/-- Each operation of `pre10` touches tensor buffers of the entry function only. -/
theorem pre10_sub : (pre10 : List (HloOp τ sig (Elt F))).Forall fun op => op.bufs ⊆ StableHlo.tcRefs τ sig :=
  ⟨StableHlo.unary_bufs_sub .., StableHlo.nullary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩

/-- Stretch 0 of the loop body. -/
abbrev bod0 : List (HloOp τ sig (Elt F)) :=
  [ StableHlo.nullary main_while0b_c_18 (constantI S_ 32 1#32),
    StableHlo.binary main_v52_6 main_while0b_c_18 main_while0b_v65 (addi : (⟨S_, .i32⟩ : BufTy).Contents (Elt F) → (⟨S_, .i32⟩ : BufTy).Contents (Elt F) → (⟨S_, .i32⟩ : BufTy).Contents (Elt F)),
    StableHlo.nullary main_while0b_c_19 (constantI S_ 32 0#32),
    StableHlo.binary main_v52_6 main_while0b_c_19 main_while0b_v66 (cmpi .slt : (⟨S_, .i32⟩ : BufTy).Contents (Elt F) → (⟨S_, .i32⟩ : BufTy).Contents (Elt F) → (⟨S_, .i1⟩ : BufTy).Contents (Elt F)),
    StableHlo.unary main_v52_6 main_while0b_v67 (id : (⟨S_, .i32⟩ : BufTy).Contents (Elt F) → (⟨S_, .i32⟩ : BufTy).Contents (Elt F)),
    StableHlo.nullary main_while0b_c_20 (constantI S_ 32 5000#32),
    StableHlo.binary main_while0b_v67 main_while0b_c_20 main_while0b_v68 (addi : (⟨S_, .i32⟩ : BufTy).Contents (Elt F) → (⟨S_, .i32⟩ : BufTy).Contents (Elt F) → (⟨S_, .i32⟩ : BufTy).Contents (Elt F)),
    StableHlo.ternary main_while0b_v66 main_while0b_v68 main_v52_6 main_while0b_v69 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.nullary main_while0b_c_21 (constantI S_ 32 0#32),
    StableHlo.nullary main_while0b_c_22 (constantI S_ 32 0#32),
    StableHlo.unaryIndexed main_v52_0 ![main_while0b_c_21, main_while0b_c_22, main_while0b_v69] ⟨S_, .i32⟩ main_while0b_v70 ((fun x i => Host.dynamicSlice S4x20x1 x (fun k => (i k (Shape.Idx.first h_S_)).toInt) sliceFits_S4x20x5000_S4x20x1) : (⟨S4x20x5000, .f32⟩ : BufTy).Contents (Elt F) → (Fin 3 → (⟨S_, .i32⟩ : BufTy).Contents (Elt F)) → (⟨S4x20x1, .f32⟩ : BufTy).Contents (Elt F)) ]
/-- Each operation of `bod0` touches tensor buffers of the entry function only. -/
theorem bod0_sub : (bod0 : List (HloOp τ sig (Elt F))).Forall fun op => op.bufs ⊆ StableHlo.tcRefs τ sig :=
  ⟨StableHlo.nullary_bufs_sub .., StableHlo.binary_bufs_sub .., StableHlo.nullary_bufs_sub .., StableHlo.binary_bufs_sub .., StableHlo.unary_bufs_sub .., StableHlo.nullary_bufs_sub .., StableHlo.binary_bufs_sub .., StableHlo.ternary_bufs_sub .., StableHlo.nullary_bufs_sub .., StableHlo.nullary_bufs_sub .., StableHlo.unaryIndexed_bufs_sub ..⟩

/-- Stretch 1 of the loop body. -/
abbrev bod1 : List (HloOp τ sig (Elt F)) :=
  [ StableHlo.nullary main_while0b_c_23 (constantI S_ 32 0#32),
    StableHlo.binary main_v52_6 main_while0b_c_23 main_while0b_v71 (cmpi .slt : (⟨S_, .i32⟩ : BufTy).Contents (Elt F) → (⟨S_, .i32⟩ : BufTy).Contents (Elt F) → (⟨S_, .i1⟩ : BufTy).Contents (Elt F)),
    StableHlo.unary main_v52_6 main_while0b_v72 (id : (⟨S_, .i32⟩ : BufTy).Contents (Elt F) → (⟨S_, .i32⟩ : BufTy).Contents (Elt F)),
    StableHlo.nullary main_while0b_c_24 (constantI S_ 32 5000#32),
    StableHlo.binary main_while0b_v72 main_while0b_c_24 main_while0b_v73 (addi : (⟨S_, .i32⟩ : BufTy).Contents (Elt F) → (⟨S_, .i32⟩ : BufTy).Contents (Elt F) → (⟨S_, .i32⟩ : BufTy).Contents (Elt F)),
    StableHlo.ternary main_while0b_v71 main_while0b_v73 main_v52_6 main_while0b_v74 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.nullary main_while0b_c_25 (constantI S_ 32 0#32),
    StableHlo.nullary main_while0b_c_26 (constantI S_ 32 0#32),
    StableHlo.unaryIndexed main_v52_1 ![main_while0b_c_25, main_while0b_c_26, main_while0b_v74] ⟨S_, .i32⟩ main_while0b_v75 ((fun x i => Host.dynamicSlice S4x20x1 x (fun k => (i k (Shape.Idx.first h_S_)).toInt) sliceFits_S4x20x5000_S4x20x1) : (⟨S4x20x5000, .f32⟩ : BufTy).Contents (Elt F) → (Fin 3 → (⟨S_, .i32⟩ : BufTy).Contents (Elt F)) → (⟨S4x20x1, .f32⟩ : BufTy).Contents (Elt F)) ]
/-- Each operation of `bod1` touches tensor buffers of the entry function only. -/
theorem bod1_sub : (bod1 : List (HloOp τ sig (Elt F))).Forall fun op => op.bufs ⊆ StableHlo.tcRefs τ sig :=
  ⟨StableHlo.nullary_bufs_sub .., StableHlo.binary_bufs_sub .., StableHlo.unary_bufs_sub .., StableHlo.nullary_bufs_sub .., StableHlo.binary_bufs_sub .., StableHlo.ternary_bufs_sub .., StableHlo.nullary_bufs_sub .., StableHlo.nullary_bufs_sub .., StableHlo.unaryIndexed_bufs_sub ..⟩

/-- Stretch 2 of the loop body. -/
abbrev bod2 : List (HloOp τ sig (Elt F)) :=
  [ StableHlo.nullary main_while0b_c_27 (constantI S_ 32 0#32),
    StableHlo.binary main_v52_6 main_while0b_c_27 main_while0b_v76 (cmpi .slt : (⟨S_, .i32⟩ : BufTy).Contents (Elt F) → (⟨S_, .i32⟩ : BufTy).Contents (Elt F) → (⟨S_, .i1⟩ : BufTy).Contents (Elt F)),
    StableHlo.unary main_v52_6 main_while0b_v77 (id : (⟨S_, .i32⟩ : BufTy).Contents (Elt F) → (⟨S_, .i32⟩ : BufTy).Contents (Elt F)),
    StableHlo.nullary main_while0b_c_28 (constantI S_ 32 5000#32),
    StableHlo.binary main_while0b_v77 main_while0b_c_28 main_while0b_v78 (addi : (⟨S_, .i32⟩ : BufTy).Contents (Elt F) → (⟨S_, .i32⟩ : BufTy).Contents (Elt F) → (⟨S_, .i32⟩ : BufTy).Contents (Elt F)),
    StableHlo.ternary main_while0b_v76 main_while0b_v78 main_v52_6 main_while0b_v79 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.nullary main_while0b_c_29 (constantI S_ 32 0#32),
    StableHlo.nullary main_while0b_c_30 (constantI S_ 32 0#32),
    StableHlo.unaryIndexed main_v52_2 ![main_while0b_c_29, main_while0b_c_30, main_while0b_v79] ⟨S_, .i32⟩ main_while0b_v80 ((fun x i => Host.dynamicSlice S4x20x1 x (fun k => (i k (Shape.Idx.first h_S_)).toInt) sliceFits_S4x20x5000_S4x20x1) : (⟨S4x20x5000, .f32⟩ : BufTy).Contents (Elt F) → (Fin 3 → (⟨S_, .i32⟩ : BufTy).Contents (Elt F)) → (⟨S4x20x1, .f32⟩ : BufTy).Contents (Elt F)) ]
/-- Each operation of `bod2` touches tensor buffers of the entry function only. -/
theorem bod2_sub : (bod2 : List (HloOp τ sig (Elt F))).Forall fun op => op.bufs ⊆ StableHlo.tcRefs τ sig :=
  ⟨StableHlo.nullary_bufs_sub .., StableHlo.binary_bufs_sub .., StableHlo.unary_bufs_sub .., StableHlo.nullary_bufs_sub .., StableHlo.binary_bufs_sub .., StableHlo.ternary_bufs_sub .., StableHlo.nullary_bufs_sub .., StableHlo.nullary_bufs_sub .., StableHlo.unaryIndexed_bufs_sub ..⟩

/-- Stretch 3 of the loop body. -/
abbrev bod3 : List (HloOp τ sig (Elt F)) :=
  [ StableHlo.nullary main_while0b_c_31 (constantI S_ 32 0#32),
    StableHlo.binary main_v52_6 main_while0b_c_31 main_while0b_v81 (cmpi .slt : (⟨S_, .i32⟩ : BufTy).Contents (Elt F) → (⟨S_, .i32⟩ : BufTy).Contents (Elt F) → (⟨S_, .i1⟩ : BufTy).Contents (Elt F)),
    StableHlo.unary main_v52_6 main_while0b_v82 (id : (⟨S_, .i32⟩ : BufTy).Contents (Elt F) → (⟨S_, .i32⟩ : BufTy).Contents (Elt F)),
    StableHlo.nullary main_while0b_c_32 (constantI S_ 32 5000#32),
    StableHlo.binary main_while0b_v82 main_while0b_c_32 main_while0b_v83 (addi : (⟨S_, .i32⟩ : BufTy).Contents (Elt F) → (⟨S_, .i32⟩ : BufTy).Contents (Elt F) → (⟨S_, .i32⟩ : BufTy).Contents (Elt F)),
    StableHlo.ternary main_while0b_v81 main_while0b_v83 main_v52_6 main_while0b_v84 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.nullary main_while0b_c_33 (constantI S_ 32 0#32),
    StableHlo.nullary main_while0b_c_34 (constantI S_ 32 0#32),
    StableHlo.unaryIndexed main_v52_3 ![main_while0b_c_33, main_while0b_c_34, main_while0b_v84] ⟨S_, .i32⟩ main_while0b_v85 ((fun x i => Host.dynamicSlice S4x20x1 x (fun k => (i k (Shape.Idx.first h_S_)).toInt) sliceFits_S4x20x5000_S4x20x1) : (⟨S4x20x5000, .f32⟩ : BufTy).Contents (Elt F) → (Fin 3 → (⟨S_, .i32⟩ : BufTy).Contents (Elt F)) → (⟨S4x20x1, .f32⟩ : BufTy).Contents (Elt F)) ]
/-- Each operation of `bod3` touches tensor buffers of the entry function only. -/
theorem bod3_sub : (bod3 : List (HloOp τ sig (Elt F))).Forall fun op => op.bufs ⊆ StableHlo.tcRefs τ sig :=
  ⟨StableHlo.nullary_bufs_sub .., StableHlo.binary_bufs_sub .., StableHlo.unary_bufs_sub .., StableHlo.nullary_bufs_sub .., StableHlo.binary_bufs_sub .., StableHlo.ternary_bufs_sub .., StableHlo.nullary_bufs_sub .., StableHlo.nullary_bufs_sub .., StableHlo.unaryIndexed_bufs_sub ..⟩

/-- Stretch 4 of the loop body. -/
abbrev bod4 : List (HloOp τ sig (Elt F)) :=
  [ StableHlo.binary main_while0b_v80 main_while0b_v70 main_while0b_v86 (subf : (⟨S4x20x1, .f32⟩ : BufTy).Contents (Elt F) → (⟨S4x20x1, .f32⟩ : BufTy).Contents (Elt F) → (⟨S4x20x1, .f32⟩ : BufTy).Contents (Elt F)),
    StableHlo.nullary main_while0b_cst_35 (constant S_ .f32 0x00000000#32),
    StableHlo.unary main_while0b_cst_35 main_while0b_v87 (broadcastInDim S4x20x1 ![] bcast_S_S4x20x1 : (⟨S_, .f32⟩ : BufTy).Contents (Elt F) → (⟨S4x20x1, .f32⟩ : BufTy).Contents (Elt F)),
    StableHlo.binary main_while0b_v86 main_while0b_v87 main_while0b_v88 (maximumf : (⟨S4x20x1, .f32⟩ : BufTy).Contents (Elt F) → (⟨S4x20x1, .f32⟩ : BufTy).Contents (Elt F) → (⟨S4x20x1, .f32⟩ : BufTy).Contents (Elt F)),
    StableHlo.binary main_while0b_v85 main_while0b_v75 main_while0b_v89 (subf : (⟨S4x20x1, .f32⟩ : BufTy).Contents (Elt F) → (⟨S4x20x1, .f32⟩ : BufTy).Contents (Elt F) → (⟨S4x20x1, .f32⟩ : BufTy).Contents (Elt F)),
    StableHlo.nullary main_while0b_cst_36 (constant S_ .f32 0x00000000#32),
    StableHlo.unary main_while0b_cst_36 main_while0b_v90 (broadcastInDim S4x20x1 ![] bcast_S_S4x20x1 : (⟨S_, .f32⟩ : BufTy).Contents (Elt F) → (⟨S4x20x1, .f32⟩ : BufTy).Contents (Elt F)),
    StableHlo.binary main_while0b_v89 main_while0b_v90 main_while0b_v91 (maximumf : (⟨S4x20x1, .f32⟩ : BufTy).Contents (Elt F) → (⟨S4x20x1, .f32⟩ : BufTy).Contents (Elt F) → (⟨S4x20x1, .f32⟩ : BufTy).Contents (Elt F)),
    StableHlo.binary main_while0b_v88 main_while0b_v91 main_while0b_v92 (mulf : (⟨S4x20x1, .f32⟩ : BufTy).Contents (Elt F) → (⟨S4x20x1, .f32⟩ : BufTy).Contents (Elt F) → (⟨S4x20x1, .f32⟩ : BufTy).Contents (Elt F)) ]
/-- Each operation of `bod4` touches tensor buffers of the entry function only. -/
theorem bod4_sub : (bod4 : List (HloOp τ sig (Elt F))).Forall fun op => op.bufs ⊆ StableHlo.tcRefs τ sig :=
  ⟨StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub ..⟩

/-- Stretch 5 of the loop body. -/
abbrev bod5 : List (HloOp τ sig (Elt F)) :=
  [ StableHlo.binary main_v52_2 main_v52_0 main_while0b_v93 (subf : (⟨S4x20x5000, .f32⟩ : BufTy).Contents (Elt F) → (⟨S4x20x5000, .f32⟩ : BufTy).Contents (Elt F) → (⟨S4x20x5000, .f32⟩ : BufTy).Contents (Elt F)),
    StableHlo.nullary main_while0b_cst_37 (constant S_ .f32 0x00000000#32),
    StableHlo.unary main_while0b_cst_37 main_while0b_v94 (broadcastInDim S4x20x5000 ![] bcast_S_S4x20x5000 : (⟨S_, .f32⟩ : BufTy).Contents (Elt F) → (⟨S4x20x5000, .f32⟩ : BufTy).Contents (Elt F)),
    StableHlo.binary main_while0b_v93 main_while0b_v94 main_while0b_v95 (maximumf : (⟨S4x20x5000, .f32⟩ : BufTy).Contents (Elt F) → (⟨S4x20x5000, .f32⟩ : BufTy).Contents (Elt F) → (⟨S4x20x5000, .f32⟩ : BufTy).Contents (Elt F)),
    StableHlo.binary main_v52_3 main_v52_1 main_while0b_v96 (subf : (⟨S4x20x5000, .f32⟩ : BufTy).Contents (Elt F) → (⟨S4x20x5000, .f32⟩ : BufTy).Contents (Elt F) → (⟨S4x20x5000, .f32⟩ : BufTy).Contents (Elt F)),
    StableHlo.nullary main_while0b_cst_38 (constant S_ .f32 0x00000000#32),
    StableHlo.unary main_while0b_cst_38 main_while0b_v97 (broadcastInDim S4x20x5000 ![] bcast_S_S4x20x5000 : (⟨S_, .f32⟩ : BufTy).Contents (Elt F) → (⟨S4x20x5000, .f32⟩ : BufTy).Contents (Elt F)),
    StableHlo.binary main_while0b_v96 main_while0b_v97 main_while0b_v98 (maximumf : (⟨S4x20x5000, .f32⟩ : BufTy).Contents (Elt F) → (⟨S4x20x5000, .f32⟩ : BufTy).Contents (Elt F) → (⟨S4x20x5000, .f32⟩ : BufTy).Contents (Elt F)),
    StableHlo.binary main_while0b_v95 main_while0b_v98 main_while0b_v99 (mulf : (⟨S4x20x5000, .f32⟩ : BufTy).Contents (Elt F) → (⟨S4x20x5000, .f32⟩ : BufTy).Contents (Elt F) → (⟨S4x20x5000, .f32⟩ : BufTy).Contents (Elt F)) ]
/-- Each operation of `bod5` touches tensor buffers of the entry function only. -/
theorem bod5_sub : (bod5 : List (HloOp τ sig (Elt F))).Forall fun op => op.bufs ⊆ StableHlo.tcRefs τ sig :=
  ⟨StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub ..⟩

/-- Stretch 6 of the loop body. -/
abbrev bod6 : List (HloOp τ sig (Elt F)) :=
  [ StableHlo.unary main_while0b_v70 main_while0b_v100 (broadcastInDim S4x20x5000 ![0, 1, 2] bcast_S4x20x1_S4x20x5000_0_1_2 : (⟨S4x20x1, .f32⟩ : BufTy).Contents (Elt F) → (⟨S4x20x5000, .f32⟩ : BufTy).Contents (Elt F)),
    StableHlo.binary main_while0b_v100 main_v52_0 main_while0b_v101 (maximumf : (⟨S4x20x5000, .f32⟩ : BufTy).Contents (Elt F) → (⟨S4x20x5000, .f32⟩ : BufTy).Contents (Elt F) → (⟨S4x20x5000, .f32⟩ : BufTy).Contents (Elt F)),
    StableHlo.unary main_while0b_v75 main_while0b_v102 (broadcastInDim S4x20x5000 ![0, 1, 2] bcast_S4x20x1_S4x20x5000_0_1_2 : (⟨S4x20x1, .f32⟩ : BufTy).Contents (Elt F) → (⟨S4x20x5000, .f32⟩ : BufTy).Contents (Elt F)),
    StableHlo.binary main_while0b_v102 main_v52_1 main_while0b_v103 (maximumf : (⟨S4x20x5000, .f32⟩ : BufTy).Contents (Elt F) → (⟨S4x20x5000, .f32⟩ : BufTy).Contents (Elt F) → (⟨S4x20x5000, .f32⟩ : BufTy).Contents (Elt F)),
    StableHlo.unary main_while0b_v80 main_while0b_v104 (broadcastInDim S4x20x5000 ![0, 1, 2] bcast_S4x20x1_S4x20x5000_0_1_2 : (⟨S4x20x1, .f32⟩ : BufTy).Contents (Elt F) → (⟨S4x20x5000, .f32⟩ : BufTy).Contents (Elt F)),
    StableHlo.binary main_while0b_v104 main_v52_2 main_while0b_v105 (minimumf : (⟨S4x20x5000, .f32⟩ : BufTy).Contents (Elt F) → (⟨S4x20x5000, .f32⟩ : BufTy).Contents (Elt F) → (⟨S4x20x5000, .f32⟩ : BufTy).Contents (Elt F)),
    StableHlo.unary main_while0b_v85 main_while0b_v106 (broadcastInDim S4x20x5000 ![0, 1, 2] bcast_S4x20x1_S4x20x5000_0_1_2 : (⟨S4x20x1, .f32⟩ : BufTy).Contents (Elt F) → (⟨S4x20x5000, .f32⟩ : BufTy).Contents (Elt F)),
    StableHlo.binary main_while0b_v106 main_v52_3 main_while0b_v107 (minimumf : (⟨S4x20x5000, .f32⟩ : BufTy).Contents (Elt F) → (⟨S4x20x5000, .f32⟩ : BufTy).Contents (Elt F) → (⟨S4x20x5000, .f32⟩ : BufTy).Contents (Elt F)) ]
/-- Each operation of `bod6` touches tensor buffers of the entry function only. -/
theorem bod6_sub : (bod6 : List (HloOp τ sig (Elt F))).Forall fun op => op.bufs ⊆ StableHlo.tcRefs τ sig :=
  ⟨StableHlo.unary_bufs_sub .., StableHlo.binary_bufs_sub .., StableHlo.unary_bufs_sub .., StableHlo.binary_bufs_sub .., StableHlo.unary_bufs_sub .., StableHlo.binary_bufs_sub .., StableHlo.unary_bufs_sub .., StableHlo.binary_bufs_sub ..⟩

/-- Stretch 7 of the loop body. -/
abbrev bod7 : List (HloOp τ sig (Elt F)) :=
  [ StableHlo.binary main_while0b_v105 main_while0b_v101 main_while0b_v108 (subf : (⟨S4x20x5000, .f32⟩ : BufTy).Contents (Elt F) → (⟨S4x20x5000, .f32⟩ : BufTy).Contents (Elt F) → (⟨S4x20x5000, .f32⟩ : BufTy).Contents (Elt F)),
    StableHlo.nullary main_while0b_cst_39 (constant S_ .f32 0x00000000#32),
    StableHlo.unary main_while0b_cst_39 main_while0b_v109 (broadcastInDim S4x20x5000 ![] bcast_S_S4x20x5000 : (⟨S_, .f32⟩ : BufTy).Contents (Elt F) → (⟨S4x20x5000, .f32⟩ : BufTy).Contents (Elt F)),
    StableHlo.binary main_while0b_v108 main_while0b_v109 main_while0b_v110 (maximumf : (⟨S4x20x5000, .f32⟩ : BufTy).Contents (Elt F) → (⟨S4x20x5000, .f32⟩ : BufTy).Contents (Elt F) → (⟨S4x20x5000, .f32⟩ : BufTy).Contents (Elt F)),
    StableHlo.binary main_while0b_v107 main_while0b_v103 main_while0b_v111 (subf : (⟨S4x20x5000, .f32⟩ : BufTy).Contents (Elt F) → (⟨S4x20x5000, .f32⟩ : BufTy).Contents (Elt F) → (⟨S4x20x5000, .f32⟩ : BufTy).Contents (Elt F)),
    StableHlo.nullary main_while0b_cst_40 (constant S_ .f32 0x00000000#32),
    StableHlo.unary main_while0b_cst_40 main_while0b_v112 (broadcastInDim S4x20x5000 ![] bcast_S_S4x20x5000 : (⟨S_, .f32⟩ : BufTy).Contents (Elt F) → (⟨S4x20x5000, .f32⟩ : BufTy).Contents (Elt F)),
    StableHlo.binary main_while0b_v111 main_while0b_v112 main_while0b_v113 (maximumf : (⟨S4x20x5000, .f32⟩ : BufTy).Contents (Elt F) → (⟨S4x20x5000, .f32⟩ : BufTy).Contents (Elt F) → (⟨S4x20x5000, .f32⟩ : BufTy).Contents (Elt F)),
    StableHlo.binary main_while0b_v110 main_while0b_v113 main_while0b_v114 (mulf : (⟨S4x20x5000, .f32⟩ : BufTy).Contents (Elt F) → (⟨S4x20x5000, .f32⟩ : BufTy).Contents (Elt F) → (⟨S4x20x5000, .f32⟩ : BufTy).Contents (Elt F)) ]
/-- Each operation of `bod7` touches tensor buffers of the entry function only. -/
theorem bod7_sub : (bod7 : List (HloOp τ sig (Elt F))).Forall fun op => op.bufs ⊆ StableHlo.tcRefs τ sig :=
  ⟨StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub ..⟩

/-- Stretch 8 of the loop body. -/
abbrev bod8 : List (HloOp τ sig (Elt F)) :=
  [ StableHlo.unary main_while0b_v92 main_while0b_v115 (broadcastInDim S4x20x5000 ![0, 1, 2] bcast_S4x20x1_S4x20x5000_0_1_2 : (⟨S4x20x1, .f32⟩ : BufTy).Contents (Elt F) → (⟨S4x20x5000, .f32⟩ : BufTy).Contents (Elt F)),
    StableHlo.binary main_while0b_v115 main_while0b_v99 main_while0b_v116 (addf : (⟨S4x20x5000, .f32⟩ : BufTy).Contents (Elt F) → (⟨S4x20x5000, .f32⟩ : BufTy).Contents (Elt F) → (⟨S4x20x5000, .f32⟩ : BufTy).Contents (Elt F)),
    StableHlo.binary main_while0b_v116 main_while0b_v114 main_while0b_v117 (subf : (⟨S4x20x5000, .f32⟩ : BufTy).Contents (Elt F) → (⟨S4x20x5000, .f32⟩ : BufTy).Contents (Elt F) → (⟨S4x20x5000, .f32⟩ : BufTy).Contents (Elt F)),
    StableHlo.nullary main_while0b_cst_41 (constant S_ .f32 0x3089705F#32),
    StableHlo.unary main_while0b_cst_41 main_while0b_v118 (broadcastInDim S4x20x5000 ![] bcast_S_S4x20x5000 : (⟨S_, .f32⟩ : BufTy).Contents (Elt F) → (⟨S4x20x5000, .f32⟩ : BufTy).Contents (Elt F)),
    StableHlo.binary main_while0b_v117 main_while0b_v118 main_while0b_v119 (maximumf : (⟨S4x20x5000, .f32⟩ : BufTy).Contents (Elt F) → (⟨S4x20x5000, .f32⟩ : BufTy).Contents (Elt F) → (⟨S4x20x5000, .f32⟩ : BufTy).Contents (Elt F)),
    StableHlo.binary main_while0b_v114 main_while0b_v119 main_while0b_v120 (Host.divf : (⟨S4x20x5000, .f32⟩ : BufTy).Contents (Elt F) → (⟨S4x20x5000, .f32⟩ : BufTy).Contents (Elt F) → (⟨S4x20x5000, .f32⟩ : BufTy).Contents (Elt F)),
    StableHlo.nullary main_while0b_cst_42 (constant S_ .f32 0x3F000000#32),
    StableHlo.unary main_while0b_cst_42 main_while0b_v121 (broadcastInDim S4x20x5000 ![] bcast_S_S4x20x5000 : (⟨S_, .f32⟩ : BufTy).Contents (Elt F) → (⟨S4x20x5000, .f32⟩ : BufTy).Contents (Elt F)),
    StableHlo.binary main_while0b_v120 main_while0b_v121 main_while0b_v122 (cmpf .ogt : (⟨S4x20x5000, .f32⟩ : BufTy).Contents (Elt F) → (⟨S4x20x5000, .f32⟩ : BufTy).Contents (Elt F) → (⟨S4x20x5000, .i1⟩ : BufTy).Contents (Elt F)) ]
/-- Each operation of `bod8` touches tensor buffers of the entry function only. -/
theorem bod8_sub : (bod8 : List (HloOp τ sig (Elt F))).Forall fun op => op.bufs ⊆ StableHlo.tcRefs τ sig :=
  ⟨StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub ..⟩

/-- Stretch 9 of the loop body. -/
abbrev bod9 : List (HloOp τ sig (Elt F)) :=
  [ StableHlo.unary main_v52_6 main_while0b_v123 (id : (⟨S_, .i32⟩ : BufTy).Contents (Elt F) → (⟨S_, .i32⟩ : BufTy).Contents (Elt F)),
    StableHlo.unary main_while0b_v123 main_while0b_v124 (broadcastInDim S4x20x5000 ![] bcast_S_S4x20x5000 : (⟨S_, .i32⟩ : BufTy).Contents (Elt F) → (⟨S4x20x5000, .i32⟩ : BufTy).Contents (Elt F)),
    StableHlo.binary main_v52_4 main_while0b_v124 main_while0b_v125 (cmpi .sgt : (⟨S4x20x5000, .i32⟩ : BufTy).Contents (Elt F) → (⟨S4x20x5000, .i32⟩ : BufTy).Contents (Elt F) → (⟨S4x20x5000, .i1⟩ : BufTy).Contents (Elt F)),
    StableHlo.binary main_while0b_v122 main_while0b_v125 main_while0b_v126 (andi : (⟨S4x20x5000, .i1⟩ : BufTy).Contents (Elt F) → (⟨S4x20x5000, .i1⟩ : BufTy).Contents (Elt F) → (⟨S4x20x5000, .i1⟩ : BufTy).Contents (Elt F)),
    StableHlo.binary main_v52_7 main_while0b_v126 main_while0b_v127 (ori : (⟨S4x20x5000, .i1⟩ : BufTy).Contents (Elt F) → (⟨S4x20x5000, .i1⟩ : BufTy).Contents (Elt F) → (⟨S4x20x5000, .i1⟩ : BufTy).Contents (Elt F)) ]
/-- Each operation of `bod9` touches tensor buffers of the entry function only. -/
theorem bod9_sub : (bod9 : List (HloOp τ sig (Elt F))).Forall fun op => op.bufs ⊆ StableHlo.tcRefs τ sig :=
  ⟨StableHlo.unary_bufs_sub .., StableHlo.unary_bufs_sub .., StableHlo.binary_bufs_sub .., StableHlo.binary_bufs_sub .., StableHlo.binary_bufs_sub ..⟩

/-- Stretch 10 of the loop body. -/
abbrev bod10 : List (HloOp τ sig (Elt F)) :=
  [ StableHlo.nullary main_while0b_c_43 (constantI S_ 32 0#32),
    StableHlo.binary main_v52_6 main_while0b_c_43 main_while0b_v128 (cmpi .slt : (⟨S_, .i32⟩ : BufTy).Contents (Elt F) → (⟨S_, .i32⟩ : BufTy).Contents (Elt F) → (⟨S_, .i1⟩ : BufTy).Contents (Elt F)),
    StableHlo.unary main_v52_6 main_while0b_v129 (id : (⟨S_, .i32⟩ : BufTy).Contents (Elt F) → (⟨S_, .i32⟩ : BufTy).Contents (Elt F)),
    StableHlo.nullary main_while0b_c_44 (constantI S_ 32 5000#32),
    StableHlo.binary main_while0b_v129 main_while0b_c_44 main_while0b_v130 (addi : (⟨S_, .i32⟩ : BufTy).Contents (Elt F) → (⟨S_, .i32⟩ : BufTy).Contents (Elt F) → (⟨S_, .i32⟩ : BufTy).Contents (Elt F)),
    StableHlo.ternary main_while0b_v128 main_while0b_v130 main_v52_6 main_while0b_v131 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.nullary main_while0b_c_45 (constantI S_ 32 0#32),
    StableHlo.nullary main_while0b_c_46 (constantI S_ 32 0#32),
    StableHlo.unaryIndexed main_v52_7 ![main_while0b_c_45, main_while0b_c_46, main_while0b_v131] ⟨S_, .i32⟩ main_while0b_v132 ((fun x i => Host.dynamicSlice S4x20x1 x (fun k => (i k (Shape.Idx.first h_S_)).toInt) sliceFits_S4x20x5000_S4x20x1) : (⟨S4x20x5000, .i1⟩ : BufTy).Contents (Elt F) → (Fin 3 → (⟨S_, .i32⟩ : BufTy).Contents (Elt F)) → (⟨S4x20x1, .i1⟩ : BufTy).Contents (Elt F)),
    StableHlo.unary main_while0b_v132 main_while0b_v133 (broadcastInDim S4x20x5000 ![0, 1, 2] bcast_S4x20x1_S4x20x5000_0_1_2 : (⟨S4x20x1, .i1⟩ : BufTy).Contents (Elt F) → (⟨S4x20x5000, .i1⟩ : BufTy).Contents (Elt F)),
    StableHlo.ternary main_while0b_v133 main_v52_7 main_while0b_v127 main_while0b_v134 (select : (⟨S4x20x5000, .i1⟩ : BufTy).Contents (Elt F) → (⟨S4x20x5000, .i1⟩ : BufTy).Contents (Elt F) → (⟨S4x20x5000, .i1⟩ : BufTy).Contents (Elt F) → (⟨S4x20x5000, .i1⟩ : BufTy).Contents (Elt F)) ]
/-- Each operation of `bod10` touches tensor buffers of the entry function only. -/
theorem bod10_sub : (bod10 : List (HloOp τ sig (Elt F))).Forall fun op => op.bufs ⊆ StableHlo.tcRefs τ sig :=
  ⟨StableHlo.nullary_bufs_sub .., StableHlo.binary_bufs_sub .., StableHlo.unary_bufs_sub .., StableHlo.nullary_bufs_sub .., StableHlo.binary_bufs_sub .., StableHlo.ternary_bufs_sub .., StableHlo.nullary_bufs_sub .., StableHlo.nullary_bufs_sub .., StableHlo.unaryIndexed_bufs_sub .., StableHlo.unary_bufs_sub .., StableHlo.ternary_bufs_sub ..⟩

/-- Stretch 11 of the loop body. -/
abbrev bod11 : List (HloOp τ sig (Elt F)) :=
  [ StableHlo.nullary main_while0b_c_47 (constantI S_ 32 1#32),
    StableHlo.binary main_v52_5 main_while0b_c_47 main_while0b_v135 (addi : (⟨S_, .i32⟩ : BufTy).Contents (Elt F) → (⟨S_, .i32⟩ : BufTy).Contents (Elt F) → (⟨S_, .i32⟩ : BufTy).Contents (Elt F)),
    StableHlo.unary main_while0b_v135 main_v52_5 id,
    StableHlo.unary main_while0b_v65 main_v52_6 id,
    StableHlo.unary main_while0b_v134 main_v52_7 id ]
/-- Each operation of `bod11` touches tensor buffers of the entry function only. -/
theorem bod11_sub : (bod11 : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.unary_bufs_sub ..⟩

/-- Stretch 0 after the loop. -/
abbrev post0 : List (HloOp τ sig (Elt F)) :=
  [ StableHlo.unary main_v52_7 main_v53 (noti : (⟨S4x20x5000, .i1⟩ : BufTy).Contents (Elt F) → (⟨S4x20x5000, .i1⟩ : BufTy).Contents (Elt F)),
    StableHlo.binary main_v53 main_v50_6 main_v54 (andi : (⟨S4x20x5000, .i1⟩ : BufTy).Contents (Elt F) → (⟨S4x20x5000, .i1⟩ : BufTy).Contents (Elt F) → (⟨S4x20x5000, .i1⟩ : BufTy).Contents (Elt F)) ]
/-- Each operation of `post0` touches tensor buffers of the entry function only. -/
theorem post0_sub : (post0 : List (HloOp τ sig (Elt F))).Forall fun op => op.bufs ⊆ StableHlo.tcRefs τ sig :=
  ⟨StableHlo.unary_bufs_sub .., StableHlo.binary_bufs_sub ..⟩

/-- Stretch 1 after the loop. -/
abbrev post1 : List (HloOp τ sig (Elt F)) :=
  [ StableHlo.unary main_v50_1 main_v55 (broadcastInDim S4x20x1x5000 ![0, 1, 3] bcast_S4x20x5000_S4x20x1x5000_0_1_3 : (⟨S4x20x5000, .i32⟩ : BufTy).Contents (Elt F) → (⟨S4x20x1x5000, .i32⟩ : BufTy).Contents (Elt F)),
    StableHlo.nullary main_v56 (iotaInDim S1x1x5000x1 32 2),
    StableHlo.unary main_v55 main_v57 (broadcastInDim S4x20x5000x5000 ![0, 1, 2, 3] bcast_S4x20x1x5000_S4x20x5000x5000_0_1_2_3 : (⟨S4x20x1x5000, .i32⟩ : BufTy).Contents (Elt F) → (⟨S4x20x5000x5000, .i32⟩ : BufTy).Contents (Elt F)),
    StableHlo.unary main_v56 main_v58 (broadcastInDim S4x20x5000x5000 ![0, 1, 2, 3] bcast_S1x1x5000x1_S4x20x5000x5000_0_1_2_3 : (⟨S1x1x5000x1, .i32⟩ : BufTy).Contents (Elt F) → (⟨S4x20x5000x5000, .i32⟩ : BufTy).Contents (Elt F)),
    StableHlo.binary main_v57 main_v58 main_v59 (cmpi .eq : (⟨S4x20x5000x5000, .i32⟩ : BufTy).Contents (Elt F) → (⟨S4x20x5000x5000, .i32⟩ : BufTy).Contents (Elt F) → (⟨S4x20x5000x5000, .i1⟩ : BufTy).Contents (Elt F)) ]
/-- Each operation of `post1` touches tensor buffers of the entry function only. -/
theorem post1_sub : (post1 : List (HloOp τ sig (Elt F))).Forall fun op => op.bufs ⊆ StableHlo.tcRefs τ sig :=
  ⟨StableHlo.unary_bufs_sub .., StableHlo.nullary_bufs_sub .., StableHlo.unary_bufs_sub .., StableHlo.unary_bufs_sub .., StableHlo.binary_bufs_sub ..⟩

/-- Stretch 2 after the loop. -/
abbrev post2 : List (HloOp τ sig (Elt F)) :=
  [ StableHlo.unary main_v54 main_v60 (broadcastInDim S4x20x1x5000 ![0, 1, 3] bcast_S4x20x5000_S4x20x1x5000_0_1_3 : (⟨S4x20x5000, .i1⟩ : BufTy).Contents (Elt F) → (⟨S4x20x1x5000, .i1⟩ : BufTy).Contents (Elt F)),
    StableHlo.unary main_v60 main_v61 (broadcastInDim S4x20x5000x5000 ![0, 1, 2, 3] bcast_S4x20x1x5000_S4x20x5000x5000_0_1_2_3 : (⟨S4x20x1x5000, .i1⟩ : BufTy).Contents (Elt F) → (⟨S4x20x5000x5000, .i1⟩ : BufTy).Contents (Elt F)),
    StableHlo.binary main_v59 main_v61 main_v62 (andi : (⟨S4x20x5000x5000, .i1⟩ : BufTy).Contents (Elt F) → (⟨S4x20x5000x5000, .i1⟩ : BufTy).Contents (Elt F) → (⟨S4x20x5000x5000, .i1⟩ : BufTy).Contents (Elt F)) ]
/-- Each operation of `post2` touches tensor buffers of the entry function only. -/
theorem post2_sub : (post2 : List (HloOp τ sig (Elt F))).Forall fun op => op.bufs ⊆ StableHlo.tcRefs τ sig :=
  ⟨StableHlo.unary_bufs_sub .., StableHlo.unary_bufs_sub .., StableHlo.binary_bufs_sub ..⟩

/-- Stretch 3 after the loop. -/
abbrev post3 : List (HloOp τ sig (Elt F)) :=
  [ StableHlo.nullary main_c_9 (constantI S_ 1 0#1),
    StableHlo.binary main_v62 main_c_9 main_v63 ((fun x v => Host.reduce IntOp.ori x v reducesTo_S4x20x5000x5000_S4x20x5000_d3 h_S_) : (⟨S4x20x5000x5000, .i1⟩ : BufTy).Contents (Elt F) → (⟨S_, .i1⟩ : BufTy).Contents (Elt F) → (⟨S4x20x5000, .i1⟩ : BufTy).Contents (Elt F)),
    StableHlo.nullary main_c_10 (constantI S_ 1 0#1),
    StableHlo.binary main_v63 main_c_10 main_v64 ((fun x v => Host.reduce IntOp.ori x v reducesTo_S4x20x5000_S4x5000_d1 h_S_) : (⟨S4x20x5000, .i1⟩ : BufTy).Contents (Elt F) → (⟨S_, .i1⟩ : BufTy).Contents (Elt F) → (⟨S4x5000, .i1⟩ : BufTy).Contents (Elt F)) ]
/-- Each operation of `post3` touches tensor buffers of the entry function only. -/
theorem post3_sub : (post3 : List (HloOp τ sig (Elt F))).Forall fun op => op.bufs ⊆ StableHlo.tcRefs τ sig :=
  ⟨StableHlo.nullary_bufs_sub .., StableHlo.binary_bufs_sub .., StableHlo.nullary_bufs_sub .., StableHlo.binary_bufs_sub ..⟩

/-- The condition's two operations. -/
abbrev condOps : List (HloOp τ sig (Elt F)) :=
  [ StableHlo.nullary main_while0c_c_18 (constantI S_ 32 5000#32),
    StableHlo.binary main_v52_5 main_while0c_c_18 main_while0c_v65 (cmpi .slt : (⟨S_, .i32⟩ : BufTy).Contents (Elt F) → (⟨S_, .i32⟩ : BufTy).Contents (Elt F) → (⟨S_, .i1⟩ : BufTy).Contents (Elt F)) ]

/-- The `pre` stretches in order. -/
abbrev preI : List (List (HloOp τ sig (Elt F))) := [pre0, pre1, pre2, pre3, pre4, pre5, pre6, pre7, pre8, pre9, pre10]
/-- They allocate nothing and touch tensor buffers only. -/
theorem preI_plain : StableHlo.Plain (preI : List (List (HloOp τ sig (Elt F)))) :=
  StableHlo.Plain.cons pre0_sub (StableHlo.Plain.cons pre1_sub (StableHlo.Plain.cons pre2_sub (StableHlo.Plain.cons pre3_sub (StableHlo.Plain.cons pre4_sub (StableHlo.Plain.cons pre5_sub (StableHlo.Plain.cons pre6_sub (StableHlo.Plain.cons pre7_sub (StableHlo.Plain.cons pre8_sub (StableHlo.Plain.cons pre9_sub (StableHlo.Plain.cons pre10_sub StableHlo.Plain.nil))))))))))

/-- The `bod` stretches in order. -/
abbrev bodI : List (List (HloOp τ sig (Elt F))) := [bod0, bod1, bod2, bod3, bod4, bod5, bod6, bod7, bod8, bod9, bod10, bod11]
/-- They allocate nothing and touch tensor buffers only. -/
theorem bodI_plain : StableHlo.Plain (bodI : List (List (HloOp τ sig (Elt F)))) :=
  StableHlo.Plain.cons bod0_sub (StableHlo.Plain.cons bod1_sub (StableHlo.Plain.cons bod2_sub (StableHlo.Plain.cons bod3_sub (StableHlo.Plain.cons bod4_sub (StableHlo.Plain.cons bod5_sub (StableHlo.Plain.cons bod6_sub (StableHlo.Plain.cons bod7_sub (StableHlo.Plain.cons bod8_sub (StableHlo.Plain.cons bod9_sub (StableHlo.Plain.cons bod10_sub (StableHlo.Plain.cons bod11_sub StableHlo.Plain.nil)))))))))))

/-- The `post` stretches in order. -/
abbrev postI : List (List (HloOp τ sig (Elt F))) := [post0, post1, post2, post3]
/-- They allocate nothing and touch tensor buffers only. -/
theorem postI_plain : StableHlo.Plain (postI : List (List (HloOp τ sig (Elt F)))) :=
  StableHlo.Plain.cons post0_sub (StableHlo.Plain.cons post1_sub (StableHlo.Plain.cons post2_sub (StableHlo.Plain.cons post3_sub StableHlo.Plain.nil)))

/-- The entry function is its stretches in order with the loop between. -/
theorem main_chain (c : Dev nD) : main (F := F) c = (Pipeline.chain
  [ StableHlo.seq pre0,
    StableHlo.seq pre1,
    StableHlo.seq pre2,
    StableHlo.seq pre3,
    StableHlo.seq pre4,
    StableHlo.seq pre5,
    StableHlo.seq pre6,
    StableHlo.seq pre7,
    StableHlo.seq pre8,
    StableHlo.seq pre9,
    StableHlo.seq pre10,
    HostLoop.enter 0,
    StableHlo.seq post0,
    StableHlo.seq post1,
    StableHlo.seq post2,
    StableHlo.seq post3 ] : Prog (TpuEff nD τ sig (Elt F) (HostLoop.Sig (Pipeline.Sig Λ₀ (Fin 0) fun p => (pcfgs (F := F) p).Adm) 1) .tc) PUnit) := by
  rewrite [StableHlo.chain_seq_cons, StableHlo.chain_seq_cons, Pipeline.chain_cons, StableHlo.chain_seq_cons, StableHlo.chain_seq_cons, StableHlo.chain_seq_cons, StableHlo.chain_seq_cons, StableHlo.chain_seq_cons, StableHlo.chain_seq_cons, StableHlo.chain_seq_cons, StableHlo.chain_seq_cons, Pipeline.chain_cons, StableHlo.chain_seq_cons, StableHlo.chain_seq_cons, StableHlo.chain_seq_cons, StableHlo.chain_seq_cons]
  chain_rfl

/-- The loop body is its stretches in order. -/
theorem body_chain : main_while0_body (F := F) = (Pipeline.chain
  [ StableHlo.seq bod0,
    StableHlo.seq bod1,
    StableHlo.seq bod2,
    StableHlo.seq bod3,
    StableHlo.seq bod4,
    StableHlo.seq bod5,
    StableHlo.seq bod6,
    StableHlo.seq bod7,
    StableHlo.seq bod8,
    StableHlo.seq bod9,
    StableHlo.seq bod10,
    StableHlo.seq bod11 ] : Prog (TpuEff nD τ sig (Elt F) (HostLoop.Sig (Pipeline.Sig Λ₀ (Fin 0) fun p => (pcfgs (F := F) p).Adm) 1) .tc) PUnit) := by
  rewrite [StableHlo.chain_seq_cons, StableHlo.chain_seq_cons, StableHlo.chain_seq_cons, StableHlo.chain_seq_cons, StableHlo.chain_seq_cons, StableHlo.chain_seq_cons, StableHlo.chain_seq_cons, StableHlo.chain_seq_cons, StableHlo.chain_seq_cons, StableHlo.chain_seq_cons, StableHlo.chain_seq_cons, StableHlo.chain_seq_cons]
  chain_rfl

end Cert.Proof.RI

end
-- ==== Proof.RI.Vals.lean ====
/-
  What each stretch of the reference program leaves in the buffers the later ones read.
-/
module

public import proofs.«01_k».proof.Proof.RI.Ops

@[expose] public section

set_option maxRecDepth 16384

noncomputable section

namespace Cert.Proof.RI

open Cert.ReferenceIdeal Cert.ReferenceIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- Region rounding plus deltas: the shifted boxes. -/
def rAdj (x0 x2 : FVec F S4x5000x4 .f32) : FVec F S4x5000x4 .f32 :=
  addf x2 (Host.divf (concatenate S4x5000x4 2
    [⟨S4x5000x2, Host.floor (mulf (extractStridedSlice S4x5000x2 ![0, 0, 0] x0 slices_S4x5000x4_S4x5000x2_0_0_0) (broadcastInDim S4x5000x2 ![] bcast_S_S4x5000x2 (constant S_ .f32 0x41800000#32)))⟩,
     ⟨S4x5000x2, Host.ceil (mulf (extractStridedSlice S4x5000x2 ![0, 0, 2] x0 slices_S4x5000x4_S4x5000x2_0_0_2) (broadcastInDim S4x5000x2 ![] bcast_S_S4x5000x2 (constant S_ .f32 0x41800000#32)))⟩]
    concatenates_S4x5000x2_S4x5000x2_S4x5000x4_d2) (broadcastInDim S4x5000x4 ![] bcast_S_S4x5000x4 (constant S_ .f32 0x41800000#32)))

/-- The exponentials of the shifted logits. -/
def rExp (x3 : FVec F S4x5000x21 .f32) : FVec F S4x5000x21 .f32 :=
  Host.exp (subf x3 (broadcastInDim S4x5000x21 ![0, 1, 2] bcast_S4x5000x1_S4x5000x21_0_1_2 (broadcastInDim S4x5000x1 ![0, 1] bcast_S4x5000_S4x5000x1_0_1
    (maximumf (broadcastInDim S4x5000 ![] bcast_S_S4x5000 (constant S_ .f32 0xFF800000#32))
      (Host.reduce FloatOps.maximumf x3 (constant S_ .f32 0xFF800000#32) reducesTo_S4x5000x21_S4x5000_d2 h_S_)))))

/-- The softmax over the classes. -/
def rSm (x3 : FVec F S4x5000x21 .f32) : FVec F S4x5000x21 .f32 :=
  Host.divf (rExp x3) (broadcastInDim S4x5000x21 ![0, 1, 2] bcast_S4x5000x1_S4x5000x21_0_1_2 (broadcastInDim S4x5000x1 ![0, 1] bcast_S4x5000_S4x5000x1_0_1
    (Host.reduceAdd (rExp x3) (constant S_ .f32 0x00000000#32) reducesTo_S4x5000x21_S4x5000_d2 h_S_)))

/-- The most probable class of each box, the first among equals. -/
def rCls (p : FVec F S4x5000x21 .f32) : IVec S4x5000 32 :=
  fun j => (Host.argReduce reducer_argmax_f32_i32 p (iotaInDim S4x5000x21 32 2) (constant S_ .f32 0xFF800000#32) (constantI S_ 32 0#32) reducesTo_S4x5000x21_S4x5000_d2 h_S_ j).2

/-- A box spread over the twenty object classes. -/
def rSpread {e : EltTy} (x : (⟨S4x5000, e⟩ : BufTy).Contents (Elt F)) : (⟨S4x20x5000, e⟩ : BufTy).Contents (Elt F) :=
  broadcastInDim S4x20x5000 ![0, 2] bcast_S4x5000_S4x20x5000_0_2 x

/-- One word at every place of [4, 20, 5000]. -/
def rAll {e : EltTy} (x : (⟨S_, e⟩ : BufTy).Contents (Elt F)) : (⟨S4x20x5000, e⟩ : BufTy).Contents (Elt F) :=
  broadcastInDim S4x20x5000 ![] bcast_S_S4x20x5000 x

/-- Which boxes belong to which object class. -/
def rValid (cl : IVec S4x5000 32) : IVec S4x20x5000 1 :=
  andi (cmpi .ne (rSpread (F := F) (e := .i32) cl) (rAll (F := F) (e := .i32) (constantI S_ 32 0#32)))
    (cmpi .eq (rSpread (F := F) (e := .i32) cl) (addi (iotaInDim S4x20x5000 32 1) (rAll (F := F) (e := .i32) (constantI S_ 32 1#32))))

/-- The scores of the object classes. -/
def rSc (p : FVec F S4x5000x21 .f32) : FVec F S4x20x5000 .f32 :=
  extractStridedSlice S4x20x5000 ![0, 1, 0] (transpose S4x21x5000 [0, 2, 1] p transposes_S4x5000x21_S4x21x5000_0_2_1) slices_S4x21x5000_S4x20x5000_0_1_0

/-- The four coordinates of the boxes, spread over the classes. -/
def rY1 (a : FVec F S4x5000x4 .f32) : FVec F S4x20x5000 .f32 :=
  rSpread (F := F) (e := .f32) (shapeCast S4x5000 (extractStridedSlice S4x5000x1 ![0, 0, 0] a slices_S4x5000x4_S4x5000x1_0_0_0) shapeCasts_S4x5000x1_S4x5000)
@[inherit_doc rY1]
def rX1 (a : FVec F S4x5000x4 .f32) : FVec F S4x20x5000 .f32 :=
  rSpread (F := F) (e := .f32) (shapeCast S4x5000 (extractStridedSlice S4x5000x1 ![0, 0, 1] a slices_S4x5000x4_S4x5000x1_0_0_1) shapeCasts_S4x5000x1_S4x5000)
@[inherit_doc rY1]
def rY2 (a : FVec F S4x5000x4 .f32) : FVec F S4x20x5000 .f32 :=
  rSpread (F := F) (e := .f32) (shapeCast S4x5000 (extractStridedSlice S4x5000x1 ![0, 0, 2] a slices_S4x5000x4_S4x5000x1_0_0_2) shapeCasts_S4x5000x1_S4x5000)
@[inherit_doc rY1]
def rX2 (a : FVec F S4x5000x4 .f32) : FVec F S4x20x5000 .f32 :=
  rSpread (F := F) (e := .f32) (shapeCast S4x5000 (extractStridedSlice S4x5000x1 ![0, 0, 3] a slices_S4x5000x4_S4x5000x1_0_0_3) shapeCasts_S4x5000x1_S4x5000)

/-- The sort key: minus the score of a box of the class, plus infinity for the others. -/
def rNeg (v : IVec S4x20x5000 1) (s : FVec F S4x20x5000 .f32) : FVec F S4x20x5000 .f32 :=
  Host.negf (select v s (rAll (F := F) (e := .f32) (constant S_ .f32 0xFF800000#32)))

/-- The records the sort orders. -/
def rKey (n : FVec F S4x20x5000 .f32) (y1 x1 y2 x2 : FVec F S4x20x5000 .f32) (v : IVec S4x20x5000 1) (j : S4x20x5000.Idx) :
    F .f32 × BitVec 32 × F .f32 × F .f32 × F .f32 × F .f32 × BitVec 1 :=
  (n j, iotaInDim S4x20x5000 32 2 j, y1 j, x1 j, y2 j, x2 j, v j)

/-- An array taken into the order of the sorted records. -/
def rSort {β : Type} (K : S4x20x5000.Idx → F .f32 × BitVec 32 × F .f32 × F .f32 × F .f32 × F .f32 × BitVec 1) (x : S4x20x5000.Idx → β) : S4x20x5000.Idx → β :=
  Host.sortBy S4x20x5000 2 comparator_f32_i32_f32_f32_f32_f32_i1_d2 K x

/-- A loop index, wrapped once if negative. -/
def rIx (i : IVec S_ 32) : IVec S_ 32 :=
  select (cmpi .slt i (constantI S_ 32 0#32)) (addi i (constantI S_ 32 5000#32)) i

/-- One column of an array. -/
def rCol {e : EltTy} (x : (⟨S4x20x5000, e⟩ : BufTy).Contents (Elt F)) (i : IVec S_ 32) : (⟨S4x20x1, e⟩ : BufTy).Contents (Elt F) :=
  Host.dynamicSlice S4x20x1 x (fun k => ((![constantI S_ 32 0#32, constantI S_ 32 0#32, rIx i] : Fin 3 → IVec S_ 32) k (Shape.Idx.first h_S_)).toInt) sliceFits_S4x20x5000_S4x20x1

/-- A column spread back over all boxes. -/
def rWide {e : EltTy} (x : (⟨S4x20x1, e⟩ : BufTy).Contents (Elt F)) : (⟨S4x20x5000, e⟩ : BufTy).Contents (Elt F) :=
  broadcastInDim S4x20x5000 ![0, 1, 2] bcast_S4x20x1_S4x20x5000_0_1_2 x

/-- The area of the column's boxes. -/
def rArea1 (y1 x1 y2 x2 : FVec F S4x20x1 .f32) : FVec F S4x20x1 .f32 :=
  mulf (maximumf (subf y2 y1) (broadcastInDim S4x20x1 ![] bcast_S_S4x20x1 (constant S_ .f32 0x00000000#32)))
    (maximumf (subf x2 x1) (broadcastInDim S4x20x1 ![] bcast_S_S4x20x1 (constant S_ .f32 0x00000000#32)))

/-- The area of all boxes, or of the intersections given by their corners. -/
def rArea (y1 x1 y2 x2 : FVec F S4x20x5000 .f32) : FVec F S4x20x5000 .f32 :=
  mulf (maximumf (subf y2 y1) (rAll (F := F) (e := .f32) (constant S_ .f32 0x00000000#32))) (maximumf (subf x2 x1) (rAll (F := F) (e := .f32) (constant S_ .f32 0x00000000#32)))

/-- Which boxes overlap by more than half, from the areas and the intersection. -/
def rOver (a1 : FVec F S4x20x1 .f32) (a it : FVec F S4x20x5000 .f32) : IVec S4x20x5000 1 :=
  cmpf .ogt (Host.divf it (maximumf (subf (addf (rWide (F := F) (e := .f32) a1) a) it) (rAll (F := F) (e := .f32) (constant S_ .f32 0x3089705F#32)))) (rAll (F := F) (e := .f32) (constant S_ .f32 0x3F000000#32))

/-- The intersections of the column's boxes with all boxes. -/
def rInter (cy1 cx1 cy2 cx2 : FVec F S4x20x1 .f32) (y1 x1 y2 x2 : FVec F S4x20x5000 .f32) : FVec F S4x20x5000 .f32 :=
  rArea (maximumf (rWide (F := F) (e := .f32) cy1) y1) (maximumf (rWide (F := F) (e := .f32) cx1) x1) (minimumf (rWide (F := F) (e := .f32) cy2) y2) (minimumf (rWide (F := F) (e := .f32) cx2) x2)

/-- Whether box `i` of the order overlaps the others by more than half. -/
def rOv (y1 x1 y2 x2 : FVec F S4x20x5000 .f32) (i : IVec S_ 32) : IVec S4x20x5000 1 :=
  rOver (rArea1 (rCol (F := F) (e := .f32) y1 i) (rCol (F := F) (e := .f32) x1 i) (rCol (F := F) (e := .f32) y2 i) (rCol (F := F) (e := .f32) x2 i)) (rArea y1 x1 y2 x2)
    (rInter (rCol (F := F) (e := .f32) y1 i) (rCol (F := F) (e := .f32) x1 i) (rCol (F := F) (e := .f32) y2 i) (rCol (F := F) (e := .f32) x2 i) y1 x1 y2 x2)

/-- The suppressed boxes after box `i` is looked at. -/
def rSup (ov : IVec S4x20x5000 1) (s : IVec S4x20x5000 1) (i : IVec S_ 32) : IVec S4x20x5000 1 :=
  select (rWide (F := F) (e := .i1) (rCol (F := F) (e := .i1) s i)) s (ori s (andi ov (cmpi .sgt (iotaInDim S4x20x5000 32 2) (rAll (F := F) (e := .i32) i))))

/-- The kept boxes put back at their places, any class. -/
def rOut (ord : IVec S4x20x5000 32) (v s : IVec S4x20x5000 1) : IVec S4x5000 1 :=
  Host.reduce IntOp.ori (Host.reduce IntOp.ori
    (andi (cmpi .eq (broadcastInDim S4x20x5000x5000 ![0, 1, 2, 3] bcast_S4x20x1x5000_S4x20x5000x5000_0_1_2_3 (broadcastInDim S4x20x1x5000 ![0, 1, 3] bcast_S4x20x5000_S4x20x1x5000_0_1_3 ord))
        (broadcastInDim S4x20x5000x5000 ![0, 1, 2, 3] bcast_S1x1x5000x1_S4x20x5000x5000_0_1_2_3 (iotaInDim S1x1x5000x1 32 2)))
      (broadcastInDim S4x20x5000x5000 ![0, 1, 2, 3] bcast_S4x20x1x5000_S4x20x5000x5000_0_1_2_3 (broadcastInDim S4x20x1x5000 ![0, 1, 3] bcast_S4x20x5000_S4x20x1x5000_0_1_3 (andi (noti s) v))))
    (constantI S_ 1 0#1) reducesTo_S4x20x5000x5000_S4x20x5000_d3 h_S_) (constantI S_ 1 0#1) reducesTo_S4x20x5000_S4x5000_d1 h_S_

local notation "VV" => Valuation τ sig (Elt F)

/-- `pre0` leaves every buffer it does not name as a result. -/
theorem keep_pre0 (b : Ref sig .tc) (h : b ∉ ([main_v0, main_cst, main_v1, main_v2, main_v3, main_v4, main_cst_0, main_v5, main_v6, main_v7, main_v8, main_cst_1, main_v9, main_v10, main_v11] : List (Ref sig .tc))) (V : VV) : StableHlo.after pre0 V (Proc.devRef .tc b) = V (Proc.devRef .tc b) :=
  StableHlo.after_of_forall_not_mem _ V fun op hop => by
    fin_cases hop <;> exact fun h' => StableHlo.devRef_ne_of_ne (fun e => h (by rw [e]; decide)) (Finset.mem_singleton.mp h')

/-- `pre1` leaves every buffer it does not name as a result. -/
theorem keep_pre1 (b : Ref sig .tc) (h : b ∉ ([main_cst_2, main_v12, main_cst_3, main_v13, main_v14, main_v15, main_v16, main_v17, main_v18, main_cst_4, main_v19, main_v20, main_v21, main_v22] : List (Ref sig .tc))) (V : VV) : StableHlo.after pre1 V (Proc.devRef .tc b) = V (Proc.devRef .tc b) :=
  StableHlo.after_of_forall_not_mem _ V fun op hop => by
    fin_cases hop <;> exact fun h' => StableHlo.devRef_ne_of_ne (fun e => h (by rw [e]; decide)) (Finset.mem_singleton.mp h')

/-- `pre2` leaves every buffer it does not name as a result. -/
theorem keep_pre2 (b : Ref sig .tc) (h : b ∉ ([main_call0_v0, main_call0_cst, main_call0_c, main_call0_v1_0, main_v23] : List (Ref sig .tc))) (V : VV) : StableHlo.after pre2 V (Proc.devRef .tc b) = V (Proc.devRef .tc b) :=
  StableHlo.after_of_forall_not_mem _ V fun op hop => by
    fin_cases hop <;> exact fun h' => StableHlo.devRef_ne_of_ne (fun e => h (by rw [e]; decide)) (Finset.mem_singleton.mp h')

/-- `pre3` leaves every buffer it does not name as a result. -/
theorem keep_pre3 (b : Ref sig .tc) (h : b ∉ ([main_v24, main_c, main_v25, main_v26, main_v27, main_c_5, main_v28, main_v29, main_v30, main_v31, main_v32, main_v33] : List (Ref sig .tc))) (V : VV) : StableHlo.after pre3 V (Proc.devRef .tc b) = V (Proc.devRef .tc b) :=
  StableHlo.after_of_forall_not_mem _ V fun op hop => by
    fin_cases hop <;> exact fun h' => StableHlo.devRef_ne_of_ne (fun e => h (by rw [e]; decide)) (Finset.mem_singleton.mp h')

/-- `pre4` leaves every buffer it does not name as a result. -/
theorem keep_pre4 (b : Ref sig .tc) (h : b ∉ ([main_v34, main_v35, main_v36] : List (Ref sig .tc))) (V : VV) : StableHlo.after pre4 V (Proc.devRef .tc b) = V (Proc.devRef .tc b) :=
  StableHlo.after_of_forall_not_mem _ V fun op hop => by
    fin_cases hop <;> exact fun h' => StableHlo.devRef_ne_of_ne (fun e => h (by rw [e]; decide)) (Finset.mem_singleton.mp h')

/-- `pre5` leaves every buffer it does not name as a result. -/
theorem keep_pre5 (b : Ref sig .tc) (h : b ∉ ([main_v37, main_v38, main_v39] : List (Ref sig .tc))) (V : VV) : StableHlo.after pre5 V (Proc.devRef .tc b) = V (Proc.devRef .tc b) :=
  StableHlo.after_of_forall_not_mem _ V fun op hop => by
    fin_cases hop <;> exact fun h' => StableHlo.devRef_ne_of_ne (fun e => h (by rw [e]; decide)) (Finset.mem_singleton.mp h')

/-- `pre6` leaves every buffer it does not name as a result. -/
theorem keep_pre6 (b : Ref sig .tc) (h : b ∉ ([main_v40, main_v41, main_v42] : List (Ref sig .tc))) (V : VV) : StableHlo.after pre6 V (Proc.devRef .tc b) = V (Proc.devRef .tc b) :=
  StableHlo.after_of_forall_not_mem _ V fun op hop => by
    fin_cases hop <;> exact fun h' => StableHlo.devRef_ne_of_ne (fun e => h (by rw [e]; decide)) (Finset.mem_singleton.mp h')

/-- `pre7` leaves every buffer it does not name as a result. -/
theorem keep_pre7 (b : Ref sig .tc) (h : b ∉ ([main_v43, main_v44, main_v45] : List (Ref sig .tc))) (V : VV) : StableHlo.after pre7 V (Proc.devRef .tc b) = V (Proc.devRef .tc b) :=
  StableHlo.after_of_forall_not_mem _ V fun op hop => by
    fin_cases hop <;> exact fun h' => StableHlo.devRef_ne_of_ne (fun e => h (by rw [e]; decide)) (Finset.mem_singleton.mp h')

/-- `pre8` leaves every buffer it does not name as a result. -/
theorem keep_pre8 (b : Ref sig .tc) (h : b ∉ ([main_v46, main_cst_6, main_v47, main_v48, main_v49] : List (Ref sig .tc))) (V : VV) : StableHlo.after pre8 V (Proc.devRef .tc b) = V (Proc.devRef .tc b) :=
  StableHlo.after_of_forall_not_mem _ V fun op hop => by
    fin_cases hop <;> exact fun h' => StableHlo.devRef_ne_of_ne (fun e => h (by rw [e]; decide)) (Finset.mem_singleton.mp h')

/-- `pre9` leaves every buffer it does not name as a result. -/
theorem keep_pre9 (b : Ref sig .tc) (h : b ∉ ([main_v50_0, main_v50_1, main_v50_2, main_v50_3, main_v50_4, main_v50_5, main_v50_6] : List (Ref sig .tc))) (V : VV) : StableHlo.after pre9 V (Proc.devRef .tc b) = V (Proc.devRef .tc b) :=
  StableHlo.after_of_forall_not_mem _ V fun op hop => by
    fin_cases hop <;> exact fun h' => StableHlo.devRef_ne_of_ne (fun e => h (by rw [e]; decide)) (Finset.mem_singleton.mp h')

/-- `pre10` leaves every buffer it does not name as a result. -/
theorem keep_pre10 (b : Ref sig .tc) (h : b ∉ ([main_v51, main_c_7, main_c_8, main_v52_0, main_v52_1, main_v52_2, main_v52_3, main_v52_4, main_v52_5, main_v52_6, main_v52_7] : List (Ref sig .tc))) (V : VV) : StableHlo.after pre10 V (Proc.devRef .tc b) = V (Proc.devRef .tc b) :=
  StableHlo.after_of_forall_not_mem _ V fun op hop => by
    fin_cases hop <;> exact fun h' => StableHlo.devRef_ne_of_ne (fun e => h (by rw [e]; decide)) (Finset.mem_singleton.mp h')

/-- `bod0` leaves every buffer it does not name as a result. -/
theorem keep_bod0 (b : Ref sig .tc) (h : b ∉ ([main_while0b_c_18, main_while0b_v65, main_while0b_c_19, main_while0b_v66, main_while0b_v67, main_while0b_c_20, main_while0b_v68, main_while0b_v69, main_while0b_c_21, main_while0b_c_22, main_while0b_v70] : List (Ref sig .tc))) (V : VV) : StableHlo.after bod0 V (Proc.devRef .tc b) = V (Proc.devRef .tc b) :=
  StableHlo.after_of_forall_not_mem _ V fun op hop => by
    fin_cases hop <;> exact fun h' => StableHlo.devRef_ne_of_ne (fun e => h (by rw [e]; decide)) (Finset.mem_singleton.mp h')

/-- `bod1` leaves every buffer it does not name as a result. -/
theorem keep_bod1 (b : Ref sig .tc) (h : b ∉ ([main_while0b_c_23, main_while0b_v71, main_while0b_v72, main_while0b_c_24, main_while0b_v73, main_while0b_v74, main_while0b_c_25, main_while0b_c_26, main_while0b_v75] : List (Ref sig .tc))) (V : VV) : StableHlo.after bod1 V (Proc.devRef .tc b) = V (Proc.devRef .tc b) :=
  StableHlo.after_of_forall_not_mem _ V fun op hop => by
    fin_cases hop <;> exact fun h' => StableHlo.devRef_ne_of_ne (fun e => h (by rw [e]; decide)) (Finset.mem_singleton.mp h')

/-- `bod2` leaves every buffer it does not name as a result. -/
theorem keep_bod2 (b : Ref sig .tc) (h : b ∉ ([main_while0b_c_27, main_while0b_v76, main_while0b_v77, main_while0b_c_28, main_while0b_v78, main_while0b_v79, main_while0b_c_29, main_while0b_c_30, main_while0b_v80] : List (Ref sig .tc))) (V : VV) : StableHlo.after bod2 V (Proc.devRef .tc b) = V (Proc.devRef .tc b) :=
  StableHlo.after_of_forall_not_mem _ V fun op hop => by
    fin_cases hop <;> exact fun h' => StableHlo.devRef_ne_of_ne (fun e => h (by rw [e]; decide)) (Finset.mem_singleton.mp h')

/-- `bod3` leaves every buffer it does not name as a result. -/
theorem keep_bod3 (b : Ref sig .tc) (h : b ∉ ([main_while0b_c_31, main_while0b_v81, main_while0b_v82, main_while0b_c_32, main_while0b_v83, main_while0b_v84, main_while0b_c_33, main_while0b_c_34, main_while0b_v85] : List (Ref sig .tc))) (V : VV) : StableHlo.after bod3 V (Proc.devRef .tc b) = V (Proc.devRef .tc b) :=
  StableHlo.after_of_forall_not_mem _ V fun op hop => by
    fin_cases hop <;> exact fun h' => StableHlo.devRef_ne_of_ne (fun e => h (by rw [e]; decide)) (Finset.mem_singleton.mp h')

/-- `bod4` leaves every buffer it does not name as a result. -/
theorem keep_bod4 (b : Ref sig .tc) (h : b ∉ ([main_while0b_v86, main_while0b_cst_35, main_while0b_v87, main_while0b_v88, main_while0b_v89, main_while0b_cst_36, main_while0b_v90, main_while0b_v91, main_while0b_v92] : List (Ref sig .tc))) (V : VV) : StableHlo.after bod4 V (Proc.devRef .tc b) = V (Proc.devRef .tc b) :=
  StableHlo.after_of_forall_not_mem _ V fun op hop => by
    fin_cases hop <;> exact fun h' => StableHlo.devRef_ne_of_ne (fun e => h (by rw [e]; decide)) (Finset.mem_singleton.mp h')

/-- `bod5` leaves every buffer it does not name as a result. -/
theorem keep_bod5 (b : Ref sig .tc) (h : b ∉ ([main_while0b_v93, main_while0b_cst_37, main_while0b_v94, main_while0b_v95, main_while0b_v96, main_while0b_cst_38, main_while0b_v97, main_while0b_v98, main_while0b_v99] : List (Ref sig .tc))) (V : VV) : StableHlo.after bod5 V (Proc.devRef .tc b) = V (Proc.devRef .tc b) :=
  StableHlo.after_of_forall_not_mem _ V fun op hop => by
    fin_cases hop <;> exact fun h' => StableHlo.devRef_ne_of_ne (fun e => h (by rw [e]; decide)) (Finset.mem_singleton.mp h')

/-- `bod6` leaves every buffer it does not name as a result. -/
theorem keep_bod6 (b : Ref sig .tc) (h : b ∉ ([main_while0b_v100, main_while0b_v101, main_while0b_v102, main_while0b_v103, main_while0b_v104, main_while0b_v105, main_while0b_v106, main_while0b_v107] : List (Ref sig .tc))) (V : VV) : StableHlo.after bod6 V (Proc.devRef .tc b) = V (Proc.devRef .tc b) :=
  StableHlo.after_of_forall_not_mem _ V fun op hop => by
    fin_cases hop <;> exact fun h' => StableHlo.devRef_ne_of_ne (fun e => h (by rw [e]; decide)) (Finset.mem_singleton.mp h')

/-- `bod7` leaves every buffer it does not name as a result. -/
theorem keep_bod7 (b : Ref sig .tc) (h : b ∉ ([main_while0b_v108, main_while0b_cst_39, main_while0b_v109, main_while0b_v110, main_while0b_v111, main_while0b_cst_40, main_while0b_v112, main_while0b_v113, main_while0b_v114] : List (Ref sig .tc))) (V : VV) : StableHlo.after bod7 V (Proc.devRef .tc b) = V (Proc.devRef .tc b) :=
  StableHlo.after_of_forall_not_mem _ V fun op hop => by
    fin_cases hop <;> exact fun h' => StableHlo.devRef_ne_of_ne (fun e => h (by rw [e]; decide)) (Finset.mem_singleton.mp h')

/-- `bod8` leaves every buffer it does not name as a result. -/
theorem keep_bod8 (b : Ref sig .tc) (h : b ∉ ([main_while0b_v115, main_while0b_v116, main_while0b_v117, main_while0b_cst_41, main_while0b_v118, main_while0b_v119, main_while0b_v120, main_while0b_cst_42, main_while0b_v121, main_while0b_v122] : List (Ref sig .tc))) (V : VV) : StableHlo.after bod8 V (Proc.devRef .tc b) = V (Proc.devRef .tc b) :=
  StableHlo.after_of_forall_not_mem _ V fun op hop => by
    fin_cases hop <;> exact fun h' => StableHlo.devRef_ne_of_ne (fun e => h (by rw [e]; decide)) (Finset.mem_singleton.mp h')

/-- `bod9` leaves every buffer it does not name as a result. -/
theorem keep_bod9 (b : Ref sig .tc) (h : b ∉ ([main_while0b_v123, main_while0b_v124, main_while0b_v125, main_while0b_v126, main_while0b_v127] : List (Ref sig .tc))) (V : VV) : StableHlo.after bod9 V (Proc.devRef .tc b) = V (Proc.devRef .tc b) :=
  StableHlo.after_of_forall_not_mem _ V fun op hop => by
    fin_cases hop <;> exact fun h' => StableHlo.devRef_ne_of_ne (fun e => h (by rw [e]; decide)) (Finset.mem_singleton.mp h')

/-- `bod10` leaves every buffer it does not name as a result. -/
theorem keep_bod10 (b : Ref sig .tc) (h : b ∉ ([main_while0b_c_43, main_while0b_v128, main_while0b_v129, main_while0b_c_44, main_while0b_v130, main_while0b_v131, main_while0b_c_45, main_while0b_c_46, main_while0b_v132, main_while0b_v133, main_while0b_v134] : List (Ref sig .tc))) (V : VV) : StableHlo.after bod10 V (Proc.devRef .tc b) = V (Proc.devRef .tc b) :=
  StableHlo.after_of_forall_not_mem _ V fun op hop => by
    fin_cases hop <;> exact fun h' => StableHlo.devRef_ne_of_ne (fun e => h (by rw [e]; decide)) (Finset.mem_singleton.mp h')

/-- `bod11` leaves every buffer it does not name as a result. -/
theorem keep_bod11 (b : Ref sig .tc) (h : b ∉ ([main_while0b_c_47, main_while0b_v135, main_v52_5, main_v52_6, main_v52_7] : List (Ref sig .tc))) (V : VV) : StableHlo.after bod11 V (Proc.devRef .tc b) = V (Proc.devRef .tc b) :=
  StableHlo.after_of_forall_not_mem _ V fun op hop => by
    fin_cases hop <;> exact fun h' => StableHlo.devRef_ne_of_ne (fun e => h (by rw [e]; decide)) (Finset.mem_singleton.mp h')

/-- `post0` leaves every buffer it does not name as a result. -/
theorem keep_post0 (b : Ref sig .tc) (h : b ∉ ([main_v53, main_v54] : List (Ref sig .tc))) (V : VV) : StableHlo.after post0 V (Proc.devRef .tc b) = V (Proc.devRef .tc b) :=
  StableHlo.after_of_forall_not_mem _ V fun op hop => by
    fin_cases hop <;> exact fun h' => StableHlo.devRef_ne_of_ne (fun e => h (by rw [e]; decide)) (Finset.mem_singleton.mp h')

/-- `post1` leaves every buffer it does not name as a result. -/
theorem keep_post1 (b : Ref sig .tc) (h : b ∉ ([main_v55, main_v56, main_v57, main_v58, main_v59] : List (Ref sig .tc))) (V : VV) : StableHlo.after post1 V (Proc.devRef .tc b) = V (Proc.devRef .tc b) :=
  StableHlo.after_of_forall_not_mem _ V fun op hop => by
    fin_cases hop <;> exact fun h' => StableHlo.devRef_ne_of_ne (fun e => h (by rw [e]; decide)) (Finset.mem_singleton.mp h')

/-- `post2` leaves every buffer it does not name as a result. -/
theorem keep_post2 (b : Ref sig .tc) (h : b ∉ ([main_v60, main_v61, main_v62] : List (Ref sig .tc))) (V : VV) : StableHlo.after post2 V (Proc.devRef .tc b) = V (Proc.devRef .tc b) :=
  StableHlo.after_of_forall_not_mem _ V fun op hop => by
    fin_cases hop <;> exact fun h' => StableHlo.devRef_ne_of_ne (fun e => h (by rw [e]; decide)) (Finset.mem_singleton.mp h')

/-- `post3` leaves every buffer it does not name as a result. -/
theorem keep_post3 (b : Ref sig .tc) (h : b ∉ ([main_c_9, main_v63, main_c_10, main_v64] : List (Ref sig .tc))) (V : VV) : StableHlo.after post3 V (Proc.devRef .tc b) = V (Proc.devRef .tc b) :=
  StableHlo.after_of_forall_not_mem _ V fun op hop => by
    fin_cases hop <;> exact fun h' => StableHlo.devRef_ne_of_ne (fun e => h (by rw [e]; decide)) (Finset.mem_singleton.mp h')

/-- `condOps` leaves every buffer it does not name as a result. -/
theorem keep_condOps (b : Ref sig .tc) (h : b ∉ ([main_while0c_c_18, main_while0c_v65] : List (Ref sig .tc))) (V : VV) : StableHlo.after condOps V (Proc.devRef .tc b) = V (Proc.devRef .tc b) :=
  StableHlo.after_of_forall_not_mem _ V fun op hop => by
    fin_cases hop <;> exact fun h' => StableHlo.devRef_ne_of_ne (fun e => h (by rw [e]; decide)) (Finset.mem_singleton.mp h')

theorem pre0_v11 (V : VV) : StableHlo.after pre0 V (Proc.devRef .tc main_v11) = rAdj (V (Proc.devRef .tc main_arg0)) (V (Proc.devRef .tc main_arg2)) := by
  after_results
  try rfl

theorem pre1_v22 (V : VV) : StableHlo.after pre1 V (Proc.devRef .tc main_v22) = rSm (V (Proc.devRef .tc main_arg3)) := by
  after_results
  try rfl

theorem pre2_v23 (V : VV) : StableHlo.after pre2 V (Proc.devRef .tc main_v23) = rCls (V (Proc.devRef .tc main_v22)) := by
  after_results
  try rfl

theorem pre3_v31 (V : VV) : StableHlo.after pre3 V (Proc.devRef .tc main_v31) = rValid (F := F) (V (Proc.devRef .tc main_v23)) := by
  after_results
  try rfl

theorem pre3_v33 (V : VV) : StableHlo.after pre3 V (Proc.devRef .tc main_v33) = rSc (V (Proc.devRef .tc main_v22)) := by
  after_results
  try rfl

theorem pre4_v36 (V : VV) : StableHlo.after pre4 V (Proc.devRef .tc main_v36) = rY1 (V (Proc.devRef .tc main_v11)) := by
  after_results
  try rfl

theorem pre5_v39 (V : VV) : StableHlo.after pre5 V (Proc.devRef .tc main_v39) = rX1 (V (Proc.devRef .tc main_v11)) := by
  after_results
  try rfl

theorem pre6_v42 (V : VV) : StableHlo.after pre6 V (Proc.devRef .tc main_v42) = rY2 (V (Proc.devRef .tc main_v11)) := by
  after_results
  try rfl

theorem pre7_v45 (V : VV) : StableHlo.after pre7 V (Proc.devRef .tc main_v45) = rX2 (V (Proc.devRef .tc main_v11)) := by
  after_results
  try rfl

theorem pre8_v46 (V : VV) : StableHlo.after pre8 V (Proc.devRef .tc main_v46) = iotaInDim S4x20x5000 32 2 := by
  after_results
  try rfl

theorem pre8_v49 (V : VV) : StableHlo.after pre8 V (Proc.devRef .tc main_v49) = rNeg (V (Proc.devRef .tc main_v31)) (V (Proc.devRef .tc main_v33)) := by
  after_results
  try rfl

theorem pre9_v50_1 (V : VV) : StableHlo.after pre9 V (Proc.devRef .tc main_v50_1) = rSort (F := F) (fun j => ((V (Proc.devRef .tc main_v49)) j, (V (Proc.devRef .tc main_v46)) j, (V (Proc.devRef .tc main_v36)) j, (V (Proc.devRef .tc main_v39)) j, (V (Proc.devRef .tc main_v42)) j, (V (Proc.devRef .tc main_v45)) j, (V (Proc.devRef .tc main_v31)) j)) (V (Proc.devRef .tc main_v46)) := by
  after_results
  try rfl

theorem pre9_v50_2 (V : VV) : StableHlo.after pre9 V (Proc.devRef .tc main_v50_2) = rSort (F := F) (fun j => ((V (Proc.devRef .tc main_v49)) j, (V (Proc.devRef .tc main_v46)) j, (V (Proc.devRef .tc main_v36)) j, (V (Proc.devRef .tc main_v39)) j, (V (Proc.devRef .tc main_v42)) j, (V (Proc.devRef .tc main_v45)) j, (V (Proc.devRef .tc main_v31)) j)) (V (Proc.devRef .tc main_v36)) := by
  after_results
  try rfl

theorem pre9_v50_3 (V : VV) : StableHlo.after pre9 V (Proc.devRef .tc main_v50_3) = rSort (F := F) (fun j => ((V (Proc.devRef .tc main_v49)) j, (V (Proc.devRef .tc main_v46)) j, (V (Proc.devRef .tc main_v36)) j, (V (Proc.devRef .tc main_v39)) j, (V (Proc.devRef .tc main_v42)) j, (V (Proc.devRef .tc main_v45)) j, (V (Proc.devRef .tc main_v31)) j)) (V (Proc.devRef .tc main_v39)) := by
  after_results
  try rfl

theorem pre9_v50_4 (V : VV) : StableHlo.after pre9 V (Proc.devRef .tc main_v50_4) = rSort (F := F) (fun j => ((V (Proc.devRef .tc main_v49)) j, (V (Proc.devRef .tc main_v46)) j, (V (Proc.devRef .tc main_v36)) j, (V (Proc.devRef .tc main_v39)) j, (V (Proc.devRef .tc main_v42)) j, (V (Proc.devRef .tc main_v45)) j, (V (Proc.devRef .tc main_v31)) j)) (V (Proc.devRef .tc main_v42)) := by
  after_results
  try rfl

theorem pre9_v50_5 (V : VV) : StableHlo.after pre9 V (Proc.devRef .tc main_v50_5) = rSort (F := F) (fun j => ((V (Proc.devRef .tc main_v49)) j, (V (Proc.devRef .tc main_v46)) j, (V (Proc.devRef .tc main_v36)) j, (V (Proc.devRef .tc main_v39)) j, (V (Proc.devRef .tc main_v42)) j, (V (Proc.devRef .tc main_v45)) j, (V (Proc.devRef .tc main_v31)) j)) (V (Proc.devRef .tc main_v45)) := by
  after_results
  try rfl

theorem pre9_v50_6 (V : VV) : StableHlo.after pre9 V (Proc.devRef .tc main_v50_6) = rSort (F := F) (fun j => ((V (Proc.devRef .tc main_v49)) j, (V (Proc.devRef .tc main_v46)) j, (V (Proc.devRef .tc main_v36)) j, (V (Proc.devRef .tc main_v39)) j, (V (Proc.devRef .tc main_v42)) j, (V (Proc.devRef .tc main_v45)) j, (V (Proc.devRef .tc main_v31)) j)) (V (Proc.devRef .tc main_v31)) := by
  after_results
  try rfl

theorem pre10_v52_0 (V : VV) : StableHlo.after pre10 V (Proc.devRef .tc main_v52_0) = (V (Proc.devRef .tc main_v50_2)) := by
  after_results
  try rfl

theorem pre10_v52_1 (V : VV) : StableHlo.after pre10 V (Proc.devRef .tc main_v52_1) = (V (Proc.devRef .tc main_v50_3)) := by
  after_results
  try rfl

theorem pre10_v52_2 (V : VV) : StableHlo.after pre10 V (Proc.devRef .tc main_v52_2) = (V (Proc.devRef .tc main_v50_4)) := by
  after_results
  try rfl

theorem pre10_v52_3 (V : VV) : StableHlo.after pre10 V (Proc.devRef .tc main_v52_3) = (V (Proc.devRef .tc main_v50_5)) := by
  after_results
  try rfl

theorem pre10_v52_4 (V : VV) : StableHlo.after pre10 V (Proc.devRef .tc main_v52_4) = (V (Proc.devRef .tc main_v46)) := by
  after_results
  try rfl

theorem pre10_v52_5 (V : VV) : StableHlo.after pre10 V (Proc.devRef .tc main_v52_5) = constantI S_ 32 0#32 := by
  after_results
  try rfl

theorem pre10_v52_6 (V : VV) : StableHlo.after pre10 V (Proc.devRef .tc main_v52_6) = constantI S_ 32 0#32 := by
  after_results
  try rfl

theorem pre10_v52_7 (V : VV) : StableHlo.after pre10 V (Proc.devRef .tc main_v52_7) = noti (V (Proc.devRef .tc main_v50_6)) := by
  after_results
  try rfl

theorem bod0_v65 (V : VV) : StableHlo.after bod0 V (Proc.devRef .tc main_while0b_v65) = addi (V (Proc.devRef .tc main_v52_6)) (constantI S_ 32 1#32) := by
  after_results
  try rfl

/-- A slice at offsets zero, zero and the wrapped index is that column. -/
theorem rCol_of {e : EltTy} (x : (⟨S4x20x5000, e⟩ : BufTy).Contents (Elt F)) (i : IVec S_ 32) (o : Fin 3 → ℤ) (h0 : o 0 = (constantI S_ 32 0#32 (Shape.Idx.first h_S_)).toInt) (h1 : o 1 = (constantI S_ 32 0#32 (Shape.Idx.first h_S_)).toInt)
    (h2 : o 2 = (rIx i (Shape.Idx.first h_S_)).toInt) : Host.dynamicSlice S4x20x1 x o sliceFits_S4x20x5000_S4x20x1 = rCol (F := F) (e := e) x i := by
  have : o = fun k => ((![constantI S_ 32 0#32, constantI S_ 32 0#32, rIx i] : Fin 3 → IVec S_ 32) k (Shape.Idx.first h_S_)).toInt := by
    funext k; fin_cases k
    · exact h0
    · exact h1
    · exact h2
  rw [this]; rfl

/-- The operations of `bod0` before its slice. -/
abbrev bod0p : List (HloOp τ sig (Elt F)) :=
  [ StableHlo.nullary main_while0b_c_18 (constantI S_ 32 1#32),
    StableHlo.binary main_v52_6 main_while0b_c_18 main_while0b_v65 (addi : (⟨S_, .i32⟩ : BufTy).Contents (Elt F) → (⟨S_, .i32⟩ : BufTy).Contents (Elt F) → (⟨S_, .i32⟩ : BufTy).Contents (Elt F)),
    StableHlo.nullary main_while0b_c_19 (constantI S_ 32 0#32),
    StableHlo.binary main_v52_6 main_while0b_c_19 main_while0b_v66 (cmpi .slt : (⟨S_, .i32⟩ : BufTy).Contents (Elt F) → (⟨S_, .i32⟩ : BufTy).Contents (Elt F) → (⟨S_, .i1⟩ : BufTy).Contents (Elt F)),
    StableHlo.unary main_v52_6 main_while0b_v67 (id : (⟨S_, .i32⟩ : BufTy).Contents (Elt F) → (⟨S_, .i32⟩ : BufTy).Contents (Elt F)),
    StableHlo.nullary main_while0b_c_20 (constantI S_ 32 5000#32),
    StableHlo.binary main_while0b_v67 main_while0b_c_20 main_while0b_v68 (addi : (⟨S_, .i32⟩ : BufTy).Contents (Elt F) → (⟨S_, .i32⟩ : BufTy).Contents (Elt F) → (⟨S_, .i32⟩ : BufTy).Contents (Elt F)),
    StableHlo.ternary main_while0b_v66 main_while0b_v68 main_v52_6 main_while0b_v69 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.nullary main_while0b_c_21 (constantI S_ 32 0#32),
    StableHlo.nullary main_while0b_c_22 (constantI S_ 32 0#32) ]
theorem bod0p_0 (V : VV) : StableHlo.after bod0p V (Proc.devRef .tc main_while0b_c_21) = constantI S_ 32 0#32 := by
  after_results
theorem bod0p_1 (V : VV) : StableHlo.after bod0p V (Proc.devRef .tc main_while0b_c_22) = constantI S_ 32 0#32 := by
  after_results
theorem bod0p_2 (V : VV) : StableHlo.after bod0p V (Proc.devRef .tc main_while0b_v69) = rIx (V (Proc.devRef .tc main_v52_6)) := by
  after_results
  try rfl
theorem bod0_v70 (V : VV) : StableHlo.after bod0 V (Proc.devRef .tc main_while0b_v70) = rCol (F := F) (e := .f32) (V (Proc.devRef .tc main_v52_0)) (V (Proc.devRef .tc main_v52_6)) := by
  after_results
  exact rCol_of (F := F) (e := .f32) _ _ _ (congrArg (fun x : IVec S_ 32 => (x (Shape.Idx.first h_S_)).toInt) (bod0p_0 V)) (congrArg (fun x : IVec S_ 32 => (x (Shape.Idx.first h_S_)).toInt) (bod0p_1 V)) (congrArg (fun x : IVec S_ 32 => (x (Shape.Idx.first h_S_)).toInt) (bod0p_2 V))

/-- The operations of `bod1` before its slice. -/
abbrev bod1p : List (HloOp τ sig (Elt F)) :=
  [ StableHlo.nullary main_while0b_c_23 (constantI S_ 32 0#32),
    StableHlo.binary main_v52_6 main_while0b_c_23 main_while0b_v71 (cmpi .slt : (⟨S_, .i32⟩ : BufTy).Contents (Elt F) → (⟨S_, .i32⟩ : BufTy).Contents (Elt F) → (⟨S_, .i1⟩ : BufTy).Contents (Elt F)),
    StableHlo.unary main_v52_6 main_while0b_v72 (id : (⟨S_, .i32⟩ : BufTy).Contents (Elt F) → (⟨S_, .i32⟩ : BufTy).Contents (Elt F)),
    StableHlo.nullary main_while0b_c_24 (constantI S_ 32 5000#32),
    StableHlo.binary main_while0b_v72 main_while0b_c_24 main_while0b_v73 (addi : (⟨S_, .i32⟩ : BufTy).Contents (Elt F) → (⟨S_, .i32⟩ : BufTy).Contents (Elt F) → (⟨S_, .i32⟩ : BufTy).Contents (Elt F)),
    StableHlo.ternary main_while0b_v71 main_while0b_v73 main_v52_6 main_while0b_v74 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.nullary main_while0b_c_25 (constantI S_ 32 0#32),
    StableHlo.nullary main_while0b_c_26 (constantI S_ 32 0#32) ]
theorem bod1p_0 (V : VV) : StableHlo.after bod1p V (Proc.devRef .tc main_while0b_c_25) = constantI S_ 32 0#32 := by
  after_results
theorem bod1p_1 (V : VV) : StableHlo.after bod1p V (Proc.devRef .tc main_while0b_c_26) = constantI S_ 32 0#32 := by
  after_results
theorem bod1p_2 (V : VV) : StableHlo.after bod1p V (Proc.devRef .tc main_while0b_v74) = rIx (V (Proc.devRef .tc main_v52_6)) := by
  after_results
  try rfl
theorem bod1_v75 (V : VV) : StableHlo.after bod1 V (Proc.devRef .tc main_while0b_v75) = rCol (F := F) (e := .f32) (V (Proc.devRef .tc main_v52_1)) (V (Proc.devRef .tc main_v52_6)) := by
  after_results
  exact rCol_of (F := F) (e := .f32) _ _ _ (congrArg (fun x : IVec S_ 32 => (x (Shape.Idx.first h_S_)).toInt) (bod1p_0 V)) (congrArg (fun x : IVec S_ 32 => (x (Shape.Idx.first h_S_)).toInt) (bod1p_1 V)) (congrArg (fun x : IVec S_ 32 => (x (Shape.Idx.first h_S_)).toInt) (bod1p_2 V))

/-- The operations of `bod2` before its slice. -/
abbrev bod2p : List (HloOp τ sig (Elt F)) :=
  [ StableHlo.nullary main_while0b_c_27 (constantI S_ 32 0#32),
    StableHlo.binary main_v52_6 main_while0b_c_27 main_while0b_v76 (cmpi .slt : (⟨S_, .i32⟩ : BufTy).Contents (Elt F) → (⟨S_, .i32⟩ : BufTy).Contents (Elt F) → (⟨S_, .i1⟩ : BufTy).Contents (Elt F)),
    StableHlo.unary main_v52_6 main_while0b_v77 (id : (⟨S_, .i32⟩ : BufTy).Contents (Elt F) → (⟨S_, .i32⟩ : BufTy).Contents (Elt F)),
    StableHlo.nullary main_while0b_c_28 (constantI S_ 32 5000#32),
    StableHlo.binary main_while0b_v77 main_while0b_c_28 main_while0b_v78 (addi : (⟨S_, .i32⟩ : BufTy).Contents (Elt F) → (⟨S_, .i32⟩ : BufTy).Contents (Elt F) → (⟨S_, .i32⟩ : BufTy).Contents (Elt F)),
    StableHlo.ternary main_while0b_v76 main_while0b_v78 main_v52_6 main_while0b_v79 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.nullary main_while0b_c_29 (constantI S_ 32 0#32),
    StableHlo.nullary main_while0b_c_30 (constantI S_ 32 0#32) ]
theorem bod2p_0 (V : VV) : StableHlo.after bod2p V (Proc.devRef .tc main_while0b_c_29) = constantI S_ 32 0#32 := by
  after_results
theorem bod2p_1 (V : VV) : StableHlo.after bod2p V (Proc.devRef .tc main_while0b_c_30) = constantI S_ 32 0#32 := by
  after_results
theorem bod2p_2 (V : VV) : StableHlo.after bod2p V (Proc.devRef .tc main_while0b_v79) = rIx (V (Proc.devRef .tc main_v52_6)) := by
  after_results
  try rfl
theorem bod2_v80 (V : VV) : StableHlo.after bod2 V (Proc.devRef .tc main_while0b_v80) = rCol (F := F) (e := .f32) (V (Proc.devRef .tc main_v52_2)) (V (Proc.devRef .tc main_v52_6)) := by
  after_results
  exact rCol_of (F := F) (e := .f32) _ _ _ (congrArg (fun x : IVec S_ 32 => (x (Shape.Idx.first h_S_)).toInt) (bod2p_0 V)) (congrArg (fun x : IVec S_ 32 => (x (Shape.Idx.first h_S_)).toInt) (bod2p_1 V)) (congrArg (fun x : IVec S_ 32 => (x (Shape.Idx.first h_S_)).toInt) (bod2p_2 V))

/-- The operations of `bod3` before its slice. -/
abbrev bod3p : List (HloOp τ sig (Elt F)) :=
  [ StableHlo.nullary main_while0b_c_31 (constantI S_ 32 0#32),
    StableHlo.binary main_v52_6 main_while0b_c_31 main_while0b_v81 (cmpi .slt : (⟨S_, .i32⟩ : BufTy).Contents (Elt F) → (⟨S_, .i32⟩ : BufTy).Contents (Elt F) → (⟨S_, .i1⟩ : BufTy).Contents (Elt F)),
    StableHlo.unary main_v52_6 main_while0b_v82 (id : (⟨S_, .i32⟩ : BufTy).Contents (Elt F) → (⟨S_, .i32⟩ : BufTy).Contents (Elt F)),
    StableHlo.nullary main_while0b_c_32 (constantI S_ 32 5000#32),
    StableHlo.binary main_while0b_v82 main_while0b_c_32 main_while0b_v83 (addi : (⟨S_, .i32⟩ : BufTy).Contents (Elt F) → (⟨S_, .i32⟩ : BufTy).Contents (Elt F) → (⟨S_, .i32⟩ : BufTy).Contents (Elt F)),
    StableHlo.ternary main_while0b_v81 main_while0b_v83 main_v52_6 main_while0b_v84 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.nullary main_while0b_c_33 (constantI S_ 32 0#32),
    StableHlo.nullary main_while0b_c_34 (constantI S_ 32 0#32) ]
theorem bod3p_0 (V : VV) : StableHlo.after bod3p V (Proc.devRef .tc main_while0b_c_33) = constantI S_ 32 0#32 := by
  after_results
theorem bod3p_1 (V : VV) : StableHlo.after bod3p V (Proc.devRef .tc main_while0b_c_34) = constantI S_ 32 0#32 := by
  after_results
theorem bod3p_2 (V : VV) : StableHlo.after bod3p V (Proc.devRef .tc main_while0b_v84) = rIx (V (Proc.devRef .tc main_v52_6)) := by
  after_results
  try rfl
theorem bod3_v85 (V : VV) : StableHlo.after bod3 V (Proc.devRef .tc main_while0b_v85) = rCol (F := F) (e := .f32) (V (Proc.devRef .tc main_v52_3)) (V (Proc.devRef .tc main_v52_6)) := by
  after_results
  exact rCol_of (F := F) (e := .f32) _ _ _ (congrArg (fun x : IVec S_ 32 => (x (Shape.Idx.first h_S_)).toInt) (bod3p_0 V)) (congrArg (fun x : IVec S_ 32 => (x (Shape.Idx.first h_S_)).toInt) (bod3p_1 V)) (congrArg (fun x : IVec S_ 32 => (x (Shape.Idx.first h_S_)).toInt) (bod3p_2 V))

/-- The operations of `bod10` before its slice. -/
abbrev bod10p : List (HloOp τ sig (Elt F)) :=
  [ StableHlo.nullary main_while0b_c_43 (constantI S_ 32 0#32),
    StableHlo.binary main_v52_6 main_while0b_c_43 main_while0b_v128 (cmpi .slt : (⟨S_, .i32⟩ : BufTy).Contents (Elt F) → (⟨S_, .i32⟩ : BufTy).Contents (Elt F) → (⟨S_, .i1⟩ : BufTy).Contents (Elt F)),
    StableHlo.unary main_v52_6 main_while0b_v129 (id : (⟨S_, .i32⟩ : BufTy).Contents (Elt F) → (⟨S_, .i32⟩ : BufTy).Contents (Elt F)),
    StableHlo.nullary main_while0b_c_44 (constantI S_ 32 5000#32),
    StableHlo.binary main_while0b_v129 main_while0b_c_44 main_while0b_v130 (addi : (⟨S_, .i32⟩ : BufTy).Contents (Elt F) → (⟨S_, .i32⟩ : BufTy).Contents (Elt F) → (⟨S_, .i32⟩ : BufTy).Contents (Elt F)),
    StableHlo.ternary main_while0b_v128 main_while0b_v130 main_v52_6 main_while0b_v131 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.nullary main_while0b_c_45 (constantI S_ 32 0#32),
    StableHlo.nullary main_while0b_c_46 (constantI S_ 32 0#32) ]
theorem bod10p_0 (V : VV) : StableHlo.after bod10p V (Proc.devRef .tc main_while0b_c_45) = constantI S_ 32 0#32 := by
  after_results
theorem bod10p_1 (V : VV) : StableHlo.after bod10p V (Proc.devRef .tc main_while0b_c_46) = constantI S_ 32 0#32 := by
  after_results
theorem bod10p_2 (V : VV) : StableHlo.after bod10p V (Proc.devRef .tc main_while0b_v131) = rIx (V (Proc.devRef .tc main_v52_6)) := by
  after_results
  try rfl
theorem bod10_v132 (V : VV) : StableHlo.after bod10 V (Proc.devRef .tc main_while0b_v132) = rCol (F := F) (e := .i1) (V (Proc.devRef .tc main_v52_7)) (V (Proc.devRef .tc main_v52_6)) := by
  after_results
  exact rCol_of (F := F) (e := .i1) _ _ _ (congrArg (fun x : IVec S_ 32 => (x (Shape.Idx.first h_S_)).toInt) (bod10p_0 V)) (congrArg (fun x : IVec S_ 32 => (x (Shape.Idx.first h_S_)).toInt) (bod10p_1 V)) (congrArg (fun x : IVec S_ 32 => (x (Shape.Idx.first h_S_)).toInt) (bod10p_2 V))

theorem bod4_v92 (V : VV) : StableHlo.after bod4 V (Proc.devRef .tc main_while0b_v92) = rArea1 (V (Proc.devRef .tc main_while0b_v70)) (V (Proc.devRef .tc main_while0b_v75)) (V (Proc.devRef .tc main_while0b_v80)) (V (Proc.devRef .tc main_while0b_v85)) := by
  after_results
  try rfl

theorem bod5_v99 (V : VV) : StableHlo.after bod5 V (Proc.devRef .tc main_while0b_v99) = rArea (V (Proc.devRef .tc main_v52_0)) (V (Proc.devRef .tc main_v52_1)) (V (Proc.devRef .tc main_v52_2)) (V (Proc.devRef .tc main_v52_3)) := by
  after_results
  try rfl

theorem bod6_v101 (V : VV) : StableHlo.after bod6 V (Proc.devRef .tc main_while0b_v101) = maximumf (rWide (F := F) (e := .f32) (V (Proc.devRef .tc main_while0b_v70))) (V (Proc.devRef .tc main_v52_0)) := by
  after_results
  try rfl

theorem bod6_v103 (V : VV) : StableHlo.after bod6 V (Proc.devRef .tc main_while0b_v103) = maximumf (rWide (F := F) (e := .f32) (V (Proc.devRef .tc main_while0b_v75))) (V (Proc.devRef .tc main_v52_1)) := by
  after_results
  try rfl

theorem bod6_v105 (V : VV) : StableHlo.after bod6 V (Proc.devRef .tc main_while0b_v105) = minimumf (rWide (F := F) (e := .f32) (V (Proc.devRef .tc main_while0b_v80))) (V (Proc.devRef .tc main_v52_2)) := by
  after_results
  try rfl

theorem bod6_v107 (V : VV) : StableHlo.after bod6 V (Proc.devRef .tc main_while0b_v107) = minimumf (rWide (F := F) (e := .f32) (V (Proc.devRef .tc main_while0b_v85))) (V (Proc.devRef .tc main_v52_3)) := by
  after_results
  try rfl

theorem bod7_v114 (V : VV) : StableHlo.after bod7 V (Proc.devRef .tc main_while0b_v114) = rArea (V (Proc.devRef .tc main_while0b_v101)) (V (Proc.devRef .tc main_while0b_v103)) (V (Proc.devRef .tc main_while0b_v105)) (V (Proc.devRef .tc main_while0b_v107)) := by
  after_results
  try rfl

theorem bod8_v122 (V : VV) : StableHlo.after bod8 V (Proc.devRef .tc main_while0b_v122) = rOver (V (Proc.devRef .tc main_while0b_v92)) (V (Proc.devRef .tc main_while0b_v99)) (V (Proc.devRef .tc main_while0b_v114)) := by
  after_results
  try rfl

theorem bod9_v127 (V : VV) : StableHlo.after bod9 V (Proc.devRef .tc main_while0b_v127) = ori (V (Proc.devRef .tc main_v52_7)) (andi (V (Proc.devRef .tc main_while0b_v122)) (cmpi .sgt (V (Proc.devRef .tc main_v52_4)) (rAll (F := F) (e := .i32) (V (Proc.devRef .tc main_v52_6))))) := by
  after_results
  try rfl

theorem bod10_v134 (V : VV) : StableHlo.after bod10 V (Proc.devRef .tc main_while0b_v134) = select (rWide (F := F) (e := .i1) (rCol (F := F) (e := .i1) (V (Proc.devRef .tc main_v52_7)) (V (Proc.devRef .tc main_v52_6)))) (V (Proc.devRef .tc main_v52_7)) (V (Proc.devRef .tc main_while0b_v127)) := by
  have h := bod10_v132 V
  revert h
  after_results
  intro h
  rw [h]
  try rfl

theorem bod11_v52_5 (V : VV) : StableHlo.after bod11 V (Proc.devRef .tc main_v52_5) = addi (V (Proc.devRef .tc main_v52_5)) (constantI S_ 32 1#32) := by
  after_results
  try rfl

theorem bod11_v52_6 (V : VV) : StableHlo.after bod11 V (Proc.devRef .tc main_v52_6) = (V (Proc.devRef .tc main_while0b_v65)) := by
  after_results
  try rfl

theorem bod11_v52_7 (V : VV) : StableHlo.after bod11 V (Proc.devRef .tc main_v52_7) = (V (Proc.devRef .tc main_while0b_v134)) := by
  after_results
  try rfl

theorem post0_v54 (V : VV) : StableHlo.after post0 V (Proc.devRef .tc main_v54) = andi (noti (V (Proc.devRef .tc main_v52_7))) (V (Proc.devRef .tc main_v50_6)) := by
  after_results
  try rfl

/-- The four stretches after the loop together. -/
theorem post_v64 (V : VV) : StableHlo.after post3 (StableHlo.after post2 (StableHlo.after post1 (StableHlo.after post0 V))) (Proc.devRef .tc main_v64) = rOut (V (Proc.devRef .tc main_v50_1)) (V (Proc.devRef .tc main_v50_6)) (V (Proc.devRef .tc main_v52_7)) := by
  after_results
  try rfl

end Cert.Proof.RI

end
-- ==== Proof.RI.Run.lean ====
/-
  The run of the reference program: the loop's counter, what the loop carries from trip to trip, and the
  buffers at the end.
-/
module

public import proofs.«01_k».proof.Proof.RI.Vals

@[expose] public section

set_option maxRecDepth 16384

noncomputable section

namespace Cert.Proof.RI

open Cert.ReferenceIdeal Cert.ReferenceIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

open Idealize.ShloMosaic.StableHlo (after afterL entryContents atTrip finalContents launchContents)

local notation "VV" => Valuation τ sig (Elt F)

variable (m : (ℓ : Loc nD τ sig) → Buf (Elt F) ℓ)

/-- Argument 0 as launched. -/
abbrev a0 (c : Dev nD) : FVec F S4x5000x4 .f32 := m ((c.tc : Thread nD τ).loc main_arg0)
/-- Argument 2 as launched. -/
abbrev a2 (c : Dev nD) : FVec F S4x5000x4 .f32 := m ((c.tc : Thread nD τ).loc main_arg2)
/-- Argument 3 as launched. -/
abbrev a3 (c : Dev nD) : FVec F S4x5000x21 .f32 := m ((c.tc : Thread nD τ).loc main_arg3)

/-- The shifted boxes of the launch. -/
def adj (c : Dev nD) : FVec F S4x5000x4 .f32 := rAdj (a0 m c) (a2 m c)
/-- The softmax of the launch. -/
def sm (c : Dev nD) : FVec F S4x5000x21 .f32 := rSm (a3 m c)
/-- The membership mask of the launch. -/
def vld (c : Dev nD) : IVec S4x20x5000 1 := rValid (F := F) (rCls (sm m c))
/-- The sort records of the launch. -/
def keyR (c : Dev nD) : S4x20x5000.Idx → F .f32 × BitVec 32 × F .f32 × F .f32 × F .f32 × F .f32 × BitVec 1 :=
  rKey (rNeg (vld m c) (rSc (sm m c))) (rY1 (adj m c)) (rX1 (adj m c)) (rY2 (adj m c)) (rX2 (adj m c)) (vld m c)
/-- The sorted coordinates, membership and positions of the launch. -/
def sY1 (c : Dev nD) : FVec F S4x20x5000 .f32 := rSort (keyR m c) (rY1 (adj m c))
@[inherit_doc sY1] def sX1 (c : Dev nD) : FVec F S4x20x5000 .f32 := rSort (keyR m c) (rX1 (adj m c))
@[inherit_doc sY1] def sY2 (c : Dev nD) : FVec F S4x20x5000 .f32 := rSort (keyR m c) (rY2 (adj m c))
@[inherit_doc sY1] def sX2 (c : Dev nD) : FVec F S4x20x5000 .f32 := rSort (keyR m c) (rX2 (adj m c))
@[inherit_doc sY1] def sV (c : Dev nD) : IVec S4x20x5000 1 := rSort (keyR m c) (vld m c)
@[inherit_doc sY1] def sOrd (c : Dev nD) : IVec S4x20x5000 32 := rSort (keyR m c) (iotaInDim S4x20x5000 32 2)
/-- The suppressed boxes before trip `k`. -/
def sup (c : Dev nD) : ℕ → IVec S4x20x5000 1
  | 0 => noti (sV m c)
  | k + 1 => rSup (F := F) (rOv (sY1 m c) (sX1 m c) (sY2 m c) (sX2 m c) (fun _ => BitVec.ofNat 32 k)) (sup c k) (fun _ => BitVec.ofNat 32 k)

/-- Contents at the loop's entry. -/
abbrev E (c : Dev nD) : VV := entryContents preI m c

/-- Contents after stretch 0. -/
def P0 (c : Dev nD) : VV := after pre0 (launchContents m c)
/-- Contents after stretch 1. -/
def P1 (c : Dev nD) : VV := after pre1 (P0 m c)
/-- Contents after stretch 2. -/
def P2 (c : Dev nD) : VV := after pre2 (P1 m c)
/-- Contents after stretch 3. -/
def P3 (c : Dev nD) : VV := after pre3 (P2 m c)
/-- Contents after stretch 4. -/
def P4 (c : Dev nD) : VV := after pre4 (P3 m c)
/-- Contents after stretch 5. -/
def P5 (c : Dev nD) : VV := after pre5 (P4 m c)
/-- Contents after stretch 6. -/
def P6 (c : Dev nD) : VV := after pre6 (P5 m c)
/-- Contents after stretch 7. -/
def P7 (c : Dev nD) : VV := after pre7 (P6 m c)
/-- Contents after stretch 8. -/
def P8 (c : Dev nD) : VV := after pre8 (P7 m c)
/-- Contents after stretch 9. -/
def P9 (c : Dev nD) : VV := after pre9 (P8 m c)
/-- Contents after stretch 10. -/
def P10 (c : Dev nD) : VV := after pre10 (P9 m c)
theorem E_eq (c : Dev nD) : E m c = P10 m c := rfl

theorem P0_arg0 (c : Dev nD) : P0 m c (Proc.devRef .tc main_arg0) = a0 m c := by
  unfold P0
  rw [keep_pre0 _ (by decide)]
  try rfl
theorem P0_arg1 (c : Dev nD) : P0 m c (Proc.devRef .tc main_arg1) = m ((c.tc : Thread nD τ).loc main_arg1) := by
  unfold P0
  rw [keep_pre0 _ (by decide)]
  try rfl
theorem P0_arg2 (c : Dev nD) : P0 m c (Proc.devRef .tc main_arg2) = a2 m c := by
  unfold P0
  rw [keep_pre0 _ (by decide)]
  try rfl
theorem P0_arg3 (c : Dev nD) : P0 m c (Proc.devRef .tc main_arg3) = a3 m c := by
  unfold P0
  rw [keep_pre0 _ (by decide)]
  try rfl
theorem P0_v11 (c : Dev nD) : P0 m c (Proc.devRef .tc main_v11) = adj m c := by
  unfold P0
  rw [pre0_v11]
  try rfl
theorem P1_arg0 (c : Dev nD) : P1 m c (Proc.devRef .tc main_arg0) = a0 m c := by
  unfold P1
  rw [keep_pre1 _ (by decide), P0_arg0]
theorem P1_arg1 (c : Dev nD) : P1 m c (Proc.devRef .tc main_arg1) = m ((c.tc : Thread nD τ).loc main_arg1) := by
  unfold P1
  rw [keep_pre1 _ (by decide), P0_arg1]
theorem P1_arg2 (c : Dev nD) : P1 m c (Proc.devRef .tc main_arg2) = a2 m c := by
  unfold P1
  rw [keep_pre1 _ (by decide), P0_arg2]
theorem P1_arg3 (c : Dev nD) : P1 m c (Proc.devRef .tc main_arg3) = a3 m c := by
  unfold P1
  rw [keep_pre1 _ (by decide), P0_arg3]
theorem P1_v11 (c : Dev nD) : P1 m c (Proc.devRef .tc main_v11) = adj m c := by
  unfold P1
  rw [keep_pre1 _ (by decide), P0_v11]
theorem P1_v22 (c : Dev nD) : P1 m c (Proc.devRef .tc main_v22) = sm m c := by
  unfold P1
  rw [pre1_v22, P0_arg3]
  try rfl
theorem P2_arg0 (c : Dev nD) : P2 m c (Proc.devRef .tc main_arg0) = a0 m c := by
  unfold P2
  rw [keep_pre2 _ (by decide), P1_arg0]
theorem P2_arg1 (c : Dev nD) : P2 m c (Proc.devRef .tc main_arg1) = m ((c.tc : Thread nD τ).loc main_arg1) := by
  unfold P2
  rw [keep_pre2 _ (by decide), P1_arg1]
theorem P2_arg2 (c : Dev nD) : P2 m c (Proc.devRef .tc main_arg2) = a2 m c := by
  unfold P2
  rw [keep_pre2 _ (by decide), P1_arg2]
theorem P2_arg3 (c : Dev nD) : P2 m c (Proc.devRef .tc main_arg3) = a3 m c := by
  unfold P2
  rw [keep_pre2 _ (by decide), P1_arg3]
theorem P2_v11 (c : Dev nD) : P2 m c (Proc.devRef .tc main_v11) = adj m c := by
  unfold P2
  rw [keep_pre2 _ (by decide), P1_v11]
theorem P2_v22 (c : Dev nD) : P2 m c (Proc.devRef .tc main_v22) = sm m c := by
  unfold P2
  rw [keep_pre2 _ (by decide), P1_v22]
theorem P2_v23 (c : Dev nD) : P2 m c (Proc.devRef .tc main_v23) = rCls (sm m c) := by
  unfold P2
  rw [pre2_v23, P1_v22]
  try rfl
theorem P3_arg0 (c : Dev nD) : P3 m c (Proc.devRef .tc main_arg0) = a0 m c := by
  unfold P3
  rw [keep_pre3 _ (by decide), P2_arg0]
theorem P3_arg1 (c : Dev nD) : P3 m c (Proc.devRef .tc main_arg1) = m ((c.tc : Thread nD τ).loc main_arg1) := by
  unfold P3
  rw [keep_pre3 _ (by decide), P2_arg1]
theorem P3_arg2 (c : Dev nD) : P3 m c (Proc.devRef .tc main_arg2) = a2 m c := by
  unfold P3
  rw [keep_pre3 _ (by decide), P2_arg2]
theorem P3_arg3 (c : Dev nD) : P3 m c (Proc.devRef .tc main_arg3) = a3 m c := by
  unfold P3
  rw [keep_pre3 _ (by decide), P2_arg3]
theorem P3_v11 (c : Dev nD) : P3 m c (Proc.devRef .tc main_v11) = adj m c := by
  unfold P3
  rw [keep_pre3 _ (by decide), P2_v11]
theorem P3_v22 (c : Dev nD) : P3 m c (Proc.devRef .tc main_v22) = sm m c := by
  unfold P3
  rw [keep_pre3 _ (by decide), P2_v22]
theorem P3_v31 (c : Dev nD) : P3 m c (Proc.devRef .tc main_v31) = vld m c := by
  unfold P3
  rw [pre3_v31, P2_v23]
  try rfl
theorem P3_v33 (c : Dev nD) : P3 m c (Proc.devRef .tc main_v33) = rSc (sm m c) := by
  unfold P3
  rw [pre3_v33, P2_v22]
  try rfl
theorem P4_arg0 (c : Dev nD) : P4 m c (Proc.devRef .tc main_arg0) = a0 m c := by
  unfold P4
  rw [keep_pre4 _ (by decide), P3_arg0]
theorem P4_arg1 (c : Dev nD) : P4 m c (Proc.devRef .tc main_arg1) = m ((c.tc : Thread nD τ).loc main_arg1) := by
  unfold P4
  rw [keep_pre4 _ (by decide), P3_arg1]
theorem P4_arg2 (c : Dev nD) : P4 m c (Proc.devRef .tc main_arg2) = a2 m c := by
  unfold P4
  rw [keep_pre4 _ (by decide), P3_arg2]
theorem P4_arg3 (c : Dev nD) : P4 m c (Proc.devRef .tc main_arg3) = a3 m c := by
  unfold P4
  rw [keep_pre4 _ (by decide), P3_arg3]
theorem P4_v11 (c : Dev nD) : P4 m c (Proc.devRef .tc main_v11) = adj m c := by
  unfold P4
  rw [keep_pre4 _ (by decide), P3_v11]
theorem P4_v22 (c : Dev nD) : P4 m c (Proc.devRef .tc main_v22) = sm m c := by
  unfold P4
  rw [keep_pre4 _ (by decide), P3_v22]
theorem P4_v31 (c : Dev nD) : P4 m c (Proc.devRef .tc main_v31) = vld m c := by
  unfold P4
  rw [keep_pre4 _ (by decide), P3_v31]
theorem P4_v33 (c : Dev nD) : P4 m c (Proc.devRef .tc main_v33) = rSc (sm m c) := by
  unfold P4
  rw [keep_pre4 _ (by decide), P3_v33]
theorem P4_v36 (c : Dev nD) : P4 m c (Proc.devRef .tc main_v36) = rY1 (adj m c) := by
  unfold P4
  rw [pre4_v36, P3_v11]
  try rfl
theorem P5_arg0 (c : Dev nD) : P5 m c (Proc.devRef .tc main_arg0) = a0 m c := by
  unfold P5
  rw [keep_pre5 _ (by decide), P4_arg0]
theorem P5_arg1 (c : Dev nD) : P5 m c (Proc.devRef .tc main_arg1) = m ((c.tc : Thread nD τ).loc main_arg1) := by
  unfold P5
  rw [keep_pre5 _ (by decide), P4_arg1]
theorem P5_arg2 (c : Dev nD) : P5 m c (Proc.devRef .tc main_arg2) = a2 m c := by
  unfold P5
  rw [keep_pre5 _ (by decide), P4_arg2]
theorem P5_arg3 (c : Dev nD) : P5 m c (Proc.devRef .tc main_arg3) = a3 m c := by
  unfold P5
  rw [keep_pre5 _ (by decide), P4_arg3]
theorem P5_v11 (c : Dev nD) : P5 m c (Proc.devRef .tc main_v11) = adj m c := by
  unfold P5
  rw [keep_pre5 _ (by decide), P4_v11]
theorem P5_v22 (c : Dev nD) : P5 m c (Proc.devRef .tc main_v22) = sm m c := by
  unfold P5
  rw [keep_pre5 _ (by decide), P4_v22]
theorem P5_v31 (c : Dev nD) : P5 m c (Proc.devRef .tc main_v31) = vld m c := by
  unfold P5
  rw [keep_pre5 _ (by decide), P4_v31]
theorem P5_v33 (c : Dev nD) : P5 m c (Proc.devRef .tc main_v33) = rSc (sm m c) := by
  unfold P5
  rw [keep_pre5 _ (by decide), P4_v33]
theorem P5_v36 (c : Dev nD) : P5 m c (Proc.devRef .tc main_v36) = rY1 (adj m c) := by
  unfold P5
  rw [keep_pre5 _ (by decide), P4_v36]
theorem P5_v39 (c : Dev nD) : P5 m c (Proc.devRef .tc main_v39) = rX1 (adj m c) := by
  unfold P5
  rw [pre5_v39, P4_v11]
  try rfl
theorem P6_arg0 (c : Dev nD) : P6 m c (Proc.devRef .tc main_arg0) = a0 m c := by
  unfold P6
  rw [keep_pre6 _ (by decide), P5_arg0]
theorem P6_arg1 (c : Dev nD) : P6 m c (Proc.devRef .tc main_arg1) = m ((c.tc : Thread nD τ).loc main_arg1) := by
  unfold P6
  rw [keep_pre6 _ (by decide), P5_arg1]
theorem P6_arg2 (c : Dev nD) : P6 m c (Proc.devRef .tc main_arg2) = a2 m c := by
  unfold P6
  rw [keep_pre6 _ (by decide), P5_arg2]
theorem P6_arg3 (c : Dev nD) : P6 m c (Proc.devRef .tc main_arg3) = a3 m c := by
  unfold P6
  rw [keep_pre6 _ (by decide), P5_arg3]
theorem P6_v11 (c : Dev nD) : P6 m c (Proc.devRef .tc main_v11) = adj m c := by
  unfold P6
  rw [keep_pre6 _ (by decide), P5_v11]
theorem P6_v22 (c : Dev nD) : P6 m c (Proc.devRef .tc main_v22) = sm m c := by
  unfold P6
  rw [keep_pre6 _ (by decide), P5_v22]
theorem P6_v31 (c : Dev nD) : P6 m c (Proc.devRef .tc main_v31) = vld m c := by
  unfold P6
  rw [keep_pre6 _ (by decide), P5_v31]
theorem P6_v33 (c : Dev nD) : P6 m c (Proc.devRef .tc main_v33) = rSc (sm m c) := by
  unfold P6
  rw [keep_pre6 _ (by decide), P5_v33]
theorem P6_v36 (c : Dev nD) : P6 m c (Proc.devRef .tc main_v36) = rY1 (adj m c) := by
  unfold P6
  rw [keep_pre6 _ (by decide), P5_v36]
theorem P6_v39 (c : Dev nD) : P6 m c (Proc.devRef .tc main_v39) = rX1 (adj m c) := by
  unfold P6
  rw [keep_pre6 _ (by decide), P5_v39]
theorem P6_v42 (c : Dev nD) : P6 m c (Proc.devRef .tc main_v42) = rY2 (adj m c) := by
  unfold P6
  rw [pre6_v42, P5_v11]
  try rfl
theorem P7_arg0 (c : Dev nD) : P7 m c (Proc.devRef .tc main_arg0) = a0 m c := by
  unfold P7
  rw [keep_pre7 _ (by decide), P6_arg0]
theorem P7_arg1 (c : Dev nD) : P7 m c (Proc.devRef .tc main_arg1) = m ((c.tc : Thread nD τ).loc main_arg1) := by
  unfold P7
  rw [keep_pre7 _ (by decide), P6_arg1]
theorem P7_arg2 (c : Dev nD) : P7 m c (Proc.devRef .tc main_arg2) = a2 m c := by
  unfold P7
  rw [keep_pre7 _ (by decide), P6_arg2]
theorem P7_arg3 (c : Dev nD) : P7 m c (Proc.devRef .tc main_arg3) = a3 m c := by
  unfold P7
  rw [keep_pre7 _ (by decide), P6_arg3]
theorem P7_v11 (c : Dev nD) : P7 m c (Proc.devRef .tc main_v11) = adj m c := by
  unfold P7
  rw [keep_pre7 _ (by decide), P6_v11]
theorem P7_v22 (c : Dev nD) : P7 m c (Proc.devRef .tc main_v22) = sm m c := by
  unfold P7
  rw [keep_pre7 _ (by decide), P6_v22]
theorem P7_v31 (c : Dev nD) : P7 m c (Proc.devRef .tc main_v31) = vld m c := by
  unfold P7
  rw [keep_pre7 _ (by decide), P6_v31]
theorem P7_v33 (c : Dev nD) : P7 m c (Proc.devRef .tc main_v33) = rSc (sm m c) := by
  unfold P7
  rw [keep_pre7 _ (by decide), P6_v33]
theorem P7_v36 (c : Dev nD) : P7 m c (Proc.devRef .tc main_v36) = rY1 (adj m c) := by
  unfold P7
  rw [keep_pre7 _ (by decide), P6_v36]
theorem P7_v39 (c : Dev nD) : P7 m c (Proc.devRef .tc main_v39) = rX1 (adj m c) := by
  unfold P7
  rw [keep_pre7 _ (by decide), P6_v39]
theorem P7_v42 (c : Dev nD) : P7 m c (Proc.devRef .tc main_v42) = rY2 (adj m c) := by
  unfold P7
  rw [keep_pre7 _ (by decide), P6_v42]
theorem P7_v45 (c : Dev nD) : P7 m c (Proc.devRef .tc main_v45) = rX2 (adj m c) := by
  unfold P7
  rw [pre7_v45, P6_v11]
  try rfl
theorem P8_arg0 (c : Dev nD) : P8 m c (Proc.devRef .tc main_arg0) = a0 m c := by
  unfold P8
  rw [keep_pre8 _ (by decide), P7_arg0]
theorem P8_arg1 (c : Dev nD) : P8 m c (Proc.devRef .tc main_arg1) = m ((c.tc : Thread nD τ).loc main_arg1) := by
  unfold P8
  rw [keep_pre8 _ (by decide), P7_arg1]
theorem P8_arg2 (c : Dev nD) : P8 m c (Proc.devRef .tc main_arg2) = a2 m c := by
  unfold P8
  rw [keep_pre8 _ (by decide), P7_arg2]
theorem P8_arg3 (c : Dev nD) : P8 m c (Proc.devRef .tc main_arg3) = a3 m c := by
  unfold P8
  rw [keep_pre8 _ (by decide), P7_arg3]
theorem P8_v11 (c : Dev nD) : P8 m c (Proc.devRef .tc main_v11) = adj m c := by
  unfold P8
  rw [keep_pre8 _ (by decide), P7_v11]
theorem P8_v22 (c : Dev nD) : P8 m c (Proc.devRef .tc main_v22) = sm m c := by
  unfold P8
  rw [keep_pre8 _ (by decide), P7_v22]
theorem P8_v31 (c : Dev nD) : P8 m c (Proc.devRef .tc main_v31) = vld m c := by
  unfold P8
  rw [keep_pre8 _ (by decide), P7_v31]
theorem P8_v36 (c : Dev nD) : P8 m c (Proc.devRef .tc main_v36) = rY1 (adj m c) := by
  unfold P8
  rw [keep_pre8 _ (by decide), P7_v36]
theorem P8_v39 (c : Dev nD) : P8 m c (Proc.devRef .tc main_v39) = rX1 (adj m c) := by
  unfold P8
  rw [keep_pre8 _ (by decide), P7_v39]
theorem P8_v42 (c : Dev nD) : P8 m c (Proc.devRef .tc main_v42) = rY2 (adj m c) := by
  unfold P8
  rw [keep_pre8 _ (by decide), P7_v42]
theorem P8_v45 (c : Dev nD) : P8 m c (Proc.devRef .tc main_v45) = rX2 (adj m c) := by
  unfold P8
  rw [keep_pre8 _ (by decide), P7_v45]
theorem P8_v46 (c : Dev nD) : P8 m c (Proc.devRef .tc main_v46) = iotaInDim S4x20x5000 32 2 := by
  unfold P8
  rw [pre8_v46]
  try rfl
theorem P8_v49 (c : Dev nD) : P8 m c (Proc.devRef .tc main_v49) = rNeg (vld m c) (rSc (sm m c)) := by
  unfold P8
  rw [pre8_v49, P7_v31, P7_v33]
  try rfl
theorem P9_arg0 (c : Dev nD) : P9 m c (Proc.devRef .tc main_arg0) = a0 m c := by
  unfold P9
  rw [keep_pre9 _ (by decide), P8_arg0]
theorem P9_arg1 (c : Dev nD) : P9 m c (Proc.devRef .tc main_arg1) = m ((c.tc : Thread nD τ).loc main_arg1) := by
  unfold P9
  rw [keep_pre9 _ (by decide), P8_arg1]
theorem P9_arg2 (c : Dev nD) : P9 m c (Proc.devRef .tc main_arg2) = a2 m c := by
  unfold P9
  rw [keep_pre9 _ (by decide), P8_arg2]
theorem P9_arg3 (c : Dev nD) : P9 m c (Proc.devRef .tc main_arg3) = a3 m c := by
  unfold P9
  rw [keep_pre9 _ (by decide), P8_arg3]
theorem P9_v11 (c : Dev nD) : P9 m c (Proc.devRef .tc main_v11) = adj m c := by
  unfold P9
  rw [keep_pre9 _ (by decide), P8_v11]
theorem P9_v22 (c : Dev nD) : P9 m c (Proc.devRef .tc main_v22) = sm m c := by
  unfold P9
  rw [keep_pre9 _ (by decide), P8_v22]
theorem P9_v46 (c : Dev nD) : P9 m c (Proc.devRef .tc main_v46) = iotaInDim S4x20x5000 32 2 := by
  unfold P9
  rw [keep_pre9 _ (by decide), P8_v46]
theorem P9_v50_1 (c : Dev nD) : P9 m c (Proc.devRef .tc main_v50_1) = sOrd m c := by
  unfold P9
  rw [pre9_v50_1, P8_v49, P8_v46, P8_v36, P8_v39, P8_v42, P8_v45, P8_v31]
  try rfl
theorem P9_v50_2 (c : Dev nD) : P9 m c (Proc.devRef .tc main_v50_2) = sY1 m c := by
  unfold P9
  rw [pre9_v50_2, P8_v49, P8_v46, P8_v36, P8_v39, P8_v42, P8_v45, P8_v31]
  try rfl
theorem P9_v50_3 (c : Dev nD) : P9 m c (Proc.devRef .tc main_v50_3) = sX1 m c := by
  unfold P9
  rw [pre9_v50_3, P8_v49, P8_v46, P8_v36, P8_v39, P8_v42, P8_v45, P8_v31]
  try rfl
theorem P9_v50_4 (c : Dev nD) : P9 m c (Proc.devRef .tc main_v50_4) = sY2 m c := by
  unfold P9
  rw [pre9_v50_4, P8_v49, P8_v46, P8_v36, P8_v39, P8_v42, P8_v45, P8_v31]
  try rfl
theorem P9_v50_5 (c : Dev nD) : P9 m c (Proc.devRef .tc main_v50_5) = sX2 m c := by
  unfold P9
  rw [pre9_v50_5, P8_v49, P8_v46, P8_v36, P8_v39, P8_v42, P8_v45, P8_v31]
  try rfl
theorem P9_v50_6 (c : Dev nD) : P9 m c (Proc.devRef .tc main_v50_6) = sV m c := by
  unfold P9
  rw [pre9_v50_6, P8_v49, P8_v46, P8_v36, P8_v39, P8_v42, P8_v45, P8_v31]
  try rfl
theorem P10_arg0 (c : Dev nD) : P10 m c (Proc.devRef .tc main_arg0) = a0 m c := by
  unfold P10
  rw [keep_pre10 _ (by decide), P9_arg0]
theorem P10_arg1 (c : Dev nD) : P10 m c (Proc.devRef .tc main_arg1) = m ((c.tc : Thread nD τ).loc main_arg1) := by
  unfold P10
  rw [keep_pre10 _ (by decide), P9_arg1]
theorem P10_arg2 (c : Dev nD) : P10 m c (Proc.devRef .tc main_arg2) = a2 m c := by
  unfold P10
  rw [keep_pre10 _ (by decide), P9_arg2]
theorem P10_arg3 (c : Dev nD) : P10 m c (Proc.devRef .tc main_arg3) = a3 m c := by
  unfold P10
  rw [keep_pre10 _ (by decide), P9_arg3]
theorem P10_v11 (c : Dev nD) : P10 m c (Proc.devRef .tc main_v11) = adj m c := by
  unfold P10
  rw [keep_pre10 _ (by decide), P9_v11]
theorem P10_v22 (c : Dev nD) : P10 m c (Proc.devRef .tc main_v22) = sm m c := by
  unfold P10
  rw [keep_pre10 _ (by decide), P9_v22]
theorem P10_v50_1 (c : Dev nD) : P10 m c (Proc.devRef .tc main_v50_1) = sOrd m c := by
  unfold P10
  rw [keep_pre10 _ (by decide), P9_v50_1]
theorem P10_v50_6 (c : Dev nD) : P10 m c (Proc.devRef .tc main_v50_6) = sV m c := by
  unfold P10
  rw [keep_pre10 _ (by decide), P9_v50_6]
theorem P10_v52_0 (c : Dev nD) : P10 m c (Proc.devRef .tc main_v52_0) = sY1 m c := by
  unfold P10
  rw [pre10_v52_0, P9_v50_2]
  try rfl
theorem P10_v52_1 (c : Dev nD) : P10 m c (Proc.devRef .tc main_v52_1) = sX1 m c := by
  unfold P10
  rw [pre10_v52_1, P9_v50_3]
  try rfl
theorem P10_v52_2 (c : Dev nD) : P10 m c (Proc.devRef .tc main_v52_2) = sY2 m c := by
  unfold P10
  rw [pre10_v52_2, P9_v50_4]
  try rfl
theorem P10_v52_3 (c : Dev nD) : P10 m c (Proc.devRef .tc main_v52_3) = sX2 m c := by
  unfold P10
  rw [pre10_v52_3, P9_v50_5]
  try rfl
theorem P10_v52_4 (c : Dev nD) : P10 m c (Proc.devRef .tc main_v52_4) = iotaInDim S4x20x5000 32 2 := by
  unfold P10
  rw [pre10_v52_4, P9_v46]
  try rfl
theorem P10_v52_5 (c : Dev nD) : P10 m c (Proc.devRef .tc main_v52_5) = constantI S_ 32 0#32 := by
  unfold P10
  rw [pre10_v52_5]
  try rfl
theorem P10_v52_6 (c : Dev nD) : P10 m c (Proc.devRef .tc main_v52_6) = constantI S_ 32 0#32 := by
  unfold P10
  rw [pre10_v52_6]
  try rfl
theorem P10_v52_7 (c : Dev nD) : P10 m c (Proc.devRef .tc main_v52_7) = noti (sV m c) := by
  unfold P10
  rw [pre10_v52_7, P9_v50_6]
  try rfl

/-- Contents before trip `k`. -/
abbrev T (k : ℕ) (c : Dev nD) : VV := atTrip condOps bodI (entryContents preI m) k c

/-- Contents after the first `i` stretches of trip `k`. -/
def Q0 (k : ℕ) (c : Dev nD) : VV := after condOps (T m k c)
@[inherit_doc Q0] def Q1 (k : ℕ) (c : Dev nD) : VV := after bod0 (Q0 m k c)
@[inherit_doc Q0] def Q2 (k : ℕ) (c : Dev nD) : VV := after bod1 (Q1 m k c)
@[inherit_doc Q0] def Q3 (k : ℕ) (c : Dev nD) : VV := after bod2 (Q2 m k c)
@[inherit_doc Q0] def Q4 (k : ℕ) (c : Dev nD) : VV := after bod3 (Q3 m k c)
@[inherit_doc Q0] def Q5 (k : ℕ) (c : Dev nD) : VV := after bod4 (Q4 m k c)
@[inherit_doc Q0] def Q6 (k : ℕ) (c : Dev nD) : VV := after bod5 (Q5 m k c)
@[inherit_doc Q0] def Q7 (k : ℕ) (c : Dev nD) : VV := after bod6 (Q6 m k c)
@[inherit_doc Q0] def Q8 (k : ℕ) (c : Dev nD) : VV := after bod7 (Q7 m k c)
@[inherit_doc Q0] def Q9 (k : ℕ) (c : Dev nD) : VV := after bod8 (Q8 m k c)
@[inherit_doc Q0] def Q10 (k : ℕ) (c : Dev nD) : VV := after bod9 (Q9 m k c)
@[inherit_doc Q0] def Q11 (k : ℕ) (c : Dev nD) : VV := after bod10 (Q10 m k c)
@[inherit_doc Q0] def Q12 (k : ℕ) (c : Dev nD) : VV := after bod11 (Q11 m k c)
theorem T_succ (k : ℕ) (c : Dev nD) : T m (k + 1) c = Q12 m k c := rfl

/-- What the loop keeps from trip to trip. -/
structure Inv (k : ℕ) (c : Dev nD) (V : VV) : Prop where
  arg0 : V (Proc.devRef .tc main_arg0) = a0 m c
  arg1 : V (Proc.devRef .tc main_arg1) = m ((c.tc : Thread nD τ).loc main_arg1)
  arg2 : V (Proc.devRef .tc main_arg2) = a2 m c
  arg3 : V (Proc.devRef .tc main_arg3) = a3 m c
  v11 : V (Proc.devRef .tc main_v11) = adj m c
  v22 : V (Proc.devRef .tc main_v22) = sm m c
  v50_1 : V (Proc.devRef .tc main_v50_1) = sOrd m c
  v50_6 : V (Proc.devRef .tc main_v50_6) = sV m c
  v52_0 : V (Proc.devRef .tc main_v52_0) = sY1 m c
  v52_1 : V (Proc.devRef .tc main_v52_1) = sX1 m c
  v52_2 : V (Proc.devRef .tc main_v52_2) = sY2 m c
  v52_3 : V (Proc.devRef .tc main_v52_3) = sX2 m c
  v52_4 : V (Proc.devRef .tc main_v52_4) = iotaInDim S4x20x5000 32 2
  v52_5 : V (Proc.devRef .tc main_v52_5) = fun _ => BitVec.ofNat 32 k
  v52_6 : V (Proc.devRef .tc main_v52_6) = fun _ => BitVec.ofNat 32 k
  v52_7 : V (Proc.devRef .tc main_v52_7) = sup m c k

theorem inv_zero (c : Dev nD) : Inv m 0 c (T m 0 c) where
  arg0 := P10_arg0 m c
  arg1 := P10_arg1 m c
  arg2 := P10_arg2 m c
  arg3 := P10_arg3 m c
  v11 := P10_v11 m c
  v22 := P10_v22 m c
  v50_1 := P10_v50_1 m c
  v50_6 := P10_v50_6 m c
  v52_0 := P10_v52_0 m c
  v52_1 := P10_v52_1 m c
  v52_2 := P10_v52_2 m c
  v52_3 := P10_v52_3 m c
  v52_4 := P10_v52_4 m c
  v52_5 := P10_v52_5 m c
  v52_6 := P10_v52_6 m c
  v52_7 := P10_v52_7 m c
/-- The counter's increment. -/
theorem addi_ofNat (k : ℕ) : (addi (fun _ => BitVec.ofNat 32 k) (constantI S_ 32 1#32) : IVec S_ 32) = fun _ => BitVec.ofNat 32 (k + 1) := by
  funext i
  show BitVec.ofNat 32 k + 1#32 = BitVec.ofNat 32 (k + 1)
  rw [BitVec.ofNat_add]

theorem Q0_arg0 {k : ℕ} {c : Dev nD} (h : Inv m k c (T m k c)) : Q0 m k c (Proc.devRef .tc main_arg0) = a0 m c := by
  unfold Q0
  rw [keep_condOps _ (by decide), h.arg0]
theorem Q0_arg1 {k : ℕ} {c : Dev nD} (h : Inv m k c (T m k c)) : Q0 m k c (Proc.devRef .tc main_arg1) = m ((c.tc : Thread nD τ).loc main_arg1) := by
  unfold Q0
  rw [keep_condOps _ (by decide), h.arg1]
theorem Q0_arg2 {k : ℕ} {c : Dev nD} (h : Inv m k c (T m k c)) : Q0 m k c (Proc.devRef .tc main_arg2) = a2 m c := by
  unfold Q0
  rw [keep_condOps _ (by decide), h.arg2]
theorem Q0_arg3 {k : ℕ} {c : Dev nD} (h : Inv m k c (T m k c)) : Q0 m k c (Proc.devRef .tc main_arg3) = a3 m c := by
  unfold Q0
  rw [keep_condOps _ (by decide), h.arg3]
theorem Q0_v11 {k : ℕ} {c : Dev nD} (h : Inv m k c (T m k c)) : Q0 m k c (Proc.devRef .tc main_v11) = adj m c := by
  unfold Q0
  rw [keep_condOps _ (by decide), h.v11]
theorem Q0_v22 {k : ℕ} {c : Dev nD} (h : Inv m k c (T m k c)) : Q0 m k c (Proc.devRef .tc main_v22) = sm m c := by
  unfold Q0
  rw [keep_condOps _ (by decide), h.v22]
theorem Q0_v50_1 {k : ℕ} {c : Dev nD} (h : Inv m k c (T m k c)) : Q0 m k c (Proc.devRef .tc main_v50_1) = sOrd m c := by
  unfold Q0
  rw [keep_condOps _ (by decide), h.v50_1]
theorem Q0_v50_6 {k : ℕ} {c : Dev nD} (h : Inv m k c (T m k c)) : Q0 m k c (Proc.devRef .tc main_v50_6) = sV m c := by
  unfold Q0
  rw [keep_condOps _ (by decide), h.v50_6]
theorem Q0_v52_0 {k : ℕ} {c : Dev nD} (h : Inv m k c (T m k c)) : Q0 m k c (Proc.devRef .tc main_v52_0) = sY1 m c := by
  unfold Q0
  rw [keep_condOps _ (by decide), h.v52_0]
theorem Q0_v52_1 {k : ℕ} {c : Dev nD} (h : Inv m k c (T m k c)) : Q0 m k c (Proc.devRef .tc main_v52_1) = sX1 m c := by
  unfold Q0
  rw [keep_condOps _ (by decide), h.v52_1]
theorem Q0_v52_2 {k : ℕ} {c : Dev nD} (h : Inv m k c (T m k c)) : Q0 m k c (Proc.devRef .tc main_v52_2) = sY2 m c := by
  unfold Q0
  rw [keep_condOps _ (by decide), h.v52_2]
theorem Q0_v52_3 {k : ℕ} {c : Dev nD} (h : Inv m k c (T m k c)) : Q0 m k c (Proc.devRef .tc main_v52_3) = sX2 m c := by
  unfold Q0
  rw [keep_condOps _ (by decide), h.v52_3]
theorem Q0_v52_4 {k : ℕ} {c : Dev nD} (h : Inv m k c (T m k c)) : Q0 m k c (Proc.devRef .tc main_v52_4) = iotaInDim S4x20x5000 32 2 := by
  unfold Q0
  rw [keep_condOps _ (by decide), h.v52_4]
theorem Q0_v52_5 {k : ℕ} {c : Dev nD} (h : Inv m k c (T m k c)) : Q0 m k c (Proc.devRef .tc main_v52_5) = fun _ => BitVec.ofNat 32 k := by
  unfold Q0
  rw [keep_condOps _ (by decide), h.v52_5]
theorem Q0_v52_6 {k : ℕ} {c : Dev nD} (h : Inv m k c (T m k c)) : Q0 m k c (Proc.devRef .tc main_v52_6) = fun _ => BitVec.ofNat 32 k := by
  unfold Q0
  rw [keep_condOps _ (by decide), h.v52_6]
theorem Q0_v52_7 {k : ℕ} {c : Dev nD} (h : Inv m k c (T m k c)) : Q0 m k c (Proc.devRef .tc main_v52_7) = sup m c k := by
  unfold Q0
  rw [keep_condOps _ (by decide), h.v52_7]
theorem Q1_arg0 {k : ℕ} {c : Dev nD} (h : Inv m k c (T m k c)) : Q1 m k c (Proc.devRef .tc main_arg0) = a0 m c := by
  unfold Q1
  rw [keep_bod0 _ (by decide), Q0_arg0 m h]
theorem Q1_arg1 {k : ℕ} {c : Dev nD} (h : Inv m k c (T m k c)) : Q1 m k c (Proc.devRef .tc main_arg1) = m ((c.tc : Thread nD τ).loc main_arg1) := by
  unfold Q1
  rw [keep_bod0 _ (by decide), Q0_arg1 m h]
theorem Q1_arg2 {k : ℕ} {c : Dev nD} (h : Inv m k c (T m k c)) : Q1 m k c (Proc.devRef .tc main_arg2) = a2 m c := by
  unfold Q1
  rw [keep_bod0 _ (by decide), Q0_arg2 m h]
theorem Q1_arg3 {k : ℕ} {c : Dev nD} (h : Inv m k c (T m k c)) : Q1 m k c (Proc.devRef .tc main_arg3) = a3 m c := by
  unfold Q1
  rw [keep_bod0 _ (by decide), Q0_arg3 m h]
theorem Q1_v11 {k : ℕ} {c : Dev nD} (h : Inv m k c (T m k c)) : Q1 m k c (Proc.devRef .tc main_v11) = adj m c := by
  unfold Q1
  rw [keep_bod0 _ (by decide), Q0_v11 m h]
theorem Q1_v22 {k : ℕ} {c : Dev nD} (h : Inv m k c (T m k c)) : Q1 m k c (Proc.devRef .tc main_v22) = sm m c := by
  unfold Q1
  rw [keep_bod0 _ (by decide), Q0_v22 m h]
theorem Q1_v50_1 {k : ℕ} {c : Dev nD} (h : Inv m k c (T m k c)) : Q1 m k c (Proc.devRef .tc main_v50_1) = sOrd m c := by
  unfold Q1
  rw [keep_bod0 _ (by decide), Q0_v50_1 m h]
theorem Q1_v50_6 {k : ℕ} {c : Dev nD} (h : Inv m k c (T m k c)) : Q1 m k c (Proc.devRef .tc main_v50_6) = sV m c := by
  unfold Q1
  rw [keep_bod0 _ (by decide), Q0_v50_6 m h]
theorem Q1_v52_0 {k : ℕ} {c : Dev nD} (h : Inv m k c (T m k c)) : Q1 m k c (Proc.devRef .tc main_v52_0) = sY1 m c := by
  unfold Q1
  rw [keep_bod0 _ (by decide), Q0_v52_0 m h]
theorem Q1_v52_1 {k : ℕ} {c : Dev nD} (h : Inv m k c (T m k c)) : Q1 m k c (Proc.devRef .tc main_v52_1) = sX1 m c := by
  unfold Q1
  rw [keep_bod0 _ (by decide), Q0_v52_1 m h]
theorem Q1_v52_2 {k : ℕ} {c : Dev nD} (h : Inv m k c (T m k c)) : Q1 m k c (Proc.devRef .tc main_v52_2) = sY2 m c := by
  unfold Q1
  rw [keep_bod0 _ (by decide), Q0_v52_2 m h]
theorem Q1_v52_3 {k : ℕ} {c : Dev nD} (h : Inv m k c (T m k c)) : Q1 m k c (Proc.devRef .tc main_v52_3) = sX2 m c := by
  unfold Q1
  rw [keep_bod0 _ (by decide), Q0_v52_3 m h]
theorem Q1_v52_4 {k : ℕ} {c : Dev nD} (h : Inv m k c (T m k c)) : Q1 m k c (Proc.devRef .tc main_v52_4) = iotaInDim S4x20x5000 32 2 := by
  unfold Q1
  rw [keep_bod0 _ (by decide), Q0_v52_4 m h]
theorem Q1_v52_5 {k : ℕ} {c : Dev nD} (h : Inv m k c (T m k c)) : Q1 m k c (Proc.devRef .tc main_v52_5) = fun _ => BitVec.ofNat 32 k := by
  unfold Q1
  rw [keep_bod0 _ (by decide), Q0_v52_5 m h]
theorem Q1_v52_6 {k : ℕ} {c : Dev nD} (h : Inv m k c (T m k c)) : Q1 m k c (Proc.devRef .tc main_v52_6) = fun _ => BitVec.ofNat 32 k := by
  unfold Q1
  rw [keep_bod0 _ (by decide), Q0_v52_6 m h]
theorem Q1_v52_7 {k : ℕ} {c : Dev nD} (h : Inv m k c (T m k c)) : Q1 m k c (Proc.devRef .tc main_v52_7) = sup m c k := by
  unfold Q1
  rw [keep_bod0 _ (by decide), Q0_v52_7 m h]
theorem Q1_v65 {k : ℕ} {c : Dev nD} (h : Inv m k c (T m k c)) : Q1 m k c (Proc.devRef .tc main_while0b_v65) = addi (fun _ => BitVec.ofNat 32 k) (constantI S_ 32 1#32) := by
  unfold Q1
  rw [bod0_v65, Q0_v52_6 m h]
  try rfl
theorem Q1_v70 {k : ℕ} {c : Dev nD} (h : Inv m k c (T m k c)) : Q1 m k c (Proc.devRef .tc main_while0b_v70) = rCol (F := F) (e := .f32) (sY1 m c) (fun _ => BitVec.ofNat 32 k) := by
  unfold Q1
  rw [bod0_v70, Q0_v52_0 m h, Q0_v52_6 m h]
  try rfl
theorem Q2_arg0 {k : ℕ} {c : Dev nD} (h : Inv m k c (T m k c)) : Q2 m k c (Proc.devRef .tc main_arg0) = a0 m c := by
  unfold Q2
  rw [keep_bod1 _ (by decide), Q1_arg0 m h]
theorem Q2_arg1 {k : ℕ} {c : Dev nD} (h : Inv m k c (T m k c)) : Q2 m k c (Proc.devRef .tc main_arg1) = m ((c.tc : Thread nD τ).loc main_arg1) := by
  unfold Q2
  rw [keep_bod1 _ (by decide), Q1_arg1 m h]
theorem Q2_arg2 {k : ℕ} {c : Dev nD} (h : Inv m k c (T m k c)) : Q2 m k c (Proc.devRef .tc main_arg2) = a2 m c := by
  unfold Q2
  rw [keep_bod1 _ (by decide), Q1_arg2 m h]
theorem Q2_arg3 {k : ℕ} {c : Dev nD} (h : Inv m k c (T m k c)) : Q2 m k c (Proc.devRef .tc main_arg3) = a3 m c := by
  unfold Q2
  rw [keep_bod1 _ (by decide), Q1_arg3 m h]
theorem Q2_v11 {k : ℕ} {c : Dev nD} (h : Inv m k c (T m k c)) : Q2 m k c (Proc.devRef .tc main_v11) = adj m c := by
  unfold Q2
  rw [keep_bod1 _ (by decide), Q1_v11 m h]
theorem Q2_v22 {k : ℕ} {c : Dev nD} (h : Inv m k c (T m k c)) : Q2 m k c (Proc.devRef .tc main_v22) = sm m c := by
  unfold Q2
  rw [keep_bod1 _ (by decide), Q1_v22 m h]
theorem Q2_v50_1 {k : ℕ} {c : Dev nD} (h : Inv m k c (T m k c)) : Q2 m k c (Proc.devRef .tc main_v50_1) = sOrd m c := by
  unfold Q2
  rw [keep_bod1 _ (by decide), Q1_v50_1 m h]
theorem Q2_v50_6 {k : ℕ} {c : Dev nD} (h : Inv m k c (T m k c)) : Q2 m k c (Proc.devRef .tc main_v50_6) = sV m c := by
  unfold Q2
  rw [keep_bod1 _ (by decide), Q1_v50_6 m h]
theorem Q2_v52_0 {k : ℕ} {c : Dev nD} (h : Inv m k c (T m k c)) : Q2 m k c (Proc.devRef .tc main_v52_0) = sY1 m c := by
  unfold Q2
  rw [keep_bod1 _ (by decide), Q1_v52_0 m h]
theorem Q2_v52_1 {k : ℕ} {c : Dev nD} (h : Inv m k c (T m k c)) : Q2 m k c (Proc.devRef .tc main_v52_1) = sX1 m c := by
  unfold Q2
  rw [keep_bod1 _ (by decide), Q1_v52_1 m h]
theorem Q2_v52_2 {k : ℕ} {c : Dev nD} (h : Inv m k c (T m k c)) : Q2 m k c (Proc.devRef .tc main_v52_2) = sY2 m c := by
  unfold Q2
  rw [keep_bod1 _ (by decide), Q1_v52_2 m h]
theorem Q2_v52_3 {k : ℕ} {c : Dev nD} (h : Inv m k c (T m k c)) : Q2 m k c (Proc.devRef .tc main_v52_3) = sX2 m c := by
  unfold Q2
  rw [keep_bod1 _ (by decide), Q1_v52_3 m h]
theorem Q2_v52_4 {k : ℕ} {c : Dev nD} (h : Inv m k c (T m k c)) : Q2 m k c (Proc.devRef .tc main_v52_4) = iotaInDim S4x20x5000 32 2 := by
  unfold Q2
  rw [keep_bod1 _ (by decide), Q1_v52_4 m h]
theorem Q2_v52_5 {k : ℕ} {c : Dev nD} (h : Inv m k c (T m k c)) : Q2 m k c (Proc.devRef .tc main_v52_5) = fun _ => BitVec.ofNat 32 k := by
  unfold Q2
  rw [keep_bod1 _ (by decide), Q1_v52_5 m h]
theorem Q2_v52_6 {k : ℕ} {c : Dev nD} (h : Inv m k c (T m k c)) : Q2 m k c (Proc.devRef .tc main_v52_6) = fun _ => BitVec.ofNat 32 k := by
  unfold Q2
  rw [keep_bod1 _ (by decide), Q1_v52_6 m h]
theorem Q2_v52_7 {k : ℕ} {c : Dev nD} (h : Inv m k c (T m k c)) : Q2 m k c (Proc.devRef .tc main_v52_7) = sup m c k := by
  unfold Q2
  rw [keep_bod1 _ (by decide), Q1_v52_7 m h]
theorem Q2_v65 {k : ℕ} {c : Dev nD} (h : Inv m k c (T m k c)) : Q2 m k c (Proc.devRef .tc main_while0b_v65) = addi (fun _ => BitVec.ofNat 32 k) (constantI S_ 32 1#32) := by
  unfold Q2
  rw [keep_bod1 _ (by decide), Q1_v65 m h]
theorem Q2_v70 {k : ℕ} {c : Dev nD} (h : Inv m k c (T m k c)) : Q2 m k c (Proc.devRef .tc main_while0b_v70) = rCol (F := F) (e := .f32) (sY1 m c) (fun _ => BitVec.ofNat 32 k) := by
  unfold Q2
  rw [keep_bod1 _ (by decide), Q1_v70 m h]
theorem Q2_v75 {k : ℕ} {c : Dev nD} (h : Inv m k c (T m k c)) : Q2 m k c (Proc.devRef .tc main_while0b_v75) = rCol (F := F) (e := .f32) (sX1 m c) (fun _ => BitVec.ofNat 32 k) := by
  unfold Q2
  rw [bod1_v75, Q1_v52_1 m h, Q1_v52_6 m h]
  try rfl
theorem Q3_arg0 {k : ℕ} {c : Dev nD} (h : Inv m k c (T m k c)) : Q3 m k c (Proc.devRef .tc main_arg0) = a0 m c := by
  unfold Q3
  rw [keep_bod2 _ (by decide), Q2_arg0 m h]
theorem Q3_arg1 {k : ℕ} {c : Dev nD} (h : Inv m k c (T m k c)) : Q3 m k c (Proc.devRef .tc main_arg1) = m ((c.tc : Thread nD τ).loc main_arg1) := by
  unfold Q3
  rw [keep_bod2 _ (by decide), Q2_arg1 m h]
theorem Q3_arg2 {k : ℕ} {c : Dev nD} (h : Inv m k c (T m k c)) : Q3 m k c (Proc.devRef .tc main_arg2) = a2 m c := by
  unfold Q3
  rw [keep_bod2 _ (by decide), Q2_arg2 m h]
theorem Q3_arg3 {k : ℕ} {c : Dev nD} (h : Inv m k c (T m k c)) : Q3 m k c (Proc.devRef .tc main_arg3) = a3 m c := by
  unfold Q3
  rw [keep_bod2 _ (by decide), Q2_arg3 m h]
theorem Q3_v11 {k : ℕ} {c : Dev nD} (h : Inv m k c (T m k c)) : Q3 m k c (Proc.devRef .tc main_v11) = adj m c := by
  unfold Q3
  rw [keep_bod2 _ (by decide), Q2_v11 m h]
theorem Q3_v22 {k : ℕ} {c : Dev nD} (h : Inv m k c (T m k c)) : Q3 m k c (Proc.devRef .tc main_v22) = sm m c := by
  unfold Q3
  rw [keep_bod2 _ (by decide), Q2_v22 m h]
theorem Q3_v50_1 {k : ℕ} {c : Dev nD} (h : Inv m k c (T m k c)) : Q3 m k c (Proc.devRef .tc main_v50_1) = sOrd m c := by
  unfold Q3
  rw [keep_bod2 _ (by decide), Q2_v50_1 m h]
theorem Q3_v50_6 {k : ℕ} {c : Dev nD} (h : Inv m k c (T m k c)) : Q3 m k c (Proc.devRef .tc main_v50_6) = sV m c := by
  unfold Q3
  rw [keep_bod2 _ (by decide), Q2_v50_6 m h]
theorem Q3_v52_0 {k : ℕ} {c : Dev nD} (h : Inv m k c (T m k c)) : Q3 m k c (Proc.devRef .tc main_v52_0) = sY1 m c := by
  unfold Q3
  rw [keep_bod2 _ (by decide), Q2_v52_0 m h]
theorem Q3_v52_1 {k : ℕ} {c : Dev nD} (h : Inv m k c (T m k c)) : Q3 m k c (Proc.devRef .tc main_v52_1) = sX1 m c := by
  unfold Q3
  rw [keep_bod2 _ (by decide), Q2_v52_1 m h]
theorem Q3_v52_2 {k : ℕ} {c : Dev nD} (h : Inv m k c (T m k c)) : Q3 m k c (Proc.devRef .tc main_v52_2) = sY2 m c := by
  unfold Q3
  rw [keep_bod2 _ (by decide), Q2_v52_2 m h]
theorem Q3_v52_3 {k : ℕ} {c : Dev nD} (h : Inv m k c (T m k c)) : Q3 m k c (Proc.devRef .tc main_v52_3) = sX2 m c := by
  unfold Q3
  rw [keep_bod2 _ (by decide), Q2_v52_3 m h]
theorem Q3_v52_4 {k : ℕ} {c : Dev nD} (h : Inv m k c (T m k c)) : Q3 m k c (Proc.devRef .tc main_v52_4) = iotaInDim S4x20x5000 32 2 := by
  unfold Q3
  rw [keep_bod2 _ (by decide), Q2_v52_4 m h]
theorem Q3_v52_5 {k : ℕ} {c : Dev nD} (h : Inv m k c (T m k c)) : Q3 m k c (Proc.devRef .tc main_v52_5) = fun _ => BitVec.ofNat 32 k := by
  unfold Q3
  rw [keep_bod2 _ (by decide), Q2_v52_5 m h]
theorem Q3_v52_6 {k : ℕ} {c : Dev nD} (h : Inv m k c (T m k c)) : Q3 m k c (Proc.devRef .tc main_v52_6) = fun _ => BitVec.ofNat 32 k := by
  unfold Q3
  rw [keep_bod2 _ (by decide), Q2_v52_6 m h]
theorem Q3_v52_7 {k : ℕ} {c : Dev nD} (h : Inv m k c (T m k c)) : Q3 m k c (Proc.devRef .tc main_v52_7) = sup m c k := by
  unfold Q3
  rw [keep_bod2 _ (by decide), Q2_v52_7 m h]
theorem Q3_v65 {k : ℕ} {c : Dev nD} (h : Inv m k c (T m k c)) : Q3 m k c (Proc.devRef .tc main_while0b_v65) = addi (fun _ => BitVec.ofNat 32 k) (constantI S_ 32 1#32) := by
  unfold Q3
  rw [keep_bod2 _ (by decide), Q2_v65 m h]
theorem Q3_v70 {k : ℕ} {c : Dev nD} (h : Inv m k c (T m k c)) : Q3 m k c (Proc.devRef .tc main_while0b_v70) = rCol (F := F) (e := .f32) (sY1 m c) (fun _ => BitVec.ofNat 32 k) := by
  unfold Q3
  rw [keep_bod2 _ (by decide), Q2_v70 m h]
theorem Q3_v75 {k : ℕ} {c : Dev nD} (h : Inv m k c (T m k c)) : Q3 m k c (Proc.devRef .tc main_while0b_v75) = rCol (F := F) (e := .f32) (sX1 m c) (fun _ => BitVec.ofNat 32 k) := by
  unfold Q3
  rw [keep_bod2 _ (by decide), Q2_v75 m h]
theorem Q3_v80 {k : ℕ} {c : Dev nD} (h : Inv m k c (T m k c)) : Q3 m k c (Proc.devRef .tc main_while0b_v80) = rCol (F := F) (e := .f32) (sY2 m c) (fun _ => BitVec.ofNat 32 k) := by
  unfold Q3
  rw [bod2_v80, Q2_v52_2 m h, Q2_v52_6 m h]
  try rfl
theorem Q4_arg0 {k : ℕ} {c : Dev nD} (h : Inv m k c (T m k c)) : Q4 m k c (Proc.devRef .tc main_arg0) = a0 m c := by
  unfold Q4
  rw [keep_bod3 _ (by decide), Q3_arg0 m h]
theorem Q4_arg1 {k : ℕ} {c : Dev nD} (h : Inv m k c (T m k c)) : Q4 m k c (Proc.devRef .tc main_arg1) = m ((c.tc : Thread nD τ).loc main_arg1) := by
  unfold Q4
  rw [keep_bod3 _ (by decide), Q3_arg1 m h]
theorem Q4_arg2 {k : ℕ} {c : Dev nD} (h : Inv m k c (T m k c)) : Q4 m k c (Proc.devRef .tc main_arg2) = a2 m c := by
  unfold Q4
  rw [keep_bod3 _ (by decide), Q3_arg2 m h]
theorem Q4_arg3 {k : ℕ} {c : Dev nD} (h : Inv m k c (T m k c)) : Q4 m k c (Proc.devRef .tc main_arg3) = a3 m c := by
  unfold Q4
  rw [keep_bod3 _ (by decide), Q3_arg3 m h]
theorem Q4_v11 {k : ℕ} {c : Dev nD} (h : Inv m k c (T m k c)) : Q4 m k c (Proc.devRef .tc main_v11) = adj m c := by
  unfold Q4
  rw [keep_bod3 _ (by decide), Q3_v11 m h]
theorem Q4_v22 {k : ℕ} {c : Dev nD} (h : Inv m k c (T m k c)) : Q4 m k c (Proc.devRef .tc main_v22) = sm m c := by
  unfold Q4
  rw [keep_bod3 _ (by decide), Q3_v22 m h]
theorem Q4_v50_1 {k : ℕ} {c : Dev nD} (h : Inv m k c (T m k c)) : Q4 m k c (Proc.devRef .tc main_v50_1) = sOrd m c := by
  unfold Q4
  rw [keep_bod3 _ (by decide), Q3_v50_1 m h]
theorem Q4_v50_6 {k : ℕ} {c : Dev nD} (h : Inv m k c (T m k c)) : Q4 m k c (Proc.devRef .tc main_v50_6) = sV m c := by
  unfold Q4
  rw [keep_bod3 _ (by decide), Q3_v50_6 m h]
theorem Q4_v52_0 {k : ℕ} {c : Dev nD} (h : Inv m k c (T m k c)) : Q4 m k c (Proc.devRef .tc main_v52_0) = sY1 m c := by
  unfold Q4
  rw [keep_bod3 _ (by decide), Q3_v52_0 m h]
theorem Q4_v52_1 {k : ℕ} {c : Dev nD} (h : Inv m k c (T m k c)) : Q4 m k c (Proc.devRef .tc main_v52_1) = sX1 m c := by
  unfold Q4
  rw [keep_bod3 _ (by decide), Q3_v52_1 m h]
theorem Q4_v52_2 {k : ℕ} {c : Dev nD} (h : Inv m k c (T m k c)) : Q4 m k c (Proc.devRef .tc main_v52_2) = sY2 m c := by
  unfold Q4
  rw [keep_bod3 _ (by decide), Q3_v52_2 m h]
theorem Q4_v52_3 {k : ℕ} {c : Dev nD} (h : Inv m k c (T m k c)) : Q4 m k c (Proc.devRef .tc main_v52_3) = sX2 m c := by
  unfold Q4
  rw [keep_bod3 _ (by decide), Q3_v52_3 m h]
theorem Q4_v52_4 {k : ℕ} {c : Dev nD} (h : Inv m k c (T m k c)) : Q4 m k c (Proc.devRef .tc main_v52_4) = iotaInDim S4x20x5000 32 2 := by
  unfold Q4
  rw [keep_bod3 _ (by decide), Q3_v52_4 m h]
theorem Q4_v52_5 {k : ℕ} {c : Dev nD} (h : Inv m k c (T m k c)) : Q4 m k c (Proc.devRef .tc main_v52_5) = fun _ => BitVec.ofNat 32 k := by
  unfold Q4
  rw [keep_bod3 _ (by decide), Q3_v52_5 m h]
theorem Q4_v52_6 {k : ℕ} {c : Dev nD} (h : Inv m k c (T m k c)) : Q4 m k c (Proc.devRef .tc main_v52_6) = fun _ => BitVec.ofNat 32 k := by
  unfold Q4
  rw [keep_bod3 _ (by decide), Q3_v52_6 m h]
theorem Q4_v52_7 {k : ℕ} {c : Dev nD} (h : Inv m k c (T m k c)) : Q4 m k c (Proc.devRef .tc main_v52_7) = sup m c k := by
  unfold Q4
  rw [keep_bod3 _ (by decide), Q3_v52_7 m h]
theorem Q4_v65 {k : ℕ} {c : Dev nD} (h : Inv m k c (T m k c)) : Q4 m k c (Proc.devRef .tc main_while0b_v65) = addi (fun _ => BitVec.ofNat 32 k) (constantI S_ 32 1#32) := by
  unfold Q4
  rw [keep_bod3 _ (by decide), Q3_v65 m h]
theorem Q4_v70 {k : ℕ} {c : Dev nD} (h : Inv m k c (T m k c)) : Q4 m k c (Proc.devRef .tc main_while0b_v70) = rCol (F := F) (e := .f32) (sY1 m c) (fun _ => BitVec.ofNat 32 k) := by
  unfold Q4
  rw [keep_bod3 _ (by decide), Q3_v70 m h]
theorem Q4_v75 {k : ℕ} {c : Dev nD} (h : Inv m k c (T m k c)) : Q4 m k c (Proc.devRef .tc main_while0b_v75) = rCol (F := F) (e := .f32) (sX1 m c) (fun _ => BitVec.ofNat 32 k) := by
  unfold Q4
  rw [keep_bod3 _ (by decide), Q3_v75 m h]
theorem Q4_v80 {k : ℕ} {c : Dev nD} (h : Inv m k c (T m k c)) : Q4 m k c (Proc.devRef .tc main_while0b_v80) = rCol (F := F) (e := .f32) (sY2 m c) (fun _ => BitVec.ofNat 32 k) := by
  unfold Q4
  rw [keep_bod3 _ (by decide), Q3_v80 m h]
theorem Q4_v85 {k : ℕ} {c : Dev nD} (h : Inv m k c (T m k c)) : Q4 m k c (Proc.devRef .tc main_while0b_v85) = rCol (F := F) (e := .f32) (sX2 m c) (fun _ => BitVec.ofNat 32 k) := by
  unfold Q4
  rw [bod3_v85, Q3_v52_3 m h, Q3_v52_6 m h]
  try rfl
theorem Q5_arg0 {k : ℕ} {c : Dev nD} (h : Inv m k c (T m k c)) : Q5 m k c (Proc.devRef .tc main_arg0) = a0 m c := by
  unfold Q5
  rw [keep_bod4 _ (by decide), Q4_arg0 m h]
theorem Q5_arg1 {k : ℕ} {c : Dev nD} (h : Inv m k c (T m k c)) : Q5 m k c (Proc.devRef .tc main_arg1) = m ((c.tc : Thread nD τ).loc main_arg1) := by
  unfold Q5
  rw [keep_bod4 _ (by decide), Q4_arg1 m h]
theorem Q5_arg2 {k : ℕ} {c : Dev nD} (h : Inv m k c (T m k c)) : Q5 m k c (Proc.devRef .tc main_arg2) = a2 m c := by
  unfold Q5
  rw [keep_bod4 _ (by decide), Q4_arg2 m h]
theorem Q5_arg3 {k : ℕ} {c : Dev nD} (h : Inv m k c (T m k c)) : Q5 m k c (Proc.devRef .tc main_arg3) = a3 m c := by
  unfold Q5
  rw [keep_bod4 _ (by decide), Q4_arg3 m h]
theorem Q5_v11 {k : ℕ} {c : Dev nD} (h : Inv m k c (T m k c)) : Q5 m k c (Proc.devRef .tc main_v11) = adj m c := by
  unfold Q5
  rw [keep_bod4 _ (by decide), Q4_v11 m h]
theorem Q5_v22 {k : ℕ} {c : Dev nD} (h : Inv m k c (T m k c)) : Q5 m k c (Proc.devRef .tc main_v22) = sm m c := by
  unfold Q5
  rw [keep_bod4 _ (by decide), Q4_v22 m h]
theorem Q5_v50_1 {k : ℕ} {c : Dev nD} (h : Inv m k c (T m k c)) : Q5 m k c (Proc.devRef .tc main_v50_1) = sOrd m c := by
  unfold Q5
  rw [keep_bod4 _ (by decide), Q4_v50_1 m h]
theorem Q5_v50_6 {k : ℕ} {c : Dev nD} (h : Inv m k c (T m k c)) : Q5 m k c (Proc.devRef .tc main_v50_6) = sV m c := by
  unfold Q5
  rw [keep_bod4 _ (by decide), Q4_v50_6 m h]
theorem Q5_v52_0 {k : ℕ} {c : Dev nD} (h : Inv m k c (T m k c)) : Q5 m k c (Proc.devRef .tc main_v52_0) = sY1 m c := by
  unfold Q5
  rw [keep_bod4 _ (by decide), Q4_v52_0 m h]
theorem Q5_v52_1 {k : ℕ} {c : Dev nD} (h : Inv m k c (T m k c)) : Q5 m k c (Proc.devRef .tc main_v52_1) = sX1 m c := by
  unfold Q5
  rw [keep_bod4 _ (by decide), Q4_v52_1 m h]
theorem Q5_v52_2 {k : ℕ} {c : Dev nD} (h : Inv m k c (T m k c)) : Q5 m k c (Proc.devRef .tc main_v52_2) = sY2 m c := by
  unfold Q5
  rw [keep_bod4 _ (by decide), Q4_v52_2 m h]
theorem Q5_v52_3 {k : ℕ} {c : Dev nD} (h : Inv m k c (T m k c)) : Q5 m k c (Proc.devRef .tc main_v52_3) = sX2 m c := by
  unfold Q5
  rw [keep_bod4 _ (by decide), Q4_v52_3 m h]
theorem Q5_v52_4 {k : ℕ} {c : Dev nD} (h : Inv m k c (T m k c)) : Q5 m k c (Proc.devRef .tc main_v52_4) = iotaInDim S4x20x5000 32 2 := by
  unfold Q5
  rw [keep_bod4 _ (by decide), Q4_v52_4 m h]
theorem Q5_v52_5 {k : ℕ} {c : Dev nD} (h : Inv m k c (T m k c)) : Q5 m k c (Proc.devRef .tc main_v52_5) = fun _ => BitVec.ofNat 32 k := by
  unfold Q5
  rw [keep_bod4 _ (by decide), Q4_v52_5 m h]
theorem Q5_v52_6 {k : ℕ} {c : Dev nD} (h : Inv m k c (T m k c)) : Q5 m k c (Proc.devRef .tc main_v52_6) = fun _ => BitVec.ofNat 32 k := by
  unfold Q5
  rw [keep_bod4 _ (by decide), Q4_v52_6 m h]
theorem Q5_v52_7 {k : ℕ} {c : Dev nD} (h : Inv m k c (T m k c)) : Q5 m k c (Proc.devRef .tc main_v52_7) = sup m c k := by
  unfold Q5
  rw [keep_bod4 _ (by decide), Q4_v52_7 m h]
theorem Q5_v65 {k : ℕ} {c : Dev nD} (h : Inv m k c (T m k c)) : Q5 m k c (Proc.devRef .tc main_while0b_v65) = addi (fun _ => BitVec.ofNat 32 k) (constantI S_ 32 1#32) := by
  unfold Q5
  rw [keep_bod4 _ (by decide), Q4_v65 m h]
theorem Q5_v70 {k : ℕ} {c : Dev nD} (h : Inv m k c (T m k c)) : Q5 m k c (Proc.devRef .tc main_while0b_v70) = rCol (F := F) (e := .f32) (sY1 m c) (fun _ => BitVec.ofNat 32 k) := by
  unfold Q5
  rw [keep_bod4 _ (by decide), Q4_v70 m h]
theorem Q5_v75 {k : ℕ} {c : Dev nD} (h : Inv m k c (T m k c)) : Q5 m k c (Proc.devRef .tc main_while0b_v75) = rCol (F := F) (e := .f32) (sX1 m c) (fun _ => BitVec.ofNat 32 k) := by
  unfold Q5
  rw [keep_bod4 _ (by decide), Q4_v75 m h]
theorem Q5_v80 {k : ℕ} {c : Dev nD} (h : Inv m k c (T m k c)) : Q5 m k c (Proc.devRef .tc main_while0b_v80) = rCol (F := F) (e := .f32) (sY2 m c) (fun _ => BitVec.ofNat 32 k) := by
  unfold Q5
  rw [keep_bod4 _ (by decide), Q4_v80 m h]
theorem Q5_v85 {k : ℕ} {c : Dev nD} (h : Inv m k c (T m k c)) : Q5 m k c (Proc.devRef .tc main_while0b_v85) = rCol (F := F) (e := .f32) (sX2 m c) (fun _ => BitVec.ofNat 32 k) := by
  unfold Q5
  rw [keep_bod4 _ (by decide), Q4_v85 m h]
theorem Q5_v92 {k : ℕ} {c : Dev nD} (h : Inv m k c (T m k c)) : Q5 m k c (Proc.devRef .tc main_while0b_v92) = rArea1 (rCol (F := F) (e := .f32) (sY1 m c) (fun _ => BitVec.ofNat 32 k)) (rCol (F := F) (e := .f32) (sX1 m c) (fun _ => BitVec.ofNat 32 k)) (rCol (F := F) (e := .f32) (sY2 m c) (fun _ => BitVec.ofNat 32 k)) (rCol (F := F) (e := .f32) (sX2 m c) (fun _ => BitVec.ofNat 32 k)) := by
  unfold Q5
  rw [bod4_v92, Q4_v70 m h, Q4_v75 m h, Q4_v80 m h, Q4_v85 m h]
  try rfl
theorem Q6_arg0 {k : ℕ} {c : Dev nD} (h : Inv m k c (T m k c)) : Q6 m k c (Proc.devRef .tc main_arg0) = a0 m c := by
  unfold Q6
  rw [keep_bod5 _ (by decide), Q5_arg0 m h]
theorem Q6_arg1 {k : ℕ} {c : Dev nD} (h : Inv m k c (T m k c)) : Q6 m k c (Proc.devRef .tc main_arg1) = m ((c.tc : Thread nD τ).loc main_arg1) := by
  unfold Q6
  rw [keep_bod5 _ (by decide), Q5_arg1 m h]
theorem Q6_arg2 {k : ℕ} {c : Dev nD} (h : Inv m k c (T m k c)) : Q6 m k c (Proc.devRef .tc main_arg2) = a2 m c := by
  unfold Q6
  rw [keep_bod5 _ (by decide), Q5_arg2 m h]
theorem Q6_arg3 {k : ℕ} {c : Dev nD} (h : Inv m k c (T m k c)) : Q6 m k c (Proc.devRef .tc main_arg3) = a3 m c := by
  unfold Q6
  rw [keep_bod5 _ (by decide), Q5_arg3 m h]
theorem Q6_v11 {k : ℕ} {c : Dev nD} (h : Inv m k c (T m k c)) : Q6 m k c (Proc.devRef .tc main_v11) = adj m c := by
  unfold Q6
  rw [keep_bod5 _ (by decide), Q5_v11 m h]
theorem Q6_v22 {k : ℕ} {c : Dev nD} (h : Inv m k c (T m k c)) : Q6 m k c (Proc.devRef .tc main_v22) = sm m c := by
  unfold Q6
  rw [keep_bod5 _ (by decide), Q5_v22 m h]
theorem Q6_v50_1 {k : ℕ} {c : Dev nD} (h : Inv m k c (T m k c)) : Q6 m k c (Proc.devRef .tc main_v50_1) = sOrd m c := by
  unfold Q6
  rw [keep_bod5 _ (by decide), Q5_v50_1 m h]
theorem Q6_v50_6 {k : ℕ} {c : Dev nD} (h : Inv m k c (T m k c)) : Q6 m k c (Proc.devRef .tc main_v50_6) = sV m c := by
  unfold Q6
  rw [keep_bod5 _ (by decide), Q5_v50_6 m h]
theorem Q6_v52_0 {k : ℕ} {c : Dev nD} (h : Inv m k c (T m k c)) : Q6 m k c (Proc.devRef .tc main_v52_0) = sY1 m c := by
  unfold Q6
  rw [keep_bod5 _ (by decide), Q5_v52_0 m h]
theorem Q6_v52_1 {k : ℕ} {c : Dev nD} (h : Inv m k c (T m k c)) : Q6 m k c (Proc.devRef .tc main_v52_1) = sX1 m c := by
  unfold Q6
  rw [keep_bod5 _ (by decide), Q5_v52_1 m h]
theorem Q6_v52_2 {k : ℕ} {c : Dev nD} (h : Inv m k c (T m k c)) : Q6 m k c (Proc.devRef .tc main_v52_2) = sY2 m c := by
  unfold Q6
  rw [keep_bod5 _ (by decide), Q5_v52_2 m h]
theorem Q6_v52_3 {k : ℕ} {c : Dev nD} (h : Inv m k c (T m k c)) : Q6 m k c (Proc.devRef .tc main_v52_3) = sX2 m c := by
  unfold Q6
  rw [keep_bod5 _ (by decide), Q5_v52_3 m h]
theorem Q6_v52_4 {k : ℕ} {c : Dev nD} (h : Inv m k c (T m k c)) : Q6 m k c (Proc.devRef .tc main_v52_4) = iotaInDim S4x20x5000 32 2 := by
  unfold Q6
  rw [keep_bod5 _ (by decide), Q5_v52_4 m h]
theorem Q6_v52_5 {k : ℕ} {c : Dev nD} (h : Inv m k c (T m k c)) : Q6 m k c (Proc.devRef .tc main_v52_5) = fun _ => BitVec.ofNat 32 k := by
  unfold Q6
  rw [keep_bod5 _ (by decide), Q5_v52_5 m h]
theorem Q6_v52_6 {k : ℕ} {c : Dev nD} (h : Inv m k c (T m k c)) : Q6 m k c (Proc.devRef .tc main_v52_6) = fun _ => BitVec.ofNat 32 k := by
  unfold Q6
  rw [keep_bod5 _ (by decide), Q5_v52_6 m h]
theorem Q6_v52_7 {k : ℕ} {c : Dev nD} (h : Inv m k c (T m k c)) : Q6 m k c (Proc.devRef .tc main_v52_7) = sup m c k := by
  unfold Q6
  rw [keep_bod5 _ (by decide), Q5_v52_7 m h]
theorem Q6_v65 {k : ℕ} {c : Dev nD} (h : Inv m k c (T m k c)) : Q6 m k c (Proc.devRef .tc main_while0b_v65) = addi (fun _ => BitVec.ofNat 32 k) (constantI S_ 32 1#32) := by
  unfold Q6
  rw [keep_bod5 _ (by decide), Q5_v65 m h]
theorem Q6_v70 {k : ℕ} {c : Dev nD} (h : Inv m k c (T m k c)) : Q6 m k c (Proc.devRef .tc main_while0b_v70) = rCol (F := F) (e := .f32) (sY1 m c) (fun _ => BitVec.ofNat 32 k) := by
  unfold Q6
  rw [keep_bod5 _ (by decide), Q5_v70 m h]
theorem Q6_v75 {k : ℕ} {c : Dev nD} (h : Inv m k c (T m k c)) : Q6 m k c (Proc.devRef .tc main_while0b_v75) = rCol (F := F) (e := .f32) (sX1 m c) (fun _ => BitVec.ofNat 32 k) := by
  unfold Q6
  rw [keep_bod5 _ (by decide), Q5_v75 m h]
theorem Q6_v80 {k : ℕ} {c : Dev nD} (h : Inv m k c (T m k c)) : Q6 m k c (Proc.devRef .tc main_while0b_v80) = rCol (F := F) (e := .f32) (sY2 m c) (fun _ => BitVec.ofNat 32 k) := by
  unfold Q6
  rw [keep_bod5 _ (by decide), Q5_v80 m h]
theorem Q6_v85 {k : ℕ} {c : Dev nD} (h : Inv m k c (T m k c)) : Q6 m k c (Proc.devRef .tc main_while0b_v85) = rCol (F := F) (e := .f32) (sX2 m c) (fun _ => BitVec.ofNat 32 k) := by
  unfold Q6
  rw [keep_bod5 _ (by decide), Q5_v85 m h]
theorem Q6_v92 {k : ℕ} {c : Dev nD} (h : Inv m k c (T m k c)) : Q6 m k c (Proc.devRef .tc main_while0b_v92) = rArea1 (rCol (F := F) (e := .f32) (sY1 m c) (fun _ => BitVec.ofNat 32 k)) (rCol (F := F) (e := .f32) (sX1 m c) (fun _ => BitVec.ofNat 32 k)) (rCol (F := F) (e := .f32) (sY2 m c) (fun _ => BitVec.ofNat 32 k)) (rCol (F := F) (e := .f32) (sX2 m c) (fun _ => BitVec.ofNat 32 k)) := by
  unfold Q6
  rw [keep_bod5 _ (by decide), Q5_v92 m h]
theorem Q6_v99 {k : ℕ} {c : Dev nD} (h : Inv m k c (T m k c)) : Q6 m k c (Proc.devRef .tc main_while0b_v99) = rArea (sY1 m c) (sX1 m c) (sY2 m c) (sX2 m c) := by
  unfold Q6
  rw [bod5_v99, Q5_v52_0 m h, Q5_v52_1 m h, Q5_v52_2 m h, Q5_v52_3 m h]
  try rfl
theorem Q7_arg0 {k : ℕ} {c : Dev nD} (h : Inv m k c (T m k c)) : Q7 m k c (Proc.devRef .tc main_arg0) = a0 m c := by
  unfold Q7
  rw [keep_bod6 _ (by decide), Q6_arg0 m h]
theorem Q7_arg1 {k : ℕ} {c : Dev nD} (h : Inv m k c (T m k c)) : Q7 m k c (Proc.devRef .tc main_arg1) = m ((c.tc : Thread nD τ).loc main_arg1) := by
  unfold Q7
  rw [keep_bod6 _ (by decide), Q6_arg1 m h]
theorem Q7_arg2 {k : ℕ} {c : Dev nD} (h : Inv m k c (T m k c)) : Q7 m k c (Proc.devRef .tc main_arg2) = a2 m c := by
  unfold Q7
  rw [keep_bod6 _ (by decide), Q6_arg2 m h]
theorem Q7_arg3 {k : ℕ} {c : Dev nD} (h : Inv m k c (T m k c)) : Q7 m k c (Proc.devRef .tc main_arg3) = a3 m c := by
  unfold Q7
  rw [keep_bod6 _ (by decide), Q6_arg3 m h]
theorem Q7_v11 {k : ℕ} {c : Dev nD} (h : Inv m k c (T m k c)) : Q7 m k c (Proc.devRef .tc main_v11) = adj m c := by
  unfold Q7
  rw [keep_bod6 _ (by decide), Q6_v11 m h]
theorem Q7_v22 {k : ℕ} {c : Dev nD} (h : Inv m k c (T m k c)) : Q7 m k c (Proc.devRef .tc main_v22) = sm m c := by
  unfold Q7
  rw [keep_bod6 _ (by decide), Q6_v22 m h]
theorem Q7_v50_1 {k : ℕ} {c : Dev nD} (h : Inv m k c (T m k c)) : Q7 m k c (Proc.devRef .tc main_v50_1) = sOrd m c := by
  unfold Q7
  rw [keep_bod6 _ (by decide), Q6_v50_1 m h]
theorem Q7_v50_6 {k : ℕ} {c : Dev nD} (h : Inv m k c (T m k c)) : Q7 m k c (Proc.devRef .tc main_v50_6) = sV m c := by
  unfold Q7
  rw [keep_bod6 _ (by decide), Q6_v50_6 m h]
theorem Q7_v52_0 {k : ℕ} {c : Dev nD} (h : Inv m k c (T m k c)) : Q7 m k c (Proc.devRef .tc main_v52_0) = sY1 m c := by
  unfold Q7
  rw [keep_bod6 _ (by decide), Q6_v52_0 m h]
theorem Q7_v52_1 {k : ℕ} {c : Dev nD} (h : Inv m k c (T m k c)) : Q7 m k c (Proc.devRef .tc main_v52_1) = sX1 m c := by
  unfold Q7
  rw [keep_bod6 _ (by decide), Q6_v52_1 m h]
theorem Q7_v52_2 {k : ℕ} {c : Dev nD} (h : Inv m k c (T m k c)) : Q7 m k c (Proc.devRef .tc main_v52_2) = sY2 m c := by
  unfold Q7
  rw [keep_bod6 _ (by decide), Q6_v52_2 m h]
theorem Q7_v52_3 {k : ℕ} {c : Dev nD} (h : Inv m k c (T m k c)) : Q7 m k c (Proc.devRef .tc main_v52_3) = sX2 m c := by
  unfold Q7
  rw [keep_bod6 _ (by decide), Q6_v52_3 m h]
theorem Q7_v52_4 {k : ℕ} {c : Dev nD} (h : Inv m k c (T m k c)) : Q7 m k c (Proc.devRef .tc main_v52_4) = iotaInDim S4x20x5000 32 2 := by
  unfold Q7
  rw [keep_bod6 _ (by decide), Q6_v52_4 m h]
theorem Q7_v52_5 {k : ℕ} {c : Dev nD} (h : Inv m k c (T m k c)) : Q7 m k c (Proc.devRef .tc main_v52_5) = fun _ => BitVec.ofNat 32 k := by
  unfold Q7
  rw [keep_bod6 _ (by decide), Q6_v52_5 m h]
theorem Q7_v52_6 {k : ℕ} {c : Dev nD} (h : Inv m k c (T m k c)) : Q7 m k c (Proc.devRef .tc main_v52_6) = fun _ => BitVec.ofNat 32 k := by
  unfold Q7
  rw [keep_bod6 _ (by decide), Q6_v52_6 m h]
theorem Q7_v52_7 {k : ℕ} {c : Dev nD} (h : Inv m k c (T m k c)) : Q7 m k c (Proc.devRef .tc main_v52_7) = sup m c k := by
  unfold Q7
  rw [keep_bod6 _ (by decide), Q6_v52_7 m h]
theorem Q7_v101 {k : ℕ} {c : Dev nD} (h : Inv m k c (T m k c)) : Q7 m k c (Proc.devRef .tc main_while0b_v101) = maximumf (rWide (F := F) (e := .f32) (rCol (F := F) (e := .f32) (sY1 m c) (fun _ => BitVec.ofNat 32 k))) (sY1 m c) := by
  unfold Q7
  rw [bod6_v101, Q6_v70 m h, Q6_v52_0 m h]
  try rfl
theorem Q7_v103 {k : ℕ} {c : Dev nD} (h : Inv m k c (T m k c)) : Q7 m k c (Proc.devRef .tc main_while0b_v103) = maximumf (rWide (F := F) (e := .f32) (rCol (F := F) (e := .f32) (sX1 m c) (fun _ => BitVec.ofNat 32 k))) (sX1 m c) := by
  unfold Q7
  rw [bod6_v103, Q6_v75 m h, Q6_v52_1 m h]
  try rfl
theorem Q7_v105 {k : ℕ} {c : Dev nD} (h : Inv m k c (T m k c)) : Q7 m k c (Proc.devRef .tc main_while0b_v105) = minimumf (rWide (F := F) (e := .f32) (rCol (F := F) (e := .f32) (sY2 m c) (fun _ => BitVec.ofNat 32 k))) (sY2 m c) := by
  unfold Q7
  rw [bod6_v105, Q6_v80 m h, Q6_v52_2 m h]
  try rfl
theorem Q7_v107 {k : ℕ} {c : Dev nD} (h : Inv m k c (T m k c)) : Q7 m k c (Proc.devRef .tc main_while0b_v107) = minimumf (rWide (F := F) (e := .f32) (rCol (F := F) (e := .f32) (sX2 m c) (fun _ => BitVec.ofNat 32 k))) (sX2 m c) := by
  unfold Q7
  rw [bod6_v107, Q6_v85 m h, Q6_v52_3 m h]
  try rfl
theorem Q7_v65 {k : ℕ} {c : Dev nD} (h : Inv m k c (T m k c)) : Q7 m k c (Proc.devRef .tc main_while0b_v65) = addi (fun _ => BitVec.ofNat 32 k) (constantI S_ 32 1#32) := by
  unfold Q7
  rw [keep_bod6 _ (by decide), Q6_v65 m h]
theorem Q7_v92 {k : ℕ} {c : Dev nD} (h : Inv m k c (T m k c)) : Q7 m k c (Proc.devRef .tc main_while0b_v92) = rArea1 (rCol (F := F) (e := .f32) (sY1 m c) (fun _ => BitVec.ofNat 32 k)) (rCol (F := F) (e := .f32) (sX1 m c) (fun _ => BitVec.ofNat 32 k)) (rCol (F := F) (e := .f32) (sY2 m c) (fun _ => BitVec.ofNat 32 k)) (rCol (F := F) (e := .f32) (sX2 m c) (fun _ => BitVec.ofNat 32 k)) := by
  unfold Q7
  rw [keep_bod6 _ (by decide), Q6_v92 m h]
theorem Q7_v99 {k : ℕ} {c : Dev nD} (h : Inv m k c (T m k c)) : Q7 m k c (Proc.devRef .tc main_while0b_v99) = rArea (sY1 m c) (sX1 m c) (sY2 m c) (sX2 m c) := by
  unfold Q7
  rw [keep_bod6 _ (by decide), Q6_v99 m h]
theorem Q8_arg0 {k : ℕ} {c : Dev nD} (h : Inv m k c (T m k c)) : Q8 m k c (Proc.devRef .tc main_arg0) = a0 m c := by
  unfold Q8
  rw [keep_bod7 _ (by decide), Q7_arg0 m h]
theorem Q8_arg1 {k : ℕ} {c : Dev nD} (h : Inv m k c (T m k c)) : Q8 m k c (Proc.devRef .tc main_arg1) = m ((c.tc : Thread nD τ).loc main_arg1) := by
  unfold Q8
  rw [keep_bod7 _ (by decide), Q7_arg1 m h]
theorem Q8_arg2 {k : ℕ} {c : Dev nD} (h : Inv m k c (T m k c)) : Q8 m k c (Proc.devRef .tc main_arg2) = a2 m c := by
  unfold Q8
  rw [keep_bod7 _ (by decide), Q7_arg2 m h]
theorem Q8_arg3 {k : ℕ} {c : Dev nD} (h : Inv m k c (T m k c)) : Q8 m k c (Proc.devRef .tc main_arg3) = a3 m c := by
  unfold Q8
  rw [keep_bod7 _ (by decide), Q7_arg3 m h]
theorem Q8_v11 {k : ℕ} {c : Dev nD} (h : Inv m k c (T m k c)) : Q8 m k c (Proc.devRef .tc main_v11) = adj m c := by
  unfold Q8
  rw [keep_bod7 _ (by decide), Q7_v11 m h]
theorem Q8_v22 {k : ℕ} {c : Dev nD} (h : Inv m k c (T m k c)) : Q8 m k c (Proc.devRef .tc main_v22) = sm m c := by
  unfold Q8
  rw [keep_bod7 _ (by decide), Q7_v22 m h]
theorem Q8_v50_1 {k : ℕ} {c : Dev nD} (h : Inv m k c (T m k c)) : Q8 m k c (Proc.devRef .tc main_v50_1) = sOrd m c := by
  unfold Q8
  rw [keep_bod7 _ (by decide), Q7_v50_1 m h]
theorem Q8_v50_6 {k : ℕ} {c : Dev nD} (h : Inv m k c (T m k c)) : Q8 m k c (Proc.devRef .tc main_v50_6) = sV m c := by
  unfold Q8
  rw [keep_bod7 _ (by decide), Q7_v50_6 m h]
theorem Q8_v52_0 {k : ℕ} {c : Dev nD} (h : Inv m k c (T m k c)) : Q8 m k c (Proc.devRef .tc main_v52_0) = sY1 m c := by
  unfold Q8
  rw [keep_bod7 _ (by decide), Q7_v52_0 m h]
theorem Q8_v52_1 {k : ℕ} {c : Dev nD} (h : Inv m k c (T m k c)) : Q8 m k c (Proc.devRef .tc main_v52_1) = sX1 m c := by
  unfold Q8
  rw [keep_bod7 _ (by decide), Q7_v52_1 m h]
theorem Q8_v52_2 {k : ℕ} {c : Dev nD} (h : Inv m k c (T m k c)) : Q8 m k c (Proc.devRef .tc main_v52_2) = sY2 m c := by
  unfold Q8
  rw [keep_bod7 _ (by decide), Q7_v52_2 m h]
theorem Q8_v52_3 {k : ℕ} {c : Dev nD} (h : Inv m k c (T m k c)) : Q8 m k c (Proc.devRef .tc main_v52_3) = sX2 m c := by
  unfold Q8
  rw [keep_bod7 _ (by decide), Q7_v52_3 m h]
theorem Q8_v52_4 {k : ℕ} {c : Dev nD} (h : Inv m k c (T m k c)) : Q8 m k c (Proc.devRef .tc main_v52_4) = iotaInDim S4x20x5000 32 2 := by
  unfold Q8
  rw [keep_bod7 _ (by decide), Q7_v52_4 m h]
theorem Q8_v52_5 {k : ℕ} {c : Dev nD} (h : Inv m k c (T m k c)) : Q8 m k c (Proc.devRef .tc main_v52_5) = fun _ => BitVec.ofNat 32 k := by
  unfold Q8
  rw [keep_bod7 _ (by decide), Q7_v52_5 m h]
theorem Q8_v52_6 {k : ℕ} {c : Dev nD} (h : Inv m k c (T m k c)) : Q8 m k c (Proc.devRef .tc main_v52_6) = fun _ => BitVec.ofNat 32 k := by
  unfold Q8
  rw [keep_bod7 _ (by decide), Q7_v52_6 m h]
theorem Q8_v52_7 {k : ℕ} {c : Dev nD} (h : Inv m k c (T m k c)) : Q8 m k c (Proc.devRef .tc main_v52_7) = sup m c k := by
  unfold Q8
  rw [keep_bod7 _ (by decide), Q7_v52_7 m h]
theorem Q8_v114 {k : ℕ} {c : Dev nD} (h : Inv m k c (T m k c)) : Q8 m k c (Proc.devRef .tc main_while0b_v114) = rInter (rCol (F := F) (e := .f32) (sY1 m c) (fun _ => BitVec.ofNat 32 k)) (rCol (F := F) (e := .f32) (sX1 m c) (fun _ => BitVec.ofNat 32 k)) (rCol (F := F) (e := .f32) (sY2 m c) (fun _ => BitVec.ofNat 32 k)) (rCol (F := F) (e := .f32) (sX2 m c) (fun _ => BitVec.ofNat 32 k)) (sY1 m c) (sX1 m c) (sY2 m c) (sX2 m c) := by
  unfold Q8
  rw [bod7_v114, Q7_v101 m h, Q7_v103 m h, Q7_v105 m h, Q7_v107 m h]
  try rfl
theorem Q8_v65 {k : ℕ} {c : Dev nD} (h : Inv m k c (T m k c)) : Q8 m k c (Proc.devRef .tc main_while0b_v65) = addi (fun _ => BitVec.ofNat 32 k) (constantI S_ 32 1#32) := by
  unfold Q8
  rw [keep_bod7 _ (by decide), Q7_v65 m h]
theorem Q8_v92 {k : ℕ} {c : Dev nD} (h : Inv m k c (T m k c)) : Q8 m k c (Proc.devRef .tc main_while0b_v92) = rArea1 (rCol (F := F) (e := .f32) (sY1 m c) (fun _ => BitVec.ofNat 32 k)) (rCol (F := F) (e := .f32) (sX1 m c) (fun _ => BitVec.ofNat 32 k)) (rCol (F := F) (e := .f32) (sY2 m c) (fun _ => BitVec.ofNat 32 k)) (rCol (F := F) (e := .f32) (sX2 m c) (fun _ => BitVec.ofNat 32 k)) := by
  unfold Q8
  rw [keep_bod7 _ (by decide), Q7_v92 m h]
theorem Q8_v99 {k : ℕ} {c : Dev nD} (h : Inv m k c (T m k c)) : Q8 m k c (Proc.devRef .tc main_while0b_v99) = rArea (sY1 m c) (sX1 m c) (sY2 m c) (sX2 m c) := by
  unfold Q8
  rw [keep_bod7 _ (by decide), Q7_v99 m h]
theorem Q9_arg0 {k : ℕ} {c : Dev nD} (h : Inv m k c (T m k c)) : Q9 m k c (Proc.devRef .tc main_arg0) = a0 m c := by
  unfold Q9
  rw [keep_bod8 _ (by decide), Q8_arg0 m h]
theorem Q9_arg1 {k : ℕ} {c : Dev nD} (h : Inv m k c (T m k c)) : Q9 m k c (Proc.devRef .tc main_arg1) = m ((c.tc : Thread nD τ).loc main_arg1) := by
  unfold Q9
  rw [keep_bod8 _ (by decide), Q8_arg1 m h]
theorem Q9_arg2 {k : ℕ} {c : Dev nD} (h : Inv m k c (T m k c)) : Q9 m k c (Proc.devRef .tc main_arg2) = a2 m c := by
  unfold Q9
  rw [keep_bod8 _ (by decide), Q8_arg2 m h]
theorem Q9_arg3 {k : ℕ} {c : Dev nD} (h : Inv m k c (T m k c)) : Q9 m k c (Proc.devRef .tc main_arg3) = a3 m c := by
  unfold Q9
  rw [keep_bod8 _ (by decide), Q8_arg3 m h]
theorem Q9_v11 {k : ℕ} {c : Dev nD} (h : Inv m k c (T m k c)) : Q9 m k c (Proc.devRef .tc main_v11) = adj m c := by
  unfold Q9
  rw [keep_bod8 _ (by decide), Q8_v11 m h]
theorem Q9_v22 {k : ℕ} {c : Dev nD} (h : Inv m k c (T m k c)) : Q9 m k c (Proc.devRef .tc main_v22) = sm m c := by
  unfold Q9
  rw [keep_bod8 _ (by decide), Q8_v22 m h]
theorem Q9_v50_1 {k : ℕ} {c : Dev nD} (h : Inv m k c (T m k c)) : Q9 m k c (Proc.devRef .tc main_v50_1) = sOrd m c := by
  unfold Q9
  rw [keep_bod8 _ (by decide), Q8_v50_1 m h]
theorem Q9_v50_6 {k : ℕ} {c : Dev nD} (h : Inv m k c (T m k c)) : Q9 m k c (Proc.devRef .tc main_v50_6) = sV m c := by
  unfold Q9
  rw [keep_bod8 _ (by decide), Q8_v50_6 m h]
theorem Q9_v52_0 {k : ℕ} {c : Dev nD} (h : Inv m k c (T m k c)) : Q9 m k c (Proc.devRef .tc main_v52_0) = sY1 m c := by
  unfold Q9
  rw [keep_bod8 _ (by decide), Q8_v52_0 m h]
theorem Q9_v52_1 {k : ℕ} {c : Dev nD} (h : Inv m k c (T m k c)) : Q9 m k c (Proc.devRef .tc main_v52_1) = sX1 m c := by
  unfold Q9
  rw [keep_bod8 _ (by decide), Q8_v52_1 m h]
theorem Q9_v52_2 {k : ℕ} {c : Dev nD} (h : Inv m k c (T m k c)) : Q9 m k c (Proc.devRef .tc main_v52_2) = sY2 m c := by
  unfold Q9
  rw [keep_bod8 _ (by decide), Q8_v52_2 m h]
theorem Q9_v52_3 {k : ℕ} {c : Dev nD} (h : Inv m k c (T m k c)) : Q9 m k c (Proc.devRef .tc main_v52_3) = sX2 m c := by
  unfold Q9
  rw [keep_bod8 _ (by decide), Q8_v52_3 m h]
theorem Q9_v52_4 {k : ℕ} {c : Dev nD} (h : Inv m k c (T m k c)) : Q9 m k c (Proc.devRef .tc main_v52_4) = iotaInDim S4x20x5000 32 2 := by
  unfold Q9
  rw [keep_bod8 _ (by decide), Q8_v52_4 m h]
theorem Q9_v52_5 {k : ℕ} {c : Dev nD} (h : Inv m k c (T m k c)) : Q9 m k c (Proc.devRef .tc main_v52_5) = fun _ => BitVec.ofNat 32 k := by
  unfold Q9
  rw [keep_bod8 _ (by decide), Q8_v52_5 m h]
theorem Q9_v52_6 {k : ℕ} {c : Dev nD} (h : Inv m k c (T m k c)) : Q9 m k c (Proc.devRef .tc main_v52_6) = fun _ => BitVec.ofNat 32 k := by
  unfold Q9
  rw [keep_bod8 _ (by decide), Q8_v52_6 m h]
theorem Q9_v52_7 {k : ℕ} {c : Dev nD} (h : Inv m k c (T m k c)) : Q9 m k c (Proc.devRef .tc main_v52_7) = sup m c k := by
  unfold Q9
  rw [keep_bod8 _ (by decide), Q8_v52_7 m h]
theorem Q9_v122 {k : ℕ} {c : Dev nD} (h : Inv m k c (T m k c)) : Q9 m k c (Proc.devRef .tc main_while0b_v122) = rOv (sY1 m c) (sX1 m c) (sY2 m c) (sX2 m c) (fun _ => BitVec.ofNat 32 k) := by
  unfold Q9
  rw [bod8_v122, Q8_v92 m h, Q8_v99 m h, Q8_v114 m h]
  try rfl
theorem Q9_v65 {k : ℕ} {c : Dev nD} (h : Inv m k c (T m k c)) : Q9 m k c (Proc.devRef .tc main_while0b_v65) = addi (fun _ => BitVec.ofNat 32 k) (constantI S_ 32 1#32) := by
  unfold Q9
  rw [keep_bod8 _ (by decide), Q8_v65 m h]
theorem Q10_arg0 {k : ℕ} {c : Dev nD} (h : Inv m k c (T m k c)) : Q10 m k c (Proc.devRef .tc main_arg0) = a0 m c := by
  unfold Q10
  rw [keep_bod9 _ (by decide), Q9_arg0 m h]
theorem Q10_arg1 {k : ℕ} {c : Dev nD} (h : Inv m k c (T m k c)) : Q10 m k c (Proc.devRef .tc main_arg1) = m ((c.tc : Thread nD τ).loc main_arg1) := by
  unfold Q10
  rw [keep_bod9 _ (by decide), Q9_arg1 m h]
theorem Q10_arg2 {k : ℕ} {c : Dev nD} (h : Inv m k c (T m k c)) : Q10 m k c (Proc.devRef .tc main_arg2) = a2 m c := by
  unfold Q10
  rw [keep_bod9 _ (by decide), Q9_arg2 m h]
theorem Q10_arg3 {k : ℕ} {c : Dev nD} (h : Inv m k c (T m k c)) : Q10 m k c (Proc.devRef .tc main_arg3) = a3 m c := by
  unfold Q10
  rw [keep_bod9 _ (by decide), Q9_arg3 m h]
theorem Q10_v11 {k : ℕ} {c : Dev nD} (h : Inv m k c (T m k c)) : Q10 m k c (Proc.devRef .tc main_v11) = adj m c := by
  unfold Q10
  rw [keep_bod9 _ (by decide), Q9_v11 m h]
theorem Q10_v22 {k : ℕ} {c : Dev nD} (h : Inv m k c (T m k c)) : Q10 m k c (Proc.devRef .tc main_v22) = sm m c := by
  unfold Q10
  rw [keep_bod9 _ (by decide), Q9_v22 m h]
theorem Q10_v50_1 {k : ℕ} {c : Dev nD} (h : Inv m k c (T m k c)) : Q10 m k c (Proc.devRef .tc main_v50_1) = sOrd m c := by
  unfold Q10
  rw [keep_bod9 _ (by decide), Q9_v50_1 m h]
theorem Q10_v50_6 {k : ℕ} {c : Dev nD} (h : Inv m k c (T m k c)) : Q10 m k c (Proc.devRef .tc main_v50_6) = sV m c := by
  unfold Q10
  rw [keep_bod9 _ (by decide), Q9_v50_6 m h]
theorem Q10_v52_0 {k : ℕ} {c : Dev nD} (h : Inv m k c (T m k c)) : Q10 m k c (Proc.devRef .tc main_v52_0) = sY1 m c := by
  unfold Q10
  rw [keep_bod9 _ (by decide), Q9_v52_0 m h]
theorem Q10_v52_1 {k : ℕ} {c : Dev nD} (h : Inv m k c (T m k c)) : Q10 m k c (Proc.devRef .tc main_v52_1) = sX1 m c := by
  unfold Q10
  rw [keep_bod9 _ (by decide), Q9_v52_1 m h]
theorem Q10_v52_2 {k : ℕ} {c : Dev nD} (h : Inv m k c (T m k c)) : Q10 m k c (Proc.devRef .tc main_v52_2) = sY2 m c := by
  unfold Q10
  rw [keep_bod9 _ (by decide), Q9_v52_2 m h]
theorem Q10_v52_3 {k : ℕ} {c : Dev nD} (h : Inv m k c (T m k c)) : Q10 m k c (Proc.devRef .tc main_v52_3) = sX2 m c := by
  unfold Q10
  rw [keep_bod9 _ (by decide), Q9_v52_3 m h]
theorem Q10_v52_4 {k : ℕ} {c : Dev nD} (h : Inv m k c (T m k c)) : Q10 m k c (Proc.devRef .tc main_v52_4) = iotaInDim S4x20x5000 32 2 := by
  unfold Q10
  rw [keep_bod9 _ (by decide), Q9_v52_4 m h]
theorem Q10_v52_5 {k : ℕ} {c : Dev nD} (h : Inv m k c (T m k c)) : Q10 m k c (Proc.devRef .tc main_v52_5) = fun _ => BitVec.ofNat 32 k := by
  unfold Q10
  rw [keep_bod9 _ (by decide), Q9_v52_5 m h]
theorem Q10_v52_6 {k : ℕ} {c : Dev nD} (h : Inv m k c (T m k c)) : Q10 m k c (Proc.devRef .tc main_v52_6) = fun _ => BitVec.ofNat 32 k := by
  unfold Q10
  rw [keep_bod9 _ (by decide), Q9_v52_6 m h]
theorem Q10_v52_7 {k : ℕ} {c : Dev nD} (h : Inv m k c (T m k c)) : Q10 m k c (Proc.devRef .tc main_v52_7) = sup m c k := by
  unfold Q10
  rw [keep_bod9 _ (by decide), Q9_v52_7 m h]
theorem Q10_v127 {k : ℕ} {c : Dev nD} (h : Inv m k c (T m k c)) : Q10 m k c (Proc.devRef .tc main_while0b_v127) = ori (sup m c k) (andi (rOv (sY1 m c) (sX1 m c) (sY2 m c) (sX2 m c) (fun _ => BitVec.ofNat 32 k)) (cmpi .sgt (iotaInDim S4x20x5000 32 2) (rAll (F := F) (e := .i32) (fun _ => BitVec.ofNat 32 k)))) := by
  unfold Q10
  rw [bod9_v127, Q9_v52_7 m h, Q9_v122 m h, Q9_v52_4 m h, Q9_v52_6 m h]
  try rfl
theorem Q10_v65 {k : ℕ} {c : Dev nD} (h : Inv m k c (T m k c)) : Q10 m k c (Proc.devRef .tc main_while0b_v65) = addi (fun _ => BitVec.ofNat 32 k) (constantI S_ 32 1#32) := by
  unfold Q10
  rw [keep_bod9 _ (by decide), Q9_v65 m h]
theorem Q11_arg0 {k : ℕ} {c : Dev nD} (h : Inv m k c (T m k c)) : Q11 m k c (Proc.devRef .tc main_arg0) = a0 m c := by
  unfold Q11
  rw [keep_bod10 _ (by decide), Q10_arg0 m h]
theorem Q11_arg1 {k : ℕ} {c : Dev nD} (h : Inv m k c (T m k c)) : Q11 m k c (Proc.devRef .tc main_arg1) = m ((c.tc : Thread nD τ).loc main_arg1) := by
  unfold Q11
  rw [keep_bod10 _ (by decide), Q10_arg1 m h]
theorem Q11_arg2 {k : ℕ} {c : Dev nD} (h : Inv m k c (T m k c)) : Q11 m k c (Proc.devRef .tc main_arg2) = a2 m c := by
  unfold Q11
  rw [keep_bod10 _ (by decide), Q10_arg2 m h]
theorem Q11_arg3 {k : ℕ} {c : Dev nD} (h : Inv m k c (T m k c)) : Q11 m k c (Proc.devRef .tc main_arg3) = a3 m c := by
  unfold Q11
  rw [keep_bod10 _ (by decide), Q10_arg3 m h]
theorem Q11_v11 {k : ℕ} {c : Dev nD} (h : Inv m k c (T m k c)) : Q11 m k c (Proc.devRef .tc main_v11) = adj m c := by
  unfold Q11
  rw [keep_bod10 _ (by decide), Q10_v11 m h]
theorem Q11_v22 {k : ℕ} {c : Dev nD} (h : Inv m k c (T m k c)) : Q11 m k c (Proc.devRef .tc main_v22) = sm m c := by
  unfold Q11
  rw [keep_bod10 _ (by decide), Q10_v22 m h]
theorem Q11_v50_1 {k : ℕ} {c : Dev nD} (h : Inv m k c (T m k c)) : Q11 m k c (Proc.devRef .tc main_v50_1) = sOrd m c := by
  unfold Q11
  rw [keep_bod10 _ (by decide), Q10_v50_1 m h]
theorem Q11_v50_6 {k : ℕ} {c : Dev nD} (h : Inv m k c (T m k c)) : Q11 m k c (Proc.devRef .tc main_v50_6) = sV m c := by
  unfold Q11
  rw [keep_bod10 _ (by decide), Q10_v50_6 m h]
theorem Q11_v52_0 {k : ℕ} {c : Dev nD} (h : Inv m k c (T m k c)) : Q11 m k c (Proc.devRef .tc main_v52_0) = sY1 m c := by
  unfold Q11
  rw [keep_bod10 _ (by decide), Q10_v52_0 m h]
theorem Q11_v52_1 {k : ℕ} {c : Dev nD} (h : Inv m k c (T m k c)) : Q11 m k c (Proc.devRef .tc main_v52_1) = sX1 m c := by
  unfold Q11
  rw [keep_bod10 _ (by decide), Q10_v52_1 m h]
theorem Q11_v52_2 {k : ℕ} {c : Dev nD} (h : Inv m k c (T m k c)) : Q11 m k c (Proc.devRef .tc main_v52_2) = sY2 m c := by
  unfold Q11
  rw [keep_bod10 _ (by decide), Q10_v52_2 m h]
theorem Q11_v52_3 {k : ℕ} {c : Dev nD} (h : Inv m k c (T m k c)) : Q11 m k c (Proc.devRef .tc main_v52_3) = sX2 m c := by
  unfold Q11
  rw [keep_bod10 _ (by decide), Q10_v52_3 m h]
theorem Q11_v52_4 {k : ℕ} {c : Dev nD} (h : Inv m k c (T m k c)) : Q11 m k c (Proc.devRef .tc main_v52_4) = iotaInDim S4x20x5000 32 2 := by
  unfold Q11
  rw [keep_bod10 _ (by decide), Q10_v52_4 m h]
theorem Q11_v52_5 {k : ℕ} {c : Dev nD} (h : Inv m k c (T m k c)) : Q11 m k c (Proc.devRef .tc main_v52_5) = fun _ => BitVec.ofNat 32 k := by
  unfold Q11
  rw [keep_bod10 _ (by decide), Q10_v52_5 m h]
theorem Q11_v134 {k : ℕ} {c : Dev nD} (h : Inv m k c (T m k c)) : Q11 m k c (Proc.devRef .tc main_while0b_v134) = sup m c (k + 1) := by
  unfold Q11
  rw [bod10_v134, Q10_v52_7 m h, Q10_v52_6 m h, Q10_v127 m h]
  try rfl
theorem Q11_v65 {k : ℕ} {c : Dev nD} (h : Inv m k c (T m k c)) : Q11 m k c (Proc.devRef .tc main_while0b_v65) = addi (fun _ => BitVec.ofNat 32 k) (constantI S_ 32 1#32) := by
  unfold Q11
  rw [keep_bod10 _ (by decide), Q10_v65 m h]
theorem Q12_arg0 {k : ℕ} {c : Dev nD} (h : Inv m k c (T m k c)) : Q12 m k c (Proc.devRef .tc main_arg0) = a0 m c := by
  unfold Q12
  rw [keep_bod11 _ (by decide), Q11_arg0 m h]
theorem Q12_arg1 {k : ℕ} {c : Dev nD} (h : Inv m k c (T m k c)) : Q12 m k c (Proc.devRef .tc main_arg1) = m ((c.tc : Thread nD τ).loc main_arg1) := by
  unfold Q12
  rw [keep_bod11 _ (by decide), Q11_arg1 m h]
theorem Q12_arg2 {k : ℕ} {c : Dev nD} (h : Inv m k c (T m k c)) : Q12 m k c (Proc.devRef .tc main_arg2) = a2 m c := by
  unfold Q12
  rw [keep_bod11 _ (by decide), Q11_arg2 m h]
theorem Q12_arg3 {k : ℕ} {c : Dev nD} (h : Inv m k c (T m k c)) : Q12 m k c (Proc.devRef .tc main_arg3) = a3 m c := by
  unfold Q12
  rw [keep_bod11 _ (by decide), Q11_arg3 m h]
theorem Q12_v11 {k : ℕ} {c : Dev nD} (h : Inv m k c (T m k c)) : Q12 m k c (Proc.devRef .tc main_v11) = adj m c := by
  unfold Q12
  rw [keep_bod11 _ (by decide), Q11_v11 m h]
theorem Q12_v22 {k : ℕ} {c : Dev nD} (h : Inv m k c (T m k c)) : Q12 m k c (Proc.devRef .tc main_v22) = sm m c := by
  unfold Q12
  rw [keep_bod11 _ (by decide), Q11_v22 m h]
theorem Q12_v50_1 {k : ℕ} {c : Dev nD} (h : Inv m k c (T m k c)) : Q12 m k c (Proc.devRef .tc main_v50_1) = sOrd m c := by
  unfold Q12
  rw [keep_bod11 _ (by decide), Q11_v50_1 m h]
theorem Q12_v50_6 {k : ℕ} {c : Dev nD} (h : Inv m k c (T m k c)) : Q12 m k c (Proc.devRef .tc main_v50_6) = sV m c := by
  unfold Q12
  rw [keep_bod11 _ (by decide), Q11_v50_6 m h]
theorem Q12_v52_0 {k : ℕ} {c : Dev nD} (h : Inv m k c (T m k c)) : Q12 m k c (Proc.devRef .tc main_v52_0) = sY1 m c := by
  unfold Q12
  rw [keep_bod11 _ (by decide), Q11_v52_0 m h]
theorem Q12_v52_1 {k : ℕ} {c : Dev nD} (h : Inv m k c (T m k c)) : Q12 m k c (Proc.devRef .tc main_v52_1) = sX1 m c := by
  unfold Q12
  rw [keep_bod11 _ (by decide), Q11_v52_1 m h]
theorem Q12_v52_2 {k : ℕ} {c : Dev nD} (h : Inv m k c (T m k c)) : Q12 m k c (Proc.devRef .tc main_v52_2) = sY2 m c := by
  unfold Q12
  rw [keep_bod11 _ (by decide), Q11_v52_2 m h]
theorem Q12_v52_3 {k : ℕ} {c : Dev nD} (h : Inv m k c (T m k c)) : Q12 m k c (Proc.devRef .tc main_v52_3) = sX2 m c := by
  unfold Q12
  rw [keep_bod11 _ (by decide), Q11_v52_3 m h]
theorem Q12_v52_4 {k : ℕ} {c : Dev nD} (h : Inv m k c (T m k c)) : Q12 m k c (Proc.devRef .tc main_v52_4) = iotaInDim S4x20x5000 32 2 := by
  unfold Q12
  rw [keep_bod11 _ (by decide), Q11_v52_4 m h]
theorem Q12_v52_5 {k : ℕ} {c : Dev nD} (h : Inv m k c (T m k c)) : Q12 m k c (Proc.devRef .tc main_v52_5) = fun _ => BitVec.ofNat 32 (k + 1) := by
  unfold Q12
  rw [bod11_v52_5, Q11_v52_5 m h]
  exact addi_ofNat k
theorem Q12_v52_6 {k : ℕ} {c : Dev nD} (h : Inv m k c (T m k c)) : Q12 m k c (Proc.devRef .tc main_v52_6) = fun _ => BitVec.ofNat 32 (k + 1) := by
  unfold Q12
  rw [bod11_v52_6, Q11_v65 m h]
  exact addi_ofNat k
theorem Q12_v52_7 {k : ℕ} {c : Dev nD} (h : Inv m k c (T m k c)) : Q12 m k c (Proc.devRef .tc main_v52_7) = sup m c (k + 1) := by
  unfold Q12
  rw [bod11_v52_7, Q11_v134 m h]
  try rfl

theorem inv_succ {k : ℕ} {c : Dev nD} (h : Inv m k c (T m k c)) : Inv m (k + 1) c (T m (k + 1) c) where
  arg0 := Q12_arg0 m h
  arg1 := Q12_arg1 m h
  arg2 := Q12_arg2 m h
  arg3 := Q12_arg3 m h
  v11 := Q12_v11 m h
  v22 := Q12_v22 m h
  v50_1 := Q12_v50_1 m h
  v50_6 := Q12_v50_6 m h
  v52_0 := Q12_v52_0 m h
  v52_1 := Q12_v52_1 m h
  v52_2 := Q12_v52_2 m h
  v52_3 := Q12_v52_3 m h
  v52_4 := Q12_v52_4 m h
  v52_5 := Q12_v52_5 m h
  v52_6 := Q12_v52_6 m h
  v52_7 := Q12_v52_7 m h

theorem inv_all (k : ℕ) (c : Dev nD) : Inv m k c (T m k c) := by
  induction k with
  | zero => exact inv_zero m c
  | succ k ih => exact inv_succ m ih

/-- For `k ≤ 5000` the comparison reads true exactly while `k < 5000`. -/
theorem pred_iff (k : ℕ) (hk : k ≤ 5000) : IntOp.cmpi .slt (BitVec.ofNat 32 k) 5000#32 = 1#1 ↔ k < 5000 := by
  have h : (BitVec.ofNat 32 k).slt 5000#32 = decide (k < 5000) := by
    rw [BitVec.slt, BitVec.toInt_ofNat', decide_eq_decide, Int.bmod_eq_of_le (by omega) (by omega), show (5000#32).toInt = 5000 from by decide]
    omega
  show BitVec.ofBool ((BitVec.ofNat 32 k).slt 5000#32) = 1#1 ↔ _
  rw [h]
  by_cases hk' : k < 5000 <;> simp [hk']

set_option backward.isDefEq.respectTransparency.types false in
/-- The condition of the loop reads true exactly before trips 0 to 4999. -/
theorem cond_spec : StableHlo.CondSpec pcfgs defs₀ (loops (F := F)) main_while0_cond condOps bodI (entryContents preI m) 5000 := by
  intro k hk c bd
  have hctr := (inv_all m k c).v52_5
  unfold main_while0_cond
  rw [wp_bind]
  iintro ⟨Hb, Hh⟩
  iapply (StableHlo.wp_hlo_within (Variants.lift Variants.none) (c : Thread nD τ) bd Set.univ (Pipeline.sub_ucRefs _ (StableHlo.nullary_bufs_sub ..))) $$ [Hb Hh]
  · isplitl [Hb]; · iexact Hb
    iexact Hh
  iintro ⟨Hb, Hh⟩
  rw [wp_ret]; imodintro
  iapply (StableHlo.wp_hlo_within (Variants.lift Variants.none) (c : Thread nD τ) bd Set.univ (Pipeline.sub_ucRefs _ (StableHlo.binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (T m k c) main_v52_5 HostLoop.idx0)
        (HloOp.result _ (T m k c) main_while0c_c_18 HostLoop.idx0) = 1#1) (k < 5000)
    rw [StableHlo.nullary_result_ne _ _ _ _ (by decide), StableHlo.nullary_result, hctr]
    exact pred_iff k hk
  isplitl [Hb]; · iexact Hb
  rw [StableHlo.after_cons, StableHlo.after_cons, StableHlo.after_nil]; iexact Hh

/-- Kept at the end: contents after the loop and the four last stretches. -/
theorem fin_eq (c : Dev nD) : finalContents condOps preI bodI postI 5000 m c = after post3 (after post2 (after post1 (after post0 (Q0 m 5000 c)))) := rfl

/-- The reference's last result. -/
def R64 (c : Dev nD) : IVec S4x5000 1 := rOut (sOrd m c) (sV m c) (sup m c 5000)

theorem fin_v11 (c : Dev nD) : finalContents condOps preI bodI postI 5000 m c (Proc.devRef .tc main_v11) = adj m c := by
  rw [fin_eq, keep_post3 _ (by decide), keep_post2 _ (by decide), keep_post1 _ (by decide), keep_post0 _ (by decide), Q0_v11 m (inv_all m 5000 c)]
theorem fin_v22 (c : Dev nD) : finalContents condOps preI bodI postI 5000 m c (Proc.devRef .tc main_v22) = sm m c := by
  rw [fin_eq, keep_post3 _ (by decide), keep_post2 _ (by decide), keep_post1 _ (by decide), keep_post0 _ (by decide), Q0_v22 m (inv_all m 5000 c)]
theorem fin_arg0 (c : Dev nD) : finalContents condOps preI bodI postI 5000 m c (Proc.devRef .tc main_arg0) = a0 m c := by
  rw [fin_eq, keep_post3 _ (by decide), keep_post2 _ (by decide), keep_post1 _ (by decide), keep_post0 _ (by decide), Q0_arg0 m (inv_all m 5000 c)]
theorem fin_arg1 (c : Dev nD) : finalContents condOps preI bodI postI 5000 m c (Proc.devRef .tc main_arg1) = m ((c.tc : Thread nD τ).loc main_arg1) := by
  rw [fin_eq, keep_post3 _ (by decide), keep_post2 _ (by decide), keep_post1 _ (by decide), keep_post0 _ (by decide), Q0_arg1 m (inv_all m 5000 c)]
theorem fin_arg2 (c : Dev nD) : finalContents condOps preI bodI postI 5000 m c (Proc.devRef .tc main_arg2) = a2 m c := by
  rw [fin_eq, keep_post3 _ (by decide), keep_post2 _ (by decide), keep_post1 _ (by decide), keep_post0 _ (by decide), Q0_arg2 m (inv_all m 5000 c)]
theorem fin_arg3 (c : Dev nD) : finalContents condOps preI bodI postI 5000 m c (Proc.devRef .tc main_arg3) = a3 m c := by
  rw [fin_eq, keep_post3 _ (by decide), keep_post2 _ (by decide), keep_post1 _ (by decide), keep_post0 _ (by decide), Q0_arg3 m (inv_all m 5000 c)]

theorem fin_v64 (c : Dev nD) : finalContents condOps preI bodI postI 5000 m c (Proc.devRef .tc main_v64) = R64 m c := by
  rw [fin_eq, post_v64, Q0_v50_1 m (inv_all m 5000 c), Q0_v50_6 m (inv_all m 5000 c), Q0_v52_7 m (inv_all m 5000 c)]
  rfl

/-- The reference program runs: its results hold the values named here, its arguments are unchanged and the counters read zero. -/
theorem run_res (ρ : Dev nD → PrngReg) : θ_run (defs (F := F)) (onTc (τ := τ) main) ⟨m, fun _ => 0, ρ⟩
    (fun r => (∀ c : Dev nD, r.2.mem ((c.tc : Thread nD τ).loc main_v11) = adj m c ∧ r.2.mem ((c.tc : Thread nD τ).loc main_v22) = sm m c ∧ r.2.mem ((c.tc : Thread nD τ).loc main_v64) = R64 m c
        ∧ r.2.mem ((c.tc : Thread nD τ).loc main_arg0) = m ((c.tc : Thread nD τ).loc main_arg0) ∧ r.2.mem ((c.tc : Thread nD τ).loc main_arg1) = m ((c.tc : Thread nD τ).loc main_arg1)
        ∧ r.2.mem ((c.tc : Thread nD τ).loc main_arg2) = m ((c.tc : Thread nD τ).loc main_arg2) ∧ r.2.mem ((c.tc : Thread nD τ).loc main_arg3) = m ((c.tc : Thread nD τ).loc main_arg3))
      ∧ r.2.sem = fun _ => 0) := by
  refine (θ_run _ _ _).mono ?_ (StableHlo.run_loop pcfgs defs₀ loops main 0 main_while0_cond main_while0_body rfl preI bodI postI condOps preI_plain bodI_plain postI_plain
    main_chain body_chain 5000 m ρ (cond_spec m))
  intro r h
  refine ⟨fun c => ⟨?_, ?_, ?_, ?_, ?_, ?_, ?_⟩, ?_⟩
  · rw [h c main_v11 (by decide), fin_v11]
  · rw [h c main_v22 (by decide), fin_v22]
  · rw [h c main_v64 (by decide), fin_v64]
  · rw [h c main_arg0 (by decide), fin_arg0]
  · rw [h c main_arg1 (by decide), fin_arg1]
  · rw [h c main_arg2 (by decide), fin_arg2]
  · rw [h c main_arg3 (by decide), fin_arg3]
  · funext g
    obtain ⟨_, sm⟩ := g
    cases sm with
    | reg s => exact absurd s.2 (Nat.not_lt_zero _)
    | dma s => exact absurd s.2 (Nat.not_lt_zero _)

end Cert.Proof.RI

end
-- ==== Proof.V.Words.lean ====
/-
  Words that hold sixteen flags, at the extended reals: a sum of distinct powers of two is the word of
  its flags, two such words meet when they share a flag, and a maximum of words is nonzero when one is.
-/
module

public import Idealize.ShloMosaic.Lib.Pointwise
public import Idealize.ShloMosaic.Lib.IdealHost
public import Idealize.ShloMosaic.Lib.WordCmp

@[expose] public section

set_option maxRecDepth 16384

noncomputable section

namespace Cert.Proof.V

open Idealize.ShloMosaic
open Idealize.ShloMosaic.TcCoe Idealize.ShloMosaic.Tactic
open Classical

/-- The number whose bits are the flags. -/
def packN {n : ℕ} (b : Fin n → Prop) : ℕ := ∑ t : Fin n, if b t then 2 ^ t.val else 0

theorem packN_succ {n : ℕ} (b : Fin (n + 1) → Prop) :
    packN b = packN (fun t : Fin n => b t.castSucc) + if b (Fin.last n) then 2 ^ n else 0 := by
  unfold packN
  rw [Fin.sum_univ_castSucc]
  rfl

theorem packN_lt : ∀ {n : ℕ} (b : Fin n → Prop), packN b < 2 ^ n
  | 0, b => by simp [packN]
  | n + 1, b => by
    rw [packN_succ]
    have := packN_lt (fun t : Fin n => b t.castSucc)
    rw [Nat.pow_succ]
    split <;> omega

/-- Bit `t` of the packed number is flag `t`. -/
theorem testBit_packN : ∀ {n : ℕ} (b : Fin n → Prop) (t : Fin n), (packN b).testBit t.val = decide (b t)
  | 0, _, t => t.elim0
  | n + 1, b, t => by
    rw [packN_succ]
    have hlt := packN_lt (fun t : Fin n => b t.castSucc)
    refine Fin.lastCases ?_ (fun s => ?_) t
    · by_cases h : b (Fin.last n)
      · rw [if_pos h, Nat.add_comm, Fin.val_last, Nat.testBit_two_pow_add_eq, Nat.testBit_lt_two_pow hlt]
        simp [h]
      · rw [if_neg h, Nat.add_zero, Fin.val_last, Nat.testBit_lt_two_pow hlt]
        simp [h]
    · have ih := testBit_packN (fun t : Fin n => b t.castSucc) s
      by_cases h : b (Fin.last n)
      · rw [if_pos h, Nat.add_comm, Fin.val_castSucc, Nat.testBit_two_pow_add_gt s.isLt]
        exact ih
      · rw [if_neg h, Nat.add_zero, Fin.val_castSucc]
        exact ih

/-- Two packed words meet exactly when they share a flag. -/
theorem andi_packN (a b : Fin 16 → Prop) :
    IntOp.andi (BitVec.ofNat 32 (packN a)) (BitVec.ofNat 32 (packN b)) ≠ 0#32 ↔ ∃ t, a t ∧ b t := by
  have ha := packN_lt a
  have hb := packN_lt b
  have key : (IntOp.andi (BitVec.ofNat 32 (packN a)) (BitVec.ofNat 32 (packN b))).toNat = packN a &&& packN b := by
    change (BitVec.ofNat 32 (packN a) &&& BitVec.ofNat 32 (packN b)).toNat = _
    rw [BitVec.toNat_and, BitVec.toNat_ofNat, BitVec.toNat_ofNat, Nat.mod_eq_of_lt (by omega), Nat.mod_eq_of_lt (by omega)]
  rw [Ne, ← BitVec.toNat_inj, key]
  constructor
  · intro h
    obtain ⟨i, hi⟩ := Nat.exists_testBit_of_ne_zero h
    rw [Nat.testBit_and, Bool.and_eq_true] at hi
    have hi16 : i < 16 := by
      by_contra hc
      rw [Nat.testBit_lt_two_pow (lt_of_lt_of_le ha (Nat.pow_le_pow_right (by decide) (by omega)))] at hi
      exact Bool.noConfusion hi.1
    refine ⟨⟨i, hi16⟩, ?_, ?_⟩
    · have := testBit_packN a ⟨i, hi16⟩
      rw [show ((⟨i, hi16⟩ : Fin 16).val) = i from rfl, hi.1] at this
      exact of_decide_eq_true this.symm
    · have := testBit_packN b ⟨i, hi16⟩
      rw [show ((⟨i, hi16⟩ : Fin 16).val) = i from rfl, hi.2] at this
      exact of_decide_eq_true this.symm
  · rintro ⟨t, h1, h2⟩ h0
    have hz : (packN a &&& packN b).testBit t.val = false := by
      rw [h0]; exact Nat.zero_testBit _
    rw [Nat.testBit_and, testBit_packN, testBit_packN] at hz
    simp [h1, h2] at hz

theorem andi_packN_toInt (a b : Fin 16 → Prop) :
    0 ≤ (IntOp.andi (BitVec.ofNat 32 (packN a)) (BitVec.ofNat 32 (packN b))).toInt := by
  have ha := packN_lt a
  have hb := packN_lt b
  have key : (IntOp.andi (BitVec.ofNat 32 (packN a)) (BitVec.ofNat 32 (packN b))).toNat = packN a &&& packN b := by
    change (BitVec.ofNat 32 (packN a) &&& BitVec.ofNat 32 (packN b)).toNat = _
    rw [BitVec.toNat_and, BitVec.toNat_ofNat, BitVec.toNat_ofNat, Nat.mod_eq_of_lt (by omega), Nat.mod_eq_of_lt (by omega)]
  have hle : packN a &&& packN b ≤ packN a := Nat.and_le_left
  rw [BitVec.toInt_eq_toNat_of_lt (by rw [key]; omega)]
  exact Int.natCast_nonneg _

/-- The signed maximum of words, read as integers. -/
theorem toInt_maxsi (x y : BitVec 32) : (IntOp.maxsi x y).toInt = max x.toInt y.toInt := by
  unfold IntOp.maxsi
  split <;> rename_i h <;> simp only [BitVec.slt_iff_toInt_lt, BitVec.sle_iff_toInt_le, decide_eq_true_eq] at h <;> omega

/-- The signed minimum of words, read as integers. -/
theorem toInt_minsi (x y : BitVec 32) : (IntOp.minsi x y).toInt = min x.toInt y.toInt := by
  unfold IntOp.minsi
  split <;> rename_i h <;> simp only [BitVec.slt_iff_toInt_lt, BitVec.sle_iff_toInt_le, decide_eq_true_eq] at h <;> omega

theorem toInt_fold_maxsi {ι : Type} (s : Finset ι) (b : BitVec 32) (f : ι → BitVec 32) :
    (Finset.fold IntOp.maxsi b f s).toInt = Finset.fold max b.toInt (fun x => (f x).toInt) s :=
  (Finset.fold_hom (op := IntOp.maxsi) (op' := max) (m := BitVec.toInt) toInt_maxsi).symm

theorem toInt_fold_minsi {ι : Type} (s : Finset ι) (b : BitVec 32) (f : ι → BitVec 32) :
    (Finset.fold IntOp.minsi b f s).toInt = Finset.fold min b.toInt (fun x => (f x).toInt) s :=
  (Finset.fold_hom (op := IntOp.minsi) (op' := min) (m := BitVec.toInt) toInt_minsi).symm

/-- A maximum of nonnegative words over an accumulator: nonnegative, and nonzero exactly when one of them is. -/
theorem max_step {ι : Type} [Fintype ι] (a : BitVec 32) (f : ι → BitVec 32) (ha : 0 ≤ a.toInt) (hf : ∀ x, 0 ≤ (f x).toInt) :
    0 ≤ (IntOp.maxsi a (Finset.fold IntOp.maxsi (2147483648#32) f Finset.univ)).toInt ∧
    (IntOp.maxsi a (Finset.fold IntOp.maxsi (2147483648#32) f Finset.univ) ≠ 0#32 ↔ a ≠ 0#32 ∨ ∃ x, f x ≠ 0#32) := by
  have hz : ∀ x : BitVec 32, 0 ≤ x.toInt → (x ≠ 0#32 ↔ 0 < x.toInt) := by
    intro x hx
    rw [Ne, ← BitVec.toInt_inj, BitVec.toInt_zero]; omega
  have hge : 0 ≤ (IntOp.maxsi a (Finset.fold IntOp.maxsi (2147483648#32) f Finset.univ)).toInt := by
    rw [toInt_maxsi]; exact le_max_of_le_left ha
  refine ⟨hge, ?_⟩
  rw [hz _ hge, toInt_maxsi, toInt_fold_maxsi, lt_max_iff, Finset.lt_fold_max, hz a ha]
  refine or_congr_right ?_
  constructor
  · rintro (h | ⟨x, _, h⟩)
    · exact absurd h (by decide)
    · exact ⟨x, (hz _ (hf x)).2 h⟩
  · rintro ⟨x, h⟩; exact .inr ⟨x, Finset.mem_univ _, (hz _ (hf x)).1 h⟩

/-- A natural number below `2 ^ 31`, turned into a word. -/
theorem fptosi_nat (n : ℕ) (h : n < 2 ^ 31) : (FloatOps.fptosi (F := Ideal) (φ := .f32) 32 (((n : ℝ) : EReal))) = BitVec.ofNat 32 n := by
  change Ideal.fptosi 32 ((n : ℝ) : EReal) = _
  unfold Ideal.fptosi
  rw [Ideal.toIntClamped_coe, if_pos (Nat.cast_nonneg n), Int.floor_natCast]
  have : max (-((2 ^ (32 - 1) : ℕ) : ℤ)) (min (((2 ^ (32 - 1) : ℕ) : ℤ) - 1) (n : ℤ)) = (n : ℤ) := by
    have : ((2 ^ (32 - 1) : ℕ) : ℤ) = 2147483648 := by norm_num
    rw [this]; omega
  rw [this, BitVec.ofInt_natCast]

theorem coe_sum_real {ι : Type} (s : Finset ι) (f : ι → ℝ) : ((∑ x ∈ s, f x : ℝ) : EReal) = ∑ x ∈ s, ((f x : ℝ) : EReal) := by
  induction s using Finset.induction_on with
  | empty => simp
  | insert a s ha ih => rw [Finset.sum_insert ha, Finset.sum_insert ha, EReal.coe_add, ih]

/-- Row `w` of the packing weights against 128 flags: the packed number of the sixteen flags from `16 w`. -/
theorem pack_sum (w : Fin 8) (ok : Fin 128 → Prop) :
    (∑ x : Fin 128, if ok x then (if x.val / 16 = w.val then (((2 ^ (x.val % 16) : ℕ) : ℝ) : EReal) else 0) else 0)
      = (((packN (fun t : Fin 16 => ok ⟨16 * w.val + t.val, by omega⟩) : ℕ) : ℝ) : EReal) := by
  have h1 : ∀ x : Fin 128, (if ok x then (if x.val / 16 = w.val then (((2 ^ (x.val % 16) : ℕ) : ℝ) : EReal) else 0) else 0)
      = (((if ok x then (if x.val / 16 = w.val then 2 ^ (x.val % 16) else 0) else 0 : ℕ) : ℝ) : EReal) := by
    intro x; split_ifs <;> simp
  rw [Finset.sum_congr rfl fun x _ => h1 x, ← coe_sum_real, ← Nat.cast_sum]
  refine congrArg (fun k : ℕ => ((k : ℝ) : EReal)) ?_
  rw [Fin.sum_univ_tiles 8 16 rfl, Finset.sum_eq_single w]
  · unfold packN
    refine Finset.sum_congr rfl fun t _ => ?_
    have e : (⟨w.val * 16 + t.val, by omega⟩ : Fin 128) = ⟨16 * w.val + t.val, by omega⟩ := Fin.ext (by simp only; omega)
    rw [e]
    have e1 : (16 * w.val + t.val) / 16 = w.val := by omega
    have e2 : (16 * w.val + t.val) % 16 = t.val := by omega
    simp only [e1, e2, if_true]
  · intro j _ hj
    refine Finset.sum_eq_zero fun t _ => ?_
    have e1 : ¬((j.val * 16 + t.val) / 16 = w.val) := by
      intro h; exact hj (Fin.ext (by omega))
    simp only [e1, if_false, ite_self]
  · intro h; exact absurd (Finset.mem_univ _) h

end Cert.Proof.V

end
-- ==== Proof.V.Elem.lean ====
/-
  The two float results at an index, and the rows the suppression reads: the shifted boxes, the softmax,
  the class of a box (the first most probable one), its score and its area.
-/
module

public import Idealize.ShloMosaic.Lib.Pointwise
public import Idealize.ShloMosaic.Lib.IdealHost
public import proofs.«01_k».proof.Proof.V.Words
public import proofs.«01_k».proof.Proof.RI.Vals
public import proofs.«01_k».proof.Proof.KI.Fns

@[expose] public section

set_option maxRecDepth 16384

noncomputable section

namespace Cert.Proof.V

open Cert.KernelIdeal Cert.KernelIdeal.Gen
open Idealize.ShloMosaic
open Idealize.ShloMosaic.TcCoe Idealize.ShloMosaic.Tactic
open Classical

/-- The word of minus infinity. -/
theorem bits_ninf : Ideal.ofBits .f32 0xFF800000#32 = ⊥ := by
  simp [Ideal.ofBits, Ideal.ieee]

/-- A coordinate of the shifted box: the offset plus the proposal's coordinate rounded outward to sixteenths. -/
def adjE (x0 x2 : EReal) (d : Fin 4) : EReal :=
  x2 + Ideal.div (if d.val < 2 then Ideal.liftRound Int.floor (x0 * Ideal.ofBits .f32 0x41800000#32)
    else Ideal.liftRound Int.ceil (x0 * Ideal.ofBits .f32 0x41800000#32)) (Ideal.ofBits .f32 0x41800000#32)

theorem adj_kernel (x0 x1 : Vec Ideal S1x4x5120 .f32) (d : Fin 4) (i : Fin 5120) :
    k0_pay23 (F := Ideal) x0 x1 (ix2 d i) = adjE (x0 (ix3 0 d i)) (x1 (ix3 0 d i)) d := by
  pointwise [k0_pay23]
  unfold adjE
  by_cases h : d.val < 2
  · simp only [h, dif_pos, if_true]
  · have e : (⟨2 + (d.val - 2), by omega⟩ : Fin 4) = d := Fin.ext (by simp only; omega)
    simp only [h, dif_neg, if_false, not_false_eq_true, e]

theorem adj_ref (x0 x2 : FVec Ideal Cert.ReferenceIdeal.S4x5000x4 .f32) (b : Fin 4) (i : Fin 5000) (d : Fin 4) :
    RI.rAdj (F := Ideal) x0 x2 (ix3 b i d) = adjE (x0 (ix3 b i d)) (x2 (ix3 b i d)) d := by
  pointwise [RI.rAdj]
  unfold adjE
  by_cases h : d.val < 2
  · simp only [h, dif_pos, if_true]
  · have e : (⟨2 + (d.val - 2), by omega⟩ : Fin 4) = d := Fin.ext (by simp only; omega)
    simp only [h, dif_neg, if_false, not_false_eq_true, e]

/-- The largest of 21 values. -/
def topE (g : Fin 21 → EReal) : EReal := Finset.fold max ⊥ g Finset.univ

/-- The softmax of 21 values. -/
def smE (g : Fin 21 → EReal) (k : Fin 21) : EReal :=
  Ideal.div (Ideal.exp (g k - topE g)) (∑ x, Ideal.exp (g x - topE g))

theorem sm_kernel (x3 : FVec Ideal S1x21x5120 .f32) (k : Fin 21) (i : Fin 5120) :
    k0_pay25 (F := Ideal) x3 (ix2 k i) = smE (fun x => x3 (ix3 0 x i)) k := by
  pointwise [k0_pay25]
  rw [bits_ninf]
  rfl

theorem sm_ref (x3 : FVec Ideal Cert.ReferenceIdeal.S4x5000x21 .f32) (b : Fin 4) (i : Fin 5000) (k : Fin 21) :
    RI.rSm (F := Ideal) x3 (ix3 b i k) = smE (fun x => x3 (ix3 b i x)) k := by
  pointwise [RI.rSm, RI.rExp]
  rw [bits_ninf, max_eq_right bot_le]
  rfl

/-- `k` is the first place of a largest value. -/
def IsAm (p : Fin 21 → EReal) (k : Fin 21) : Prop := (∀ j, p j ≤ p k) ∧ ∀ j, j < k → p j < p k

theorem IsAm.unique {p : Fin 21 → EReal} {k k' : Fin 21} (h : IsAm p k) (h' : IsAm p k') : k = k' := by
  rcases lt_trichotomy k k' with h1 | h1 | h1
  · exact absurd (h'.2 k h1) (not_lt.2 (h.1 k'))
  · exact h1
  · exact absurd (h.2 k' h1) (not_lt.2 (h'.1 k))

theorem exists_isAm (p : Fin 21 → EReal) : ∃ k, IsAm p k := by
  obtain ⟨m, _, hm⟩ := Finset.exists_max_image Finset.univ p ⟨0, Finset.mem_univ _⟩
  have hne : (Finset.univ.filter fun k => p m ≤ p k).Nonempty := ⟨m, by simp⟩
  refine ⟨(Finset.univ.filter fun k => p m ≤ p k).min' hne, ?_, ?_⟩
  · intro j
    have := Finset.min'_mem _ hne
    rw [Finset.mem_filter] at this
    exact (hm j (Finset.mem_univ _)).trans this.2
  · intro j hj
    have h1 := Finset.min'_mem _ hne
    rw [Finset.mem_filter] at h1
    by_contra hc
    have : j ∈ Finset.univ.filter fun k => p m ≤ p k :=
      Finset.mem_filter.2 ⟨Finset.mem_univ _, h1.2.trans (not_lt.1 hc)⟩
    exact absurd (Finset.min'_le _ j this) (not_le.2 hj)

/-- The first place of a largest value. -/
def am (p : Fin 21 → EReal) : Fin 21 := (exists_isAm p).choose

theorem am_spec (p : Fin 21 → EReal) : IsAm p (am p) := (exists_isAm p).choose_spec

theorem am_eq {p : Fin 21 → EReal} {k : Fin 21} (h : IsAm p k) : am p = k := (am_spec p).unique h

theorem topE_eq (p : Fin 21 → EReal) : topE p = p (am p) := by
  refine le_antisymm ?_ ?_
  · rw [topE, Finset.fold_max_le]
    exact ⟨bot_le, fun x _ => (am_spec p).1 x⟩
  · rw [topE, Finset.le_fold_max]
    exact .inr ⟨am p, Finset.mem_univ _, le_rfl⟩

/-- The kernel's largest probability. -/
theorem top_kernel (x3 : FVec Ideal S1x21x5120 .f32) (i : Fin 5120) :
    k0_pay27 (F := Ideal) x3 (ix2 0 i) = topE (smE fun x => x3 (ix3 0 x i)) := by
  pointwise [k0_pay27]
  rw [bits_ninf, topE]
  exact Finset.fold_congr fun x _ => sm_kernel x3 x i

/-- The kernel's class: the least place whose probability is the largest. -/
theorem cls_kernel (v29 : FVec Ideal S21x5120 .f32) (v34 : FVec Ideal S1x5120 .f32) (i : Fin 5120) (p : Fin 21 → EReal)
    (h29 : ∀ k, v29 (ix2 k i) = p k) (h34 : v34 (ix2 0 i) = topE p) :
    k0_pay28 (F := Ideal) v29 v34 KI.io21 (ix2 0 i) = (((am p).val : ℝ) : EReal) := by
  pointwise [k0_pay28, KI.io21]
  have hw : (Finset.fold IntOp.minsi (2147483647#32) (fun x : Fin 21 => if v29 (ix2 x i) = v34 (ix2 0 i) then BitVec.ofNat 32 x.val else 21#32) Finset.univ).toInt
      = ((am p).val : ℤ) := by
    rw [toInt_fold_minsi]
    have ht : ∀ x : Fin 21, (BitVec.ofNat 32 x.val).toInt = (x.val : ℤ) := by decide
    have hi : (2147483647#32).toInt = 2147483647 := by decide
    have h21 : (21#32).toInt = 21 := by decide
    have hlt := (am p).isLt
    refine le_antisymm ?_ ?_
    · rw [Finset.fold_min_le]
      refine .inr ⟨am p, Finset.mem_univ _, ?_⟩
      rw [if_pos (by rw [h29, h34, topE_eq]), ht]
    · rw [Finset.le_fold_min]
      refine ⟨by rw [hi]; omega, fun x _ => ?_⟩
      split
      · rename_i h
        rw [h29, h34, topE_eq] at h
        rw [ht]
        by_contra hc
        have : x < am p := by rw [Fin.lt_def]; omega
        exact absurd ((am_spec p).2 x this) (by rw [h]; exact lt_irrefl _)
      · rw [h21]; omega
  have hs : ∀ w : BitVec 32, (FloatOps.sitofp (F := Ideal) FTy.f32 w : EReal) = (((w.toInt : ℤ) : ℝ) : EReal) := fun _ => rfl
  refine (hs _).trans ?_
  rw [hw, Int.cast_natCast]

end Cert.Proof.V

end
-- ==== Proof.V.Rows.lean ====
/-
  The rows the kernel's suppression reads, at an index; and the reference's class of a box.
-/
module

public import proofs.«01_k».proof.Proof.V.Elem

@[expose] public section

set_option maxRecDepth 16384

noncomputable section

namespace Cert.Proof.V

open Cert.KernelIdeal Cert.KernelIdeal.Gen
open Idealize.ShloMosaic
open Idealize.ShloMosaic.TcCoe Idealize.ShloMosaic.Tactic
open Classical

/-- The class probabilities of box `i` of a kernel block. -/
def pK (x3 : FVec Ideal S1x21x5120 .f32) (i : Fin 5120) : Fin 21 → EReal := smE fun x => x3 (ix3 0 x i)

theorem cls_row (x3 : FVec Ideal S1x21x5120 .f32) (i : Fin 5120) :
    k0_pay28 (F := Ideal) (k0_pay25 x3) (k0_pay27 x3) KI.io21 (ix2 0 i) = (((am (pK x3 i)).val : ℝ) : EReal) :=
  cls_kernel _ _ i (pK x3 i) (fun k => sm_kernel x3 k i) (top_kernel x3 i)

theorem coe_nat_eq_zero (n : ℕ) : (((n : ℝ) : EReal) = 0) ↔ n = 0 := by
  rw [EReal.coe_eq_zero, Nat.cast_eq_zero]

/-- A flag widened to a word and turned into a float. -/
theorem sitofp_flag (p : Prop) [Decidable p] : (FloatOps.sitofp (F := Ideal) FTy.f32 (BitVec.setWidth 32 (BitVec.ofBool (decide p))) : EReal) = if p then 1 else 0 := by
  have hs : ∀ w : BitVec 32, (FloatOps.sitofp (F := Ideal) FTy.f32 w : EReal) = (((w.toInt : ℤ) : ℝ) : EReal) := fun _ => rfl
  refine (hs _).trans ?_
  by_cases h : p
  · rw [if_pos h, decide_eq_true h]
    rw [show (BitVec.setWidth 32 (BitVec.ofBool true)).toInt = 1 by decide]
    simp
  · rw [if_neg h, decide_eq_false h]
    rw [show (BitVec.setWidth 32 (BitVec.ofBool false)).toInt = 0 by decide]
    simp

/-- A foreground box has a one in the foreground row, the others a zero. -/
theorem fg_row (x3 : FVec Ideal S1x21x5120 .f32) (i : Fin 5120) :
    KI.fgRow (F := Ideal) x3 (ix2 0 i) = if am (pK x3 i) ≠ 0 then 1 else 0 := by
  pointwise [KI.fgRow, k0_pay1, k0_pay29]
  refine (sitofp_flag _).trans ?_
  rw [cls_row]
  refine if_congr (not_congr ?_) rfl rfl
  rw [coe_nat_eq_zero, Fin.ext_iff]
  rfl

/-- The score row holds the largest probability. -/
theorem sc_row (x3 : FVec Ideal S1x21x5120 .f32) (i : Fin 5120) :
    KI.scRow (F := Ideal) x3 (ix2 0 i) = pK x3 i (am (pK x3 i)) := by
  pointwise [KI.scRow, k0_pay30]
  rw [top_kernel]
  exact topE_eq _

/-- The key row of a foreground box holds its class. -/
theorem ky_row (x3 : FVec Ideal S1x21x5120 .f32) (i : Fin 5120) (h : am (pK x3 i) ≠ 0) :
    KI.kyRow (F := Ideal) x3 (ix2 0 i) = (((am (pK x3 i)).val : ℝ) : EReal) := by
  pointwise [KI.kyRow, k0_pay31]
  rw [cls_row, if_neg]
  rw [coe_nat_eq_zero]
  exact fun h0 => h (Fin.ext h0)

/-- The area of a box given by its corners. -/
def areaE (a : Fin 4 → EReal) : EReal := max (a 2 - a 0) 0 * max (a 3 - a 1) 0

/-- The area row. -/
theorem ar_row (x1 x2 : FVec Ideal S1x4x5120 .f32) (i : Fin 5120) :
    KI.arRow (F := Ideal) x1 x2 (ix2 0 i) = areaE fun d => adjE (x1 (ix3 0 d i)) (x2 (ix3 0 d i)) d := by
  pointwise [KI.arRow, k0_pay32]
  unfold areaE
  simp only [adj_kernel]

theorem box_blk (x1 x2 : FVec Ideal S1x4x5120 .f32) (d : Fin 4) (i : Fin 5120) :
    k0_pay24 (F := Ideal) x1 x2 (ix3 0 d i) = adjE (x1 (ix3 0 d i)) (x2 (ix3 0 d i)) d := by
  pointwise [k0_pay24]
  exact adj_kernel _ _ _ _

end Cert.Proof.V

end
-- ==== Proof.V.Mat.lean ====
/-
  The packed suppression matrix at an index: the word of row `w` and column `i` holds the sixteen flags
  "box `16 w + t` suppresses box `i`".
-/
module

public import proofs.«01_k».proof.Proof.V.Rows

@[expose] public section

set_option maxRecDepth 16384

noncomputable section

namespace Cert.Proof.V

open Cert.KernelIdeal Cert.KernelIdeal.Gen
open Idealize.ShloMosaic
open Idealize.ShloMosaic.TcCoe Idealize.ShloMosaic.Tactic
open Classical

/-- The area of the intersection of two boxes given by their corners. -/
def interE (a b : Fin 4 → EReal) : EReal := max (min (a 2) (b 2) - max (a 0) (b 0)) 0 * max (min (a 3) (b 3) - max (a 1) (b 1)) 0

/-- Two boxes overlap: the intersection is more than half of the union. -/
def ovE (a b : Fin 4 → EReal) (aa ab : EReal) : Prop :=
  Ideal.ofBits .f32 0x3F000000#32 * max (aa + ab - interE a b) (Ideal.ofBits .f32 0x3089705F#32) < interE a b

/-- Box `j` comes before box `i`: a higher score, or the same and a lower place. -/
def preE {n : ℕ} (s : Fin n → EReal) (j i : Fin n) : Prop := s i < s j ∨ (s j = s i ∧ j.val < i.val)

/-- The suppression relation of the kernel: overlap, order, and equal keys. -/
def TK (B : FVec Ideal S1x4x5120 .f32) (sc ky ar : FVec Ideal S1x5120 .f32) (j i : Fin 5120) : Prop :=
  ovE (fun d => B (ix3 0 d j)) (fun d => B (ix3 0 d i)) (ar (ix2 0 j)) (ar (ix2 0 i))
    ∧ preE (fun n => sc (ix2 0 n)) j i ∧ ky (ix2 0 j) = ky (ix2 0 i)

/-- The packing weights. -/
theorem weights (w : Fin 8) (x : Fin 128) :
    k0_pay2 (F := Ideal) (ix2 w x) = if x.val / 16 = w.val then (((2 ^ (x.val % 16) : ℕ) : ℝ) : EReal) else 0 := by
  pointwise [k0_pay2]
  have h1 : ∀ (w : Fin 8) (x : Fin 128), IntOp.cmpi CmpIPredicate.eq (IntOp.shrsi ArithUnit.vector (BitVec.ofNat 32 x.val) 4#32) (BitVec.ofNat 32 w.val)
      = if x.val / 16 = w.val then 1#1 else 0#1 := by decide +kernel
  have h2 : ∀ x : Fin 128, (IntOp.shli ArithUnit.vector (1#32) (IntOp.andi (BitVec.ofNat 32 x.val) 15#32)).toInt = ((2 ^ (x.val % 16) : ℕ) : ℤ) := by decide +kernel
  have hs : ∀ w : BitVec 32, (FloatOps.sitofp (F := Ideal) FTy.f32 w : EReal) = (((w.toInt : ℤ) : ℝ) : EReal) := fun _ => rfl
  rw [h1, hs, h2, Int.cast_natCast]
  unfold Scalar.select
  split_ifs <;> first | rfl | (exfalso; simp_all)

/-- The printed mask, as a choice on its meaning. -/
theorem select_mask {α : Type} (p q r u v : Prop) [Decidable p] [Decidable q] [Decidable r] [Decidable u] [Decidable v] (c : BitVec 1)
    (hc : c = BitVec.ofBool (decide u)) (x y : α) [Decidable (p ∧ (q ∨ (r ∧ u)) ∧ v)] :
    Scalar.select (IntOp.andi (IntOp.andi (BitVec.ofBool (decide p)) (IntOp.ori (BitVec.ofBool (decide q)) (IntOp.andi (BitVec.ofBool (decide r)) c))) (BitVec.ofBool (decide v))) x y
      = if p ∧ (q ∨ (r ∧ u)) ∧ v then x else y := by
  subst hc
  by_cases hp : p <;> by_cases hq : q <;> by_cases hr : r <;> by_cases hu : u <;> by_cases hv : v <;>
    simp [hp, hq, hr, hu, hv, Scalar.select, IntOp.andi, IntOp.ori]

theorem iv_eq (t : ℕ) : Scf.iv 0#32 1#32 t = BitVec.ofNat 32 t := by
  unfold Scf.iv
  simp [BitVec.ofNat_mul]

theorem slt_small (a b : ℕ) (ha : a < 2 ^ 31) (hb : b < 2 ^ 31) :
    IntOp.cmpi CmpIPredicate.slt (BitVec.ofNat 32 a) (BitVec.ofNat 32 b) = BitVec.ofBool (decide (a < b)) := by
  have h : ∀ n : ℕ, n < 2 ^ 31 → (BitVec.ofNat 32 n).toInt = (n : ℤ) := by
    intro n hn
    rw [BitVec.toInt_eq_toNat_of_lt (by rw [BitVec.toNat_ofNat]; omega), BitVec.toNat_ofNat, Nat.mod_eq_of_lt (by omega)]
  simp only [IntOp.cmpi, BitVec.slt_eq_decide, h a ha, h b hb, Nat.cast_lt]

theorem place1 (t x : ℕ) : IntOp.addi (Scalar.muli (Scf.iv 0#32 1#32 t) 128#32) (BitVec.ofNat 32 x) = BitVec.ofNat 32 (128 * t + x) := by
  rw [iv_eq]
  change BitVec.ofNat 32 t * BitVec.ofNat 32 128 + BitVec.ofNat 32 x = _
  rw [← BitVec.ofNat_mul, ← BitVec.ofNat_add, Nat.mul_comm]

theorem place2 (t x : ℕ) : IntOp.addi (Scalar.muli (Scf.iv 0#32 1#32 t) 256#32) (BitVec.ofNat 32 x) = BitVec.ofNat 32 (128 * (2 * t) + x) := by
  rw [iv_eq]
  change BitVec.ofNat 32 t * BitVec.ofNat 32 256 + BitVec.ofNat 32 x = _
  rw [← BitVec.ofNat_mul, ← BitVec.ofNat_add]
  congr 1; omega

theorem place3 (t x : ℕ) : IntOp.addi (Scalar.addi (Scalar.muli (Scf.iv 0#32 1#32 t) 256#32) 128#32) (BitVec.ofNat 32 x) = BitVec.ofNat 32 (128 * (2 * t + 1) + x) := by
  rw [iv_eq]
  change BitVec.ofNat 32 t * BitVec.ofNat 32 256 + BitVec.ofNat 32 128 + BitVec.ofNat 32 x = _
  rw [← BitVec.ofNat_mul, ← BitVec.ofNat_add, ← BitVec.ofNat_add]
  congr 1; omega

/-- A block of the matrix: the sum of selected weights is the packed word. -/
theorem block_word (T : Fin 5120 → Fin 5120 → Prop) (t1 t2 : ℕ) (h1 : t1 < 40) (h2 : t2 < 40) (w : Fin 8) (z : Fin 128) (f : Fin 128 → EReal)
    (hf : ∀ x : Fin 128, f x = if T ⟨(128 * t1 + x.val) % 5120, Nat.mod_lt _ (by decide)⟩ ⟨(128 * t2 + z.val) % 5120, Nat.mod_lt _ (by decide)⟩
      then k0_pay2 (F := Ideal) (ix2 w x) else 0) :
    FloatOps.fptosi (F := Ideal) (φ := .f32) 32 (∑ x, f x)
      = BitVec.ofNat 32 (packN fun t : Fin 16 => T ⟨128 * t1 + (16 * w.val + t.val), by omega⟩ ⟨128 * t2 + z.val, by omega⟩) := by
  have e : ∑ x, f x = ∑ x : Fin 128, if T ⟨128 * t1 + x.val, by omega⟩ ⟨128 * t2 + z.val, by omega⟩
      then (if x.val / 16 = w.val then (((2 ^ (x.val % 16) : ℕ) : ℝ) : EReal) else 0) else 0 := by
    refine Finset.sum_congr rfl fun x _ => ?_
    rw [hf x, weights]
    have e1 : (⟨(128 * t1 + x.val) % 5120, Nat.mod_lt _ (by decide)⟩ : Fin 5120) = ⟨128 * t1 + x.val, by omega⟩ := Fin.ext (Nat.mod_eq_of_lt (by omega))
    have e2 : (⟨(128 * t2 + z.val) % 5120, Nat.mod_lt _ (by decide)⟩ : Fin 5120) = ⟨128 * t2 + z.val, by omega⟩ := Fin.ext (Nat.mod_eq_of_lt (by omega))
    rw [e1, e2]
  have hp := pack_sum w fun x : Fin 128 => T ⟨128 * t1 + x.val, by omega⟩ ⟨128 * t2 + z.val, by omega⟩
  rw [e.trans hp]
  exact fptosi_nat _ (lt_of_lt_of_le (packN_lt _) (by decide))

theorem first_block (B : FVec Ideal S1x4x5120 .f32) (sc ky ar : FVec Ideal S1x5120 .f32) (t1 : Fin k0_t1_loop.trips) (t2 : Fin k0_t2_loop.trips)
    (h1 : t1.val < 40) (h2 : t2.val < 20) (w : Fin 8) (z : Fin 128) :
    KI.Tt1 (F := Ideal) B sc ky ar t1 t2 (ix2 w z)
      = BitVec.ofNat 32 (packN fun t : Fin 16 => TK B sc ky ar ⟨128 * t1.val + (16 * w.val + t.val), by omega⟩ ⟨128 * (2 * t2.val) + z.val, by omega⟩) := by
  pointwise [KI.Tt1, KI.vblk, KI.bblk, k0_pay18, k0_pay17, k0_pay16, k0_pay15, k0_pay3, k0_pay4, k0_pay5, k0_pay6, k0_pay7, k0_pay8, k0_pay9, k0_pay10]
  refine block_word (TK B sc ky ar) t1.val (2 * t2.val) h1 (by omega) w z _ fun x => ?_
  refine (select_mask _ _ _ ((128 * t1.val + x.val) % 5120 < (128 * (2 * t2.val) + z.val) % 5120) _ _ ?_ _ _).trans ?_
  · rw [place1, place2, slt_small _ _ (by omega) (by omega), Nat.mod_eq_of_lt (by omega), Nat.mod_eq_of_lt (by omega)]
  · exact if_congr Iff.rfl rfl rfl

theorem second_block (B : FVec Ideal S1x4x5120 .f32) (sc ky ar : FVec Ideal S1x5120 .f32) (t1 : Fin k0_t1_loop.trips) (t2 : Fin k0_t2_loop.trips)
    (h1 : t1.val < 40) (h2 : t2.val < 20) (w : Fin 8) (z : Fin 128) :
    KI.Tt2 (F := Ideal) B sc ky ar t1 t2 (ix2 w z)
      = BitVec.ofNat 32 (packN fun t : Fin 16 => TK B sc ky ar ⟨128 * t1.val + (16 * w.val + t.val), by omega⟩ ⟨128 * (2 * t2.val + 1) + z.val, by omega⟩) := by
  pointwise [KI.Tt2, KI.vblk, KI.bblk, k0_pay11, k0_pay22, k0_pay3, k0_pay4, k0_pay5, k0_pay6, k0_pay7, k0_pay8, k0_pay9, k0_pay10, k0_pay19, k0_pay20, k0_pay21]
  refine block_word (TK B sc ky ar) t1.val (2 * t2.val + 1) h1 (by omega) w z _ fun x => ?_
  refine (select_mask _ _ _ ((128 * t1.val + x.val) % 5120 < (128 * (2 * t2.val + 1) + z.val) % 5120) _ _ ?_ _ _).trans ?_
  · rw [place1, place3, slt_small _ _ (by omega) (by omega), Nat.mod_eq_of_lt (by omega), Nat.mod_eq_of_lt (by omega)]
  · exact if_congr Iff.rfl rfl rfl

/-- The packed suppression matrix at an index. -/
theorem matrix_word (B : FVec Ideal S1x4x5120 .f32) (sc ky ar : FVec Ideal S1x5120 .f32) (w : Fin 320) (i : Fin 5120) :
    KI.TM (F := Ideal) B sc ky ar (ix2 w i) = BitVec.ofNat 32 (packN fun t : Fin 16 => TK B sc ky ar ⟨16 * w.val + t.val, by omega⟩ i) := by
  unfold KI.TM
  simp only []
  split
  · rename_i h
    change i.val % 256 < 128 at h
    refine (first_block B sc ky ar _ _ (by change w.val / 8 < 40; omega) (by change i.val / 256 < 20; omega) _ _).trans ?_
    refine congrArg (fun f : Fin 16 → Prop => BitVec.ofNat 32 (packN f)) (funext fun t => ?_)
    refine congrArg₂ (TK B sc ky ar) (Fin.ext ?_) (Fin.ext ?_)
    · change 128 * (w.val / 8) + (16 * (w.val % 8) + t.val) = 16 * w.val + t.val; omega
    · change 128 * (2 * (i.val / 256)) + i.val % 128 = i.val; omega
  · rename_i h
    change ¬(i.val % 256 < 128) at h
    refine (second_block B sc ky ar _ _ (by change w.val / 8 < 40; omega) (by change i.val / 256 < 20; omega) _ _).trans ?_
    refine congrArg (fun f : Fin 16 → Prop => BitVec.ofNat 32 (packN f)) (funext fun t => ?_)
    refine congrArg₂ (TK B sc ky ar) (Fin.ext ?_) (Fin.ext ?_)
    · change 128 * (w.val / 8) + (16 * (w.val % 8) + t.val) = 16 * w.val + t.val; omega
    · change 128 * (2 * (i.val / 256) + 1) + i.val % 128 = i.val; omega

end Cert.Proof.V

end
-- ==== Proof.V.Abs.lean ====
/-
  The combinatorics of greedy suppression, away from arrays: the kept set is determined by "in the
  foreground and suppressed by no kept element"; rounds that keep every unopposed active element reach
  it; so does one pass in sorted order.
-/
module

public import Mathlib.Data.Fintype.Card
public import Mathlib.Order.WellFounded
public import Mathlib.Data.Fintype.EquivFin
public import Mathlib.Data.Set.Finite.Basic

@[expose] public section

noncomputable section

namespace Cert.Proof.V

variable {α : Type}

/-- `K` is the set of foreground elements that no kept element suppresses. -/
def IsKept (fg : α → Prop) (T : α → α → Prop) (K : α → Prop) : Prop :=
  ∀ i, K i ↔ fg i ∧ ¬∃ j, K j ∧ T j i

/-- Along a well-founded suppression relation there is at most one such set. -/
theorem IsKept.unique {fg : α → Prop} {T : α → α → Prop} (wf : WellFounded T) {K K' : α → Prop}
    (h : IsKept fg T K) (h' : IsKept fg T K') (i : α) : K i ↔ K' i := by
  induction i using wf.induction with
  | _ i ih =>
    rw [h i, h' i]
    refine and_congr_right fun _ => not_congr ⟨?_, ?_⟩
    · rintro ⟨j, hj, hT⟩; exact ⟨j, (ih j hT).1 hj, hT⟩
    · rintro ⟨j, hj, hT⟩; exact ⟨j, (ih j hT).2 hj, hT⟩

/-- The active elements that no active element opposes. -/
def canK (T : α → α → Prop) (act : α → Prop) (i : α) : Prop := act i ∧ ¬∃ j, T j i ∧ act j

/-- The active elements after a round. -/
def nextAct (T : α → α → Prop) (act : α → Prop) (i : α) : Prop :=
  act i ∧ ¬canK T act i ∧ ¬∃ j, T j i ∧ canK T act j

/-- The kept elements after a round. -/
def nextKept (T : α → α → Prop) (act kept : α → Prop) (i : α) : Prop := kept i ∨ canK T act i

/-- What holds between rounds. -/
structure RInv (fg : α → Prop) (T : α → α → Prop) (act kept : α → Prop) : Prop where
  act_fg : ∀ i, act i → fg i
  kept_fg : ∀ i, kept i → fg i
  kept_free : ∀ i j, kept i → T j i → ¬kept j ∧ ¬act j
  act_free : ∀ i j, act i → kept j → ¬T j i
  cover : ∀ i, fg i → act i ∨ kept i ∨ ∃ j, kept j ∧ T j i

theorem RInv.start (fg : α → Prop) (T : α → α → Prop) : RInv fg T fg (fun _ => False) :=
  ⟨fun _ h => h, fun _ h => h.elim, fun _ _ h => h.elim, fun _ _ _ h => h.elim, fun _ h => .inl h⟩

theorem RInv.next {fg : α → Prop} {T : α → α → Prop} {act kept : α → Prop} (h : RInv fg T act kept) :
    RInv fg T (nextAct T act) (nextKept T act kept) where
  act_fg i hi := h.act_fg i hi.1
  kept_fg i hi := hi.elim (h.kept_fg i) fun hc => h.act_fg i hc.1
  kept_free i j hi hT := by
    rcases hi with hi | hi
    · obtain ⟨h1, h2⟩ := h.kept_free i j hi hT
      exact ⟨fun hj => hj.elim h1 fun hc => h2 hc.1, fun hj => h2 hj.1⟩
    · have h2 : ¬act j := fun hj => hi.2 ⟨j, hT, hj⟩
      exact ⟨fun hj => hj.elim (fun hk => h.act_free i j hi.1 hk hT) fun hc => h2 hc.1, fun hj => h2 hj.1⟩
  act_free i j hi hj hT := by
    rcases hj with hj | hj
    · exact h.act_free i j hi.1 hj hT
    · exact hi.2.2 ⟨j, hT, hj⟩
  cover i hi := by
    rcases h.cover i hi with ha | hk | ⟨j, hj, hT⟩
    · by_cases hc : canK T act i
      · exact .inr (.inl (.inr hc))
      · by_cases hs : ∃ j, T j i ∧ canK T act j
        · obtain ⟨j, hT, hj⟩ := hs
          exact .inr (.inr ⟨j, .inr hj, hT⟩)
        · exact .inl ⟨ha, hc, hs⟩
    · exact .inr (.inl (.inl hk))
    · exact .inr (.inr ⟨j, .inl hj, hT⟩)

/-- With nothing active left, the kept elements are the kept set. -/
theorem RInv.done {fg : α → Prop} {T : α → α → Prop} {act kept : α → Prop} (h : RInv fg T act kept) (he : ∀ i, ¬act i) :
    IsKept fg T kept := fun i =>
  ⟨fun hi => ⟨h.kept_fg i hi, fun ⟨j, hj, hT⟩ => (h.kept_free i j hi hT).1 hj⟩, fun ⟨hf, hn⟩ => by
    rcases h.cover i hf with ha | hk | hs
    · exact (he i ha).elim
    · exact hk
    · exact (hn hs).elim⟩

open Classical in
/-- A round with something active lessens the number of active elements. -/
theorem card_next [Fintype α] {T : α → α → Prop} (wf : WellFounded T) (act : α → Prop) (hne : ∃ i, act i) :
    (Finset.univ.filter (nextAct T act)).card < (Finset.univ.filter act).card := by
  obtain ⟨i, hi⟩ := hne
  obtain ⟨k, hk, hmin⟩ := wf.has_min {i | act i} ⟨i, hi⟩
  refine Finset.card_lt_card ⟨fun x hx => ?_, fun hsub => ?_⟩
  · simp only [Finset.mem_filter, Finset.mem_univ, true_and] at hx ⊢; exact hx.1
  · have hk' : k ∈ Finset.univ.filter (nextAct T act) := hsub (by simpa using hk)
    simp only [Finset.mem_filter, Finset.mem_univ, true_and] at hk'
    exact hk'.2.1 ⟨hk, fun ⟨j, hT, hj⟩ => hmin j hj hT⟩

/-! ## One pass in sorted order -/

/-- The suppressed positions before trip `k`. -/
def supR {N : ℕ} (vs : Fin N → Prop) (ov : Fin N → Fin N → Prop) : ℕ → Fin N → Prop
  | 0, q => ¬vs q
  | k + 1, q => supR vs ov k q ∨ ∃ h : k < N, ¬supR vs ov k ⟨k, h⟩ ∧ ov ⟨k, h⟩ q ∧ k < q.val

theorem supR_iff {N : ℕ} (vs : Fin N → Prop) (ov : Fin N → Fin N → Prop) (k : ℕ) (q : Fin N) :
    supR vs ov k q ↔ ¬vs q ∨ ∃ p : Fin N, p.val < k ∧ ¬supR vs ov p.val p ∧ ov p q ∧ p.val < q.val := by
  induction k with
  | zero => simp [supR]
  | succ k ih =>
    rw [supR, ih]
    constructor
    · rintro ((h | ⟨p, h1, h2⟩) | ⟨h, h1⟩)
      · exact .inl h
      · exact .inr ⟨p, by omega, h2⟩
      · exact .inr ⟨⟨k, h⟩, Nat.lt_succ_self k, h1⟩
    · rintro (h | ⟨p, h1, h2⟩)
      · exact .inl (.inl h)
      · by_cases hp : p.val < k
        · exact .inl (.inr ⟨p, hp, h2⟩)
        · obtain ⟨p, hpN⟩ := p
          obtain rfl : p = k := by simp only at h1 hp; omega
          exact .inr ⟨hpN, h2⟩

theorem supR_last {N : ℕ} (vs : Fin N → Prop) (ov : Fin N → Fin N → Prop) (q : Fin N) : supR vs ov N q ↔ supR vs ov q.val q := by
  rw [supR_iff vs ov N, supR_iff vs ov q.val]
  refine or_congr_right (exists_congr fun p => ?_)
  constructor
  · rintro ⟨_, h2, h3, h4⟩; exact ⟨h4, h2, h3, h4⟩
  · rintro ⟨_, h2, h3, h4⟩; exact ⟨p.isLt, h2, h3, h4⟩

/-- The positions kept at the end: valid and suppressed by no kept position before. -/
theorem supR_kept {N : ℕ} (vs : Fin N → Prop) (ov : Fin N → Fin N → Prop) (q : Fin N) :
    ¬supR vs ov N q ↔ vs q ∧ ¬∃ p : Fin N, ¬supR vs ov N p ∧ ov p q ∧ p.val < q.val := by
  rw [supR_iff vs ov N q, not_or, not_not]
  refine and_congr_right fun _ => not_congr (exists_congr fun p => ?_)
  rw [supR_last vs ov p]
  exact ⟨fun ⟨_, h⟩ => h, fun h => ⟨p.isLt, h⟩⟩

/-- Taken back from the sorted order, class by class: with `σ c` the order of class `c`, the elements kept in
    some class are the kept set of the relation "before in the order of its own class and overlapping". -/
theorem sorted_isKept {N : ℕ} {C : Type} (cls : Fin N → C → Prop) (hcls : ∀ n c c', cls n c → cls n c' → c = c')
    (ov : Fin N → Fin N → Prop) (prec : Fin N → Fin N → Prop) (σ : C → Fin N → Fin N) (hσ : ∀ c, Function.Bijective (σ c))
    (hlt : ∀ c p q, cls (σ c p) c → cls (σ c q) c → (p.val < q.val ↔ prec (σ c p) (σ c q))) :
    IsKept (fun n => ∃ c, cls n c) (fun m n => ov m n ∧ prec m n ∧ ∃ c, cls m c ∧ cls n c)
      (fun n => ∃ c, ∃ q, σ c q = n ∧ ¬supR (fun p => cls (σ c p) c) (fun p q => ov (σ c p) (σ c q)) N q) := by
  intro n
  constructor
  · rintro ⟨c, q, rfl, hq⟩
    obtain ⟨hv, hn⟩ := (supR_kept _ _ q).1 hq
    refine ⟨⟨c, hv⟩, ?_⟩
    rintro ⟨m, ⟨c', p, rfl, hp⟩, ho, hpr, c'', h1, h2⟩
    obtain rfl := hcls _ _ _ h2 hv
    obtain rfl := hcls _ _ _ ((supR_kept _ _ p).1 hp).1 h1
    exact hn ⟨p, hp, ho, (hlt _ p q h1 h2).2 hpr⟩
  · rintro ⟨⟨c, hc⟩, hn⟩
    obtain ⟨q, rfl⟩ := (hσ c).2 n
    refine ⟨c, q, rfl, (supR_kept _ _ q).2 ⟨hc, ?_⟩⟩
    rintro ⟨p, hp, ho, hlt'⟩
    have hvp := ((supR_kept _ _ p).1 hp).1
    exact hn ⟨σ c p, ⟨c, p, rfl, hp⟩, ho, (hlt c p q hvp hc).1 hlt', c, hvp, hc⟩

end Cert.Proof.V

end
-- ==== Proof.V.Spec.lean ====
/-
  What both programs keep: the boxes of an image, their classes and scores, and the suppression relation
  between them.
-/
module

public import proofs.«01_k».proof.Proof.V.Mat
public import proofs.«01_k».proof.Proof.V.Abs

@[expose] public section

noncomputable section

namespace Cert.Proof.V

open Idealize.ShloMosaic
open Classical

section
variable {N : ℕ} (a : Fin N → Fin 4 → EReal) (p : Fin N → Fin 21 → EReal)

/-- A box is foreground when its best class is not the first. -/
def fgS (n : Fin N) : Prop := am (p n) ≠ 0

/-- Box `m` suppresses box `n`: they overlap, `m` comes first, and they have the same class. -/
def TS (m n : Fin N) : Prop :=
  ovE (a m) (a n) (areaE (a m)) (areaE (a n)) ∧ preE (fun n => p n (am (p n))) m n ∧ am (p m) = am (p n)

theorem preE_trans (s : Fin N → EReal) (x y z : Fin N) (h : preE s x y) (h' : preE s y z) : preE s x z := by
  rcases h with h | ⟨h, g⟩ <;> rcases h' with h' | ⟨h', g'⟩
  · exact Or.inl (h'.trans h)
  · exact Or.inl (h' ▸ h)
  · exact Or.inl (h.symm ▸ h')
  · exact Or.inr ⟨h.trans h', g.trans g'⟩

theorem preE_irrefl (s : Fin N → EReal) (x : Fin N) : ¬preE s x x := by
  rintro (h | ⟨_, h⟩)
  · exact lt_irrefl _ h
  · exact lt_irrefl _ h

theorem preE_wf (s : Fin N → EReal) : WellFounded (preE s) := by
  haveI : IsTrans (Fin N) (preE s) := ⟨preE_trans s⟩
  haveI : IsIrrefl (Fin N) (preE s) := ⟨preE_irrefl s⟩
  exact Finite.wellFounded_of_trans_of_irrefl _

theorem TS_wf : WellFounded (TS a p) := Subrelation.wf (fun h => h.2.1) (preE_wf fun n => p n (am (p n)))

end

/-- A kept set carried along a map that reaches every foreground element. -/
theorem IsKept.comap {α β : Type} {fg : α → Prop} {T : α → α → Prop} {K : α → Prop} (h : IsKept fg T K) (e : β → α) (fg' : β → Prop) (T' : β → β → Prop)
    (hfg : ∀ n, fg (e n) ↔ fg' n) (hr : ∀ j, fg j → ∃ n, e n = j) (hT : ∀ m n, fg' m → fg' n → (T (e m) (e n) ↔ T' m n)) :
    IsKept fg' T' (fun n => K (e n)) := by
  intro n
  change K (e n) ↔ fg' n ∧ ¬∃ j, K (e j) ∧ T' j n
  rw [h (e n), hfg]
  refine and_congr_right fun hn => not_congr ⟨?_, ?_⟩
  · rintro ⟨j, hj, ht⟩
    obtain ⟨m, rfl⟩ := hr j ((h j).1 hj).1
    exact ⟨m, hj, (hT m n ((hfg m).1 ((h _).1 hj).1) hn).1 ht⟩
  · rintro ⟨m, hm, ht⟩
    exact ⟨e m, hm, (hT m n ((hfg m).1 ((h _).1 hm).1) hn).2 ht⟩

end Cert.Proof.V

end
-- ==== Proof.V.Rounds.lean ====
/-
  The kernel's rounds over rows of zeros and ones: each row is the indicator of a set of boxes, a matrix
  product is "suppressed by one of the set", and the rounds end with the kept set.
-/
module

public import proofs.«01_k».proof.Proof.V.Mat
public import proofs.«01_k».proof.Proof.V.Abs

@[expose] public section

set_option maxRecDepth 16384

noncomputable section

namespace Cert.Proof.V

open Cert.KernelIdeal Cert.KernelIdeal.Gen
open Idealize.ShloMosaic
open Idealize.ShloMosaic.TcCoe Idealize.ShloMosaic.Tactic
open Classical

/-- The row is the indicator of the set. -/
def Ind (V : FVec Ideal S1x5120 .f32) (p : Fin 5120 → Prop) : Prop := ∀ i : Fin 5120, (V (ix2 0 i) : EReal) = if p i then 1 else 0

/-- The packed form of an indicator row. -/
theorem pack_word {V : FVec Ideal S1x5120 .f32} {p : Fin 5120 → Prop} (h : Ind V p) (w : Fin 320) :
    KI.packE (F := Ideal) k0_pay2 V (ix2 w 0) = BitVec.ofNat 32 (packN fun t : Fin 16 => p ⟨16 * w.val + t.val, by omega⟩) := by
  pointwise [KI.packE, k0_pay34, KI.vblk]
  refine (block_word (fun j _ => p j) (w.val / 8) 0 (by omega) (by omega) ⟨w.val % 8, Nat.mod_lt _ (by decide)⟩ 0 _ fun x => ?_).trans ?_
  · rw [h]
    by_cases hp : p ⟨(128 * (w.val / 8) + x.val) % 5120, Nat.mod_lt _ (by decide)⟩
    · rw [if_pos hp, if_pos hp]; exact mul_one _
    · rw [if_neg hp, if_neg hp]; exact mul_zero _
  · refine congrArg (fun f : Fin 16 → Prop => BitVec.ofNat 32 (packN f)) (funext fun t => ?_)
    refine congrArg p (Fin.ext ?_)
    change 128 * (w.val / 8) + (16 * (w.val % 8) + t.val) = 16 * w.val + t.val
    omega

section hit
variable (T : S320x5120.Idx → BitVec 32) (P : S320x1.Idx → BitVec 32) (Tr : Fin 5120 → Fin 5120 → Prop) (p : Fin 5120 → Prop)
  (hT : ∀ (w : Fin 320) (i : Fin 5120), T (ix2 w i) = BitVec.ofNat 32 (packN fun t : Fin 16 => Tr ⟨16 * w.val + t.val, by omega⟩ i))
  (hP : ∀ w : Fin 320, P (ix2 w 0) = BitVec.ofNat 32 (packN fun t : Fin 16 => p ⟨16 * w.val + t.val, by omega⟩))

include hT hP in
/-- The accumulated maximum is nonzero exactly when a row group so far holds a suppressor. -/
theorem acc_spec (c : ℕ) (hc : c < 10) (z : Fin 512) (n : ℕ) (hn : n ≤ 10) :
    0 ≤ (KI.hitAcc (F := Ideal) T P c n (ix2 0 z)).toInt ∧
    (KI.hitAcc (F := Ideal) T P c n (ix2 0 z) ≠ 0#32 ↔ ∃ j : Fin 5120, j.val < 512 * n ∧ Tr j ⟨512 * c + z.val, by omega⟩ ∧ p j) := by
  induction n with
  | zero =>
    have h0 : KI.hitAcc (F := Ideal) T P c 0 (ix2 0 z) = 0#32 := by
      pointwise [KI.hitAcc, k0_pay35]
    rw [h0]
    refine ⟨by decide, ?_⟩
    constructor
    · intro h; exact absurd rfl h
    · rintro ⟨j, hj, _⟩; omega
  | succ n ih =>
    obtain ⟨ih1, ih2⟩ := ih (by omega)
    have hs : KI.hitAcc (F := Ideal) T P c (n + 1) (ix2 0 z) = IntOp.maxsi (KI.hitAcc (F := Ideal) T P c n (ix2 0 z))
        (Finset.fold IntOp.maxsi (2147483648#32) (fun x : Fin 32 => IntOp.andi
          (BitVec.ofNat 32 (packN fun t : Fin 16 => Tr ⟨16 * (32 * n + x.val) + t.val, by omega⟩ ⟨512 * c + z.val, by omega⟩))
          (BitVec.ofNat 32 (packN fun t : Fin 16 => p ⟨16 * (32 * n + x.val) + t.val, by omega⟩))) Finset.univ) := by
      have e : KI.hitAcc (F := Ideal) T P c (n + 1) = k0_pay36 (F := Ideal) (KI.hitAcc (F := Ideal) T P c n) (KI.tblk T n c) (KI.pblk P n) := rfl
      rw [e]
      generalize KI.hitAcc (F := Ideal) T P c n = A
      pointwise [k0_pay36, KI.tblk, KI.pblk]
      refine congrArg (IntOp.maxsi _) (Finset.fold_congr fun x _ => ?_)
      rw [hT, hP]
      have e1 : (32 * n + x.val) % 320 = 32 * n + x.val := Nat.mod_eq_of_lt (by omega)
      have e2 : (512 * c + z.val) % 5120 = 512 * c + z.val := Nat.mod_eq_of_lt (by omega)
      simp only [e1, e2]
    rw [hs]
    obtain ⟨m1, m2⟩ := max_step (KI.hitAcc (F := Ideal) T P c n (ix2 0 z)) (fun x : Fin 32 => IntOp.andi
          (BitVec.ofNat 32 (packN fun t : Fin 16 => Tr ⟨16 * (32 * n + x.val) + t.val, by omega⟩ ⟨512 * c + z.val, by omega⟩))
          (BitVec.ofNat 32 (packN fun t : Fin 16 => p ⟨16 * (32 * n + x.val) + t.val, by omega⟩))) ih1 fun x => andi_packN_toInt _ _
    refine ⟨m1, m2.trans ?_⟩
    rw [ih2]
    constructor
    · rintro (⟨j, hj, h⟩ | ⟨x, hx⟩)
      · exact ⟨j, by omega, h⟩
      · obtain ⟨t, ht⟩ := (andi_packN _ _).1 hx
        exact ⟨_, by simp only; omega, ht⟩
    · rintro ⟨j, hj, h⟩
      by_cases hlt : j.val < 512 * n
      · exact .inl ⟨j, hlt, h⟩
      · refine .inr ⟨⟨(j.val - 512 * n) / 16, by omega⟩, (andi_packN _ _).2 ⟨⟨j.val % 16, by omega⟩, ?_⟩⟩
        have e : (⟨16 * (32 * n + (j.val - 512 * n) / 16) + j.val % 16, by omega⟩ : Fin 5120) = j := Fin.ext (by simp only; omega)
        simp only [e]
        exact h

include hT hP in
/-- The product row is the indicator of "suppressed by one of the set". -/
theorem hit_ind : Ind (KI.hitE (F := Ideal) T P) (fun i => ∃ j, Tr j i ∧ p j) := by
  intro i
  obtain ⟨_, h2⟩ := acc_spec T P Tr p hT hP (i.val / 512) (by omega) ⟨i.val % 512, Nat.mod_lt _ (by decide)⟩ 10 le_rfl
  have e : (⟨512 * (i.val / 512) + i.val % 512, by omega⟩ : Fin 5120) = i := Fin.ext (by simp only; omega)
  simp only [e] at h2
  have hu : KI.hitE (F := Ideal) T P (ix2 0 i) = k0_pay37 (F := Ideal) (KI.hitAcc (F := Ideal) T P (i.val / 512) 10) (ix2 0 ⟨i.val % 512, Nat.mod_lt _ (by decide)⟩) := rfl
  rw [hu]
  generalize KI.hitAcc (F := Ideal) T P (i.val / 512) 10 = A at h2 ⊢
  pointwise [k0_pay37]
  have hb : IntOp.cmpi CmpIPredicate.ne (A (ix2 0 ⟨i.val % 512, Nat.mod_lt _ (by decide)⟩)) 0#32
      = BitVec.ofBool (decide (∃ j, Tr j i ∧ p j)) := by
    unfold IntOp.cmpi
    refine congrArg BitVec.ofBool ?_
    rw [Bool.eq_iff_iff]
    refine Iff.trans (b := (A (ix2 0 ⟨i.val % 512, Nat.mod_lt _ (by decide)⟩) ≠ 0#32)) bne_iff_ne ?_
    rw [h2, decide_eq_true_iff]
    exact ⟨fun ⟨j, _, h⟩ => ⟨j, h⟩, fun ⟨j, h⟩ => ⟨j, by omega, h⟩⟩
  rw [hb]
  refine (sitofp_flag _).trans ?_
  by_cases h : ∃ j, Tr j i ∧ p j
  · rw [if_pos h]; exact (if_pos h).symm
  · rw [if_neg h]; exact (if_neg h).symm

end hit

section rounds
variable (T : S320x5120.Idx → BitVec 32) (Tr : Fin 5120 → Fin 5120 → Prop)
  (hT : ∀ (w : Fin 320) (i : Fin 5120), T (ix2 w i) = BitVec.ofNat 32 (packN fun t : Fin 16 => Tr ⟨16 * w.val + t.val, by omega⟩ i))

theorem one_sub_one : (1 : EReal) - 1 = 0 := by
  rw [← EReal.coe_one, ← EReal.coe_sub, sub_self, EReal.coe_zero]

include hT in
theorem hit1_ind {act : FVec Ideal S1x5120 .f32} {a : Fin 5120 → Prop} (ha : Ind act a) :
    Ind (KI.hit1 (F := Ideal) T k0_pay2 act) (fun i => ∃ j, Tr j i ∧ a j) := by
  have h33 : Ind (k0_pay33 (F := Ideal) act) a := fun i => by
    pointwise [k0_pay33]
    exact ha i
  exact hit_ind T _ Tr a hT (pack_word h33)

/-- Boxes of the set that nothing hits. -/
theorem can_ind {act h : FVec Ideal S1x5120 .f32} {a q : Fin 5120 → Prop} (ha : Ind act a) (hh : Ind h q) :
    Ind (k0_pay38 (F := Ideal) act h) (fun i => a i ∧ ¬q i) := by
  intro i
  pointwise [k0_pay38]
  rw [ha i, hh i]
  by_cases h1 : a i <;> by_cases h2 : q i <;> simp [h1, h2, one_sub_one]

include hT in
theorem hit2_ind {act : FVec Ideal S1x5120 .f32} {a : Fin 5120 → Prop} (ha : Ind act a) :
    Ind (KI.hit2 (F := Ideal) T k0_pay2 act) (fun i => ∃ j, Tr j i ∧ canK Tr a j) := by
  have h39 : Ind (k0_pay39 (F := Ideal) act (KI.hit1 (F := Ideal) T k0_pay2 act)) (canK Tr a) := fun i => by
    have h38 := can_ind ha (hit1_ind T Tr hT ha) i
    generalize KI.hit1 (F := Ideal) T k0_pay2 act = H at h38 ⊢
    pointwise [k0_pay39]
    exact h38
  exact hit_ind T _ Tr _ hT (pack_word h39)

include hT in
theorem kept_ind {act kept : FVec Ideal S1x5120 .f32} {a k : Fin 5120 → Prop} (ha : Ind act a) (hk : Ind kept k) :
    Ind (KI.stepKept (F := Ideal) T k0_pay2 act kept) (nextKept Tr a k) := by
  intro i
  have h38 := can_ind ha (hit1_ind T Tr hT ha) i
  unfold KI.stepKept
  generalize KI.hit1 (F := Ideal) T k0_pay2 act = H at h38 ⊢
  pointwise [k0_pay44]
  rw [h38, hk i]
  have e : nextKept Tr a k i ↔ k i ∨ (a i ∧ ¬∃ j, Tr j i ∧ a j) := Iff.rfl
  by_cases h1 : k i <;> by_cases h2 : (a i ∧ ¬∃ j, Tr j i ∧ a j)
  · rw [if_pos h1, if_pos h2, if_pos (e.2 (.inl h1))]; exact max_self _
  · rw [if_pos h1, if_neg h2, if_pos (e.2 (.inl h1))]; exact max_eq_left zero_le_one
  · rw [if_neg h1, if_pos h2, if_pos (e.2 (.inr h2))]; exact max_eq_right zero_le_one
  · rw [if_neg h1, if_neg h2, if_neg (fun h => (e.1 h).elim h1 h2)]; exact max_self _

include hT in
theorem act_ind {act : FVec Ideal S1x5120 .f32} {a : Fin 5120 → Prop} (ha : Ind act a) :
    Ind (KI.stepAct (F := Ideal) T k0_pay2 act) (nextAct Tr a) := by
  intro i
  have h38 := can_ind ha (hit1_ind T Tr hT ha) i
  have h2 := hit2_ind T Tr hT ha i
  have ha := ha i
  unfold KI.stepAct
  generalize KI.hit1 (F := Ideal) T k0_pay2 act = H at h38 ⊢
  generalize KI.hit2 (F := Ideal) T k0_pay2 act = H2 at h2 ⊢
  pointwise [k0_pay45]
  rw [h38, h2, ha]
  have e : nextAct Tr a i ↔ a i ∧ ¬(a i ∧ ¬∃ j, Tr j i ∧ a j) ∧ ¬∃ j, Tr j i ∧ canK Tr a j := Iff.rfl
  by_cases g1 : a i <;> by_cases g2 : (a i ∧ ¬∃ j, Tr j i ∧ a j) <;> by_cases g3 : ∃ j, Tr j i ∧ canK Tr a j
  · rw [if_pos g1, if_pos g2, if_pos g3, if_neg (fun h => (e.1 h).2.1 g2)]; simp [one_sub_one]
  · rw [if_pos g1, if_pos g2, if_neg g3, if_neg (fun h => (e.1 h).2.1 g2)]; simp [one_sub_one]
  · rw [if_pos g1, if_neg g2, if_pos g3, if_neg (fun h => (e.1 h).2.2 g3)]; simp [one_sub_one]
  · rw [if_pos g1, if_neg g2, if_neg g3, if_pos (e.2 ⟨g1, g2, g3⟩)]; simp
  all_goals rw [if_neg g1, if_neg (fun h => g1 (e.1 h).1)]; simp

/-- Another round runs while a box is active and the count is in range. -/
theorem goOn_iff (k : ℕ) (hk : k < 5120) {act : FVec Ideal S1x5120 .f32} {a : Fin 5120 → Prop} (ha : Ind act a) :
    KI.goOn (F := Ideal) (BitVec.ofNat 32 k) act = 1#1 ↔ ∃ i, a i := by
  have hm : (0 : EReal) < k0_pay14 (F := Ideal) act ↔ ∃ i, a i := by
    pointwise [k0_pay14]
    rw [bits_ninf, Finset.lt_fold_max]
    constructor
    · rintro (h | ⟨x, _, h⟩)
      · exact absurd h not_lt_bot
      · rw [ha] at h
        refine ⟨x.2, ?_⟩
        by_contra hc
        rw [if_neg hc] at h
        exact lt_irrefl _ h
    · rintro ⟨i, hi⟩
      refine .inr ⟨(0, i), Finset.mem_univ _, ?_⟩
      rw [ha, if_pos hi]
      exact zero_lt_one
  have hc : KI.goOn (F := Ideal) (BitVec.ofNat 32 k) act = IntOp.andi (BitVec.ofBool (decide ((0 : EReal) < k0_pay14 (F := Ideal) act))) (BitVec.ofBool (decide (k < 5120))) := by
    unfold KI.goOn
    refine congrArg₂ IntOp.andi ?_ (slt_small k 5120 (by omega) (by omega))
    have hz : (Scalar.ofBits (F := Ideal) .f32 0x00000000#32 : EReal) = 0 := Ideal.ofBits_zero_f32
    change FloatOps.cmpf (F := Ideal) .ogt (k0_pay14 (F := Ideal) act) (Scalar.ofBits (F := Ideal) .f32 0x00000000#32) = _
    rw [Ideal.cmpf_def]
    unfold Ideal.cmp
    simp only [hz]
  rw [hc, decide_eq_true hk, ← hm]
  by_cases h : (0 : EReal) < k0_pay14 (F := Ideal) act <;> simp [h, IntOp.andi]

include hT in
/-- The rounds end with the kept set. -/
theorem rounds_kept (wf : WellFounded Tr) (fg : Fin 5120 → Prop) (n k : ℕ) (act kept : FVec Ideal S1x5120 .f32) (a c : Fin 5120 → Prop)
    (ha : Ind act a) (hk : Ind kept c) (hinv : RInv fg Tr a c) (hcard : (Finset.univ.filter a).card + k ≤ 5000) (hn : 5001 ≤ n + k) :
    ∃ K, Ind (KI.rounds (F := Ideal) T k0_pay2 n (BitVec.ofNat 32 k) act kept) K ∧ IsKept fg Tr K := by
  induction n generalizing k act kept a c with
  | zero => omega
  | succ n ih =>
    have hr : KI.rounds (F := Ideal) T k0_pay2 (n + 1) (BitVec.ofNat 32 k) act kept
        = if KI.goOn (F := Ideal) (BitVec.ofNat 32 k) act = 1#1 then KI.rounds T k0_pay2 n (Scalar.addi (BitVec.ofNat 32 k) 1#32) (KI.stepAct T k0_pay2 act) (KI.stepKept T k0_pay2 act kept) else kept := rfl
    rw [hr]
    by_cases hne : ∃ i, a i
    · rw [if_pos ((goOn_iff k (by omega) ha).2 hne)]
      have e : Scalar.addi (BitVec.ofNat 32 k) 1#32 = BitVec.ofNat 32 (k + 1) := by
        change BitVec.ofNat 32 k + BitVec.ofNat 32 1 = _
        rw [← BitVec.ofNat_add]
      rw [e]
      have hlt := card_next (T := Tr) wf a hne
      refine ih (k + 1) _ _ _ _ (act_ind T Tr hT ha) (kept_ind T Tr hT ha hk) hinv.next ?_ (by omega)
      omega
    · rw [if_neg fun h => hne ((goOn_iff k (by omega) ha).1 h)]
      exact ⟨c, hk, hinv.done fun i hi => hne ⟨i, hi⟩⟩

end rounds

end Cert.Proof.V

end
-- ==== Proof.V.Ker.lean ====
/-
  The kernel's results at an index.
-/
module

public import proofs.«01_k».proof.Proof.V.Spec
public import proofs.«01_k».proof.Proof.V.Rounds
public import proofs.«01_k».proof.Proof.KI.Res

@[expose] public section

set_option maxRecDepth 16384

noncomputable section

namespace Cert.Proof.V

open Cert.KernelIdeal Cert.KernelIdeal.Gen
open Idealize.ShloMosaic
open Idealize.ShloMosaic.TcCoe Idealize.ShloMosaic.Tactic
open Classical

/-- A box whose probabilities are all the same is background. -/
theorem am_const (p : Fin 21 → EReal) (h : ∀ j k, p j = p k) : am p = 0 :=
  am_eq ⟨fun j => (h j 0).le, fun j hj => absurd hj (Nat.not_lt_zero _)⟩

/-- A box of the image among the padded ones. -/
def em (n : Fin 5000) : Fin 5120 := ⟨n.val, by omega⟩

theorem am_pad (x3 : FVec Ideal S1x21x5120 .f32)
    (hpad : ∀ i : Fin 5120, 5000 ≤ i.val → ∀ k k' : Fin 21, x3 (ix3 0 k i) = x3 (ix3 0 k' i)) (i : Fin 5120) (h : am (pK x3 i) ≠ 0) : ∃ n, em n = i := by
  by_cases hi : i.val < 5000
  · exact ⟨⟨i.val, hi⟩, rfl⟩
  · refine absurd (am_const _ fun j k => ?_) h
    unfold pK smE
    exact congrArg (fun e : EReal => Ideal.div (Ideal.exp (e - topE fun x => x3 (ix3 0 x i))) (∑ x, Ideal.exp (x3 (ix3 0 x i) - topE fun x => x3 (ix3 0 x i)))) (hpad i (by omega) j k)

theorem fg_ind (x3 : FVec Ideal S1x21x5120 .f32) : Ind (KI.fgRow (F := Ideal) x3) (fun i => am (pK x3 i) ≠ 0) := by
  intro i
  refine (fg_row x3 i).trans ?_
  by_cases h : am (pK x3 i) ≠ 0
  · rw [if_pos h]; exact (if_pos h).symm
  · rw [if_neg h]; exact (if_neg h).symm

theorem zeros_ind : Ind (k0_pay12 (F := Ideal)) (fun _ => False) := by
  intro i
  rw [if_neg not_false]
  exact Ideal.ofBits_zero_f32

theorem card_fg (q : Fin 5120 → Prop) (h : ∀ i, q i → ∃ n, em n = i) : (Finset.univ.filter q).card + 0 ≤ 5000 := by
  have hsub : Finset.univ.filter q ⊆ Finset.univ.image em := by
    intro i hi
    obtain ⟨n, hn⟩ := h i (Finset.mem_filter.1 hi).2
    exact Finset.mem_image.2 ⟨n, Finset.mem_univ _, hn⟩
  have h1 := Finset.card_le_card hsub
  have h2 : (Finset.univ.image em).card ≤ 5000 := Finset.card_image_le.trans (by rw [Finset.card_univ, Fintype.card_fin])
  omega

theorem TK_wf (B : FVec Ideal S1x4x5120 .f32) (sc ky ar : FVec Ideal S1x5120 .f32) : WellFounded (TK B sc ky ar) :=
  Subrelation.wf (fun h => h.2.1) (preE_wf fun n : Fin 5120 => (sc (ix2 0 n) : EReal))

/-- The rounds from the foreground row end at the kept set of the block. -/
theorem kept_blk (B : FVec Ideal S1x4x5120 .f32) (sc ky ar fg : FVec Ideal S1x5120 .f32) (q : Fin 5120 → Prop) (hfg : Ind fg q)
    (h : ∀ i, q i → ∃ n, em n = i) :
    ∃ K, Ind (KI.rounds (F := Ideal) (KI.TM (F := Ideal) B sc ky ar) k0_pay2 5121 (BitVec.ofNat 32 0) fg k0_pay12) K ∧ IsKept q (TK B sc ky ar) K :=
  rounds_kept (KI.TM (F := Ideal) B sc ky ar) (TK B sc ky ar) (fun w i => matrix_word B sc ky ar w i) (TK_wf B sc ky ar) q 5121 0 fg k0_pay12 q (fun _ => False)
    hfg zeros_ind (RInv.start _ _) (card_fg q h) (Nat.le_of_lt (Nat.lt_of_lt_of_le (by decide : 5001 < 5121) (Nat.le_add_right _ _)))

section
variable (x1 x2 : FVec Ideal S1x4x5120 .f32) (x3 : FVec Ideal S1x21x5120 .f32) (a : Fin 5000 → Fin 4 → EReal) (p : Fin 5000 → Fin 21 → EReal)
    (ha : ∀ n d, adjE (x1 (ix3 0 d (em n))) (x2 (ix3 0 d (em n))) d = a n d)
    (hp : ∀ n k, pK x3 (em n) k = p n k)

include ha hp in
/-- The suppression relation of the block, between boxes of the image. -/
theorem TK_TS (m n : Fin 5000) (hm : fgS p m) (hn : fgS p n) :
    TK (k0_pay24 (F := Ideal) x1 x2) (KI.scRow (F := Ideal) x3) (KI.kyRow (F := Ideal) x3) (KI.arRow (F := Ideal) x1 x2) (em m) (em n) ↔ TS a p m n := by
  have hp' : ∀ n : Fin 5000, pK x3 (em n) = p n := fun n => funext (hp n)
  have hb : ∀ n : Fin 5000, (fun d => (k0_pay24 (F := Ideal) x1 x2 (ix3 0 d (em n)) : EReal)) = a n := by
    intro n
    funext d
    exact (box_blk x1 x2 d (em n)).trans (ha n d)
  have har : ∀ n : Fin 5000, (KI.arRow (F := Ideal) x1 x2 (ix2 0 (em n)) : EReal) = areaE (a n) := by
    intro n
    exact (ar_row x1 x2 (em n)).trans (congrArg areaE (funext (ha n)))
  have hsc : ∀ n : Fin 5000, (KI.scRow (F := Ideal) x3 (ix2 0 (em n)) : EReal) = p n (am (p n)) := by
    intro n
    rw [← hp' n]
    exact sc_row x3 (em n)
  have hky : ∀ n : Fin 5000, fgS p n → (KI.kyRow (F := Ideal) x3 (ix2 0 (em n)) : EReal) = (((am (p n)).val : ℝ) : EReal) := by
    intro n h
    have h' := ky_row x3 (em n) (by rw [hp' n]; exact h)
    rwa [hp' n] at h'
  unfold TK TS
  rw [hb m, hb n, har m, har n, hky m hm, hky n hn]
  refine and_congr_right fun _ => and_congr ?_ ?_
  · change (KI.scRow (F := Ideal) x3 (ix2 0 (em n)) : EReal) < KI.scRow (F := Ideal) x3 (ix2 0 (em m))
      ∨ ((KI.scRow (F := Ideal) x3 (ix2 0 (em m)) : EReal) = KI.scRow (F := Ideal) x3 (ix2 0 (em n)) ∧ m.val < n.val)
      ↔ p n (am (p n)) < p m (am (p m)) ∨ (p m (am (p m)) = p n (am (p n)) ∧ m.val < n.val)
    rw [hsc m, hsc n]
  · rw [EReal.coe_eq_coe_iff, Nat.cast_inj, Fin.ext_iff]

include ha hp in
/-- The kept row of a block holds the flags of the kept set of the boxes of the image. -/
theorem kept_row (hpad : ∀ i : Fin 5120, 5000 ≤ i.val → ∀ k k' : Fin 21, x3 (ix3 0 k i) = x3 (ix3 0 k' i)) :
    ∃ K : Fin 5000 → Prop, IsKept (fgS p) (TS a p) K
      ∧ ∀ n : Fin 5000, (KI.K6 (F := Ideal) x1 x2 x3 (ix3 0 0 (em n)) : EReal) = if K n then 1 else 0 := by
  obtain ⟨K, hK, hkept⟩ := kept_blk (k0_pay24 (F := Ideal) x1 x2) (KI.scRow (F := Ideal) x3) (KI.kyRow (F := Ideal) x3) (KI.arRow (F := Ideal) x1 x2)
    (KI.fgRow (F := Ideal) x3) (fun i => am (pK x3 i) ≠ 0) (fg_ind x3) (am_pad x3 hpad)
  have hp' : ∀ n : Fin 5000, pK x3 (em n) = p n := fun n => funext (hp n)
  refine ⟨fun n => K (em n), hkept.comap em (fgS p) (TS a p) (fun n => ?_) (am_pad x3 hpad) (TK_TS x1 x2 x3 a p ha hp), fun n => ?_⟩
  · unfold fgS
    rw [hp' n]
  · refine Eq.trans ?_ (hK (em n))
    unfold KI.K6
    generalize KI.rounds (F := Ideal) _ _ _ _ _ _ = r
    pointwise [k0_pay13]

end

end Cert.Proof.V

end
-- ==== Proof.V.Sort.lean ====
/-
  A stable sort by a key orders the positions by key, equal keys by position.
-/
module

public import Idealize.ShloMosaic.Lib.SortFacts

@[expose] public section

noncomputable section

namespace Cert.Proof.V

open Idealize.ShloMosaic

/-- Before by key, then by position. -/
def lexLt {κ : Type} [LinearOrder κ] {n : ℕ} (key : Fin n → κ) (a b : Fin n) : Prop :=
  key a < key b ∨ (key a = key b ∧ a.val < b.val)

theorem lexLt_trans {κ : Type} [LinearOrder κ] {n : ℕ} {key : Fin n → κ} {a b c : Fin n} (h : lexLt key a b) (h' : lexLt key b c) :
    lexLt key a c := by
  rcases h with h | ⟨h, hi⟩ <;> rcases h' with h' | ⟨h', hi'⟩
  · exact .inl (h.trans h')
  · exact .inl (h'.symm ▸ h)
  · exact .inl (h.symm ▸ h')
  · exact .inr ⟨h.trans h', hi.trans hi'⟩

theorem lexLt_asymm {κ : Type} [LinearOrder κ] {n : ℕ} {key : Fin n → κ} {a b : Fin n} (h : lexLt key a b) : ¬lexLt key b a := by
  intro h'
  rcases lexLt_trans h h' with h | ⟨_, h⟩
  · exact lt_irrefl _ h
  · exact lt_irrefl _ h

theorem pairwise_insert_lex {κ : Type} [LinearOrder κ] {n : ℕ} (key : Fin n → κ) (R : Fin n → Fin n → Bool)
    (hR : ∀ a b, R a b = true ↔ key a < key b) (a : Fin n) (l : List (Fin n)) (hl : l.Pairwise (lexLt key))
    (ha : ∀ b ∈ l, a.val < b.val) : (insertBefore R a l).Pairwise (lexLt key) := by
  induction l with
  | nil => exact List.pairwise_singleton _ _
  | cons b l ih =>
    rw [List.pairwise_cons] at hl
    unfold insertBefore
    split
    · rename_i h
      refine List.pairwise_cons.mpr ⟨fun c hc => ?_, ih hl.2 fun b hb => ha b (List.mem_cons_of_mem _ hb)⟩
      rcases List.mem_cons.mp ((perm_insertBefore R a l).mem_iff.mp hc) with rfl | hc'
      · exact .inl ((hR _ _).1 h)
      · exact hl.1 c hc'
    · rename_i h
      have hab : lexLt key a b := by
        have hle : key a ≤ key b := not_lt.1 fun hlt => h ((hR _ _).2 hlt)
        rcases lt_or_eq_of_le hle with h1 | h1
        · exact .inl h1
        · exact .inr ⟨h1, ha b List.mem_cons_self⟩
      refine List.pairwise_cons.mpr ⟨fun c hc => ?_, List.pairwise_cons.mpr hl⟩
      rcases List.mem_cons.mp hc with rfl | hc'
      · exact hab
      · exact lexLt_trans hab (hl.1 c hc')

theorem pairwise_stable_lex {κ : Type} [LinearOrder κ] {n : ℕ} (key : Fin n → κ) (R : Fin n → Fin n → Bool)
    (hR : ∀ a b, R a b = true ↔ key a < key b) (l : List (Fin n)) (hl : l.Pairwise fun a b => a.val < b.val) :
    (stableSort R l).Pairwise (lexLt key) := by
  induction l with
  | nil => exact List.Pairwise.nil
  | cons a l ih =>
    rw [List.pairwise_cons] at hl
    unfold stableSort
    exact pairwise_insert_lex key R hR a _ (ih hl.2) fun b hb => hl.1 b ((perm_stableSort R l).mem_iff.1 hb)

/-- The sorted positions are in the order of key, then position. -/
theorem sortedFrom_lex {κ : Type} [LinearOrder κ] {n : ℕ} (key : Fin n → κ) (R : Fin n → Fin n → Bool)
    (hR : ∀ a b, R a b = true ↔ key a < key b) {i j : Fin n} (hij : i < j) :
    lexLt key (sortedFrom R i) (sortedFrom R j) := by
  have hp := List.pairwise_iff_get.mp (pairwise_stable_lex key R hR (List.finRange n) (by
    rw [List.pairwise_iff_get]; intro a b hab; simpa using hab))
  unfold sortedFrom
  exact hp _ _ hij

/-- … and the other way round. -/
theorem sortedFrom_lex_iff {κ : Type} [LinearOrder κ] {n : ℕ} (key : Fin n → κ) (R : Fin n → Fin n → Bool)
    (hR : ∀ a b, R a b = true ↔ key a < key b) (i j : Fin n) :
    i.val < j.val ↔ lexLt key (sortedFrom R i) (sortedFrom R j) := by
  constructor
  · exact fun h => sortedFrom_lex key R hR h
  · intro h
    rcases lt_trichotomy i j with h1 | h1 | h1
    · exact h1
    · subst h1; exact absurd h (lexLt_asymm h)
    · exact absurd h (lexLt_asymm (sortedFrom_lex key R hR h1))

end Cert.Proof.V

end
-- ==== Proof.V.Arg.lean ====
/-
  The reference's class of a box is the first most probable one.
-/
module

public import proofs.«01_k».proof.Proof.V.Elem

@[expose] public section

set_option maxRecDepth 16384

noncomputable section

namespace Cert.Proof.V

open Cert.ReferenceIdeal Cert.ReferenceIdeal.Gen
open Idealize.ShloMosaic
open Idealize.ShloMosaic.TcCoe Idealize.ShloMosaic.Tactic
open Classical

/-- Pair `a` is at least as good as pair `b`: a larger value, or the same at no later place. -/
def Good (a b : EReal × BitVec 32) : Prop := b.1 < a.1 ∨ (a.1 = b.1 ∧ a.2.toInt ≤ b.2.toInt)

theorem good_refl (a : EReal × BitVec 32) : Good a a := .inr ⟨rfl, le_rfl⟩

theorem good_trans {a b c : EReal × BitVec 32} (h : Good a b) (h' : Good b c) : Good a c := by
  rcases h with h | ⟨h, hi⟩ <;> rcases h' with h' | ⟨h', hi'⟩
  · exact .inl (h'.trans h)
  · exact .inl (h' ▸ h)
  · exact .inl (h.symm ▸ h')
  · exact .inr ⟨h.trans h', hi.trans hi'⟩

/-- The combiner keeps one of its two pairs, at least as good as both. -/
theorem combine_spec (a b : EReal × BitVec 32) :
    (reducer_argmax_f32_i32 (F := Ideal) a b = a ∨ reducer_argmax_f32_i32 (F := Ideal) a b = b)
      ∧ Good (reducer_argmax_f32_i32 (F := Ideal) a b) a ∧ Good (reducer_argmax_f32_i32 (F := Ideal) a b) b := by
  obtain ⟨x, u⟩ := a
  obtain ⟨y, v⟩ := b
  have h : reducer_argmax_f32_i32 (F := Ideal) (x, u) (y, v)
      = (if y < x then (x, u) else if x = y ∧ u.toInt < v.toInt then (y, u) else (y, v)) := by
    unfold reducer_argmax_f32_i32
    simp only [Ideal.cmpf_def, Ideal.cmp, IntOp.cmpi, IntOp.ori, IntOp.andi, Scalar.select, BitVec.slt_eq_decide]
    by_cases h1 : y < x <;> by_cases h2 : x = y <;> by_cases h3 : u.toInt < v.toInt <;> simp [h1, h2, h3]
  rw [h]
  by_cases h1 : y < x
  · rw [if_pos h1]; exact ⟨.inl rfl, good_refl _, .inl h1⟩
  · rw [if_neg h1]
    by_cases h2 : x = y ∧ u.toInt < v.toInt
    · rw [if_pos h2]; obtain ⟨rfl, h3⟩ := h2
      exact ⟨.inl rfl, good_refl _, .inr ⟨rfl, le_of_lt h3⟩⟩
    · rw [if_neg h2]
      refine ⟨.inr rfl, ?_, good_refl _⟩
      rcases lt_or_eq_of_le (not_lt.1 h1) with h3 | h3
      · exact .inl h3
      · refine .inr ⟨h3.symm, not_lt.1 fun h4 => h2 ⟨h3, h4⟩⟩

theorem foldl_spec (l : List (EReal × BitVec 32)) (a : EReal × BitVec 32) :
    (l.foldl (reducer_argmax_f32_i32 (F := Ideal)) a = a ∨ l.foldl (reducer_argmax_f32_i32 (F := Ideal)) a ∈ l)
      ∧ Good (l.foldl (reducer_argmax_f32_i32 (F := Ideal)) a) a ∧ ∀ x ∈ l, Good (l.foldl (reducer_argmax_f32_i32 (F := Ideal)) a) x := by
  induction l generalizing a with
  | nil => exact ⟨.inl rfl, good_refl _, fun x hx => absurd hx List.not_mem_nil⟩
  | cons b l ih =>
    obtain ⟨h1, h2, h3⟩ := ih (reducer_argmax_f32_i32 (F := Ideal) a b)
    obtain ⟨c1, c2, c3⟩ := combine_spec a b
    rw [List.foldl_cons]
    refine ⟨?_, good_trans h2 c2, fun x hx => ?_⟩
    · rcases h1 with h1 | h1
      · rcases c1 with c1 | c1
        · exact .inl (h1.trans c1)
        · exact .inr (by rw [h1, c1]; exact List.mem_cons_self)
      · exact .inr (List.mem_cons_of_mem _ h1)
    · rcases List.mem_cons.1 hx with rfl | hx
      · exact good_trans h2 c3
      · exact h3 x hx

/-- The reference's class of box `n`, as a word. -/
theorem cls_ref (P : FVec Ideal S4x5000x21 .f32) (b : Fin 4) (n : Fin 5000) :
    RI.rCls (F := Ideal) P (ix2 b n) = BitVec.ofNat 32 (am fun k => P (ix3 b n k)).val := by
  unfold RI.rCls
  rw [Ideal.argReduce_eq_reduce2, Host.reduce2_eq_foldl_fiber]
  have hmem : ∀ x : EReal × BitVec 32, x ∈ Host.argReduceFiber P (iotaInDim S4x5000x21 32 2) reducesTo_S4x5000x21_S4x5000_d2 (ix2 b n)
      ↔ ∃ k : Fin 21, x = (P (ix3 b n k), BitVec.ofNat 32 k.val) := by
    intro x
    unfold Host.argReduceFiber
    simp only [List.mem_map, List.mem_filter, List.mem_finRange, true_and, decide_eq_true_eq]
    constructor
    · rintro ⟨i, hi, rfl⟩
      rw [Shape.ReducesTo.fiber_r3_a2] at hi
      obtain ⟨k, hk⟩ := hi
      refine ⟨k, ?_⟩
      rw [← hk]
      rfl
    · rintro ⟨k, rfl⟩
      refine ⟨S4x5000x21.rowMajor (ix3 b n k), ?_, ?_⟩
      · rw [Equiv.symm_apply_apply, Shape.ReducesTo.fiber_r3_a2]
        exact ⟨k, rfl⟩
      · rw [Equiv.symm_apply_apply]
        rfl
  obtain ⟨h1, h2, h3⟩ := foldl_spec (Host.argReduceFiber P (iotaInDim S4x5000x21 32 2) reducesTo_S4x5000x21_S4x5000_d2 (ix2 b n))
    (constant (F := Ideal) S_ .f32 0xFF800000#32 (Shape.Idx.first h_S_), constantI S_ 32 0#32 (Shape.Idx.first h_S_))
  have hi : (constant (F := Ideal) S_ .f32 0xFF800000#32 (Shape.Idx.first h_S_), constantI S_ 32 0#32 (Shape.Idx.first h_S_)) = ((⊥ : EReal), 0#32) := by
    rw [Prod.mk.injEq]; exact ⟨bits_ninf, rfl⟩
  have ht : ∀ x : Fin 21, (BitVec.ofNat 32 x.val).toInt = (x.val : ℤ) := by decide
  generalize List.foldl _ _ _ = r at h1 h2 h3 ⊢
  rw [hi] at h1 h2
  rcases h1 with h1 | h1
  · subst h1
    have hb : ∀ k, P (ix3 b n k) = ⊥ := fun k => by
      rcases h3 _ ((hmem _).2 ⟨k, rfl⟩) with h | ⟨h, _⟩
      · exact absurd h not_lt_bot
      · exact h.symm
    rw [am_eq (k := 0) ⟨fun j => by simp only [hb]; exact le_rfl, fun j hj => absurd hj (by omega)⟩]
    rfl
  · obtain ⟨k, rfl⟩ := (hmem _).1 h1
    rw [am_eq (k := k) ⟨fun j => ?_, fun j hj => ?_⟩]
    · rcases h3 _ ((hmem _).2 ⟨j, rfl⟩) with h | ⟨h, _⟩
      · exact le_of_lt h
      · exact le_of_eq h.symm
    · rcases h3 _ ((hmem _).2 ⟨j, rfl⟩) with h | ⟨_, h⟩
      · exact h
      · rw [ht, ht] at h; rw [Fin.lt_def] at hj; omega

end Cert.Proof.V

end
-- ==== Proof.V.Ref.lean ====
/-
  The reference's suppression at an index: the sorted order of a class, the pass over it, and the flags
  put back.
-/
module

public import proofs.«01_k».proof.Proof.V.Mat
public import proofs.«01_k».proof.Proof.V.Abs
public import proofs.«01_k».proof.Proof.V.Sort
public import proofs.«01_k».proof.Proof.V.Arg
public import Idealize.ShloMosaic.Lib.Routing.OpsOrder

@[expose] public section

set_option maxRecDepth 16384

noncomputable section

namespace Cert.Proof.V

open Cert.ReferenceIdeal Cert.ReferenceIdeal.Gen
open Idealize.ShloMosaic
open Idealize.ShloMosaic.TcCoe Idealize.ShloMosaic.Tactic
open Classical

/-- The comparator orders the records by their first component. -/
theorem comparator_iff (l r : EReal × BitVec 32 × EReal × EReal × EReal × EReal × BitVec 1) :
    (comparator_f32_i32_f32_f32_f32_f32_i1_d2 (F := Ideal) l r == 1#1) = true ↔ l.1 < r.1 := by
  have hz : ∀ x : EReal, Scalar.select (FloatOps.cmpf (F := Ideal) (φ := .f32) .une x x) (FloatOps.ofBits (F := Ideal) .f32 0x7FC00000#32)
      (Scalar.select (FloatOps.cmpf (F := Ideal) (φ := .f32) .oeq x (FloatOps.ofBits (F := Ideal) .f32 0x00000000#32)) (FloatOps.ofBits (F := Ideal) .f32 0x00000000#32) x) = x := by
    intro x
    simp only [Ideal.cmpf_def, Ideal.cmp, Ideal.ofBits_def, Ideal.ofBits_zero_f32, Scalar.select]
    by_cases h : x = 0 <;> simp [h]
  have h : comparator_f32_i32_f32_f32_f32_f32_i1_d2 (F := Ideal) l r = FloatOps.cmpfTotal (F := Ideal) (φ := .f32) .lt l.1 r.1 := by
    unfold comparator_f32_i32_f32_f32_f32_f32_i1_d2
    simp only []
    exact congrArg₂ (FloatOps.cmpfTotal (F := Ideal) (φ := .f32) .lt) (hz l.1) (hz r.1)
  rw [h]
  change (Ideal.cmpTotal .lt l.1 r.1 == 1#1) = true ↔ _
  unfold Ideal.cmpTotal
  change (Ideal.cmp .olt l.1 r.1 == 1#1) = true ↔ _
  unfold Ideal.cmp
  by_cases hlt : l.1 < r.1 <;> simp [hlt]

/-- A sort of whole records along the last axis, at an index. -/
theorem sort_gen {α β : Type} (cmp : α → α → BitVec 1) (K : S4x20x5000.Idx → α) (x : S4x20x5000.Idx → β) (b : Fin 4) (c : Fin 20) (q : Fin 5000) :
    Host.sortBy S4x20x5000 2 cmp K x (ix3 b c q) = x (ix3 b c (sortedFrom (fun k k' => cmp (K (ix3 b c k)) (K (ix3 b c k')) == 1#1) q)) := by
  have ha : ∀ k : Fin 5000, (ix3 b c q : S4x20x5000.Idx).along (2 : Fin 3) k = ix3 b c k := by
    intro k
    funext a
    match a with
    | ⟨0, _⟩ => rfl
    | ⟨1, _⟩ => rfl
    | ⟨2, _⟩ => rfl
  have hf : (fun k k' : Fin 5000 => cmp (K ((ix3 b c q : S4x20x5000.Idx).along (2 : Fin 3) k)) (K ((ix3 b c q : S4x20x5000.Idx).along (2 : Fin 3) k')) == 1#1)
      = fun k k' => cmp (K (ix3 b c k)) (K (ix3 b c k')) == 1#1 := by
    funext k k'
    rw [ha, ha]
  unfold Host.sortBy
  rw [dif_pos (by decide)]
  refine (congrArg x (ha _)).trans (congrArg (fun k => x (ix3 b c k)) ?_)
  exact congrArg (fun f => sortedFrom f q) hf

section sort
variable (K : S4x20x5000.Idx → EReal × BitVec 32 × EReal × EReal × EReal × EReal × BitVec 1)

/-- The order of class `c` of image `b`: the place whose record the sort puts at `q`. -/
def sg (b : Fin 4) (c : Fin 20) : Fin 5000 → Fin 5000 :=
  sortedFrom fun k k' => comparator_f32_i32_f32_f32_f32_f32_i1_d2 (F := Ideal) (K (ix3 b c k)) (K (ix3 b c k')) == 1#1

theorem sg_bij (b : Fin 4) (c : Fin 20) : Function.Bijective (sg K b c) :=
  ⟨sortedFrom_injective _, sortedFrom_surjective _⟩

theorem sg_lt (b : Fin 4) (c : Fin 20) (p q : Fin 5000) :
    p.val < q.val ↔ lexLt (fun n => (K (ix3 b c n)).1) (sg K b c p) (sg K b c q) :=
  sortedFrom_lex_iff (fun n => (K (ix3 b c n)).1) _ (fun _ _ => comparator_iff _ _) p q

theorem sort_apply {β : Type} (x : S4x20x5000.Idx → β) (b : Fin 4) (c : Fin 20) (q : Fin 5000) :
    RI.rSort (F := Ideal) K x (ix3 b c q) = x (ix3 b c (sg K b c q)) :=
  sort_gen _ K x b c q

end sort

/-- A column of an array. -/
theorem col_apply {e : EltTy} (x : (⟨S4x20x5000, e⟩ : BufTy).Contents (Elt Ideal)) (k : ℕ) (hk : k < 5000) (b : Fin 4) (c : Fin 20) :
    RI.rCol (F := Ideal) x (fun _ => BitVec.ofNat 32 k) (ix3 b c 0) = (x : S4x20x5000.Idx → Elt Ideal e) (ix3 b c ⟨k, hk⟩) := by
  have hi : (BitVec.ofNat 32 k).toInt = (k : ℤ) := by
    rw [BitVec.toInt_eq_toNat_of_lt (by rw [BitVec.toNat_ofNat]; omega), BitVec.toNat_ofNat, Nat.mod_eq_of_lt (by omega)]
  have hix : RI.rIx (fun _ => BitVec.ofNat 32 k) (Shape.Idx.first h_S_) = BitVec.ofNat 32 k := by
    change Scalar.select (IntOp.cmpi .slt (BitVec.ofNat 32 k) (BitVec.ofNat 32 0)) _ _ = _
    rw [slt_small k 0 (by omega) (by omega)]
    simp [Scalar.select]
  unfold RI.rCol
  rw [Host.dynamicSlice_apply]
  refine congrArg (x : S4x20x5000.Idx → Elt Ideal e) ?_
  funext a
  match a with
  | ⟨0, _⟩ =>
    refine Fin.ext ?_
    change Host.clampedStart _ _ _ _ _ + b.val = b.val
    rw [Host.clampedStart_of_le _ _ _ 0 rfl (by change 0 + 4 ≤ 4; omega)]; omega
  | ⟨1, _⟩ =>
    refine Fin.ext ?_
    change Host.clampedStart _ _ _ _ _ + c.val = c.val
    rw [Host.clampedStart_of_le _ _ _ 0 rfl (by change 0 + 20 ≤ 20; omega)]; omega
  | ⟨2, _⟩ =>
    refine Fin.ext ?_
    change Host.clampedStart _ _ _ _ _ + 0 = k
    rw [Host.clampedStart_of_le _ _ _ k ?_ (by change k + 1 ≤ 5000; omega)]
    · rfl
    · change (RI.rIx (fun _ => BitVec.ofNat 32 k) (Shape.Idx.first h_S_)).toInt = _
      rw [hix, hi]

theorem bits_half : Ideal.ofBits .f32 0x3F000000#32 = (((1 / 2 : ℝ)) : EReal) := by
  simp [Ideal.ofBits, Ideal.ieee]
  rw [← EReal.coe_mul]
  norm_num

theorem bits_eps_pos : (0 : EReal) < Ideal.ofBits .f32 0x3089705F#32 := by
  simp [Ideal.ofBits, Ideal.ieee]
  rw [← EReal.coe_mul, ← EReal.coe_zero, EReal.coe_lt_coe_iff]
  positivity

/-- More than half as a quotient and as a product. -/
theorem half_lt_div (x m : EReal) (hm : 0 < m) :
    Ideal.ofBits .f32 0x3F000000#32 < Ideal.div x m ↔ Ideal.ofBits .f32 0x3F000000#32 * m < x := by
  rw [bits_half]
  unfold Ideal.div
  rw [if_neg (ne_of_gt hm)]
  induction m using EReal.rec with
  | bot => exact absurd hm not_lt_bot
  | top =>
    rw [EReal.inv_top, mul_zero, EReal.coe_mul_top_of_pos (by norm_num)]
    constructor
    · intro h
      exact absurd h (not_lt.2 (by exact_mod_cast (by norm_num : (0 : ℝ) ≤ 1 / 2)))
    · intro h; exact absurd h not_top_lt
  | coe m =>
    have hm' : (0 : ℝ) < m := by exact_mod_cast hm
    rw [← EReal.coe_inv, ← EReal.coe_mul]
    induction x using EReal.rec with
    | bot => rw [EReal.bot_mul_coe_of_pos (inv_pos.2 hm')]; simp
    | top => rw [EReal.top_mul_coe_of_pos (inv_pos.2 hm')]; exact iff_of_true (EReal.coe_lt_top _) (EReal.coe_lt_top _)
    | coe x =>
      rw [← EReal.coe_mul, EReal.coe_lt_coe_iff, EReal.coe_lt_coe_iff, ← div_eq_mul_inv, lt_div_iff₀ hm']

section pass
variable (y1 x1 y2 x2 : FVec Ideal S4x20x5000 .f32) (v : IVec S4x20x5000 1) (s : ℕ → IVec S4x20x5000 1)

/-- The corners of the box at place `q` of a sorted class. -/
def cor (b : Fin 4) (c : Fin 20) (q : Fin 5000) : Fin 4 → EReal :=
  ![y1 (ix3 b c q), x1 (ix3 b c q), y2 (ix3 b c q), x2 (ix3 b c q)]

/-- Two places of the sorted class overlap. -/
def ovC (b : Fin 4) (c : Fin 20) (p q : Fin 5000) : Prop :=
  ovE (cor y1 x1 y2 x2 b c p) (cor y1 x1 y2 x2 b c q) (areaE (cor y1 x1 y2 x2 b c p)) (areaE (cor y1 x1 y2 x2 b c q))

theorem over_apply (k : ℕ) (hk : k < 5000) (b : Fin 4) (c : Fin 20) (q : Fin 5000) :
    RI.rOv (F := Ideal) y1 x1 y2 x2 (fun _ => BitVec.ofNat 32 k) (ix3 b c q) = BitVec.ofBool (decide (ovC y1 x1 y2 x2 b c ⟨k, hk⟩ q)) := by
  pointwise [RI.rOv, RI.rOver, RI.rAll, RI.rWide, RI.rArea1, RI.rArea, RI.rInter]
  have e1 := col_apply (e := .f32) y1 k hk b c
  have e2 := col_apply (e := .f32) x1 k hk b c
  have e3 := col_apply (e := .f32) y2 k hk b c
  have e4 := col_apply (e := .f32) x2 k hk b c
  rw [e1, e2, e3, e4]
  refine congrArg BitVec.ofBool ?_
  rw [Bool.eq_iff_iff, decide_eq_true_iff, decide_eq_true_iff]
  exact half_lt_div _ _ (lt_max_of_lt_right bits_eps_pos)

variable (h0 : s 0 = noti v)
  (hs : ∀ k, s (k + 1) = RI.rSup (F := Ideal) (RI.rOv (F := Ideal) y1 x1 y2 x2 (fun _ => BitVec.ofNat 32 k)) (s k) (fun _ => BitVec.ofNat 32 k))

include h0 hs in
/-- The suppressed places before trip `k`. -/
theorem sup_apply (b : Fin 4) (c : Fin 20) (k : ℕ) (hk : k ≤ 5000) (q : Fin 5000) :
    s k (ix3 b c q) = 1#1 ↔ supR (fun p : Fin 5000 => v (ix3 b c p) = 1#1) (ovC y1 x1 y2 x2 b c) k q := by
  induction k generalizing q with
  | zero =>
    rw [h0]
    change ~~~(v (ix3 b c q)) = 1#1 ↔ ¬(v (ix3 b c q) = 1#1)
    rcases BitVec.eq_zero_or_eq_one (v (ix3 b c q)) with h | h <;> rw [h] <;> decide
  | succ k ih =>
    have hk' : k < 5000 := by omega
    rw [hs k]
    have hov := over_apply y1 x1 y2 x2 k hk' b c q
    generalize RI.rOv (F := Ideal) y1 x1 y2 x2 (fun _ => BitVec.ofNat 32 k) = ov at hov ⊢
    pointwise [RI.rSup, RI.rAll, RI.rWide]
    have e1 := col_apply (e := .i1) (s k) k hk' b c
    rw [e1, hov]
    have e2 : IntOp.cmpi CmpIPredicate.sgt (BitVec.ofNat 32 q.val) (BitVec.ofNat 32 k) = BitVec.ofBool (decide (k < q.val)) := by
      refine Eq.trans ?_ (slt_small k q.val (by omega) (by omega))
      rfl
    rw [e2]
    have i1 := ih (by omega) ⟨k, hk'⟩
    have i2 := ih (by omega) q
    have e3 : supR (fun p : Fin 5000 => v (ix3 b c p) = 1#1) (ovC y1 x1 y2 x2 b c) (k + 1) q
        ↔ s k (ix3 b c q) = 1#1 ∨ (¬(s k (ix3 b c ⟨k, hk'⟩) = 1#1) ∧ ovC y1 x1 y2 x2 b c ⟨k, hk'⟩ q ∧ k < q.val) := by
      rw [supR, i1, i2]
      exact or_congr_right ⟨fun ⟨_, h⟩ => h, fun h => ⟨hk', h⟩⟩
    rw [e3]
    by_cases g1 : ovC y1 x1 y2 x2 b c ⟨k, hk'⟩ q <;> by_cases g2 : k < q.val <;>
      rcases BitVec.eq_zero_or_eq_one (s k (ix3 b c q)) with g3 | g3 <;>
      rcases BitVec.eq_zero_or_eq_one (s k (ix3 b c ⟨k, hk'⟩)) with g4 | g4 <;>
      simp [g1, g2, g3, g4, Scalar.select, IntOp.ori, IntOp.andi]

end pass

/-- The flags put back: a box is kept when some class keeps a place that holds it. -/
theorem out_apply (o : IVec S4x20x5000 32) (v s : IVec S4x20x5000 1) (b : Fin 4) (n : Fin 5000) :
    RI.rOut o v s (ix2 b n) = 1#1 ↔ ∃ (c : Fin 20) (q : Fin 5000), o (ix3 b c q) = BitVec.ofNat 32 n.val ∧ ¬(s (ix3 b c q) = 1#1) ∧ v (ix3 b c q) = 1#1 := by
  pointwise [RI.rOut]
  rw [Routing.fold_ori]
  have hb : ∀ (x y : BitVec 32) (s v : BitVec 1), IntOp.andi (IntOp.cmpi CmpIPredicate.eq x y) (IntOp.andi (~~~s) v) = 1#1 ↔ x = y ∧ ¬(s = 1#1) ∧ v = 1#1 := by
    intro x y s v
    have e : IntOp.cmpi CmpIPredicate.eq x y = BitVec.ofBool (decide (x = y)) := by
      refine congrArg BitVec.ofBool ?_
      rw [Bool.eq_iff_iff, decide_eq_true_iff]
      exact beq_iff_eq
    rw [e]
    by_cases h : x = y <;> rcases BitVec.eq_zero_or_eq_one s with h1 | h1 <;> rcases BitVec.eq_zero_or_eq_one v with h2 | h2 <;>
      simp [h, h1, h2, IntOp.andi]
  constructor
  · rintro ⟨c, _, h⟩
    rw [Routing.fold_ori] at h
    obtain ⟨q, _, h⟩ := h
    exact ⟨c, q, (hb _ _ _ _).1 h⟩
  · rintro ⟨c, q, h⟩
    refine ⟨c, Finset.mem_univ _, ?_⟩
    rw [Routing.fold_ori]
    exact ⟨q, Finset.mem_univ _, (hb _ _ _ _).2 h⟩

end Cert.Proof.V

end
-- ==== Proof.V.RefK.lean ====
/-
  The reference's kept flags at an index.
-/
module

public import proofs.«01_k».proof.Proof.V.Spec
public import proofs.«01_k».proof.Proof.V.Ref
public import proofs.«01_k».proof.Proof.RI.Run

@[expose] public section

set_option maxRecDepth 16384

noncomputable section

namespace Cert.Proof.V

open Cert.ReferenceIdeal Cert.ReferenceIdeal.Gen
open Idealize.ShloMosaic
open Idealize.ShloMosaic.TcCoe Idealize.ShloMosaic.Tactic
open Classical

theorem word_class (k : Fin 21) (c : Fin 20) :
    IntOp.andi (IntOp.cmpi CmpIPredicate.ne (BitVec.ofNat 32 k.val) 0#32) (IntOp.cmpi CmpIPredicate.eq (BitVec.ofNat 32 k.val) (IntOp.addi (BitVec.ofNat 32 c.val) 1#32)) = 1#1
      ↔ k = c.succ := by
  revert k c
  decide +kernel

/-- A box is a member of class `c` when its best class is `c + 1`. -/
theorem valid_apply (P : FVec Ideal S4x5000x21 .f32) (b : Fin 4) (c : Fin 20) (n : Fin 5000) :
    RI.rValid (F := Ideal) (RI.rCls (F := Ideal) P) (ix3 b c n) = 1#1 ↔ am (fun k => P (ix3 b n k)) = c.succ := by
  have h := cls_ref P b n
  generalize RI.rCls (F := Ideal) P = cl at h ⊢
  pointwise [RI.rValid, RI.rSpread, RI.rAll]
  rw [h]
  exact word_class _ c

variable (m : (ℓ : Loc nD τ sig) → Buf (Elt Ideal) ℓ) (c : Dev nD)

/-- The corners of the boxes of image `b`. -/
def aR (b : Fin 4) (n : Fin 5000) (d : Fin 4) : EReal := RI.adj m c (ix3 b n d)

/-- The class probabilities of the boxes of image `b`. -/
def pR (b : Fin 4) (n : Fin 5000) (k : Fin 21) : EReal := RI.sm m c (ix3 b n k)

theorem vld_apply (b : Fin 4) (k : Fin 20) (n : Fin 5000) : RI.vld m c (ix3 b k n) = 1#1 ↔ am (pR m c b n) = k.succ :=
  valid_apply (RI.sm m c) b k n

/-- The sort key of a member of the class is minus its best score. -/
theorem key_apply (b : Fin 4) (k : Fin 20) (n : Fin 5000) (h : am (pR m c b n) = k.succ) :
    ((RI.keyR m c (ix3 b k n)).1 : EReal) = -(pR m c b n (am (pR m c b n))) := by
  have hv := (vld_apply m c b k n).2 h
  change RI.rNeg (F := Ideal) (RI.vld m c) (RI.rSc (RI.sm m c)) (ix3 b k n) = _
  unfold RI.rNeg RI.rSc
  generalize RI.vld m c = v at hv ⊢
  have e : (RI.sm m c (ix3 b n ⟨1 + k.val, by omega⟩) : EReal) = pR m c b n (am (pR m c b n)) := by
    rw [h]
    unfold pR
    exact congrArg (fun i => RI.sm m c (ix3 b n i)) (Fin.ext (Nat.add_comm 1 k.val))
  rw [← e]
  generalize RI.sm m c = P
  pointwise []
  rw [hv]
  rfl

theorem key_lt (b : Fin 4) (k : Fin 20) (x y : Fin 5000) (hx : am (pR m c b x) = k.succ) (hy : am (pR m c b y) = k.succ) :
    lexLt (fun n => ((RI.keyR m c (ix3 b k n)).1 : EReal)) x y ↔ preE (fun n => pR m c b n (am (pR m c b n))) x y := by
  unfold lexLt preE
  beta_reduce
  rw [key_apply m c b k x hx, key_apply m c b k y hy, EReal.neg_lt_neg_iff, neg_inj]

/-- The order of a class. -/
def od (b : Fin 4) (k : Fin 20) : Fin 5000 → Fin 5000 := sg (RI.keyR m c) b k

theorem cor_sorted (b : Fin 4) (k : Fin 20) (q : Fin 5000) :
    cor (RI.sY1 m c) (RI.sX1 m c) (RI.sY2 m c) (RI.sX2 m c) b k q = aR m c b (od m c b k q) := by
  have hY1 : ∀ (A : FVec Ideal S4x5000x4 .f32) (n : Fin 5000), RI.rY1 (F := Ideal) A (ix3 b k n) = A (ix3 b n 0) := fun A n => by
    pointwise [RI.rY1, RI.rSpread]
  have hX1 : ∀ (A : FVec Ideal S4x5000x4 .f32) (n : Fin 5000), RI.rX1 (F := Ideal) A (ix3 b k n) = A (ix3 b n 1) := fun A n => by
    pointwise [RI.rX1, RI.rSpread]
  have hY2 : ∀ (A : FVec Ideal S4x5000x4 .f32) (n : Fin 5000), RI.rY2 (F := Ideal) A (ix3 b k n) = A (ix3 b n 2) := fun A n => by
    pointwise [RI.rY2, RI.rSpread]
  have hX2 : ∀ (A : FVec Ideal S4x5000x4 .f32) (n : Fin 5000), RI.rX2 (F := Ideal) A (ix3 b k n) = A (ix3 b n 3) := fun A n => by
    pointwise [RI.rX2, RI.rSpread]
  funext d
  match d with
  | ⟨0, _⟩ => exact (sort_apply (RI.keyR m c) (RI.rY1 (RI.adj m c)) b k q).trans (hY1 _ _)
  | ⟨1, _⟩ => exact (sort_apply (RI.keyR m c) (RI.rX1 (RI.adj m c)) b k q).trans (hX1 _ _)
  | ⟨2, _⟩ => exact (sort_apply (RI.keyR m c) (RI.rY2 (RI.adj m c)) b k q).trans (hY2 _ _)
  | ⟨3, _⟩ => exact (sort_apply (RI.keyR m c) (RI.rX2 (RI.adj m c)) b k q).trans (hX2 _ _)

theorem sV_apply (b : Fin 4) (k : Fin 20) (q : Fin 5000) : RI.sV m c (ix3 b k q) = 1#1 ↔ am (pR m c b (od m c b k q)) = k.succ := by
  have h : RI.sV m c (ix3 b k q) = RI.vld m c (ix3 b k (od m c b k q)) := sort_apply (RI.keyR m c) (RI.vld m c) b k q
  rw [h, vld_apply]

theorem sOrd_apply (b : Fin 4) (k : Fin 20) (q n : Fin 5000) : RI.sOrd m c (ix3 b k q) = BitVec.ofNat 32 n.val ↔ od m c b k q = n := by
  have h : RI.sOrd m c (ix3 b k q) = BitVec.ofNat 32 (od m c b k q).val := sort_apply (RI.keyR m c) (iotaInDim S4x20x5000 32 2) b k q
  rw [h, Fin.ext_iff]
  constructor
  · intro h
    have h' := congrArg BitVec.toNat h
    rw [BitVec.toNat_ofNat, BitVec.toNat_ofNat] at h'
    omega
  · intro h; rw [h]

/-- The relation of two boxes that overlap. -/
def ovR (b : Fin 4) (x y : Fin 5000) : Prop := ovE (aR m c b x) (aR m c b y) (areaE (aR m c b x)) (areaE (aR m c b y))

/-- The flags the reference returns are those of a kept set. -/
theorem ref_kept (b : Fin 4) : IsKept (fgS (pR m c b)) (TS (aR m c b) (pR m c b)) (fun n => RI.R64 m c (ix2 b n) = 1#1) := by
  have hk := sorted_isKept (fun (n : Fin 5000) (k : Fin 20) => am (pR m c b n) = k.succ)
    (by intro n k k' h h'; exact Fin.succ_injective _ (h.symm.trans h'))
    (ovR m c b) (preE fun n => pR m c b n (am (pR m c b n))) (od m c b) (fun k => sg_bij _ b k)
    (by
      intro k x y hx hy
      rw [← key_lt m c b k _ _ hx hy]
      exact sg_lt (RI.keyR m c) b k x y)
  have hfg : ∀ n, (∃ k : Fin 20, am (pR m c b n) = k.succ) ↔ fgS (pR m c b) n := by
    intro n
    unfold fgS
    constructor
    · rintro ⟨k, h⟩ h0
      exact Fin.succ_ne_zero k (h.symm.trans h0)
    · intro h
      obtain ⟨k, hk⟩ := Fin.exists_succ_eq.2 h
      exact ⟨k, hk.symm⟩
  have hk' := hk.comap id (fgS (pR m c b)) (TS (aR m c b) (pR m c b)) hfg (fun j _ => ⟨j, rfl⟩) (by
    intro x y hx hy
    refine and_congr_right fun _ => and_congr_right fun _ => ?_
    constructor
    · rintro ⟨k, h1, h2⟩
      exact h1.trans h2.symm
    · intro h
      obtain ⟨k, hk⟩ := (hfg x).2 hx
      exact ⟨k, hk, h.symm.trans hk⟩)
  refine (congrArg (IsKept _ _) (funext fun n => propext ?_)).mp hk'
  unfold RI.R64
  rw [out_apply]
  refine exists_congr fun k => exists_congr fun q => ?_
  rw [sOrd_apply, sV_apply]
  refine and_congr_right fun hq => ?_
  have hs := sup_apply (RI.sY1 m c) (RI.sX1 m c) (RI.sY2 m c) (RI.sX2 m c) (RI.sV m c) (RI.sup m c) rfl (fun _ => rfl) b k 5000 le_rfl q
  rw [hs]
  have e1 : (fun p : Fin 5000 => RI.sV m c (ix3 b k p) = 1#1) = fun p => am (pR m c b (od m c b k p)) = k.succ :=
    funext fun p => propext (sV_apply m c b k p)
  have e2 : ovC (RI.sY1 m c) (RI.sX1 m c) (RI.sY2 m c) (RI.sX2 m c) b k = fun p q => ovR m c b (od m c b k p) (od m c b k q) := by
    funext p q
    unfold ovC ovR
    rw [cor_sorted, cor_sorted]
  rw [e1, e2]
  constructor
  · intro h
    refine ⟨h, ?_⟩
    by_contra hc
    exact h ((supR_iff _ _ 5000 q).2 (Or.inl hc))
  · exact fun h => h.1

end Cert.Proof.V

end
-- ==== Proof.V.Glue.lean ====
/-
  The results of the two programs are the same.
-/
module

public import proofs.«01_k».proof.Proof.V.Ker
public import proofs.«01_k».proof.Proof.V.RefK

@[expose] public section

set_option maxRecDepth 16384

noncomputable section

namespace Cert.Proof.V

open Cert.KernelIdeal Cert.KernelIdeal.Gen
open Idealize.ShloMosaic
open Idealize.ShloMosaic.TcCoe Idealize.ShloMosaic.Tactic
open Classical

/-- An array padded behind its middle axis, at an index. -/
theorem pad_mid {α : Type} {D : ℕ} (x : (⟨3, ![4, 5000, D]⟩ : Shape).Idx → α) {u : Shape} (v : u.Idx → α)
    (h : (⟨3, ![4, 5000, D]⟩ : Shape).Pads ![0, 0, 0] ![0, 120, 0] ![0, 0, 0] ⟨3, ![4, 5120, D]⟩) (hu : 0 < u.numel) (b : Fin 4) (i : Fin 5120) (d : Fin D) :
    pad ⟨3, ![4, 5120, D]⟩ ![0, 0, 0] ![0, 120, 0] ![0, 0, 0] x v h hu (ix3 b i d) = if hi : i.val < 5000 then x (ix3 b ⟨i.val, hi⟩ d) else v (Shape.Idx.first hu) := by
  unfold pad
  by_cases hi : i.val < 5000
  · rw [dif_pos hi, dif_pos]
    · refine congrArg x ?_
      funext a
      match a with
      | ⟨0, _⟩ => exact Fin.ext (by change (b.val - 0) / (0 + 1) = b.val; omega)
      | ⟨1, _⟩ => exact Fin.ext (by change (i.val - 0) / (0 + 1) = i.val; omega)
      | ⟨2, _⟩ => exact Fin.ext (by change (d.val - 0) / (0 + 1) = d.val; omega)
    · intro a
      match a with
      | ⟨0, _⟩ => change 0 ≤ b.val ∧ (b.val - 0) % (0 + 1) = 0 ∧ (b.val - 0) / (0 + 1) < 4; omega
      | ⟨1, _⟩ => change 0 ≤ i.val ∧ (i.val - 0) % (0 + 1) = 0 ∧ (i.val - 0) / (0 + 1) < 5000; omega
      | ⟨2, _⟩ => change 0 ≤ d.val ∧ (d.val - 0) % (0 + 1) = 0 ∧ (d.val - 0) / (0 + 1) < D; omega
  · rw [dif_neg hi, dif_neg]
    intro hin
    have h1 := (hin (1 : Fin 3)).2.2
    change (i.val - 0) / (0 + 1) < 5000 at h1
    omega

variable (m : (ℓ : Loc nD τ sig) → Buf (Elt Ideal) ℓ) (c : Dev nD)

/-- The kernel's first argument. -/
abbrev k0 : FVec Ideal S4x5000x4 .f32 := m ((c.tc : Thread nD τ).loc main_arg0)
/-- The kernel's third argument. -/
abbrev k2 : FVec Ideal S4x5000x4 .f32 := m ((c.tc : Thread nD τ).loc main_arg2)
/-- The kernel's fourth argument. -/
abbrev k3 : FVec Ideal S4x5000x21 .f32 := m ((c.tc : Thread nD τ).loc main_arg3)

theorem X0_at (b : Fin 4) (d : Fin 4) (n : Fin 5000) : KI.X0 m c (KI.tOf b) (ix3 0 d (em n)) = k0 m c (ix3 b n d) := by
  refine (KI.X0_apply m c (KI.tOf b) (ix3 0 d (em n))).trans ?_
  rw [KI.V0_v1]
  refine Eq.trans ?_ ((pad_mid (k0 m c) (sitofp .f32 (constantI S_ 32 0#32)) pads_S4x5000x4_S4x5120x4_000_01200_000 h_S_ b (em n) d).trans (dif_pos n.isLt))
  generalize pad _ _ _ _ _ _ _ _ = A
  pointwise []
  rfl

theorem X1_at (b : Fin 4) (d : Fin 4) (n : Fin 5000) : KI.X1 m c (KI.tOf b) (ix3 0 d (em n)) = k2 m c (ix3 b n d) := by
  refine (KI.X1_apply m c (KI.tOf b) (ix3 0 d (em n))).trans ?_
  rw [KI.V0_v3]
  refine Eq.trans ?_ ((pad_mid (k2 m c) (sitofp .f32 (constantI S_ 32 0#32)) pads_S4x5000x4_S4x5120x4_000_01200_000 h_S_ b (em n) d).trans (dif_pos n.isLt))
  generalize pad _ _ _ _ _ _ _ _ = A
  pointwise []
  rfl

/-- The padded logits of a block. -/
theorem X2_pad (b : Fin 4) (k : Fin 21) (i : Fin 5120) :
    KI.X2 m c (KI.tOf b) (ix3 0 k i) = if hi : i.val < 5000 then k3 m c (ix3 b ⟨i.val, hi⟩ k) else sitofp (F := Ideal) .f32 (constantI S_ 32 0#32) (Shape.Idx.first h_S_) := by
  refine (KI.X2_apply m c (KI.tOf b) (ix3 0 k i)).trans ?_
  rw [KI.V0_v5]
  refine Eq.trans ?_ (pad_mid (k3 m c) (sitofp .f32 (constantI S_ 32 0#32)) pads_S4x5000x21_S4x5120x21_000_01200_000 h_S_ b i k)
  generalize pad _ _ _ _ _ _ _ _ = A
  pointwise []
  rfl

theorem X2_at (b : Fin 4) (k : Fin 21) (n : Fin 5000) : KI.X2 m c (KI.tOf b) (ix3 0 k (em n)) = k3 m c (ix3 b n k) :=
  (X2_pad m c b k (em n)).trans (dif_pos n.isLt)

/-- The kernel's boxes. -/
theorem R8_at (b : Fin 4) (n : Fin 5000) (d : Fin 4) : (KI.R8 m c (ix3 b n d) : EReal) = adjE (k0 m c (ix3 b n d)) (k2 m c (ix3 b n d)) d := by
  have h : (KI.G3 m c (ix3 b d (em n)) : EReal) = adjE (k0 m c (ix3 b n d)) (k2 m c (ix3 b n d)) d := by
    refine (box_blk (KI.X0 m c (KI.tOf b)) (KI.X1 m c (KI.tOf b)) d (em n)).trans ?_
    rw [X0_at, X1_at]
  refine Eq.trans ?_ h
  unfold KI.R8
  generalize KI.G3 m c = G
  pointwise []
  rfl

theorem sm_blk (x3 : FVec Ideal S1x21x5120 .f32) (k : Fin 21) (i : Fin 5120) : (k0_pay26 (F := Ideal) x3 (ix3 0 k i) : EReal) = smE (fun x => x3 (ix3 0 x i)) k := by
  refine Eq.trans ?_ (sm_kernel x3 k i)
  unfold k0_pay26
  try generalize k0_pay25 (F := Ideal) x3 = A
  pointwise []

theorem pK_at (b : Fin 4) (n : Fin 5000) (k : Fin 21) : pK (KI.X2 m c (KI.tOf b)) (em n) k = smE (fun x => k3 m c (ix3 b n x)) k := by
  unfold pK
  exact congrArg (fun g => smE g k) (funext fun x => X2_at m c b x n)

/-- The kernel's class probabilities. -/
theorem R10_at (b : Fin 4) (n : Fin 5000) (k : Fin 21) : (KI.R10 m c (ix3 b n k) : EReal) = smE (fun x => k3 m c (ix3 b n x)) k := by
  have h : (KI.G4 m c (ix3 b k (em n)) : EReal) = smE (fun x => k3 m c (ix3 b n x)) k :=
    (sm_blk (KI.X2 m c (KI.tOf b)) k (em n)).trans (pK_at m c b n k)
  refine Eq.trans ?_ h
  unfold KI.R10
  generalize KI.G4 m c = G
  pointwise []
  rfl

theorem half_flag (p : Prop) [Decidable p] : FloatOps.cmpf (F := Ideal) (φ := .f32) .ogt (if p then (1 : EReal) else 0) (Ideal.ofBits .f32 0x3F000000#32) = 1#1 ↔ p := by
  rw [Ideal.cmpf_def]
  unfold Ideal.cmp
  rw [bits_half]
  by_cases h : p
  · rw [if_pos h]
    have h1 : (((1 / 2 : ℝ)) : EReal) < 1 := by
      rw [← EReal.coe_one, EReal.coe_lt_coe_iff]; norm_num
    simp only [h, iff_true]
    exact congrArg BitVec.ofBool (decide_eq_true h1)
  · rw [if_neg h]
    have h1 : ¬(((1 / 2 : ℝ)) : EReal) < 0 := by
      rw [← EReal.coe_zero, EReal.coe_lt_coe_iff]; norm_num
    simp only [h, iff_false]
    intro h2
    exact absurd ((congrArg BitVec.ofBool (decide_eq_false h1)).symm.trans h2) (by decide)

/-- The kernel's flags are those of the kept set. -/
theorem ker_kept (b : Fin 4) (a : Fin 5000 → Fin 4 → EReal) (p : Fin 5000 → Fin 21 → EReal)
    (ha : ∀ n d, adjE (k0 m c (ix3 b n d)) (k2 m c (ix3 b n d)) d = a n d) (hp : ∀ n k, smE (fun x => k3 m c (ix3 b n x)) k = p n k) :
    IsKept (fgS p) (TS a p) (fun n => KI.R14 m c (ix2 b n) = 1#1) := by
  obtain ⟨K, hK, hr⟩ := kept_row (KI.X0 m c (KI.tOf b)) (KI.X1 m c (KI.tOf b)) (KI.X2 m c (KI.tOf b)) a p
    (fun n d => by rw [X0_at, X1_at]; exact ha n d) (fun n k => (pK_at m c b n k).trans (hp n k))
    (fun i hi k k' => by rw [X2_pad, X2_pad, dif_neg (by omega), dif_neg (by omega)])
  refine (congrArg (IsKept _ _) (funext fun n => propext ?_)).mp hK
  have h : (KI.G5 m c (ix3 b 0 (em n)) : EReal) = if K n then 1 else 0 := hr n
  refine (half_flag (K n)).symm.trans (Eq.to_iff (congrArg (· = 1#1) ?_))
  rw [← h]
  unfold KI.R14
  generalize KI.G5 m c = G
  pointwise []
  rfl

end Cert.Proof.V

end
-- ==== Proof.V.Same.lean ====
/-
  The three computed results of the two programs are equal when their arguments are.
-/
module

public import proofs.«01_k».proof.Proof.V.Glue

@[expose] public section

set_option maxRecDepth 16384

noncomputable section

namespace Cert.Proof.V

open Idealize.ShloMosaic
open Idealize.ShloMosaic.TcCoe Idealize.ShloMosaic.Tactic

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)

/-- Shapes with the same sizes have the same indices, so an array of one is an array of the other; this
    states that two arrays over three axes agree when they agree at every index. -/
theorem ext3 {α : Type} {n0 n1 n2 : ℕ} (f g : (⟨3, ![n0, n1, n2]⟩ : Shape).Idx → α) (h : ∀ a b d, f (ix3 a b d) = g (ix3 a b d)) : f = g := by
  funext j
  rw [← ix3_eta j]
  exact h _ _ _

/-- The same over two axes. -/
theorem ext2 {α : Type} {n0 n1 : ℕ} (f g : (⟨2, ![n0, n1]⟩ : Shape).Idx → α) (h : ∀ a b, f (ix2 a b) = g (ix2 a b)) : f = g := by
  funext j
  rw [← ix2_eta j]
  exact h _ _

section
variable (h0 : RI.a0 m' c = k0 m c) (h2 : RI.a2 m' c = k2 m c) (h3 : RI.a3 m' c = k3 m c)

include h0 h2 in
theorem adj_at (b : Fin 4) (n : Fin 5000) (d : Fin 4) : (RI.adj m' c (ix3 b n d) : EReal) = adjE (k0 m c (ix3 b n d)) (k2 m c (ix3 b n d)) d := by
  refine (adj_ref (RI.a0 m' c) (RI.a2 m' c) b n d).trans ?_
  rw [h0, h2]

include h3 in
theorem sm_at (b : Fin 4) (n : Fin 5000) (k : Fin 21) : (RI.sm m' c (ix3 b n k) : EReal) = smE (fun x => k3 m c (ix3 b n x)) k := by
  refine (sm_ref (RI.a3 m' c) b n k).trans ?_
  rw [h3]

include h0 h2 in
/-- The boxes are the same. -/
theorem same_boxes : (RI.adj m' c : FVec Ideal Cert.ReferenceIdeal.S4x5000x4 .f32) = KI.R8 m c :=
  ext3 (n0 := 4) (n1 := 5000) (n2 := 4) (RI.adj m' c) (KI.R8 m c) fun b n d => (adj_at m m' c h0 h2 b n d).trans (R8_at m c b n d).symm

include h3 in
/-- The class probabilities are the same. -/
theorem same_probs : (RI.sm m' c : FVec Ideal Cert.ReferenceIdeal.S4x5000x21 .f32) = KI.R10 m c :=
  ext3 (n0 := 4) (n1 := 5000) (n2 := 21) (RI.sm m' c) (KI.R10 m c) fun b n k => (sm_at m m' c h3 b n k).trans (R10_at m c b n k).symm

theorem bit_ext (x y : BitVec 1) (h : x = 1#1 ↔ y = 1#1) : x = y := by
  revert x y
  decide

include h0 h2 h3 in
/-- The kept flags are the same: both programs keep the only kept set of the suppression relation. -/
theorem same_flags : (RI.R64 m' c : IVec Cert.ReferenceIdeal.S4x5000 1) = KI.R14 m c :=
  ext2 (n0 := 4) (n1 := 5000) (RI.R64 m' c) (KI.R14 m c) fun b n => bit_ext _ _
    ((ref_kept m' c b).unique (TS_wf (aR m' c b) (pR m' c b)) (ker_kept m c b (aR m' c b) (pR m' c b)
      (fun n d => (adj_at m m' c h0 h2 b n d).symm) (fun n k => (sm_at m m' c h3 b n k).symm)) n)

end

end Cert.Proof.V

end
-- ==== Proof.lean ====
/-
  The certificate: the frames of the kernel, of its idealization and of the reference, that the
  idealization preserves the kernel, and that the idealized kernel computes what the reference computes.
-/
module

public import proofs.«01_k».proof.Defs
public import proofs.«01_k».proof.Proof.K.Res
public import proofs.«01_k».proof.Proof.KI.Res
public import proofs.«01_k».proof.Proof.RI.Run
public import proofs.«01_k».proof.Proof.V.Same

@[expose] public section

noncomputable section

namespace Cert.Proof

open Idealize.ShloMosaic Idealize.ShloMosaic.TcCoe Idealize.SL.Sem

/-- The kernel runs, leaves its arguments and its counters read zero. -/
theorem frame_kernel : Cert.quiescent_Kernel (hKernel := Cert.Kernel.Gen.facts) := fun m ρ _ =>
  (θ_run _ _ _).mono (fun _ h => ⟨fun c => (h.1 c).2.2.2, h.2⟩) (K.run_res m ρ)

/-- The idealized kernel runs, leaves its arguments and its counters read zero. -/
theorem frame_ideal : Cert.quiescent_KernelIdeal (hKernelIdeal := Cert.KernelIdeal.Gen.facts) := fun m ρ _ =>
  (θ_run _ _ _).mono (fun _ h => ⟨fun c => (h.1 c).2.2.2, h.2⟩) (KI.run_res m ρ)

/-- The reference runs, leaves its arguments and its counters read zero. -/
theorem frame_reference : Cert.quiescent_ReferenceIdeal (hReferenceIdeal := Cert.ReferenceIdeal.Gen.facts) := fun m ρ _ =>
  (θ_run _ _ _).mono (fun _ h => ⟨fun c => (h.1 c).2.2.2, h.2⟩) (RI.run_res m ρ)

/-- From the same arguments the idealized kernel and the reference return the same five results. -/
theorem algebraic_pair : Cert.algebraic_KernelIdeal_ReferenceIdeal (hKernelIdeal := Cert.KernelIdeal.Gen.facts) (hReferenceIdeal := Cert.ReferenceIdeal.Gen.facts) :=
  fun m g m' g' _ ha =>
    ⟨fun c => m ((c.tc : Thread Cert.KernelIdeal.nD Cert.KernelIdeal.τ).loc Cert.KernelIdeal.main_arg0),
      fun c => m ((c.tc : Thread Cert.KernelIdeal.nD Cert.KernelIdeal.τ).loc Cert.KernelIdeal.main_arg1),
      fun c => KI.R8 m c, fun c => KI.R10 m c, fun c => KI.R14 m c,
      (θ_run _ _ _).mono (fun _ h c =>
        let k := h.1 c
        ⟨k.2.2.2.1, k.2.2.2.2.1, k.1, k.2.1, k.2.2.1, k.2.2.2⟩) (KI.run_res m g),
      (θ_run _ _ _).mono (fun _ h c =>
        let k := h.1 c
        let e := ha c
        ⟨k.2.2.2.1.trans e.1, k.2.2.2.2.1.trans e.2.1, k.1.trans (V.same_boxes m m' c e.1 e.2.2.1), k.2.1.trans (V.same_probs m m' c e.2.2.2),
          k.2.2.1.trans (V.same_flags m m' c e.1 e.2.2.1 e.2.2.2), k.2.2.2⟩) (RI.run_res m' g')⟩

/-- Everything claimed. -/
theorem claim : Cert.Claim :=
  ⟨Cert.Kernel.Gen.facts, Cert.KernelIdeal.Gen.facts, Cert.ReferenceIdeal.Gen.facts, frame_kernel, frame_ideal, frame_reference, trivial, algebraic_pair⟩

end Cert.Proof

end
